-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v313)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v313) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v371) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x64x64 : Shape := ⟨4, ![2, 128, 64, 64]⟩
abbrev S2x3 : Shape := ⟨2, ![2, 3]⟩
abbrev S2x20x5 : Shape := ⟨3, ![2, 20, 5]⟩
abbrev S128x128x3x3 : Shape := ⟨4, ![128, 128, 3, 3]⟩
abbrev S128 : Shape := ⟨1, ![128]⟩
abbrev S18x128x1x1 : Shape := ⟨4, ![18, 128, 1, 1]⟩
abbrev S18 : Shape := ⟨1, ![18]⟩
abbrev S36x128x1x1 : Shape := ⟨4, ![36, 128, 1, 1]⟩
abbrev S36 : Shape := ⟨1, ![36]⟩
abbrev S36864x4 : Shape := ⟨2, ![36864, 4]⟩
abbrev S2x64x64x128 : Shape := ⟨4, ![2, 64, 64, 128]⟩
abbrev S_ : Shape := ⟨0, ![]⟩
abbrev S2x66x66x128 : Shape := ⟨4, ![2, 66, 66, 128]⟩
abbrev S3x3x128x128 : Shape := ⟨4, ![3, 3, 128, 128]⟩
abbrev S18x128 : Shape := ⟨2, ![18, 128]⟩
abbrev S128x18 : Shape := ⟨2, ![128, 18]⟩
abbrev S36x128 : Shape := ⟨2, ![36, 128]⟩
abbrev S128x36 : Shape := ⟨2, ![128, 36]⟩
abbrev S128x74 : Shape := ⟨2, ![128, 74]⟩
abbrev S128x128 : Shape := ⟨2, ![128, 128]⟩
abbrev S74 : Shape := ⟨1, ![74]⟩
abbrev S1x128 : Shape := ⟨2, ![1, 128]⟩
abbrev S2x4096x128 : Shape := ⟨3, ![2, 4096, 128]⟩
abbrev S1x66x66x128 : Shape := ⟨4, ![1, 66, 66, 128]⟩
abbrev S1x4096x128 : Shape := ⟨3, ![1, 4096, 128]⟩
abbrev S4096x128 : Shape := ⟨2, ![4096, 128]⟩
abbrev S1x64x64x128 : Shape := ⟨4, ![1, 64, 64, 128]⟩
abbrev S64x64x128 : Shape := ⟨3, ![64, 64, 128]⟩
abbrev S1x1x128x128 : Shape := ⟨4, ![1, 1, 128, 128]⟩
abbrev S2x4096x18 : Shape := ⟨3, ![2, 4096, 18]⟩
abbrev S2x4096x2x9 : Shape := ⟨4, ![2, 4096, 2, 9]⟩
abbrev S2x4096x9 : Shape := ⟨3, ![2, 4096, 9]⟩
abbrev S2x4096x1x9 : Shape := ⟨4, ![2, 4096, 1, 9]⟩
abbrev S2x36864 : Shape := ⟨2, ![2, 36864]⟩
abbrev S2x4096x36 : Shape := ⟨3, ![2, 4096, 36]⟩
abbrev S2x36864x4 : Shape := ⟨3, ![2, 36864, 4]⟩
abbrev S36864x1 : Shape := ⟨2, ![36864, 1]⟩
abbrev S36864 : Shape := ⟨1, ![36864]⟩
abbrev S2x36864x1 : Shape := ⟨3, ![2, 36864, 1]⟩
abbrev S1x36864 : Shape := ⟨2, ![1, 36864]⟩
abbrev S1x36864x4 : Shape := ⟨3, ![1, 36864, 4]⟩
abbrev S1x1 : Shape := ⟨2, ![1, 1]⟩
abbrev S6000 : Shape := ⟨1, ![6000]⟩
abbrev S6000x1 : Shape := ⟨2, ![6000, 1]⟩
abbrev S6000x4 : Shape := ⟨2, ![6000, 4]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩
abbrev S1x1000x5 : Shape := ⟨3, ![1, 1000, 5]⟩
abbrev S2x1000x5 : Shape := ⟨3, ![2, 1000, 5]⟩

abbrev nBuf : Space → Nat
  | .hbm => 629
  | .vmem => 8
  | .smem => 0
  | _ => 0

abbrev hbmTy0_0 (i : Nat) : BufTy := match i % 128 with
  | 0 => ⟨S2x128x64x64, .f32⟩
  | 1 => ⟨S2x3, .f32⟩
  | 2 => ⟨S2x20x5, .f32⟩
  | 3 => ⟨S128x128x3x3, .f32⟩
  | 4 => ⟨S128, .f32⟩
  | 5 => ⟨S18x128x1x1, .f32⟩
  | 6 => ⟨S18, .f32⟩
  | 7 => ⟨S36x128x1x1, .f32⟩
  | 8 => ⟨S36, .f32⟩
  | 9 => ⟨S36864x4, .f32⟩
  | 10 => ⟨S2x64x64x128, .f32⟩
  | 11 => ⟨S_, .i32⟩
  | 12 => ⟨S_, .f32⟩
  | 13 => ⟨S2x66x66x128, .f32⟩
  | 14 => ⟨S3x3x128x128, .f32⟩
  | 15 => ⟨S18x128, .f32⟩
  | 16 => ⟨S128x18, .f32⟩
  | 17 => ⟨S36x128, .f32⟩
  | 18 => ⟨S128x36, .f32⟩
  | 19 => ⟨S_, .f32⟩
  | 20 => ⟨S128x74, .f32⟩
  | 21 => ⟨S128x128, .f32⟩
  | 22 => ⟨S_, .f32⟩
  | 23 => ⟨S74, .f32⟩
  | 24 => ⟨S128, .f32⟩
  | 25 => ⟨S1x128, .f32⟩
  | 26 => ⟨S1x128, .f32⟩
  | 27 => ⟨S2x4096x128, .f32⟩
  | 28 => ⟨S2x4096x18, .f32⟩
  | 29 => ⟨S2x4096x2x9, .f32⟩
  | 30 => ⟨S_, .f32⟩
  | 31 => ⟨S2x4096x9, .f32⟩
  | 32 => ⟨S_, .f32⟩
  | 33 => ⟨S2x4096x9, .f32⟩
  | 34 => ⟨S2x4096x9, .f32⟩
  | 35 => ⟨S2x4096x1x9, .f32⟩
  | 36 => ⟨S2x4096x2x9, .f32⟩
  | 37 => ⟨S2x4096x2x9, .f32⟩
  | 38 => ⟨S2x4096x2x9, .f32⟩
  | 39 => ⟨S_, .f32⟩
  | 40 => ⟨S2x4096x9, .f32⟩
  | 41 => ⟨S2x4096x1x9, .f32⟩
  | 42 => ⟨S2x4096x2x9, .f32⟩
  | 43 => ⟨S2x4096x2x9, .f32⟩
  | 44 => ⟨S2x4096x1x9, .f32⟩
  | 45 => ⟨S2x4096x9, .f32⟩
  | 46 => ⟨S2x36864, .f32⟩
  | 47 => ⟨S2x4096x36, .f32⟩
  | 48 => ⟨S2x36864x4, .f32⟩
  | 49 => ⟨S36864x1, .f32⟩
  | 50 => ⟨S36864, .f32⟩
  | 51 => ⟨S36864x1, .f32⟩
  | 52 => ⟨S36864, .f32⟩
  | 53 => ⟨S36864, .f32⟩
  | 54 => ⟨S_, .f32⟩
  | 55 => ⟨S36864, .f32⟩
  | 56 => ⟨S36864, .f32⟩
  | 57 => ⟨S36864x1, .f32⟩
  | 58 => ⟨S36864, .f32⟩
  | 59 => ⟨S36864x1, .f32⟩
  | 60 => ⟨S36864, .f32⟩
  | 61 => ⟨S36864, .f32⟩
  | 62 => ⟨S_, .f32⟩
  | 63 => ⟨S36864, .f32⟩
  | 64 => ⟨S36864, .f32⟩
  | 65 => ⟨S36864x1, .f32⟩
  | 66 => ⟨S36864, .f32⟩
  | 67 => ⟨S_, .f32⟩
  | 68 => ⟨S36864, .f32⟩
  | 69 => ⟨S36864, .f32⟩
  | 70 => ⟨S36864, .f32⟩
  | 71 => ⟨S36864x1, .f32⟩
  | 72 => ⟨S36864, .f32⟩
  | 73 => ⟨S_, .f32⟩
  | 74 => ⟨S36864, .f32⟩
  | 75 => ⟨S36864, .f32⟩
  | 76 => ⟨S36864, .f32⟩
  | 77 => ⟨S2x36864x1, .f32⟩
  | 78 => ⟨S2x36864, .f32⟩
  | 79 => ⟨S1x36864, .f32⟩
  | 80 => ⟨S2x36864, .f32⟩
  | 81 => ⟨S2x36864, .f32⟩
  | 82 => ⟨S1x36864, .f32⟩
  | 83 => ⟨S2x36864, .f32⟩
  | 84 => ⟨S2x36864, .f32⟩
  | 85 => ⟨S2x36864x1, .f32⟩
  | 86 => ⟨S2x36864, .f32⟩
  | 87 => ⟨S1x36864, .f32⟩
  | 88 => ⟨S2x36864, .f32⟩
  | 89 => ⟨S2x36864, .f32⟩
  | 90 => ⟨S1x36864, .f32⟩
  | 91 => ⟨S2x36864, .f32⟩
  | 92 => ⟨S2x36864, .f32⟩
  | 93 => ⟨S2x36864x1, .f32⟩
  | 94 => ⟨S2x36864, .f32⟩
  | 95 => ⟨S2x36864, .f32⟩
  | 96 => ⟨S1x36864, .f32⟩
  | 97 => ⟨S2x36864, .f32⟩
  | 98 => ⟨S2x36864, .f32⟩
  | 99 => ⟨S2x36864x1, .f32⟩
  | 100 => ⟨S2x36864, .f32⟩
  | 101 => ⟨S2x36864, .f32⟩
  | 102 => ⟨S1x36864, .f32⟩
  | 103 => ⟨S2x36864, .f32⟩
  | 104 => ⟨S2x36864, .f32⟩
  | 105 => ⟨S_, .f32⟩
  | 106 => ⟨S2x36864, .f32⟩
  | 107 => ⟨S2x36864, .f32⟩
  | 108 => ⟨S2x36864, .f32⟩
  | 109 => ⟨S_, .f32⟩
  | 110 => ⟨S2x36864, .f32⟩
  | 111 => ⟨S2x36864, .f32⟩
  | 112 => ⟨S2x36864, .f32⟩
  | 113 => ⟨S_, .f32⟩
  | 114 => ⟨S2x36864, .f32⟩
  | 115 => ⟨S2x36864, .f32⟩
  | 116 => ⟨S2x36864, .f32⟩
  | 117 => ⟨S_, .f32⟩
  | 118 => ⟨S2x36864, .f32⟩
  | 119 => ⟨S2x36864, .f32⟩
  | 120 => ⟨S2x36864, .f32⟩
  | 121 => ⟨S2x36864x1, .f32⟩
  | 122 => ⟨S2x36864x1, .f32⟩
  | 123 => ⟨S2x36864x1, .f32⟩
  | 124 => ⟨S2x36864x1, .f32⟩
  | 125 => ⟨S2x36864x4, .f32⟩
  | 126 => ⟨S1x36864x4, .f32⟩
  | 127 => ⟨S36864x4, .f32⟩
  | _ => ⟨S2x128x64x64, .f32⟩

abbrev hbmTy0_1 (i : Nat) : BufTy := match i % 128 with
  | 0 => ⟨S36864x1, .f32⟩
  | 1 => ⟨S36864, .f32⟩
  | 2 => ⟨S1x1, .f32⟩
  | 3 => ⟨S_, .f32⟩
  | 4 => ⟨S_, .f32⟩
  | 5 => ⟨S_, .f32⟩
  | 6 => ⟨S_, .f32⟩
  | 7 => ⟨S_, .f32⟩
  | 8 => ⟨S36864, .f32⟩
  | 9 => ⟨S36864, .f32⟩
  | 10 => ⟨S36864, .f32⟩
  | 11 => ⟨S36864, .f32⟩
  | 12 => ⟨S36864x1, .f32⟩
  | 13 => ⟨S36864, .f32⟩
  | 14 => ⟨S1x1, .f32⟩
  | 15 => ⟨S_, .f32⟩
  | 16 => ⟨S_, .f32⟩
  | 17 => ⟨S_, .f32⟩
  | 18 => ⟨S_, .f32⟩
  | 19 => ⟨S_, .f32⟩
  | 20 => ⟨S36864, .f32⟩
  | 21 => ⟨S36864, .f32⟩
  | 22 => ⟨S36864, .f32⟩
  | 23 => ⟨S36864, .f32⟩
  | 24 => ⟨S36864x1, .f32⟩
  | 25 => ⟨S36864, .f32⟩
  | 26 => ⟨S1x1, .f32⟩
  | 27 => ⟨S_, .f32⟩
  | 28 => ⟨S_, .f32⟩
  | 29 => ⟨S_, .f32⟩
  | 30 => ⟨S_, .f32⟩
  | 31 => ⟨S_, .f32⟩
  | 32 => ⟨S36864, .f32⟩
  | 33 => ⟨S36864, .f32⟩
  | 34 => ⟨S36864, .f32⟩
  | 35 => ⟨S36864, .f32⟩
  | 36 => ⟨S36864x1, .f32⟩
  | 37 => ⟨S36864, .f32⟩
  | 38 => ⟨S1x1, .f32⟩
  | 39 => ⟨S_, .f32⟩
  | 40 => ⟨S_, .f32⟩
  | 41 => ⟨S_, .f32⟩
  | 42 => ⟨S_, .f32⟩
  | 43 => ⟨S_, .f32⟩
  | 44 => ⟨S36864, .f32⟩
  | 45 => ⟨S36864, .f32⟩
  | 46 => ⟨S36864, .f32⟩
  | 47 => ⟨S36864, .f32⟩
  | 48 => ⟨S36864x1, .f32⟩
  | 49 => ⟨S36864x1, .f32⟩
  | 50 => ⟨S36864x1, .f32⟩
  | 51 => ⟨S36864x1, .f32⟩
  | 52 => ⟨S36864x4, .f32⟩
  | 53 => ⟨S36864x1, .f32⟩
  | 54 => ⟨S36864, .f32⟩
  | 55 => ⟨S36864x1, .f32⟩
  | 56 => ⟨S36864, .f32⟩
  | 57 => ⟨S36864, .f32⟩
  | 58 => ⟨S_, .f32⟩
  | 59 => ⟨S36864, .f32⟩
  | 60 => ⟨S36864, .f32⟩
  | 61 => ⟨S36864x1, .f32⟩
  | 62 => ⟨S36864, .f32⟩
  | 63 => ⟨S36864x1, .f32⟩
  | 64 => ⟨S36864, .f32⟩
  | 65 => ⟨S36864, .f32⟩
  | 66 => ⟨S_, .f32⟩
  | 67 => ⟨S36864, .f32⟩
  | 68 => ⟨S36864, .f32⟩
  | 69 => ⟨S1x1, .f32⟩
  | 70 => ⟨S_, .f32⟩
  | 71 => ⟨S_, .f32⟩
  | 72 => ⟨S_, .f32⟩
  | 73 => ⟨S36864, .f32⟩
  | 74 => ⟨S36864, .i1⟩
  | 75 => ⟨S36864, .f32⟩
  | 76 => ⟨S36864, .i1⟩
  | 77 => ⟨S36864, .i1⟩
  | 78 => ⟨S1x36864, .f32⟩
  | 79 => ⟨S36864, .f32⟩
  | 80 => ⟨S_, .f32⟩
  | 81 => ⟨S_, .f32⟩
  | 82 => ⟨S36864, .f32⟩
  | 83 => ⟨S36864, .f32⟩
  | 84 => ⟨S36864, .f32⟩
  | 85 => ⟨S36864, .i32⟩
  | 86 => ⟨S36864, .f32⟩
  | 87 => ⟨S36864, .i32⟩
  | 88 => ⟨S6000, .i32⟩
  | 89 => ⟨S_, .i32⟩
  | 90 => ⟨S6000, .i32⟩
  | 91 => ⟨S6000, .i1⟩
  | 92 => ⟨S_, .i32⟩
  | 93 => ⟨S6000, .i32⟩
  | 94 => ⟨S6000, .i32⟩
  | 95 => ⟨S6000, .i32⟩
  | 96 => ⟨S6000x1, .i32⟩
  | 97 => ⟨S6000x4, .f32⟩
  | 98 => ⟨S6000x1, .f32⟩
  | 99 => ⟨S6000, .f32⟩
  | 100 => ⟨S6000x1, .f32⟩
  | 101 => ⟨S6000, .f32⟩
  | 102 => ⟨S6000x1, .f32⟩
  | 103 => ⟨S6000, .f32⟩
  | 104 => ⟨S6000x1, .f32⟩
  | 105 => ⟨S6000, .f32⟩
  | 106 => ⟨S6000, .f32⟩
  | 107 => ⟨S_, .f32⟩
  | 108 => ⟨S6000, .f32⟩
  | 109 => ⟨S6000, .f32⟩
  | 110 => ⟨S6000, .f32⟩
  | 111 => ⟨S_, .f32⟩
  | 112 => ⟨S6000, .f32⟩
  | 113 => ⟨S6000, .f32⟩
  | 114 => ⟨S6000, .f32⟩
  | 115 => ⟨S6000, .i32⟩
  | 116 => ⟨S_, .i1⟩
  | 117 => ⟨S6000, .i1⟩
  | 118 => ⟨S_, .i32⟩
  | 119 => ⟨S_, .i32⟩
  | 120 => ⟨S6000, .f32⟩
  | 121 => ⟨S6000, .f32⟩
  | 122 => ⟨S6000, .f32⟩
  | 123 => ⟨S6000, .f32⟩
  | 124 => ⟨S6000, .f32⟩
  | 125 => ⟨S6000, .i32⟩
  | 126 => ⟨S_, .i32⟩
  | 127 => ⟨S_, .i32⟩
  | _ => ⟨S2x128x64x64, .f32⟩

abbrev hbmTy0_2 (i : Nat) : BufTy := match i % 128 with
  | 0 => ⟨S6000, .i1⟩
  | 1 => ⟨S_, .i32⟩
  | 2 => ⟨S_, .i1⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S1, .f32⟩
  | 12 => ⟨S_, .f32⟩
  | 13 => ⟨S6000, .f32⟩
  | 14 => ⟨S6000, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S1, .f32⟩
  | 22 => ⟨S_, .f32⟩
  | 23 => ⟨S6000, .f32⟩
  | 24 => ⟨S6000, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1, .f32⟩
  | 32 => ⟨S_, .f32⟩
  | 33 => ⟨S6000, .f32⟩
  | 34 => ⟨S6000, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S1, .f32⟩
  | 42 => ⟨S_, .f32⟩
  | 43 => ⟨S6000, .f32⟩
  | 44 => ⟨S6000, .f32⟩
  | 45 => ⟨S6000, .f32⟩
  | 46 => ⟨S_, .f32⟩
  | 47 => ⟨S6000, .f32⟩
  | 48 => ⟨S6000, .f32⟩
  | 49 => ⟨S_, .f32⟩
  | 50 => ⟨S6000, .f32⟩
  | 51 => ⟨S6000, .f32⟩
  | 52 => ⟨S6000, .f32⟩
  | 53 => ⟨S_, .f32⟩
  | 54 => ⟨S6000, .f32⟩
  | 55 => ⟨S6000, .f32⟩
  | 56 => ⟨S_, .f32⟩
  | 57 => ⟨S6000, .f32⟩
  | 58 => ⟨S6000, .f32⟩
  | 59 => ⟨S6000, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S1, .f32⟩
  | 67 => ⟨S_, .f32⟩
  | 68 => ⟨S6000, .f32⟩
  | 69 => ⟨S6000, .f32⟩
  | 70 => ⟨S6000, .f32⟩
  | 71 => ⟨S6000, .f32⟩
  | 72 => ⟨S_, .f32⟩
  | 73 => ⟨S6000, .f32⟩
  | 74 => ⟨S6000, .i1⟩
  | 75 => ⟨S_, .i32⟩
  | 76 => ⟨S6000, .i32⟩
  | 77 => ⟨S6000, .i1⟩
  | 78 => ⟨S6000, .i1⟩
  | 79 => ⟨S6000, .i1⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S1, .i1⟩
  | 87 => ⟨S_, .i1⟩
  | 88 => ⟨S6000, .i1⟩
  | 89 => ⟨S_, .i32⟩
  | 90 => ⟨S_, .i32⟩
  | 91 => ⟨S6000, .i1⟩
  | 92 => ⟨S_, .i32⟩
  | 93 => ⟨S_, .i32⟩
  | 94 => ⟨S6000, .i32⟩
  | 95 => ⟨S6000, .i32⟩
  | 96 => ⟨S6000, .i32⟩
  | 97 => ⟨S1000, .i32⟩
  | 98 => ⟨S_, .i32⟩
  | 99 => ⟨S1000, .i32⟩
  | 100 => ⟨S1000, .i1⟩
  | 101 => ⟨S1000, .f32⟩
  | 102 => ⟨S_, .i32⟩
  | 103 => ⟨S1000, .i32⟩
  | 104 => ⟨S1000, .i32⟩
  | 105 => ⟨S_, .i32⟩
  | 106 => ⟨S1000, .i32⟩
  | 107 => ⟨S1000, .i1⟩
  | 108 => ⟨S_, .i32⟩
  | 109 => ⟨S1000, .i32⟩
  | 110 => ⟨S1000, .i32⟩
  | 111 => ⟨S1000, .i32⟩
  | 112 => ⟨S1000x1, .i32⟩
  | 113 => ⟨S1000x4, .f32⟩
  | 114 => ⟨S1000x1, .f32⟩
  | 115 => ⟨S1000x4, .f32⟩
  | 116 => ⟨S1000x4, .f32⟩
  | 117 => ⟨S_, .f32⟩
  | 118 => ⟨S1000x1, .f32⟩
  | 119 => ⟨S1000x5, .f32⟩
  | 120 => ⟨S1x36864x4, .f32⟩
  | 121 => ⟨S36864x4, .f32⟩
  | 122 => ⟨S36864x1, .f32⟩
  | 123 => ⟨S36864, .f32⟩
  | 124 => ⟨S1x1, .f32⟩
  | 125 => ⟨S_, .f32⟩
  | 126 => ⟨S_, .f32⟩
  | 127 => ⟨S_, .f32⟩
  | _ => ⟨S2x128x64x64, .f32⟩

abbrev hbmTy0_3 (i : Nat) : BufTy := match i % 128 with
  | 0 => ⟨S_, .f32⟩
  | 1 => ⟨S_, .f32⟩
  | 2 => ⟨S36864, .f32⟩
  | 3 => ⟨S36864, .f32⟩
  | 4 => ⟨S36864, .f32⟩
  | 5 => ⟨S36864, .f32⟩
  | 6 => ⟨S36864x1, .f32⟩
  | 7 => ⟨S36864, .f32⟩
  | 8 => ⟨S1x1, .f32⟩
  | 9 => ⟨S_, .f32⟩
  | 10 => ⟨S_, .f32⟩
  | 11 => ⟨S_, .f32⟩
  | 12 => ⟨S_, .f32⟩
  | 13 => ⟨S_, .f32⟩
  | 14 => ⟨S36864, .f32⟩
  | 15 => ⟨S36864, .f32⟩
  | 16 => ⟨S36864, .f32⟩
  | 17 => ⟨S36864, .f32⟩
  | 18 => ⟨S36864x1, .f32⟩
  | 19 => ⟨S36864, .f32⟩
  | 20 => ⟨S1x1, .f32⟩
  | 21 => ⟨S_, .f32⟩
  | 22 => ⟨S_, .f32⟩
  | 23 => ⟨S_, .f32⟩
  | 24 => ⟨S_, .f32⟩
  | 25 => ⟨S_, .f32⟩
  | 26 => ⟨S36864, .f32⟩
  | 27 => ⟨S36864, .f32⟩
  | 28 => ⟨S36864, .f32⟩
  | 29 => ⟨S36864, .f32⟩
  | 30 => ⟨S36864x1, .f32⟩
  | 31 => ⟨S36864, .f32⟩
  | 32 => ⟨S1x1, .f32⟩
  | 33 => ⟨S_, .f32⟩
  | 34 => ⟨S_, .f32⟩
  | 35 => ⟨S_, .f32⟩
  | 36 => ⟨S_, .f32⟩
  | 37 => ⟨S_, .f32⟩
  | 38 => ⟨S36864, .f32⟩
  | 39 => ⟨S36864, .f32⟩
  | 40 => ⟨S36864, .f32⟩
  | 41 => ⟨S36864, .f32⟩
  | 42 => ⟨S36864x1, .f32⟩
  | 43 => ⟨S36864x1, .f32⟩
  | 44 => ⟨S36864x1, .f32⟩
  | 45 => ⟨S36864x1, .f32⟩
  | 46 => ⟨S36864x4, .f32⟩
  | 47 => ⟨S36864x1, .f32⟩
  | 48 => ⟨S36864, .f32⟩
  | 49 => ⟨S36864x1, .f32⟩
  | 50 => ⟨S36864, .f32⟩
  | 51 => ⟨S36864, .f32⟩
  | 52 => ⟨S_, .f32⟩
  | 53 => ⟨S36864, .f32⟩
  | 54 => ⟨S36864, .f32⟩
  | 55 => ⟨S36864x1, .f32⟩
  | 56 => ⟨S36864, .f32⟩
  | 57 => ⟨S36864x1, .f32⟩
  | 58 => ⟨S36864, .f32⟩
  | 59 => ⟨S36864, .f32⟩
  | 60 => ⟨S_, .f32⟩
  | 61 => ⟨S36864, .f32⟩
  | 62 => ⟨S36864, .f32⟩
  | 63 => ⟨S1x1, .f32⟩
  | 64 => ⟨S_, .f32⟩
  | 65 => ⟨S_, .f32⟩
  | 66 => ⟨S_, .f32⟩
  | 67 => ⟨S36864, .f32⟩
  | 68 => ⟨S36864, .i1⟩
  | 69 => ⟨S36864, .f32⟩
  | 70 => ⟨S36864, .i1⟩
  | 71 => ⟨S36864, .i1⟩
  | 72 => ⟨S1x36864, .f32⟩
  | 73 => ⟨S36864, .f32⟩
  | 74 => ⟨S_, .f32⟩
  | 75 => ⟨S_, .f32⟩
  | 76 => ⟨S36864, .f32⟩
  | 77 => ⟨S36864, .f32⟩
  | 78 => ⟨S36864, .f32⟩
  | 79 => ⟨S36864, .i32⟩
  | 80 => ⟨S36864, .f32⟩
  | 81 => ⟨S36864, .i32⟩
  | 82 => ⟨S6000, .i32⟩
  | 83 => ⟨S_, .i32⟩
  | 84 => ⟨S6000, .i32⟩
  | 85 => ⟨S6000, .i1⟩
  | 86 => ⟨S_, .i32⟩
  | 87 => ⟨S6000, .i32⟩
  | 88 => ⟨S6000, .i32⟩
  | 89 => ⟨S6000, .i32⟩
  | 90 => ⟨S6000x1, .i32⟩
  | 91 => ⟨S6000x4, .f32⟩
  | 92 => ⟨S6000x1, .f32⟩
  | 93 => ⟨S6000, .f32⟩
  | 94 => ⟨S6000x1, .f32⟩
  | 95 => ⟨S6000, .f32⟩
  | 96 => ⟨S6000x1, .f32⟩
  | 97 => ⟨S6000, .f32⟩
  | 98 => ⟨S6000x1, .f32⟩
  | 99 => ⟨S6000, .f32⟩
  | 100 => ⟨S6000, .f32⟩
  | 101 => ⟨S_, .f32⟩
  | 102 => ⟨S6000, .f32⟩
  | 103 => ⟨S6000, .f32⟩
  | 104 => ⟨S6000, .f32⟩
  | 105 => ⟨S_, .f32⟩
  | 106 => ⟨S6000, .f32⟩
  | 107 => ⟨S6000, .f32⟩
  | 108 => ⟨S6000, .f32⟩
  | 109 => ⟨S6000, .i32⟩
  | 110 => ⟨S_, .i1⟩
  | 111 => ⟨S6000, .i1⟩
  | 112 => ⟨S_, .i32⟩
  | 113 => ⟨S_, .i32⟩
  | 114 => ⟨S6000, .f32⟩
  | 115 => ⟨S6000, .f32⟩
  | 116 => ⟨S6000, .f32⟩
  | 117 => ⟨S6000, .f32⟩
  | 118 => ⟨S6000, .f32⟩
  | 119 => ⟨S6000, .i32⟩
  | 120 => ⟨S_, .i32⟩
  | 121 => ⟨S_, .i32⟩
  | 122 => ⟨S6000, .i1⟩
  | 123 => ⟨S_, .i32⟩
  | 124 => ⟨S_, .i1⟩
  | 125 => ⟨S_, .i32⟩
  | 126 => ⟨S_, .i32⟩
  | 127 => ⟨S_, .i32⟩
  | _ => ⟨S2x128x64x64, .f32⟩

abbrev hbmTy0_4 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S1, .f32⟩
  | 6 => ⟨S_, .f32⟩
  | 7 => ⟨S6000, .f32⟩
  | 8 => ⟨S6000, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S1, .f32⟩
  | 16 => ⟨S_, .f32⟩
  | 17 => ⟨S6000, .f32⟩
  | 18 => ⟨S6000, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S1, .f32⟩
  | 26 => ⟨S_, .f32⟩
  | 27 => ⟨S6000, .f32⟩
  | 28 => ⟨S6000, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1, .f32⟩
  | 36 => ⟨S_, .f32⟩
  | 37 => ⟨S6000, .f32⟩
  | 38 => ⟨S6000, .f32⟩
  | 39 => ⟨S6000, .f32⟩
  | 40 => ⟨S_, .f32⟩
  | 41 => ⟨S6000, .f32⟩
  | 42 => ⟨S6000, .f32⟩
  | 43 => ⟨S_, .f32⟩
  | 44 => ⟨S6000, .f32⟩
  | 45 => ⟨S6000, .f32⟩
  | 46 => ⟨S6000, .f32⟩
  | 47 => ⟨S_, .f32⟩
  | 48 => ⟨S6000, .f32⟩
  | 49 => ⟨S6000, .f32⟩
  | 50 => ⟨S_, .f32⟩
  | 51 => ⟨S6000, .f32⟩
  | 52 => ⟨S6000, .f32⟩
  | 53 => ⟨S6000, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S1, .f32⟩
  | 61 => ⟨S_, .f32⟩
  | 62 => ⟨S6000, .f32⟩
  | 63 => ⟨S6000, .f32⟩
  | 64 => ⟨S6000, .f32⟩
  | 65 => ⟨S6000, .f32⟩
  | 66 => ⟨S_, .f32⟩
  | 67 => ⟨S6000, .f32⟩
  | 68 => ⟨S6000, .i1⟩
  | 69 => ⟨S_, .i32⟩
  | 70 => ⟨S6000, .i32⟩
  | 71 => ⟨S6000, .i1⟩
  | 72 => ⟨S6000, .i1⟩
  | 73 => ⟨S6000, .i1⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1, .i1⟩
  | 81 => ⟨S_, .i1⟩
  | 82 => ⟨S6000, .i1⟩
  | 83 => ⟨S_, .i32⟩
  | 84 => ⟨S_, .i32⟩
  | 85 => ⟨S6000, .i1⟩
  | 86 => ⟨S_, .i32⟩
  | 87 => ⟨S_, .i32⟩
  | 88 => ⟨S6000, .i32⟩
  | 89 => ⟨S6000, .i32⟩
  | 90 => ⟨S6000, .i32⟩
  | 91 => ⟨S1000, .i32⟩
  | 92 => ⟨S_, .i32⟩
  | 93 => ⟨S1000, .i32⟩
  | 94 => ⟨S1000, .i1⟩
  | 95 => ⟨S1000, .f32⟩
  | 96 => ⟨S_, .i32⟩
  | 97 => ⟨S1000, .i32⟩
  | 98 => ⟨S1000, .i32⟩
  | 99 => ⟨S_, .i32⟩
  | 100 => ⟨S1000, .i32⟩
  | 101 => ⟨S1000, .i1⟩
  | 102 => ⟨S_, .i32⟩
  | 103 => ⟨S1000, .i32⟩
  | 104 => ⟨S1000, .i32⟩
  | 105 => ⟨S1000, .i32⟩
  | 106 => ⟨S1000x1, .i32⟩
  | 107 => ⟨S1000x4, .f32⟩
  | 108 => ⟨S1000x1, .f32⟩
  | 109 => ⟨S1000x4, .f32⟩
  | 110 => ⟨S1000x4, .f32⟩
  | 111 => ⟨S_, .f32⟩
  | 112 => ⟨S1000x1, .f32⟩
  | 113 => ⟨S1000x5, .f32⟩
  | 114 => ⟨S1x1000x5, .f32⟩
  | 115 => ⟨S1x1000x5, .f32⟩
  | 116 => ⟨S2x1000x5, .f32⟩
  | _ => ⟨S2x128x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x128x64x64, .f32⟩

abbrev bufTy : (tb : Table) → Fin (tcTables nBuf tb) → BufTy
  | .hbm, ⟨i, _⟩ => hbmTy i
  | .local _ .vmem, ⟨0, _⟩ => ⟨S1x66x66x128, .f32⟩
  | .local _ .vmem, ⟨1, _⟩ => ⟨S1x66x66x128, .f32⟩
  | .local _ .vmem, ⟨2, _⟩ => ⟨S3x3x128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x4096x128, .f32⟩
  | .local _ .vmem, ⟨7, _⟩ => ⟨S1x4096x128, .f32⟩
  | _, _ => ⟨S2x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_9 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_10 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_11 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_12 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_13 : Ref sig .tc := ⟨.hbm, 132, rfl⟩
abbrev main_v107 : Ref sig .tc := ⟨.hbm, 133, rfl⟩
abbrev main_cst_14 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_call1_v3 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_15 : Ref sig .tc := ⟨.hbm, 144, rfl⟩
abbrev main_v113 : Ref sig .tc := ⟨.hbm, 145, rfl⟩
abbrev main_cst_16 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_17 : Ref sig .tc := ⟨.hbm, 156, rfl⟩
abbrev main_v119 : Ref sig .tc := ⟨.hbm, 157, rfl⟩
abbrev main_cst_18 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_19 : Ref sig .tc := ⟨.hbm, 168, rfl⟩
abbrev main_v125 : Ref sig .tc := ⟨.hbm, 169, rfl⟩
abbrev main_cst_20 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_21 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_22 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_23 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_24 : Ref sig .tc := ⟨.hbm, 208, rfl⟩
abbrev main_call5_v0 : Ref sig .tc := ⟨.hbm, 209, rfl⟩
abbrev main_call5_v1 : Ref sig .tc := ⟨.hbm, 210, rfl⟩
abbrev main_v156 : Ref sig .tc := ⟨.hbm, 211, rfl⟩
abbrev main_v157 : Ref sig .tc := ⟨.hbm, 212, rfl⟩
abbrev main_call6_v0 : Ref sig .tc := ⟨.hbm, 213, rfl⟩
abbrev main_call6_v1_0 : Ref sig .tc := ⟨.hbm, 214, rfl⟩
abbrev main_v158 : Ref sig .tc := ⟨.hbm, 215, rfl⟩
abbrev main_v159 : Ref sig .tc := ⟨.hbm, 216, rfl⟩
abbrev main_c_25 : Ref sig .tc := ⟨.hbm, 217, rfl⟩
abbrev main_v160 : Ref sig .tc := ⟨.hbm, 218, rfl⟩
abbrev main_v161 : Ref sig .tc := ⟨.hbm, 219, rfl⟩
abbrev main_c_26 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_27 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_28 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_c_29 : Ref sig .tc := ⟨.hbm, 244, rfl⟩
abbrev main_v183 : Ref sig .tc := ⟨.hbm, 245, rfl⟩
abbrev main_c_30 : Ref sig .tc := ⟨.hbm, 246, rfl⟩
abbrev main_c_31 : Ref sig .tc := ⟨.hbm, 247, rfl⟩
abbrev main_v184_0 : Ref sig .tc := ⟨.hbm, 248, rfl⟩
abbrev main_v184_1 : Ref sig .tc := ⟨.hbm, 249, rfl⟩
abbrev main_v184_2 : Ref sig .tc := ⟨.hbm, 250, rfl⟩
abbrev main_v184_3 : Ref sig .tc := ⟨.hbm, 251, rfl⟩
abbrev main_v184_4 : Ref sig .tc := ⟨.hbm, 252, rfl⟩
abbrev main_v184_5 : Ref sig .tc := ⟨.hbm, 253, rfl⟩
abbrev main_v184_6 : Ref sig .tc := ⟨.hbm, 254, rfl⟩
abbrev main_v184_7 : Ref sig .tc := ⟨.hbm, 255, rfl⟩
abbrev main_v184_8 : Ref sig .tc := ⟨.hbm, 256, rfl⟩
abbrev main_while0c_c_71 : Ref sig .tc := ⟨.hbm, 257, rfl⟩
abbrev main_while0c_v314 : Ref sig .tc := ⟨.hbm, 258, rfl⟩
abbrev main_while0b_c_71 : Ref sig .tc := ⟨.hbm, 259, rfl⟩
abbrev main_while0b_v314 : Ref sig .tc := ⟨.hbm, 260, rfl⟩
abbrev main_while0b_c_72 : Ref sig .tc := ⟨.hbm, 261, rfl⟩
abbrev main_while0b_v315 : Ref sig .tc := ⟨.hbm, 262, rfl⟩
abbrev main_while0b_v316 : Ref sig .tc := ⟨.hbm, 263, rfl⟩
abbrev main_while0b_c_73 : Ref sig .tc := ⟨.hbm, 264, rfl⟩
abbrev main_while0b_v317 : Ref sig .tc := ⟨.hbm, 265, rfl⟩
abbrev main_while0b_v318 : Ref sig .tc := ⟨.hbm, 266, rfl⟩
abbrev main_while0b_v319 : Ref sig .tc := ⟨.hbm, 267, rfl⟩
abbrev main_while0b_v320 : Ref sig .tc := ⟨.hbm, 268, rfl⟩
abbrev main_while0b_v321 : Ref sig .tc := ⟨.hbm, 269, rfl⟩
abbrev main_while0b_v322 : Ref sig .tc := ⟨.hbm, 270, rfl⟩
abbrev main_while0b_c_74 : Ref sig .tc := ⟨.hbm, 271, rfl⟩
abbrev main_while0b_v323 : Ref sig .tc := ⟨.hbm, 272, rfl⟩
abbrev main_while0b_v324 : Ref sig .tc := ⟨.hbm, 273, rfl⟩
abbrev main_while0b_c_75 : Ref sig .tc := ⟨.hbm, 274, rfl⟩
abbrev main_while0b_v325 : Ref sig .tc := ⟨.hbm, 275, rfl⟩
abbrev main_while0b_v326 : Ref sig .tc := ⟨.hbm, 276, rfl⟩
abbrev main_while0b_v327 : Ref sig .tc := ⟨.hbm, 277, rfl⟩
abbrev main_while0b_v328 : Ref sig .tc := ⟨.hbm, 278, rfl⟩
abbrev main_while0b_v329 : Ref sig .tc := ⟨.hbm, 279, rfl⟩
abbrev main_while0b_v330 : Ref sig .tc := ⟨.hbm, 280, rfl⟩
abbrev main_while0b_c_76 : Ref sig .tc := ⟨.hbm, 281, rfl⟩
abbrev main_while0b_v331 : Ref sig .tc := ⟨.hbm, 282, rfl⟩
abbrev main_while0b_v332 : Ref sig .tc := ⟨.hbm, 283, rfl⟩
abbrev main_while0b_c_77 : Ref sig .tc := ⟨.hbm, 284, rfl⟩
abbrev main_while0b_v333 : Ref sig .tc := ⟨.hbm, 285, rfl⟩
abbrev main_while0b_v334 : Ref sig .tc := ⟨.hbm, 286, rfl⟩
abbrev main_while0b_v335 : Ref sig .tc := ⟨.hbm, 287, rfl⟩
abbrev main_while0b_v336 : Ref sig .tc := ⟨.hbm, 288, rfl⟩
abbrev main_while0b_v337 : Ref sig .tc := ⟨.hbm, 289, rfl⟩
abbrev main_while0b_v338 : Ref sig .tc := ⟨.hbm, 290, rfl⟩
abbrev main_while0b_c_78 : Ref sig .tc := ⟨.hbm, 291, rfl⟩
abbrev main_while0b_v339 : Ref sig .tc := ⟨.hbm, 292, rfl⟩
abbrev main_while0b_v340 : Ref sig .tc := ⟨.hbm, 293, rfl⟩
abbrev main_while0b_c_79 : Ref sig .tc := ⟨.hbm, 294, rfl⟩
abbrev main_while0b_v341 : Ref sig .tc := ⟨.hbm, 295, rfl⟩
abbrev main_while0b_v342 : Ref sig .tc := ⟨.hbm, 296, rfl⟩
abbrev main_while0b_v343 : Ref sig .tc := ⟨.hbm, 297, rfl⟩
abbrev main_while0b_v344 : Ref sig .tc := ⟨.hbm, 298, rfl⟩
abbrev main_while0b_v345 : Ref sig .tc := ⟨.hbm, 299, rfl⟩
abbrev main_while0b_v346 : Ref sig .tc := ⟨.hbm, 300, rfl⟩
abbrev main_while0b_v347 : Ref sig .tc := ⟨.hbm, 301, rfl⟩
abbrev main_while0b_cst_80 : Ref sig .tc := ⟨.hbm, 302, rfl⟩
abbrev main_while0b_v348 : Ref sig .tc := ⟨.hbm, 303, rfl⟩
abbrev main_while0b_v349 : Ref sig .tc := ⟨.hbm, 304, rfl⟩
abbrev main_while0b_cst_81 : Ref sig .tc := ⟨.hbm, 305, rfl⟩
abbrev main_while0b_v350 : Ref sig .tc := ⟨.hbm, 306, rfl⟩
abbrev main_while0b_v351 : Ref sig .tc := ⟨.hbm, 307, rfl⟩
abbrev main_while0b_v352 : Ref sig .tc := ⟨.hbm, 308, rfl⟩
abbrev main_while0b_cst_82 : Ref sig .tc := ⟨.hbm, 309, rfl⟩
abbrev main_while0b_v353 : Ref sig .tc := ⟨.hbm, 310, rfl⟩
abbrev main_while0b_v354 : Ref sig .tc := ⟨.hbm, 311, rfl⟩
abbrev main_while0b_cst_83 : Ref sig .tc := ⟨.hbm, 312, rfl⟩
abbrev main_while0b_v355 : Ref sig .tc := ⟨.hbm, 313, rfl⟩
abbrev main_while0b_v356 : Ref sig .tc := ⟨.hbm, 314, rfl⟩
abbrev main_while0b_v357 : Ref sig .tc := ⟨.hbm, 315, rfl⟩
abbrev main_while0b_c_84 : Ref sig .tc := ⟨.hbm, 316, rfl⟩
abbrev main_while0b_v358 : Ref sig .tc := ⟨.hbm, 317, rfl⟩
abbrev main_while0b_v359 : Ref sig .tc := ⟨.hbm, 318, rfl⟩
abbrev main_while0b_c_85 : Ref sig .tc := ⟨.hbm, 319, rfl⟩
abbrev main_while0b_v360 : Ref sig .tc := ⟨.hbm, 320, rfl⟩
abbrev main_while0b_v361 : Ref sig .tc := ⟨.hbm, 321, rfl⟩
abbrev main_while0b_v362 : Ref sig .tc := ⟨.hbm, 322, rfl⟩
abbrev main_while0b_v363 : Ref sig .tc := ⟨.hbm, 323, rfl⟩
abbrev main_while0b_v364 : Ref sig .tc := ⟨.hbm, 324, rfl⟩
abbrev main_while0b_v365 : Ref sig .tc := ⟨.hbm, 325, rfl⟩
abbrev main_while0b_v366 : Ref sig .tc := ⟨.hbm, 326, rfl⟩
abbrev main_while0b_v367 : Ref sig .tc := ⟨.hbm, 327, rfl⟩
abbrev main_while0b_cst_86 : Ref sig .tc := ⟨.hbm, 328, rfl⟩
abbrev main_while0b_v368 : Ref sig .tc := ⟨.hbm, 329, rfl⟩
abbrev main_while0b_v369 : Ref sig .tc := ⟨.hbm, 330, rfl⟩
abbrev main_while0b_v370 : Ref sig .tc := ⟨.hbm, 331, rfl⟩
abbrev main_while0b_v371 : Ref sig .tc := ⟨.hbm, 332, rfl⟩
abbrev main_while0b_v372 : Ref sig .tc := ⟨.hbm, 333, rfl⟩
abbrev main_while0b_v373 : Ref sig .tc := ⟨.hbm, 334, rfl⟩
abbrev main_while0b_v374 : Ref sig .tc := ⟨.hbm, 335, rfl⟩
abbrev main_while0b_c_87 : Ref sig .tc := ⟨.hbm, 336, rfl⟩
abbrev main_while0b_v375 : Ref sig .tc := ⟨.hbm, 337, rfl⟩
abbrev main_while0b_v376 : Ref sig .tc := ⟨.hbm, 338, rfl⟩
abbrev main_while0b_c_88 : Ref sig .tc := ⟨.hbm, 339, rfl⟩
abbrev main_while0b_v377 : Ref sig .tc := ⟨.hbm, 340, rfl⟩
abbrev main_while0b_v378 : Ref sig .tc := ⟨.hbm, 341, rfl⟩
abbrev main_while0b_v379 : Ref sig .tc := ⟨.hbm, 342, rfl⟩
abbrev main_while0b_v380 : Ref sig .tc := ⟨.hbm, 343, rfl⟩
abbrev main_while0b_v381 : Ref sig .tc := ⟨.hbm, 344, rfl⟩
abbrev main_while0b_c_89 : Ref sig .tc := ⟨.hbm, 345, rfl⟩
abbrev main_while0b_v382 : Ref sig .tc := ⟨.hbm, 346, rfl⟩
abbrev main_v185 : Ref sig .tc := ⟨.hbm, 347, rfl⟩
abbrev main_c_32 : Ref sig .tc := ⟨.hbm, 348, rfl⟩
abbrev main_call8_v0 : Ref sig .tc := ⟨.hbm, 349, rfl⟩
abbrev main_call8_v1 : Ref sig .tc := ⟨.hbm, 350, rfl⟩
abbrev main_v186 : Ref sig .tc := ⟨.hbm, 351, rfl⟩
abbrev main_v187 : Ref sig .tc := ⟨.hbm, 352, rfl⟩
abbrev main_v188 : Ref sig .tc := ⟨.hbm, 353, rfl⟩
abbrev main_c_33 : Ref sig .tc := ⟨.hbm, 354, rfl⟩
abbrev main_v189 : Ref sig .tc := ⟨.hbm, 355, rfl⟩
abbrev main_v190 : Ref sig .tc := ⟨.hbm, 356, rfl⟩
abbrev main_v191 : Ref sig .tc := ⟨.hbm, 357, rfl⟩
abbrev main_c_34 : Ref sig .tc := ⟨.hbm, 358, rfl⟩
abbrev main_v192 : Ref sig .tc := ⟨.hbm, 359, rfl⟩
abbrev main_v193 : Ref sig .tc := ⟨.hbm, 360, rfl⟩
abbrev main_c_35 : Ref sig .tc := ⟨.hbm, 361, rfl⟩
abbrev main_v194 : Ref sig .tc := ⟨.hbm, 362, rfl⟩
abbrev main_v195 : Ref sig .tc := ⟨.hbm, 363, rfl⟩
abbrev main_c_36 : Ref sig .tc := ⟨.hbm, 364, rfl⟩
abbrev main_v196 : Ref sig .tc := ⟨.hbm, 365, rfl⟩
abbrev main_v197 : Ref sig .tc := ⟨.hbm, 366, rfl⟩
abbrev main_v198 : Ref sig .tc := ⟨.hbm, 367, rfl⟩
abbrev main_v199 : Ref sig .tc := ⟨.hbm, 368, rfl⟩
abbrev main_v200 : Ref sig .tc := ⟨.hbm, 369, rfl⟩
abbrev main_v201 : Ref sig .tc := ⟨.hbm, 370, rfl⟩
abbrev main_v202 : Ref sig .tc := ⟨.hbm, 371, rfl⟩
abbrev main_v203 : Ref sig .tc := ⟨.hbm, 372, rfl⟩
abbrev main_cst_37 : Ref sig .tc := ⟨.hbm, 373, rfl⟩
abbrev main_v204 : Ref sig .tc := ⟨.hbm, 374, rfl⟩
abbrev main_v205 : Ref sig .tc := ⟨.hbm, 375, rfl⟩
abbrev main_v206 : Ref sig .tc := ⟨.hbm, 376, rfl⟩
abbrev main_v207 : Ref sig .tc := ⟨.hbm, 377, rfl⟩
abbrev main_v208 : Ref sig .tc := ⟨.hbm, 378, rfl⟩
abbrev main_v209 : Ref sig .tc := ⟨.hbm, 379, rfl⟩
abbrev main_v210 : Ref sig .tc := ⟨.hbm, 380, rfl⟩
abbrev main_v211 : Ref sig .tc := ⟨.hbm, 381, rfl⟩
abbrev main_cst_38 : Ref sig .tc := ⟨.hbm, 382, rfl⟩
abbrev main_v212 : Ref sig .tc := ⟨.hbm, 383, rfl⟩
abbrev main_cst_39 : Ref sig .tc := ⟨.hbm, 384, rfl⟩
abbrev main_call10_v0 : Ref sig .tc := ⟨.hbm, 385, rfl⟩
abbrev main_call10_v1 : Ref sig .tc := ⟨.hbm, 386, rfl⟩
abbrev main_call10_v2 : Ref sig .tc := ⟨.hbm, 387, rfl⟩
abbrev main_call10_v3 : Ref sig .tc := ⟨.hbm, 388, rfl⟩
abbrev main_v213 : Ref sig .tc := ⟨.hbm, 389, rfl⟩
abbrev main_v214 : Ref sig .tc := ⟨.hbm, 390, rfl⟩
abbrev main_v215 : Ref sig .tc := ⟨.hbm, 391, rfl⟩
abbrev main_v216 : Ref sig .tc := ⟨.hbm, 392, rfl⟩
abbrev main_v217 : Ref sig .tc := ⟨.hbm, 393, rfl⟩
abbrev main_cst_40 : Ref sig .tc := ⟨.hbm, 394, rfl⟩
abbrev main_v218 : Ref sig .tc := ⟨.hbm, 395, rfl⟩
abbrev main_cst_41 : Ref sig .tc := ⟨.hbm, 396, rfl⟩
abbrev main_call11_v0 : Ref sig .tc := ⟨.hbm, 397, rfl⟩
abbrev main_call11_v1 : Ref sig .tc := ⟨.hbm, 398, rfl⟩
abbrev main_call11_v2 : Ref sig .tc := ⟨.hbm, 399, rfl⟩
abbrev main_call11_v3 : Ref sig .tc := ⟨.hbm, 400, rfl⟩
abbrev main_v219 : Ref sig .tc := ⟨.hbm, 401, rfl⟩
abbrev main_v220 : Ref sig .tc := ⟨.hbm, 402, rfl⟩
abbrev main_v221 : Ref sig .tc := ⟨.hbm, 403, rfl⟩
abbrev main_v222 : Ref sig .tc := ⟨.hbm, 404, rfl⟩
abbrev main_v223 : Ref sig .tc := ⟨.hbm, 405, rfl⟩
abbrev main_cst_42 : Ref sig .tc := ⟨.hbm, 406, rfl⟩
abbrev main_v224 : Ref sig .tc := ⟨.hbm, 407, rfl⟩
abbrev main_cst_43 : Ref sig .tc := ⟨.hbm, 408, rfl⟩
abbrev main_call12_v0 : Ref sig .tc := ⟨.hbm, 409, rfl⟩
abbrev main_call12_v1 : Ref sig .tc := ⟨.hbm, 410, rfl⟩
abbrev main_call12_v2 : Ref sig .tc := ⟨.hbm, 411, rfl⟩
abbrev main_call12_v3 : Ref sig .tc := ⟨.hbm, 412, rfl⟩
abbrev main_v225 : Ref sig .tc := ⟨.hbm, 413, rfl⟩
abbrev main_v226 : Ref sig .tc := ⟨.hbm, 414, rfl⟩
abbrev main_v227 : Ref sig .tc := ⟨.hbm, 415, rfl⟩
abbrev main_v228 : Ref sig .tc := ⟨.hbm, 416, rfl⟩
abbrev main_v229 : Ref sig .tc := ⟨.hbm, 417, rfl⟩
abbrev main_cst_44 : Ref sig .tc := ⟨.hbm, 418, rfl⟩
abbrev main_v230 : Ref sig .tc := ⟨.hbm, 419, rfl⟩
abbrev main_cst_45 : Ref sig .tc := ⟨.hbm, 420, rfl⟩
abbrev main_call13_v0 : Ref sig .tc := ⟨.hbm, 421, rfl⟩
abbrev main_call13_v1 : Ref sig .tc := ⟨.hbm, 422, rfl⟩
abbrev main_call13_v2 : Ref sig .tc := ⟨.hbm, 423, rfl⟩
abbrev main_call13_v3 : Ref sig .tc := ⟨.hbm, 424, rfl⟩
abbrev main_v231 : Ref sig .tc := ⟨.hbm, 425, rfl⟩
abbrev main_v232 : Ref sig .tc := ⟨.hbm, 426, rfl⟩
abbrev main_v233 : Ref sig .tc := ⟨.hbm, 427, rfl⟩
abbrev main_v234 : Ref sig .tc := ⟨.hbm, 428, rfl⟩
abbrev main_v235 : Ref sig .tc := ⟨.hbm, 429, rfl⟩
abbrev main_v236 : Ref sig .tc := ⟨.hbm, 430, rfl⟩
abbrev main_v237 : Ref sig .tc := ⟨.hbm, 431, rfl⟩
abbrev main_v238 : Ref sig .tc := ⟨.hbm, 432, rfl⟩
abbrev main_v239 : Ref sig .tc := ⟨.hbm, 433, rfl⟩
abbrev main_v240 : Ref sig .tc := ⟨.hbm, 434, rfl⟩
abbrev main_v241 : Ref sig .tc := ⟨.hbm, 435, rfl⟩
abbrev main_cst_46 : Ref sig .tc := ⟨.hbm, 436, rfl⟩
abbrev main_v242 : Ref sig .tc := ⟨.hbm, 437, rfl⟩
abbrev main_v243 : Ref sig .tc := ⟨.hbm, 438, rfl⟩
abbrev main_v244 : Ref sig .tc := ⟨.hbm, 439, rfl⟩
abbrev main_v245 : Ref sig .tc := ⟨.hbm, 440, rfl⟩
abbrev main_v246 : Ref sig .tc := ⟨.hbm, 441, rfl⟩
abbrev main_v247 : Ref sig .tc := ⟨.hbm, 442, rfl⟩
abbrev main_v248 : Ref sig .tc := ⟨.hbm, 443, rfl⟩
abbrev main_cst_47 : Ref sig .tc := ⟨.hbm, 444, rfl⟩
abbrev main_v249 : Ref sig .tc := ⟨.hbm, 445, rfl⟩
abbrev main_v250 : Ref sig .tc := ⟨.hbm, 446, rfl⟩
abbrev main_v251 : Ref sig .tc := ⟨.hbm, 447, rfl⟩
abbrev main_v252 : Ref sig .tc := ⟨.hbm, 448, rfl⟩
abbrev main_cst_48 : Ref sig .tc := ⟨.hbm, 449, rfl⟩
abbrev main_v253 : Ref sig .tc := ⟨.hbm, 450, rfl⟩
abbrev main_v254 : Ref sig .tc := ⟨.hbm, 451, rfl⟩
abbrev main_v255 : Ref sig .tc := ⟨.hbm, 452, rfl⟩
abbrev main_v256 : Ref sig .tc := ⟨.hbm, 453, rfl⟩
abbrev main_v257 : Ref sig .tc := ⟨.hbm, 454, rfl⟩
abbrev main_v258 : Ref sig .tc := ⟨.hbm, 455, rfl⟩
abbrev main_v259 : Ref sig .tc := ⟨.hbm, 456, rfl⟩
abbrev main_v260 : Ref sig .tc := ⟨.hbm, 457, rfl⟩
abbrev main_cst_49 : Ref sig .tc := ⟨.hbm, 458, rfl⟩
abbrev main_call14_v0 : Ref sig .tc := ⟨.hbm, 459, rfl⟩
abbrev main_call14_v1 : Ref sig .tc := ⟨.hbm, 460, rfl⟩
abbrev main_v261 : Ref sig .tc := ⟨.hbm, 461, rfl⟩
abbrev main_v262 : Ref sig .tc := ⟨.hbm, 462, rfl⟩
abbrev main_call15_v0 : Ref sig .tc := ⟨.hbm, 463, rfl⟩
abbrev main_call15_v1_0 : Ref sig .tc := ⟨.hbm, 464, rfl⟩
abbrev main_v263 : Ref sig .tc := ⟨.hbm, 465, rfl⟩
abbrev main_v264 : Ref sig .tc := ⟨.hbm, 466, rfl⟩
abbrev main_c_50 : Ref sig .tc := ⟨.hbm, 467, rfl⟩
abbrev main_v265 : Ref sig .tc := ⟨.hbm, 468, rfl⟩
abbrev main_v266 : Ref sig .tc := ⟨.hbm, 469, rfl⟩
abbrev main_c_51 : Ref sig .tc := ⟨.hbm, 470, rfl⟩
abbrev main_v267 : Ref sig .tc := ⟨.hbm, 471, rfl⟩
abbrev main_v268 : Ref sig .tc := ⟨.hbm, 472, rfl⟩
abbrev main_v269 : Ref sig .tc := ⟨.hbm, 473, rfl⟩
abbrev main_v270 : Ref sig .tc := ⟨.hbm, 474, rfl⟩
abbrev main_v271 : Ref sig .tc := ⟨.hbm, 475, rfl⟩
abbrev main_v272 : Ref sig .tc := ⟨.hbm, 476, rfl⟩
abbrev main_v273 : Ref sig .tc := ⟨.hbm, 477, rfl⟩
abbrev main_v274 : Ref sig .tc := ⟨.hbm, 478, rfl⟩
abbrev main_v275 : Ref sig .tc := ⟨.hbm, 479, rfl⟩
abbrev main_v276 : Ref sig .tc := ⟨.hbm, 480, rfl⟩
abbrev main_v277 : Ref sig .tc := ⟨.hbm, 481, rfl⟩
abbrev main_v278 : Ref sig .tc := ⟨.hbm, 482, rfl⟩
abbrev main_v279 : Ref sig .tc := ⟨.hbm, 483, rfl⟩
abbrev main_v280 : Ref sig .tc := ⟨.hbm, 484, rfl⟩
abbrev main_cst_52 : Ref sig .tc := ⟨.hbm, 485, rfl⟩
abbrev main_v281 : Ref sig .tc := ⟨.hbm, 486, rfl⟩
abbrev main_v282 : Ref sig .tc := ⟨.hbm, 487, rfl⟩
abbrev main_v283 : Ref sig .tc := ⟨.hbm, 488, rfl⟩
abbrev main_cst_53 : Ref sig .tc := ⟨.hbm, 489, rfl⟩
abbrev main_v284 : Ref sig .tc := ⟨.hbm, 490, rfl⟩
abbrev main_v285 : Ref sig .tc := ⟨.hbm, 491, rfl⟩
abbrev main_v286 : Ref sig .tc := ⟨.hbm, 492, rfl⟩
abbrev main_v287 : Ref sig .tc := ⟨.hbm, 493, rfl⟩
abbrev main_c_54 : Ref sig .tc := ⟨.hbm, 494, rfl⟩
abbrev main_v288 : Ref sig .tc := ⟨.hbm, 495, rfl⟩
abbrev main_c_55 : Ref sig .tc := ⟨.hbm, 496, rfl⟩
abbrev main_c_56 : Ref sig .tc := ⟨.hbm, 497, rfl⟩
abbrev main_v289_0 : Ref sig .tc := ⟨.hbm, 498, rfl⟩
abbrev main_v289_1 : Ref sig .tc := ⟨.hbm, 499, rfl⟩
abbrev main_v289_2 : Ref sig .tc := ⟨.hbm, 500, rfl⟩
abbrev main_v289_3 : Ref sig .tc := ⟨.hbm, 501, rfl⟩
abbrev main_v289_4 : Ref sig .tc := ⟨.hbm, 502, rfl⟩
abbrev main_v289_5 : Ref sig .tc := ⟨.hbm, 503, rfl⟩
abbrev main_v289_6 : Ref sig .tc := ⟨.hbm, 504, rfl⟩
abbrev main_v289_7 : Ref sig .tc := ⟨.hbm, 505, rfl⟩
abbrev main_v289_8 : Ref sig .tc := ⟨.hbm, 506, rfl⟩
abbrev main_while1c_c_71 : Ref sig .tc := ⟨.hbm, 507, rfl⟩
abbrev main_while1c_v314 : Ref sig .tc := ⟨.hbm, 508, rfl⟩
abbrev main_while1b_c_71 : Ref sig .tc := ⟨.hbm, 509, rfl⟩
abbrev main_while1b_v314 : Ref sig .tc := ⟨.hbm, 510, rfl⟩
abbrev main_while1b_c_72 : Ref sig .tc := ⟨.hbm, 511, rfl⟩
abbrev main_while1b_v315 : Ref sig .tc := ⟨.hbm, 512, rfl⟩
abbrev main_while1b_v316 : Ref sig .tc := ⟨.hbm, 513, rfl⟩
abbrev main_while1b_c_73 : Ref sig .tc := ⟨.hbm, 514, rfl⟩
abbrev main_while1b_v317 : Ref sig .tc := ⟨.hbm, 515, rfl⟩
abbrev main_while1b_v318 : Ref sig .tc := ⟨.hbm, 516, rfl⟩
abbrev main_while1b_v319 : Ref sig .tc := ⟨.hbm, 517, rfl⟩
abbrev main_while1b_v320 : Ref sig .tc := ⟨.hbm, 518, rfl⟩
abbrev main_while1b_v321 : Ref sig .tc := ⟨.hbm, 519, rfl⟩
abbrev main_while1b_v322 : Ref sig .tc := ⟨.hbm, 520, rfl⟩
abbrev main_while1b_c_74 : Ref sig .tc := ⟨.hbm, 521, rfl⟩
abbrev main_while1b_v323 : Ref sig .tc := ⟨.hbm, 522, rfl⟩
abbrev main_while1b_v324 : Ref sig .tc := ⟨.hbm, 523, rfl⟩
abbrev main_while1b_c_75 : Ref sig .tc := ⟨.hbm, 524, rfl⟩
abbrev main_while1b_v325 : Ref sig .tc := ⟨.hbm, 525, rfl⟩
abbrev main_while1b_v326 : Ref sig .tc := ⟨.hbm, 526, rfl⟩
abbrev main_while1b_v327 : Ref sig .tc := ⟨.hbm, 527, rfl⟩
abbrev main_while1b_v328 : Ref sig .tc := ⟨.hbm, 528, rfl⟩
abbrev main_while1b_v329 : Ref sig .tc := ⟨.hbm, 529, rfl⟩
abbrev main_while1b_v330 : Ref sig .tc := ⟨.hbm, 530, rfl⟩
abbrev main_while1b_c_76 : Ref sig .tc := ⟨.hbm, 531, rfl⟩
abbrev main_while1b_v331 : Ref sig .tc := ⟨.hbm, 532, rfl⟩
abbrev main_while1b_v332 : Ref sig .tc := ⟨.hbm, 533, rfl⟩
abbrev main_while1b_c_77 : Ref sig .tc := ⟨.hbm, 534, rfl⟩
abbrev main_while1b_v333 : Ref sig .tc := ⟨.hbm, 535, rfl⟩
abbrev main_while1b_v334 : Ref sig .tc := ⟨.hbm, 536, rfl⟩
abbrev main_while1b_v335 : Ref sig .tc := ⟨.hbm, 537, rfl⟩
abbrev main_while1b_v336 : Ref sig .tc := ⟨.hbm, 538, rfl⟩
abbrev main_while1b_v337 : Ref sig .tc := ⟨.hbm, 539, rfl⟩
abbrev main_while1b_v338 : Ref sig .tc := ⟨.hbm, 540, rfl⟩
abbrev main_while1b_c_78 : Ref sig .tc := ⟨.hbm, 541, rfl⟩
abbrev main_while1b_v339 : Ref sig .tc := ⟨.hbm, 542, rfl⟩
abbrev main_while1b_v340 : Ref sig .tc := ⟨.hbm, 543, rfl⟩
abbrev main_while1b_c_79 : Ref sig .tc := ⟨.hbm, 544, rfl⟩
abbrev main_while1b_v341 : Ref sig .tc := ⟨.hbm, 545, rfl⟩
abbrev main_while1b_v342 : Ref sig .tc := ⟨.hbm, 546, rfl⟩
abbrev main_while1b_v343 : Ref sig .tc := ⟨.hbm, 547, rfl⟩
abbrev main_while1b_v344 : Ref sig .tc := ⟨.hbm, 548, rfl⟩
abbrev main_while1b_v345 : Ref sig .tc := ⟨.hbm, 549, rfl⟩
abbrev main_while1b_v346 : Ref sig .tc := ⟨.hbm, 550, rfl⟩
abbrev main_while1b_v347 : Ref sig .tc := ⟨.hbm, 551, rfl⟩
abbrev main_while1b_cst_80 : Ref sig .tc := ⟨.hbm, 552, rfl⟩
abbrev main_while1b_v348 : Ref sig .tc := ⟨.hbm, 553, rfl⟩
abbrev main_while1b_v349 : Ref sig .tc := ⟨.hbm, 554, rfl⟩
abbrev main_while1b_cst_81 : Ref sig .tc := ⟨.hbm, 555, rfl⟩
abbrev main_while1b_v350 : Ref sig .tc := ⟨.hbm, 556, rfl⟩
abbrev main_while1b_v351 : Ref sig .tc := ⟨.hbm, 557, rfl⟩
abbrev main_while1b_v352 : Ref sig .tc := ⟨.hbm, 558, rfl⟩
abbrev main_while1b_cst_82 : Ref sig .tc := ⟨.hbm, 559, rfl⟩
abbrev main_while1b_v353 : Ref sig .tc := ⟨.hbm, 560, rfl⟩
abbrev main_while1b_v354 : Ref sig .tc := ⟨.hbm, 561, rfl⟩
abbrev main_while1b_cst_83 : Ref sig .tc := ⟨.hbm, 562, rfl⟩
abbrev main_while1b_v355 : Ref sig .tc := ⟨.hbm, 563, rfl⟩
abbrev main_while1b_v356 : Ref sig .tc := ⟨.hbm, 564, rfl⟩
abbrev main_while1b_v357 : Ref sig .tc := ⟨.hbm, 565, rfl⟩
abbrev main_while1b_c_84 : Ref sig .tc := ⟨.hbm, 566, rfl⟩
abbrev main_while1b_v358 : Ref sig .tc := ⟨.hbm, 567, rfl⟩
abbrev main_while1b_v359 : Ref sig .tc := ⟨.hbm, 568, rfl⟩
abbrev main_while1b_c_85 : Ref sig .tc := ⟨.hbm, 569, rfl⟩
abbrev main_while1b_v360 : Ref sig .tc := ⟨.hbm, 570, rfl⟩
abbrev main_while1b_v361 : Ref sig .tc := ⟨.hbm, 571, rfl⟩
abbrev main_while1b_v362 : Ref sig .tc := ⟨.hbm, 572, rfl⟩
abbrev main_while1b_v363 : Ref sig .tc := ⟨.hbm, 573, rfl⟩
abbrev main_while1b_v364 : Ref sig .tc := ⟨.hbm, 574, rfl⟩
abbrev main_while1b_v365 : Ref sig .tc := ⟨.hbm, 575, rfl⟩
abbrev main_while1b_v366 : Ref sig .tc := ⟨.hbm, 576, rfl⟩
abbrev main_while1b_v367 : Ref sig .tc := ⟨.hbm, 577, rfl⟩
abbrev main_while1b_cst_86 : Ref sig .tc := ⟨.hbm, 578, rfl⟩
abbrev main_while1b_v368 : Ref sig .tc := ⟨.hbm, 579, rfl⟩
abbrev main_while1b_v369 : Ref sig .tc := ⟨.hbm, 580, rfl⟩
abbrev main_while1b_v370 : Ref sig .tc := ⟨.hbm, 581, rfl⟩
abbrev main_while1b_v371 : Ref sig .tc := ⟨.hbm, 582, rfl⟩
abbrev main_while1b_v372 : Ref sig .tc := ⟨.hbm, 583, rfl⟩
abbrev main_while1b_v373 : Ref sig .tc := ⟨.hbm, 584, rfl⟩
abbrev main_while1b_v374 : Ref sig .tc := ⟨.hbm, 585, rfl⟩
abbrev main_while1b_c_87 : Ref sig .tc := ⟨.hbm, 586, rfl⟩
abbrev main_while1b_v375 : Ref sig .tc := ⟨.hbm, 587, rfl⟩
abbrev main_while1b_v376 : Ref sig .tc := ⟨.hbm, 588, rfl⟩
abbrev main_while1b_c_88 : Ref sig .tc := ⟨.hbm, 589, rfl⟩
abbrev main_while1b_v377 : Ref sig .tc := ⟨.hbm, 590, rfl⟩
abbrev main_while1b_v378 : Ref sig .tc := ⟨.hbm, 591, rfl⟩
abbrev main_while1b_v379 : Ref sig .tc := ⟨.hbm, 592, rfl⟩
abbrev main_while1b_v380 : Ref sig .tc := ⟨.hbm, 593, rfl⟩
abbrev main_while1b_v381 : Ref sig .tc := ⟨.hbm, 594, rfl⟩
abbrev main_while1b_c_89 : Ref sig .tc := ⟨.hbm, 595, rfl⟩
abbrev main_while1b_v382 : Ref sig .tc := ⟨.hbm, 596, rfl⟩
abbrev main_v290 : Ref sig .tc := ⟨.hbm, 597, rfl⟩
abbrev main_c_57 : Ref sig .tc := ⟨.hbm, 598, rfl⟩
abbrev main_call17_v0 : Ref sig .tc := ⟨.hbm, 599, rfl⟩
abbrev main_call17_v1 : Ref sig .tc := ⟨.hbm, 600, rfl⟩
abbrev main_v291 : Ref sig .tc := ⟨.hbm, 601, rfl⟩
abbrev main_v292 : Ref sig .tc := ⟨.hbm, 602, rfl⟩
abbrev main_v293 : Ref sig .tc := ⟨.hbm, 603, rfl⟩
abbrev main_c_58 : Ref sig .tc := ⟨.hbm, 604, rfl⟩
abbrev main_v294 : Ref sig .tc := ⟨.hbm, 605, rfl⟩
abbrev main_v295 : Ref sig .tc := ⟨.hbm, 606, rfl⟩
abbrev main_v296 : Ref sig .tc := ⟨.hbm, 607, rfl⟩
abbrev main_c_59 : Ref sig .tc := ⟨.hbm, 608, rfl⟩
abbrev main_v297 : Ref sig .tc := ⟨.hbm, 609, rfl⟩
abbrev main_v298 : Ref sig .tc := ⟨.hbm, 610, rfl⟩
abbrev main_c_60 : Ref sig .tc := ⟨.hbm, 611, rfl⟩
abbrev main_v299 : Ref sig .tc := ⟨.hbm, 612, rfl⟩
abbrev main_v300 : Ref sig .tc := ⟨.hbm, 613, rfl⟩
abbrev main_c_61 : Ref sig .tc := ⟨.hbm, 614, rfl⟩
abbrev main_v301 : Ref sig .tc := ⟨.hbm, 615, rfl⟩
abbrev main_v302 : Ref sig .tc := ⟨.hbm, 616, rfl⟩
abbrev main_v303 : Ref sig .tc := ⟨.hbm, 617, rfl⟩
abbrev main_v304 : Ref sig .tc := ⟨.hbm, 618, rfl⟩
abbrev main_v305 : Ref sig .tc := ⟨.hbm, 619, rfl⟩
abbrev main_v306 : Ref sig .tc := ⟨.hbm, 620, rfl⟩
abbrev main_v307 : Ref sig .tc := ⟨.hbm, 621, rfl⟩
abbrev main_v308 : Ref sig .tc := ⟨.hbm, 622, rfl⟩
abbrev main_cst_62 : Ref sig .tc := ⟨.hbm, 623, rfl⟩
abbrev main_v309 : Ref sig .tc := ⟨.hbm, 624, rfl⟩
abbrev main_v310 : Ref sig .tc := ⟨.hbm, 625, rfl⟩
abbrev main_v311 : Ref sig .tc := ⟨.hbm, 626, rfl⟩
abbrev main_v312 : Ref sig .tc := ⟨.hbm, 627, rfl⟩
abbrev main_v313 : Ref sig .tc := ⟨.hbm, 628, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev main_while0_count : Scf.Loop 32 := ⟨0#32, 6000#32, 1#32⟩

abbrev main_while1_count : Scf.Loop 32 := ⟨0#32, 6000#32, 1#32⟩

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x66x66x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x128x64x64 : Shape := ⟨4, ![2, 128, 64, 64]⟩
abbrev S2x3 : Shape := ⟨2, ![2, 3]⟩
abbrev S2x20x5 : Shape := ⟨3, ![2, 20, 5]⟩
abbrev S128x128x3x3 : Shape := ⟨4, ![128, 128, 3, 3]⟩
abbrev S128 : Shape := ⟨1, ![128]⟩
abbrev S18x128x1x1 : Shape := ⟨4, ![18, 128, 1, 1]⟩
abbrev S18 : Shape := ⟨1, ![18]⟩
abbrev S36x128x1x1 : Shape := ⟨4, ![36, 128, 1, 1]⟩
abbrev S36 : Shape := ⟨1, ![36]⟩
abbrev S36864x4 : Shape := ⟨2, ![36864, 4]⟩
abbrev S_ : Shape := ⟨0, ![]⟩
abbrev S2x128x66x66 : Shape := ⟨4, ![2, 128, 66, 66]⟩
abbrev S128x128x1x1 : Shape := ⟨4, ![128, 128, 1, 1]⟩
abbrev S128x128 : Shape := ⟨2, ![128, 128]⟩
abbrev S128x2x64x64 : Shape := ⟨4, ![128, 2, 64, 64]⟩
abbrev S1x128x1x1 : Shape := ⟨4, ![1, 128, 1, 1]⟩
abbrev S18x128 : Shape := ⟨2, ![18, 128]⟩
abbrev S18x2x64x64 : Shape := ⟨4, ![18, 2, 64, 64]⟩
abbrev S2x18x64x64 : Shape := ⟨4, ![2, 18, 64, 64]⟩
abbrev S1x18x1x1 : Shape := ⟨4, ![1, 18, 1, 1]⟩
abbrev S36x128 : Shape := ⟨2, ![36, 128]⟩
abbrev S36x2x64x64 : Shape := ⟨4, ![36, 2, 64, 64]⟩
abbrev S2x36x64x64 : Shape := ⟨4, ![2, 36, 64, 64]⟩
abbrev S1x36x1x1 : Shape := ⟨4, ![1, 36, 1, 1]⟩
abbrev S2x2x9x64x64 : Shape := ⟨5, ![2, 2, 9, 64, 64]⟩
abbrev S2x9x64x64 : Shape := ⟨4, ![2, 9, 64, 64]⟩
abbrev S2x1x9x64x64 : Shape := ⟨5, ![2, 1, 9, 64, 64]⟩
abbrev S2x64x64x9 : Shape := ⟨4, ![2, 64, 64, 9]⟩
abbrev S2x36864 : Shape := ⟨2, ![2, 36864]⟩
abbrev S2x64x64x36 : Shape := ⟨4, ![2, 64, 64, 36]⟩
abbrev S2x36864x4 : Shape := ⟨3, ![2, 36864, 4]⟩
abbrev S36864x1 : Shape := ⟨2, ![36864, 1]⟩
abbrev S36864 : Shape := ⟨1, ![36864]⟩
abbrev S2x36864x1 : Shape := ⟨3, ![2, 36864, 1]⟩
abbrev S1x36864 : Shape := ⟨2, ![1, 36864]⟩
abbrev S1x36864x4 : Shape := ⟨3, ![1, 36864, 4]⟩
abbrev S1x1 : Shape := ⟨2, ![1, 1]⟩
abbrev S6000 : Shape := ⟨1, ![6000]⟩
abbrev S6000x1 : Shape := ⟨2, ![6000, 1]⟩
abbrev S6000x4 : Shape := ⟨2, ![6000, 4]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩
abbrev S1x1000x5 : Shape := ⟨3, ![1, 1000, 5]⟩
abbrev S2x1000x5 : Shape := ⟨3, ![2, 1000, 5]⟩

abbrev nBuf : Space → Nat
  | .hbm => 688
  | .vmem => 0
  | .smem => 0
  | _ => 0

abbrev hbmTy0_0 (i : Nat) : BufTy := match i % 128 with
  | 0 => ⟨S2x128x64x64, .f32⟩
  | 1 => ⟨S2x3, .f32⟩
  | 2 => ⟨S2x20x5, .f32⟩
  | 3 => ⟨S128x128x3x3, .f32⟩
  | 4 => ⟨S128, .f32⟩
  | 5 => ⟨S18x128x1x1, .f32⟩
  | 6 => ⟨S18, .f32⟩
  | 7 => ⟨S36x128x1x1, .f32⟩
  | 8 => ⟨S36, .f32⟩
  | 9 => ⟨S36864x4, .f32⟩
  | 10 => ⟨S_, .i32⟩
  | 11 => ⟨S_, .f32⟩
  | 12 => ⟨S2x128x66x66, .f32⟩
  | 13 => ⟨S2x128x64x64, .f32⟩
  | 14 => ⟨S128x128x1x1, .f32⟩
  | 15 => ⟨S128x128, .f32⟩
  | 16 => ⟨S128x2x64x64, .f32⟩
  | 17 => ⟨S2x128x64x64, .f32⟩
  | 18 => ⟨S_, .f32⟩
  | 19 => ⟨S2x128x64x64, .f32⟩
  | 20 => ⟨S2x128x64x64, .f32⟩
  | 21 => ⟨S2x128x64x64, .f32⟩
  | 22 => ⟨S128x128x1x1, .f32⟩
  | 23 => ⟨S128x128, .f32⟩
  | 24 => ⟨S128x2x64x64, .f32⟩
  | 25 => ⟨S2x128x64x64, .f32⟩
  | 26 => ⟨S2x128x64x64, .f32⟩
  | 27 => ⟨S2x128x64x64, .f32⟩
  | 28 => ⟨S128x128x1x1, .f32⟩
  | 29 => ⟨S128x128, .f32⟩
  | 30 => ⟨S128x2x64x64, .f32⟩
  | 31 => ⟨S2x128x64x64, .f32⟩
  | 32 => ⟨S2x128x64x64, .f32⟩
  | 33 => ⟨S2x128x64x64, .f32⟩
  | 34 => ⟨S128x128x1x1, .f32⟩
  | 35 => ⟨S128x128, .f32⟩
  | 36 => ⟨S128x2x64x64, .f32⟩
  | 37 => ⟨S2x128x64x64, .f32⟩
  | 38 => ⟨S2x128x64x64, .f32⟩
  | 39 => ⟨S2x128x64x64, .f32⟩
  | 40 => ⟨S128x128x1x1, .f32⟩
  | 41 => ⟨S128x128, .f32⟩
  | 42 => ⟨S128x2x64x64, .f32⟩
  | 43 => ⟨S2x128x64x64, .f32⟩
  | 44 => ⟨S2x128x64x64, .f32⟩
  | 45 => ⟨S2x128x64x64, .f32⟩
  | 46 => ⟨S128x128x1x1, .f32⟩
  | 47 => ⟨S128x128, .f32⟩
  | 48 => ⟨S128x2x64x64, .f32⟩
  | 49 => ⟨S2x128x64x64, .f32⟩
  | 50 => ⟨S2x128x64x64, .f32⟩
  | 51 => ⟨S2x128x64x64, .f32⟩
  | 52 => ⟨S128x128x1x1, .f32⟩
  | 53 => ⟨S128x128, .f32⟩
  | 54 => ⟨S128x2x64x64, .f32⟩
  | 55 => ⟨S2x128x64x64, .f32⟩
  | 56 => ⟨S2x128x64x64, .f32⟩
  | 57 => ⟨S2x128x64x64, .f32⟩
  | 58 => ⟨S128x128x1x1, .f32⟩
  | 59 => ⟨S128x128, .f32⟩
  | 60 => ⟨S128x2x64x64, .f32⟩
  | 61 => ⟨S2x128x64x64, .f32⟩
  | 62 => ⟨S2x128x64x64, .f32⟩
  | 63 => ⟨S2x128x64x64, .f32⟩
  | 64 => ⟨S128x128x1x1, .f32⟩
  | 65 => ⟨S128x128, .f32⟩
  | 66 => ⟨S128x2x64x64, .f32⟩
  | 67 => ⟨S2x128x64x64, .f32⟩
  | 68 => ⟨S2x128x64x64, .f32⟩
  | 69 => ⟨S1x128x1x1, .f32⟩
  | 70 => ⟨S2x128x64x64, .f32⟩
  | 71 => ⟨S2x128x64x64, .f32⟩
  | 72 => ⟨S_, .f32⟩
  | 73 => ⟨S2x128x64x64, .f32⟩
  | 74 => ⟨S2x128x64x64, .f32⟩
  | 75 => ⟨S18x128, .f32⟩
  | 76 => ⟨S18x2x64x64, .f32⟩
  | 77 => ⟨S2x18x64x64, .f32⟩
  | 78 => ⟨S1x18x1x1, .f32⟩
  | 79 => ⟨S2x18x64x64, .f32⟩
  | 80 => ⟨S2x18x64x64, .f32⟩
  | 81 => ⟨S36x128, .f32⟩
  | 82 => ⟨S36x2x64x64, .f32⟩
  | 83 => ⟨S2x36x64x64, .f32⟩
  | 84 => ⟨S1x36x1x1, .f32⟩
  | 85 => ⟨S2x36x64x64, .f32⟩
  | 86 => ⟨S2x36x64x64, .f32⟩
  | 87 => ⟨S2x2x9x64x64, .f32⟩
  | 88 => ⟨S_, .f32⟩
  | 89 => ⟨S2x9x64x64, .f32⟩
  | 90 => ⟨S_, .f32⟩
  | 91 => ⟨S2x9x64x64, .f32⟩
  | 92 => ⟨S2x9x64x64, .f32⟩
  | 93 => ⟨S2x1x9x64x64, .f32⟩
  | 94 => ⟨S2x2x9x64x64, .f32⟩
  | 95 => ⟨S2x2x9x64x64, .f32⟩
  | 96 => ⟨S2x2x9x64x64, .f32⟩
  | 97 => ⟨S_, .f32⟩
  | 98 => ⟨S2x9x64x64, .f32⟩
  | 99 => ⟨S2x1x9x64x64, .f32⟩
  | 100 => ⟨S2x2x9x64x64, .f32⟩
  | 101 => ⟨S2x2x9x64x64, .f32⟩
  | 102 => ⟨S2x1x9x64x64, .f32⟩
  | 103 => ⟨S2x9x64x64, .f32⟩
  | 104 => ⟨S2x64x64x9, .f32⟩
  | 105 => ⟨S2x36864, .f32⟩
  | 106 => ⟨S2x64x64x36, .f32⟩
  | 107 => ⟨S2x36864x4, .f32⟩
  | 108 => ⟨S36864x1, .f32⟩
  | 109 => ⟨S36864, .f32⟩
  | 110 => ⟨S36864x1, .f32⟩
  | 111 => ⟨S36864, .f32⟩
  | 112 => ⟨S36864, .f32⟩
  | 113 => ⟨S_, .f32⟩
  | 114 => ⟨S36864, .f32⟩
  | 115 => ⟨S36864, .f32⟩
  | 116 => ⟨S36864x1, .f32⟩
  | 117 => ⟨S36864, .f32⟩
  | 118 => ⟨S36864x1, .f32⟩
  | 119 => ⟨S36864, .f32⟩
  | 120 => ⟨S36864, .f32⟩
  | 121 => ⟨S_, .f32⟩
  | 122 => ⟨S36864, .f32⟩
  | 123 => ⟨S36864, .f32⟩
  | 124 => ⟨S36864x1, .f32⟩
  | 125 => ⟨S36864, .f32⟩
  | 126 => ⟨S_, .f32⟩
  | 127 => ⟨S36864, .f32⟩
  | _ => ⟨S2x128x64x64, .f32⟩

abbrev hbmTy0_1 (i : Nat) : BufTy := match i % 128 with
  | 0 => ⟨S36864, .f32⟩
  | 1 => ⟨S36864, .f32⟩
  | 2 => ⟨S36864x1, .f32⟩
  | 3 => ⟨S36864, .f32⟩
  | 4 => ⟨S_, .f32⟩
  | 5 => ⟨S36864, .f32⟩
  | 6 => ⟨S36864, .f32⟩
  | 7 => ⟨S36864, .f32⟩
  | 8 => ⟨S2x36864x1, .f32⟩
  | 9 => ⟨S2x36864, .f32⟩
  | 10 => ⟨S1x36864, .f32⟩
  | 11 => ⟨S2x36864, .f32⟩
  | 12 => ⟨S2x36864, .f32⟩
  | 13 => ⟨S1x36864, .f32⟩
  | 14 => ⟨S2x36864, .f32⟩
  | 15 => ⟨S2x36864, .f32⟩
  | 16 => ⟨S2x36864x1, .f32⟩
  | 17 => ⟨S2x36864, .f32⟩
  | 18 => ⟨S1x36864, .f32⟩
  | 19 => ⟨S2x36864, .f32⟩
  | 20 => ⟨S2x36864, .f32⟩
  | 21 => ⟨S1x36864, .f32⟩
  | 22 => ⟨S2x36864, .f32⟩
  | 23 => ⟨S2x36864, .f32⟩
  | 24 => ⟨S2x36864x1, .f32⟩
  | 25 => ⟨S2x36864, .f32⟩
  | 26 => ⟨S2x36864, .f32⟩
  | 27 => ⟨S1x36864, .f32⟩
  | 28 => ⟨S2x36864, .f32⟩
  | 29 => ⟨S2x36864, .f32⟩
  | 30 => ⟨S2x36864x1, .f32⟩
  | 31 => ⟨S2x36864, .f32⟩
  | 32 => ⟨S2x36864, .f32⟩
  | 33 => ⟨S1x36864, .f32⟩
  | 34 => ⟨S2x36864, .f32⟩
  | 35 => ⟨S2x36864, .f32⟩
  | 36 => ⟨S_, .f32⟩
  | 37 => ⟨S2x36864, .f32⟩
  | 38 => ⟨S2x36864, .f32⟩
  | 39 => ⟨S2x36864, .f32⟩
  | 40 => ⟨S_, .f32⟩
  | 41 => ⟨S2x36864, .f32⟩
  | 42 => ⟨S2x36864, .f32⟩
  | 43 => ⟨S2x36864, .f32⟩
  | 44 => ⟨S_, .f32⟩
  | 45 => ⟨S2x36864, .f32⟩
  | 46 => ⟨S2x36864, .f32⟩
  | 47 => ⟨S2x36864, .f32⟩
  | 48 => ⟨S_, .f32⟩
  | 49 => ⟨S2x36864, .f32⟩
  | 50 => ⟨S2x36864, .f32⟩
  | 51 => ⟨S2x36864, .f32⟩
  | 52 => ⟨S2x36864x1, .f32⟩
  | 53 => ⟨S2x36864x1, .f32⟩
  | 54 => ⟨S2x36864x1, .f32⟩
  | 55 => ⟨S2x36864x1, .f32⟩
  | 56 => ⟨S2x36864x4, .f32⟩
  | 57 => ⟨S1x36864x4, .f32⟩
  | 58 => ⟨S36864x4, .f32⟩
  | 59 => ⟨S36864x1, .f32⟩
  | 60 => ⟨S36864, .f32⟩
  | 61 => ⟨S1x1, .f32⟩
  | 62 => ⟨S_, .f32⟩
  | 63 => ⟨S_, .f32⟩
  | 64 => ⟨S_, .f32⟩
  | 65 => ⟨S_, .f32⟩
  | 66 => ⟨S_, .f32⟩
  | 67 => ⟨S36864, .f32⟩
  | 68 => ⟨S36864, .f32⟩
  | 69 => ⟨S36864, .f32⟩
  | 70 => ⟨S36864, .f32⟩
  | 71 => ⟨S36864x1, .f32⟩
  | 72 => ⟨S36864, .f32⟩
  | 73 => ⟨S1x1, .f32⟩
  | 74 => ⟨S_, .f32⟩
  | 75 => ⟨S_, .f32⟩
  | 76 => ⟨S_, .f32⟩
  | 77 => ⟨S_, .f32⟩
  | 78 => ⟨S_, .f32⟩
  | 79 => ⟨S36864, .f32⟩
  | 80 => ⟨S36864, .f32⟩
  | 81 => ⟨S36864, .f32⟩
  | 82 => ⟨S36864, .f32⟩
  | 83 => ⟨S36864x1, .f32⟩
  | 84 => ⟨S36864, .f32⟩
  | 85 => ⟨S1x1, .f32⟩
  | 86 => ⟨S_, .f32⟩
  | 87 => ⟨S_, .f32⟩
  | 88 => ⟨S_, .f32⟩
  | 89 => ⟨S_, .f32⟩
  | 90 => ⟨S_, .f32⟩
  | 91 => ⟨S36864, .f32⟩
  | 92 => ⟨S36864, .f32⟩
  | 93 => ⟨S36864, .f32⟩
  | 94 => ⟨S36864, .f32⟩
  | 95 => ⟨S36864x1, .f32⟩
  | 96 => ⟨S36864, .f32⟩
  | 97 => ⟨S1x1, .f32⟩
  | 98 => ⟨S_, .f32⟩
  | 99 => ⟨S_, .f32⟩
  | 100 => ⟨S_, .f32⟩
  | 101 => ⟨S_, .f32⟩
  | 102 => ⟨S_, .f32⟩
  | 103 => ⟨S36864, .f32⟩
  | 104 => ⟨S36864, .f32⟩
  | 105 => ⟨S36864, .f32⟩
  | 106 => ⟨S36864, .f32⟩
  | 107 => ⟨S36864x1, .f32⟩
  | 108 => ⟨S36864x1, .f32⟩
  | 109 => ⟨S36864x1, .f32⟩
  | 110 => ⟨S36864x1, .f32⟩
  | 111 => ⟨S36864x4, .f32⟩
  | 112 => ⟨S36864x1, .f32⟩
  | 113 => ⟨S36864, .f32⟩
  | 114 => ⟨S36864x1, .f32⟩
  | 115 => ⟨S36864, .f32⟩
  | 116 => ⟨S36864, .f32⟩
  | 117 => ⟨S_, .f32⟩
  | 118 => ⟨S36864, .f32⟩
  | 119 => ⟨S36864, .f32⟩
  | 120 => ⟨S36864x1, .f32⟩
  | 121 => ⟨S36864, .f32⟩
  | 122 => ⟨S36864x1, .f32⟩
  | 123 => ⟨S36864, .f32⟩
  | 124 => ⟨S36864, .f32⟩
  | 125 => ⟨S_, .f32⟩
  | 126 => ⟨S36864, .f32⟩
  | 127 => ⟨S36864, .f32⟩
  | _ => ⟨S2x128x64x64, .f32⟩

abbrev hbmTy0_2 (i : Nat) : BufTy := match i % 128 with
  | 0 => ⟨S1x1, .f32⟩
  | 1 => ⟨S_, .f32⟩
  | 2 => ⟨S_, .f32⟩
  | 3 => ⟨S_, .f32⟩
  | 4 => ⟨S36864, .f32⟩
  | 5 => ⟨S36864, .i1⟩
  | 6 => ⟨S36864, .f32⟩
  | 7 => ⟨S36864, .i1⟩
  | 8 => ⟨S36864, .i1⟩
  | 9 => ⟨S1x36864, .f32⟩
  | 10 => ⟨S36864, .f32⟩
  | 11 => ⟨S_, .f32⟩
  | 12 => ⟨S_, .f32⟩
  | 13 => ⟨S36864, .f32⟩
  | 14 => ⟨S36864, .f32⟩
  | 15 => ⟨S36864, .f32⟩
  | 16 => ⟨S36864, .i32⟩
  | 17 => ⟨S36864, .f32⟩
  | 18 => ⟨S36864, .i32⟩
  | 19 => ⟨S6000, .i32⟩
  | 20 => ⟨S_, .i32⟩
  | 21 => ⟨S6000, .i32⟩
  | 22 => ⟨S6000, .i1⟩
  | 23 => ⟨S_, .i32⟩
  | 24 => ⟨S6000, .i32⟩
  | 25 => ⟨S6000, .i32⟩
  | 26 => ⟨S6000, .i32⟩
  | 27 => ⟨S6000x1, .i32⟩
  | 28 => ⟨S6000x4, .f32⟩
  | 29 => ⟨S6000x1, .f32⟩
  | 30 => ⟨S6000, .f32⟩
  | 31 => ⟨S6000x1, .f32⟩
  | 32 => ⟨S6000, .f32⟩
  | 33 => ⟨S6000x1, .f32⟩
  | 34 => ⟨S6000, .f32⟩
  | 35 => ⟨S6000x1, .f32⟩
  | 36 => ⟨S6000, .f32⟩
  | 37 => ⟨S6000, .f32⟩
  | 38 => ⟨S_, .f32⟩
  | 39 => ⟨S6000, .f32⟩
  | 40 => ⟨S6000, .f32⟩
  | 41 => ⟨S6000, .f32⟩
  | 42 => ⟨S_, .f32⟩
  | 43 => ⟨S6000, .f32⟩
  | 44 => ⟨S6000, .f32⟩
  | 45 => ⟨S6000, .f32⟩
  | 46 => ⟨S6000, .i32⟩
  | 47 => ⟨S_, .i1⟩
  | 48 => ⟨S6000, .i1⟩
  | 49 => ⟨S_, .i32⟩
  | 50 => ⟨S_, .i32⟩
  | 51 => ⟨S6000, .f32⟩
  | 52 => ⟨S6000, .f32⟩
  | 53 => ⟨S6000, .f32⟩
  | 54 => ⟨S6000, .f32⟩
  | 55 => ⟨S6000, .f32⟩
  | 56 => ⟨S6000, .i32⟩
  | 57 => ⟨S_, .i32⟩
  | 58 => ⟨S_, .i32⟩
  | 59 => ⟨S6000, .i1⟩
  | 60 => ⟨S_, .i32⟩
  | 61 => ⟨S_, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S1, .f32⟩
  | 71 => ⟨S_, .f32⟩
  | 72 => ⟨S6000, .f32⟩
  | 73 => ⟨S6000, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1, .f32⟩
  | 81 => ⟨S_, .f32⟩
  | 82 => ⟨S6000, .f32⟩
  | 83 => ⟨S6000, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1, .f32⟩
  | 91 => ⟨S_, .f32⟩
  | 92 => ⟨S6000, .f32⟩
  | 93 => ⟨S6000, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1, .f32⟩
  | 101 => ⟨S_, .f32⟩
  | 102 => ⟨S6000, .f32⟩
  | 103 => ⟨S6000, .f32⟩
  | 104 => ⟨S6000, .f32⟩
  | 105 => ⟨S_, .f32⟩
  | 106 => ⟨S6000, .f32⟩
  | 107 => ⟨S6000, .f32⟩
  | 108 => ⟨S_, .f32⟩
  | 109 => ⟨S6000, .f32⟩
  | 110 => ⟨S6000, .f32⟩
  | 111 => ⟨S6000, .f32⟩
  | 112 => ⟨S_, .f32⟩
  | 113 => ⟨S6000, .f32⟩
  | 114 => ⟨S6000, .f32⟩
  | 115 => ⟨S_, .f32⟩
  | 116 => ⟨S6000, .f32⟩
  | 117 => ⟨S6000, .f32⟩
  | 118 => ⟨S6000, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S1, .f32⟩
  | 126 => ⟨S_, .f32⟩
  | 127 => ⟨S6000, .f32⟩
  | _ => ⟨S2x128x64x64, .f32⟩

abbrev hbmTy0_3 (i : Nat) : BufTy := match i % 128 with
  | 0 => ⟨S6000, .f32⟩
  | 1 => ⟨S6000, .f32⟩
  | 2 => ⟨S6000, .f32⟩
  | 3 => ⟨S_, .f32⟩
  | 4 => ⟨S6000, .f32⟩
  | 5 => ⟨S6000, .i1⟩
  | 6 => ⟨S_, .i32⟩
  | 7 => ⟨S6000, .i32⟩
  | 8 => ⟨S6000, .i1⟩
  | 9 => ⟨S6000, .i1⟩
  | 10 => ⟨S6000, .i1⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S1, .i1⟩
  | 18 => ⟨S_, .i1⟩
  | 19 => ⟨S6000, .i1⟩
  | 20 => ⟨S_, .i32⟩
  | 21 => ⟨S_, .i32⟩
  | 22 => ⟨S6000, .i1⟩
  | 23 => ⟨S_, .i32⟩
  | 24 => ⟨S_, .i32⟩
  | 25 => ⟨S6000, .i32⟩
  | 26 => ⟨S6000, .i32⟩
  | 27 => ⟨S6000, .i32⟩
  | 28 => ⟨S1000, .i32⟩
  | 29 => ⟨S_, .i32⟩
  | 30 => ⟨S1000, .i32⟩
  | 31 => ⟨S1000, .i1⟩
  | 32 => ⟨S1000, .f32⟩
  | 33 => ⟨S_, .i32⟩
  | 34 => ⟨S1000, .i32⟩
  | 35 => ⟨S1000, .i32⟩
  | 36 => ⟨S_, .i32⟩
  | 37 => ⟨S1000, .i32⟩
  | 38 => ⟨S1000, .i1⟩
  | 39 => ⟨S_, .i32⟩
  | 40 => ⟨S1000, .i32⟩
  | 41 => ⟨S1000, .i32⟩
  | 42 => ⟨S1000, .i32⟩
  | 43 => ⟨S1000x1, .i32⟩
  | 44 => ⟨S1000x4, .f32⟩
  | 45 => ⟨S1000x1, .f32⟩
  | 46 => ⟨S1000x4, .f32⟩
  | 47 => ⟨S1000x4, .f32⟩
  | 48 => ⟨S_, .f32⟩
  | 49 => ⟨S1000x1, .f32⟩
  | 50 => ⟨S1000x5, .f32⟩
  | 51 => ⟨S1x36864x4, .f32⟩
  | 52 => ⟨S36864x4, .f32⟩
  | 53 => ⟨S36864x1, .f32⟩
  | 54 => ⟨S36864, .f32⟩
  | 55 => ⟨S1x1, .f32⟩
  | 56 => ⟨S_, .f32⟩
  | 57 => ⟨S_, .f32⟩
  | 58 => ⟨S_, .f32⟩
  | 59 => ⟨S_, .f32⟩
  | 60 => ⟨S_, .f32⟩
  | 61 => ⟨S36864, .f32⟩
  | 62 => ⟨S36864, .f32⟩
  | 63 => ⟨S36864, .f32⟩
  | 64 => ⟨S36864, .f32⟩
  | 65 => ⟨S36864x1, .f32⟩
  | 66 => ⟨S36864, .f32⟩
  | 67 => ⟨S1x1, .f32⟩
  | 68 => ⟨S_, .f32⟩
  | 69 => ⟨S_, .f32⟩
  | 70 => ⟨S_, .f32⟩
  | 71 => ⟨S_, .f32⟩
  | 72 => ⟨S_, .f32⟩
  | 73 => ⟨S36864, .f32⟩
  | 74 => ⟨S36864, .f32⟩
  | 75 => ⟨S36864, .f32⟩
  | 76 => ⟨S36864, .f32⟩
  | 77 => ⟨S36864x1, .f32⟩
  | 78 => ⟨S36864, .f32⟩
  | 79 => ⟨S1x1, .f32⟩
  | 80 => ⟨S_, .f32⟩
  | 81 => ⟨S_, .f32⟩
  | 82 => ⟨S_, .f32⟩
  | 83 => ⟨S_, .f32⟩
  | 84 => ⟨S_, .f32⟩
  | 85 => ⟨S36864, .f32⟩
  | 86 => ⟨S36864, .f32⟩
  | 87 => ⟨S36864, .f32⟩
  | 88 => ⟨S36864, .f32⟩
  | 89 => ⟨S36864x1, .f32⟩
  | 90 => ⟨S36864, .f32⟩
  | 91 => ⟨S1x1, .f32⟩
  | 92 => ⟨S_, .f32⟩
  | 93 => ⟨S_, .f32⟩
  | 94 => ⟨S_, .f32⟩
  | 95 => ⟨S_, .f32⟩
  | 96 => ⟨S_, .f32⟩
  | 97 => ⟨S36864, .f32⟩
  | 98 => ⟨S36864, .f32⟩
  | 99 => ⟨S36864, .f32⟩
  | 100 => ⟨S36864, .f32⟩
  | 101 => ⟨S36864x1, .f32⟩
  | 102 => ⟨S36864x1, .f32⟩
  | 103 => ⟨S36864x1, .f32⟩
  | 104 => ⟨S36864x1, .f32⟩
  | 105 => ⟨S36864x4, .f32⟩
  | 106 => ⟨S36864x1, .f32⟩
  | 107 => ⟨S36864, .f32⟩
  | 108 => ⟨S36864x1, .f32⟩
  | 109 => ⟨S36864, .f32⟩
  | 110 => ⟨S36864, .f32⟩
  | 111 => ⟨S_, .f32⟩
  | 112 => ⟨S36864, .f32⟩
  | 113 => ⟨S36864, .f32⟩
  | 114 => ⟨S36864x1, .f32⟩
  | 115 => ⟨S36864, .f32⟩
  | 116 => ⟨S36864x1, .f32⟩
  | 117 => ⟨S36864, .f32⟩
  | 118 => ⟨S36864, .f32⟩
  | 119 => ⟨S_, .f32⟩
  | 120 => ⟨S36864, .f32⟩
  | 121 => ⟨S36864, .f32⟩
  | 122 => ⟨S1x1, .f32⟩
  | 123 => ⟨S_, .f32⟩
  | 124 => ⟨S_, .f32⟩
  | 125 => ⟨S_, .f32⟩
  | 126 => ⟨S36864, .f32⟩
  | 127 => ⟨S36864, .i1⟩
  | _ => ⟨S2x128x64x64, .f32⟩

abbrev hbmTy0_4 (i : Nat) : BufTy := match i % 128 with
  | 0 => ⟨S36864, .f32⟩
  | 1 => ⟨S36864, .i1⟩
  | 2 => ⟨S36864, .i1⟩
  | 3 => ⟨S1x36864, .f32⟩
  | 4 => ⟨S36864, .f32⟩
  | 5 => ⟨S_, .f32⟩
  | 6 => ⟨S_, .f32⟩
  | 7 => ⟨S36864, .f32⟩
  | 8 => ⟨S36864, .f32⟩
  | 9 => ⟨S36864, .f32⟩
  | 10 => ⟨S36864, .i32⟩
  | 11 => ⟨S36864, .f32⟩
  | 12 => ⟨S36864, .i32⟩
  | 13 => ⟨S6000, .i32⟩
  | 14 => ⟨S_, .i32⟩
  | 15 => ⟨S6000, .i32⟩
  | 16 => ⟨S6000, .i1⟩
  | 17 => ⟨S_, .i32⟩
  | 18 => ⟨S6000, .i32⟩
  | 19 => ⟨S6000, .i32⟩
  | 20 => ⟨S6000, .i32⟩
  | 21 => ⟨S6000x1, .i32⟩
  | 22 => ⟨S6000x4, .f32⟩
  | 23 => ⟨S6000x1, .f32⟩
  | 24 => ⟨S6000, .f32⟩
  | 25 => ⟨S6000x1, .f32⟩
  | 26 => ⟨S6000, .f32⟩
  | 27 => ⟨S6000x1, .f32⟩
  | 28 => ⟨S6000, .f32⟩
  | 29 => ⟨S6000x1, .f32⟩
  | 30 => ⟨S6000, .f32⟩
  | 31 => ⟨S6000, .f32⟩
  | 32 => ⟨S_, .f32⟩
  | 33 => ⟨S6000, .f32⟩
  | 34 => ⟨S6000, .f32⟩
  | 35 => ⟨S6000, .f32⟩
  | 36 => ⟨S_, .f32⟩
  | 37 => ⟨S6000, .f32⟩
  | 38 => ⟨S6000, .f32⟩
  | 39 => ⟨S6000, .f32⟩
  | 40 => ⟨S6000, .i32⟩
  | 41 => ⟨S_, .i1⟩
  | 42 => ⟨S6000, .i1⟩
  | 43 => ⟨S_, .i32⟩
  | 44 => ⟨S_, .i32⟩
  | 45 => ⟨S6000, .f32⟩
  | 46 => ⟨S6000, .f32⟩
  | 47 => ⟨S6000, .f32⟩
  | 48 => ⟨S6000, .f32⟩
  | 49 => ⟨S6000, .f32⟩
  | 50 => ⟨S6000, .i32⟩
  | 51 => ⟨S_, .i32⟩
  | 52 => ⟨S_, .i32⟩
  | 53 => ⟨S6000, .i1⟩
  | 54 => ⟨S_, .i32⟩
  | 55 => ⟨S_, .i1⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1, .f32⟩
  | 65 => ⟨S_, .f32⟩
  | 66 => ⟨S6000, .f32⟩
  | 67 => ⟨S6000, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S1, .f32⟩
  | 75 => ⟨S_, .f32⟩
  | 76 => ⟨S6000, .f32⟩
  | 77 => ⟨S6000, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1, .f32⟩
  | 85 => ⟨S_, .f32⟩
  | 86 => ⟨S6000, .f32⟩
  | 87 => ⟨S6000, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1, .f32⟩
  | 95 => ⟨S_, .f32⟩
  | 96 => ⟨S6000, .f32⟩
  | 97 => ⟨S6000, .f32⟩
  | 98 => ⟨S6000, .f32⟩
  | 99 => ⟨S_, .f32⟩
  | 100 => ⟨S6000, .f32⟩
  | 101 => ⟨S6000, .f32⟩
  | 102 => ⟨S_, .f32⟩
  | 103 => ⟨S6000, .f32⟩
  | 104 => ⟨S6000, .f32⟩
  | 105 => ⟨S6000, .f32⟩
  | 106 => ⟨S_, .f32⟩
  | 107 => ⟨S6000, .f32⟩
  | 108 => ⟨S6000, .f32⟩
  | 109 => ⟨S_, .f32⟩
  | 110 => ⟨S6000, .f32⟩
  | 111 => ⟨S6000, .f32⟩
  | 112 => ⟨S6000, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S1, .f32⟩
  | 120 => ⟨S_, .f32⟩
  | 121 => ⟨S6000, .f32⟩
  | 122 => ⟨S6000, .f32⟩
  | 123 => ⟨S6000, .f32⟩
  | 124 => ⟨S6000, .f32⟩
  | 125 => ⟨S_, .f32⟩
  | 126 => ⟨S6000, .f32⟩
  | 127 => ⟨S6000, .i1⟩
  | _ => ⟨S2x128x64x64, .f32⟩

abbrev hbmTy0_5 (i : Nat) : BufTy := match i % 128 with
  | 0 => ⟨S_, .i32⟩
  | 1 => ⟨S6000, .i32⟩
  | 2 => ⟨S6000, .i1⟩
  | 3 => ⟨S6000, .i1⟩
  | 4 => ⟨S6000, .i1⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S1, .i1⟩
  | 12 => ⟨S_, .i1⟩
  | 13 => ⟨S6000, .i1⟩
  | 14 => ⟨S_, .i32⟩
  | 15 => ⟨S_, .i32⟩
  | 16 => ⟨S6000, .i1⟩
  | 17 => ⟨S_, .i32⟩
  | 18 => ⟨S_, .i32⟩
  | 19 => ⟨S6000, .i32⟩
  | 20 => ⟨S6000, .i32⟩
  | 21 => ⟨S6000, .i32⟩
  | 22 => ⟨S1000, .i32⟩
  | 23 => ⟨S_, .i32⟩
  | 24 => ⟨S1000, .i32⟩
  | 25 => ⟨S1000, .i1⟩
  | 26 => ⟨S1000, .f32⟩
  | 27 => ⟨S_, .i32⟩
  | 28 => ⟨S1000, .i32⟩
  | 29 => ⟨S1000, .i32⟩
  | 30 => ⟨S_, .i32⟩
  | 31 => ⟨S1000, .i32⟩
  | 32 => ⟨S1000, .i1⟩
  | 33 => ⟨S_, .i32⟩
  | 34 => ⟨S1000, .i32⟩
  | 35 => ⟨S1000, .i32⟩
  | 36 => ⟨S1000, .i32⟩
  | 37 => ⟨S1000x1, .i32⟩
  | 38 => ⟨S1000x4, .f32⟩
  | 39 => ⟨S1000x1, .f32⟩
  | 40 => ⟨S1000x4, .f32⟩
  | 41 => ⟨S1000x4, .f32⟩
  | 42 => ⟨S_, .f32⟩
  | 43 => ⟨S1000x1, .f32⟩
  | 44 => ⟨S1000x5, .f32⟩
  | 45 => ⟨S1x1000x5, .f32⟩
  | 46 => ⟨S1x1000x5, .f32⟩
  | 47 => ⟨S2x1000x5, .f32⟩
  | _ => ⟨S2x128x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x128x64x64, .f32⟩

abbrev bufTy : (tb : Table) → Fin (tcTables nBuf tb) → BufTy
  | .hbm, ⟨i, _⟩ => hbmTy i
  | _, _ => ⟨S2x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_cst : Ref sig .tc := ⟨.hbm, 72, rfl⟩
abbrev main_call1_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_1 : Ref sig .tc := ⟨.hbm, 88, rfl⟩
abbrev main_v73 : Ref sig .tc := ⟨.hbm, 89, rfl⟩
abbrev main_cst_2 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_3 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_4 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_5 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_6 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_7 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_8 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_cst_9 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_cst_10 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_11 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_cst_12 : Ref sig .tc := ⟨.hbm, 191, rfl⟩
abbrev main_v165 : Ref sig .tc := ⟨.hbm, 192, rfl⟩
abbrev main_cst_13 : Ref sig .tc := ⟨.hbm, 193, rfl⟩
abbrev main_call2_v0 : Ref sig .tc := ⟨.hbm, 194, rfl⟩
abbrev main_call2_v1 : Ref sig .tc := ⟨.hbm, 195, rfl⟩
abbrev main_call2_v2 : Ref sig .tc := ⟨.hbm, 196, rfl⟩
abbrev main_call2_v3 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_cst_14 : Ref sig .tc := ⟨.hbm, 203, rfl⟩
abbrev main_v171 : Ref sig .tc := ⟨.hbm, 204, rfl⟩
abbrev main_cst_15 : Ref sig .tc := ⟨.hbm, 205, rfl⟩
abbrev main_call3_v0 : Ref sig .tc := ⟨.hbm, 206, rfl⟩
abbrev main_call3_v1 : Ref sig .tc := ⟨.hbm, 207, rfl⟩
abbrev main_call3_v2 : Ref sig .tc := ⟨.hbm, 208, rfl⟩
abbrev main_call3_v3 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_cst_16 : Ref sig .tc := ⟨.hbm, 215, rfl⟩
abbrev main_v177 : Ref sig .tc := ⟨.hbm, 216, rfl⟩
abbrev main_cst_17 : Ref sig .tc := ⟨.hbm, 217, rfl⟩
abbrev main_call4_v0 : Ref sig .tc := ⟨.hbm, 218, rfl⟩
abbrev main_call4_v1 : Ref sig .tc := ⟨.hbm, 219, rfl⟩
abbrev main_call4_v2 : Ref sig .tc := ⟨.hbm, 220, rfl⟩
abbrev main_call4_v3 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_18 : Ref sig .tc := ⟨.hbm, 227, rfl⟩
abbrev main_v183 : Ref sig .tc := ⟨.hbm, 228, rfl⟩
abbrev main_cst_19 : Ref sig .tc := ⟨.hbm, 229, rfl⟩
abbrev main_call5_v0 : Ref sig .tc := ⟨.hbm, 230, rfl⟩
abbrev main_call5_v1 : Ref sig .tc := ⟨.hbm, 231, rfl⟩
abbrev main_call5_v2 : Ref sig .tc := ⟨.hbm, 232, rfl⟩
abbrev main_call5_v3 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_20 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_cst_21 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_cst_22 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_cst_23 : Ref sig .tc := ⟨.hbm, 267, rfl⟩
abbrev main_call6_v0 : Ref sig .tc := ⟨.hbm, 268, rfl⟩
abbrev main_call6_v1 : Ref sig .tc := ⟨.hbm, 269, rfl⟩
abbrev main_v214 : Ref sig .tc := ⟨.hbm, 270, rfl⟩
abbrev main_v215 : Ref sig .tc := ⟨.hbm, 271, rfl⟩
abbrev main_call7_v0 : Ref sig .tc := ⟨.hbm, 272, rfl⟩
abbrev main_call7_v1_0 : Ref sig .tc := ⟨.hbm, 273, rfl⟩
abbrev main_v216 : Ref sig .tc := ⟨.hbm, 274, rfl⟩
abbrev main_v217 : Ref sig .tc := ⟨.hbm, 275, rfl⟩
abbrev main_c_24 : Ref sig .tc := ⟨.hbm, 276, rfl⟩
abbrev main_v218 : Ref sig .tc := ⟨.hbm, 277, rfl⟩
abbrev main_v219 : Ref sig .tc := ⟨.hbm, 278, rfl⟩
abbrev main_c_25 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_cst_26 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_cst_27 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_c_28 : Ref sig .tc := ⟨.hbm, 303, rfl⟩
abbrev main_v241 : Ref sig .tc := ⟨.hbm, 304, rfl⟩
abbrev main_c_29 : Ref sig .tc := ⟨.hbm, 305, rfl⟩
abbrev main_c_30 : Ref sig .tc := ⟨.hbm, 306, rfl⟩
abbrev main_v242_0 : Ref sig .tc := ⟨.hbm, 307, rfl⟩
abbrev main_v242_1 : Ref sig .tc := ⟨.hbm, 308, rfl⟩
abbrev main_v242_2 : Ref sig .tc := ⟨.hbm, 309, rfl⟩
abbrev main_v242_3 : Ref sig .tc := ⟨.hbm, 310, rfl⟩
abbrev main_v242_4 : Ref sig .tc := ⟨.hbm, 311, rfl⟩
abbrev main_v242_5 : Ref sig .tc := ⟨.hbm, 312, rfl⟩
abbrev main_v242_6 : Ref sig .tc := ⟨.hbm, 313, rfl⟩
abbrev main_v242_7 : Ref sig .tc := ⟨.hbm, 314, rfl⟩
abbrev main_v242_8 : Ref sig .tc := ⟨.hbm, 315, rfl⟩
abbrev main_while0c_c_70 : Ref sig .tc := ⟨.hbm, 316, rfl⟩
abbrev main_while0c_v372 : Ref sig .tc := ⟨.hbm, 317, rfl⟩
abbrev main_while0b_c_70 : Ref sig .tc := ⟨.hbm, 318, rfl⟩
abbrev main_while0b_v372 : Ref sig .tc := ⟨.hbm, 319, rfl⟩
abbrev main_while0b_c_71 : Ref sig .tc := ⟨.hbm, 320, rfl⟩
abbrev main_while0b_v373 : Ref sig .tc := ⟨.hbm, 321, rfl⟩
abbrev main_while0b_v374 : Ref sig .tc := ⟨.hbm, 322, rfl⟩
abbrev main_while0b_c_72 : Ref sig .tc := ⟨.hbm, 323, rfl⟩
abbrev main_while0b_v375 : Ref sig .tc := ⟨.hbm, 324, rfl⟩
abbrev main_while0b_v376 : Ref sig .tc := ⟨.hbm, 325, rfl⟩
abbrev main_while0b_v377 : Ref sig .tc := ⟨.hbm, 326, rfl⟩
abbrev main_while0b_v378 : Ref sig .tc := ⟨.hbm, 327, rfl⟩
abbrev main_while0b_v379 : Ref sig .tc := ⟨.hbm, 328, rfl⟩
abbrev main_while0b_v380 : Ref sig .tc := ⟨.hbm, 329, rfl⟩
abbrev main_while0b_c_73 : Ref sig .tc := ⟨.hbm, 330, rfl⟩
abbrev main_while0b_v381 : Ref sig .tc := ⟨.hbm, 331, rfl⟩
abbrev main_while0b_v382 : Ref sig .tc := ⟨.hbm, 332, rfl⟩
abbrev main_while0b_c_74 : Ref sig .tc := ⟨.hbm, 333, rfl⟩
abbrev main_while0b_v383 : Ref sig .tc := ⟨.hbm, 334, rfl⟩
abbrev main_while0b_v384 : Ref sig .tc := ⟨.hbm, 335, rfl⟩
abbrev main_while0b_v385 : Ref sig .tc := ⟨.hbm, 336, rfl⟩
abbrev main_while0b_v386 : Ref sig .tc := ⟨.hbm, 337, rfl⟩
abbrev main_while0b_v387 : Ref sig .tc := ⟨.hbm, 338, rfl⟩
abbrev main_while0b_v388 : Ref sig .tc := ⟨.hbm, 339, rfl⟩
abbrev main_while0b_c_75 : Ref sig .tc := ⟨.hbm, 340, rfl⟩
abbrev main_while0b_v389 : Ref sig .tc := ⟨.hbm, 341, rfl⟩
abbrev main_while0b_v390 : Ref sig .tc := ⟨.hbm, 342, rfl⟩
abbrev main_while0b_c_76 : Ref sig .tc := ⟨.hbm, 343, rfl⟩
abbrev main_while0b_v391 : Ref sig .tc := ⟨.hbm, 344, rfl⟩
abbrev main_while0b_v392 : Ref sig .tc := ⟨.hbm, 345, rfl⟩
abbrev main_while0b_v393 : Ref sig .tc := ⟨.hbm, 346, rfl⟩
abbrev main_while0b_v394 : Ref sig .tc := ⟨.hbm, 347, rfl⟩
abbrev main_while0b_v395 : Ref sig .tc := ⟨.hbm, 348, rfl⟩
abbrev main_while0b_v396 : Ref sig .tc := ⟨.hbm, 349, rfl⟩
abbrev main_while0b_c_77 : Ref sig .tc := ⟨.hbm, 350, rfl⟩
abbrev main_while0b_v397 : Ref sig .tc := ⟨.hbm, 351, rfl⟩
abbrev main_while0b_v398 : Ref sig .tc := ⟨.hbm, 352, rfl⟩
abbrev main_while0b_c_78 : Ref sig .tc := ⟨.hbm, 353, rfl⟩
abbrev main_while0b_v399 : Ref sig .tc := ⟨.hbm, 354, rfl⟩
abbrev main_while0b_v400 : Ref sig .tc := ⟨.hbm, 355, rfl⟩
abbrev main_while0b_v401 : Ref sig .tc := ⟨.hbm, 356, rfl⟩
abbrev main_while0b_v402 : Ref sig .tc := ⟨.hbm, 357, rfl⟩
abbrev main_while0b_v403 : Ref sig .tc := ⟨.hbm, 358, rfl⟩
abbrev main_while0b_v404 : Ref sig .tc := ⟨.hbm, 359, rfl⟩
abbrev main_while0b_v405 : Ref sig .tc := ⟨.hbm, 360, rfl⟩
abbrev main_while0b_cst_79 : Ref sig .tc := ⟨.hbm, 361, rfl⟩
abbrev main_while0b_v406 : Ref sig .tc := ⟨.hbm, 362, rfl⟩
abbrev main_while0b_v407 : Ref sig .tc := ⟨.hbm, 363, rfl⟩
abbrev main_while0b_cst_80 : Ref sig .tc := ⟨.hbm, 364, rfl⟩
abbrev main_while0b_v408 : Ref sig .tc := ⟨.hbm, 365, rfl⟩
abbrev main_while0b_v409 : Ref sig .tc := ⟨.hbm, 366, rfl⟩
abbrev main_while0b_v410 : Ref sig .tc := ⟨.hbm, 367, rfl⟩
abbrev main_while0b_cst_81 : Ref sig .tc := ⟨.hbm, 368, rfl⟩
abbrev main_while0b_v411 : Ref sig .tc := ⟨.hbm, 369, rfl⟩
abbrev main_while0b_v412 : Ref sig .tc := ⟨.hbm, 370, rfl⟩
abbrev main_while0b_cst_82 : Ref sig .tc := ⟨.hbm, 371, rfl⟩
abbrev main_while0b_v413 : Ref sig .tc := ⟨.hbm, 372, rfl⟩
abbrev main_while0b_v414 : Ref sig .tc := ⟨.hbm, 373, rfl⟩
abbrev main_while0b_v415 : Ref sig .tc := ⟨.hbm, 374, rfl⟩
abbrev main_while0b_c_83 : Ref sig .tc := ⟨.hbm, 375, rfl⟩
abbrev main_while0b_v416 : Ref sig .tc := ⟨.hbm, 376, rfl⟩
abbrev main_while0b_v417 : Ref sig .tc := ⟨.hbm, 377, rfl⟩
abbrev main_while0b_c_84 : Ref sig .tc := ⟨.hbm, 378, rfl⟩
abbrev main_while0b_v418 : Ref sig .tc := ⟨.hbm, 379, rfl⟩
abbrev main_while0b_v419 : Ref sig .tc := ⟨.hbm, 380, rfl⟩
abbrev main_while0b_v420 : Ref sig .tc := ⟨.hbm, 381, rfl⟩
abbrev main_while0b_v421 : Ref sig .tc := ⟨.hbm, 382, rfl⟩
abbrev main_while0b_v422 : Ref sig .tc := ⟨.hbm, 383, rfl⟩
abbrev main_while0b_v423 : Ref sig .tc := ⟨.hbm, 384, rfl⟩
abbrev main_while0b_v424 : Ref sig .tc := ⟨.hbm, 385, rfl⟩
abbrev main_while0b_v425 : Ref sig .tc := ⟨.hbm, 386, rfl⟩
abbrev main_while0b_cst_85 : Ref sig .tc := ⟨.hbm, 387, rfl⟩
abbrev main_while0b_v426 : Ref sig .tc := ⟨.hbm, 388, rfl⟩
abbrev main_while0b_v427 : Ref sig .tc := ⟨.hbm, 389, rfl⟩
abbrev main_while0b_v428 : Ref sig .tc := ⟨.hbm, 390, rfl⟩
abbrev main_while0b_v429 : Ref sig .tc := ⟨.hbm, 391, rfl⟩
abbrev main_while0b_v430 : Ref sig .tc := ⟨.hbm, 392, rfl⟩
abbrev main_while0b_v431 : Ref sig .tc := ⟨.hbm, 393, rfl⟩
abbrev main_while0b_v432 : Ref sig .tc := ⟨.hbm, 394, rfl⟩
abbrev main_while0b_c_86 : Ref sig .tc := ⟨.hbm, 395, rfl⟩
abbrev main_while0b_v433 : Ref sig .tc := ⟨.hbm, 396, rfl⟩
abbrev main_while0b_v434 : Ref sig .tc := ⟨.hbm, 397, rfl⟩
abbrev main_while0b_c_87 : Ref sig .tc := ⟨.hbm, 398, rfl⟩
abbrev main_while0b_v435 : Ref sig .tc := ⟨.hbm, 399, rfl⟩
abbrev main_while0b_v436 : Ref sig .tc := ⟨.hbm, 400, rfl⟩
abbrev main_while0b_v437 : Ref sig .tc := ⟨.hbm, 401, rfl⟩
abbrev main_while0b_v438 : Ref sig .tc := ⟨.hbm, 402, rfl⟩
abbrev main_while0b_v439 : Ref sig .tc := ⟨.hbm, 403, rfl⟩
abbrev main_while0b_c_88 : Ref sig .tc := ⟨.hbm, 404, rfl⟩
abbrev main_while0b_v440 : Ref sig .tc := ⟨.hbm, 405, rfl⟩
abbrev main_v243 : Ref sig .tc := ⟨.hbm, 406, rfl⟩
abbrev main_c_31 : Ref sig .tc := ⟨.hbm, 407, rfl⟩
abbrev main_call9_v0 : Ref sig .tc := ⟨.hbm, 408, rfl⟩
abbrev main_call9_v1 : Ref sig .tc := ⟨.hbm, 409, rfl⟩
abbrev main_v244 : Ref sig .tc := ⟨.hbm, 410, rfl⟩
abbrev main_v245 : Ref sig .tc := ⟨.hbm, 411, rfl⟩
abbrev main_v246 : Ref sig .tc := ⟨.hbm, 412, rfl⟩
abbrev main_c_32 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_c_33 : Ref sig .tc := ⟨.hbm, 417, rfl⟩
abbrev main_v250 : Ref sig .tc := ⟨.hbm, 418, rfl⟩
abbrev main_v251 : Ref sig .tc := ⟨.hbm, 419, rfl⟩
abbrev main_c_34 : Ref sig .tc := ⟨.hbm, 420, rfl⟩
abbrev main_v252 : Ref sig .tc := ⟨.hbm, 421, rfl⟩
abbrev main_v253 : Ref sig .tc := ⟨.hbm, 422, rfl⟩
abbrev main_c_35 : Ref sig .tc := ⟨.hbm, 423, rfl⟩
abbrev main_v254 : Ref sig .tc := ⟨.hbm, 424, rfl⟩
abbrev main_v255 : Ref sig .tc := ⟨.hbm, 425, rfl⟩
abbrev main_v256 : Ref sig .tc := ⟨.hbm, 426, rfl⟩
abbrev main_v257 : Ref sig .tc := ⟨.hbm, 427, rfl⟩
abbrev main_v258 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_36 : Ref sig .tc := ⟨.hbm, 432, rfl⟩
abbrev main_v262 : Ref sig .tc := ⟨.hbm, 433, rfl⟩
abbrev main_v263 : Ref sig .tc := ⟨.hbm, 434, rfl⟩
abbrev main_v264 : Ref sig .tc := ⟨.hbm, 435, rfl⟩
abbrev main_v265 : Ref sig .tc := ⟨.hbm, 436, rfl⟩
abbrev main_v266 : Ref sig .tc := ⟨.hbm, 437, rfl⟩
abbrev main_v267 : Ref sig .tc := ⟨.hbm, 438, rfl⟩
abbrev main_v268 : Ref sig .tc := ⟨.hbm, 439, rfl⟩
abbrev main_v269 : Ref sig .tc := ⟨.hbm, 440, rfl⟩
abbrev main_cst_37 : Ref sig .tc := ⟨.hbm, 441, rfl⟩
abbrev main_v270 : Ref sig .tc := ⟨.hbm, 442, rfl⟩
abbrev main_cst_38 : Ref sig .tc := ⟨.hbm, 443, rfl⟩
abbrev main_call11_v0 : Ref sig .tc := ⟨.hbm, 444, rfl⟩
abbrev main_call11_v1 : Ref sig .tc := ⟨.hbm, 445, rfl⟩
abbrev main_call11_v2 : Ref sig .tc := ⟨.hbm, 446, rfl⟩
abbrev main_call11_v3 : Ref sig .tc := ⟨.hbm, 447, rfl⟩
abbrev main_v271 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_v275 : Ref sig .tc := ⟨.hbm, 452, rfl⟩
abbrev main_cst_39 : Ref sig .tc := ⟨.hbm, 453, rfl⟩
abbrev main_v276 : Ref sig .tc := ⟨.hbm, 454, rfl⟩
abbrev main_cst_40 : Ref sig .tc := ⟨.hbm, 455, rfl⟩
abbrev main_call12_v0 : Ref sig .tc := ⟨.hbm, 456, rfl⟩
abbrev main_call12_v1 : Ref sig .tc := ⟨.hbm, 457, rfl⟩
abbrev main_call12_v2 : Ref sig .tc := ⟨.hbm, 458, rfl⟩
abbrev main_call12_v3 : Ref sig .tc := ⟨.hbm, 459, rfl⟩
abbrev main_v277 : Ref sig .tc := ⟨.hbm, 460, rfl⟩
abbrev main_v278 : Ref sig .tc := ⟨.hbm, 461, rfl⟩
abbrev main_v279 : Ref sig .tc := ⟨.hbm, 462, rfl⟩
abbrev main_v280 : Ref sig .tc := ⟨.hbm, 463, rfl⟩
abbrev main_v281 : Ref sig .tc := ⟨.hbm, 464, rfl⟩
abbrev main_cst_41 : Ref sig .tc := ⟨.hbm, 465, rfl⟩
abbrev main_v282 : Ref sig .tc := ⟨.hbm, 466, rfl⟩
abbrev main_cst_42 : Ref sig .tc := ⟨.hbm, 467, rfl⟩
abbrev main_call13_v0 : Ref sig .tc := ⟨.hbm, 468, rfl⟩
abbrev main_call13_v1 : Ref sig .tc := ⟨.hbm, 469, rfl⟩
abbrev main_call13_v2 : Ref sig .tc := ⟨.hbm, 470, rfl⟩
abbrev main_call13_v3 : Ref sig .tc := ⟨.hbm, 471, rfl⟩
abbrev main_v283 : Ref sig .tc := ⟨.hbm, 472, rfl⟩
abbrev main_v284 : Ref sig .tc := ⟨.hbm, 473, rfl⟩
abbrev main_v285 : Ref sig .tc := ⟨.hbm, 474, rfl⟩
abbrev main_v286 : Ref sig .tc := ⟨.hbm, 475, rfl⟩
abbrev main_v287 : Ref sig .tc := ⟨.hbm, 476, rfl⟩
abbrev main_cst_43 : Ref sig .tc := ⟨.hbm, 477, rfl⟩
abbrev main_v288 : Ref sig .tc := ⟨.hbm, 478, rfl⟩
abbrev main_cst_44 : Ref sig .tc := ⟨.hbm, 479, rfl⟩
abbrev main_call14_v0 : Ref sig .tc := ⟨.hbm, 480, rfl⟩
abbrev main_call14_v1 : Ref sig .tc := ⟨.hbm, 481, rfl⟩
abbrev main_call14_v2 : Ref sig .tc := ⟨.hbm, 482, rfl⟩
abbrev main_call14_v3 : Ref sig .tc := ⟨.hbm, 483, rfl⟩
abbrev main_v289 : Ref sig .tc := ⟨.hbm, 484, rfl⟩
abbrev main_v290 : Ref sig .tc := ⟨.hbm, 485, rfl⟩
abbrev main_v291 : Ref sig .tc := ⟨.hbm, 486, rfl⟩
abbrev main_v292 : Ref sig .tc := ⟨.hbm, 487, rfl⟩
abbrev main_v293 : Ref sig .tc := ⟨.hbm, 488, rfl⟩
abbrev main_v294 : Ref sig .tc := ⟨.hbm, 489, rfl⟩
abbrev main_v295 : Ref sig .tc := ⟨.hbm, 490, rfl⟩
abbrev main_v296 : Ref sig .tc := ⟨.hbm, 491, rfl⟩
abbrev main_v297 : Ref sig .tc := ⟨.hbm, 492, rfl⟩
abbrev main_v298 : Ref sig .tc := ⟨.hbm, 493, rfl⟩
abbrev main_v299 : Ref sig .tc := ⟨.hbm, 494, rfl⟩
abbrev main_cst_45 : Ref sig .tc := ⟨.hbm, 495, rfl⟩
abbrev main_v300 : Ref sig .tc := ⟨.hbm, 496, rfl⟩
abbrev main_v301 : Ref sig .tc := ⟨.hbm, 497, rfl⟩
abbrev main_v302 : Ref sig .tc := ⟨.hbm, 498, rfl⟩
abbrev main_v303 : Ref sig .tc := ⟨.hbm, 499, rfl⟩
abbrev main_v304 : Ref sig .tc := ⟨.hbm, 500, rfl⟩
abbrev main_v305 : Ref sig .tc := ⟨.hbm, 501, rfl⟩
abbrev main_v306 : Ref sig .tc := ⟨.hbm, 502, rfl⟩
abbrev main_cst_46 : Ref sig .tc := ⟨.hbm, 503, rfl⟩
abbrev main_v307 : Ref sig .tc := ⟨.hbm, 504, rfl⟩
abbrev main_v308 : Ref sig .tc := ⟨.hbm, 505, rfl⟩
abbrev main_v309 : Ref sig .tc := ⟨.hbm, 506, rfl⟩
abbrev main_v310 : Ref sig .tc := ⟨.hbm, 507, rfl⟩
abbrev main_cst_47 : Ref sig .tc := ⟨.hbm, 508, rfl⟩
abbrev main_v311 : Ref sig .tc := ⟨.hbm, 509, rfl⟩
abbrev main_v312 : Ref sig .tc := ⟨.hbm, 510, rfl⟩
abbrev main_v313 : Ref sig .tc := ⟨.hbm, 511, rfl⟩
abbrev main_v314 : Ref sig .tc := ⟨.hbm, 512, rfl⟩
abbrev main_v315 : Ref sig .tc := ⟨.hbm, 513, rfl⟩
abbrev main_v316 : Ref sig .tc := ⟨.hbm, 514, rfl⟩
abbrev main_v317 : Ref sig .tc := ⟨.hbm, 515, rfl⟩
abbrev main_v318 : Ref sig .tc := ⟨.hbm, 516, rfl⟩
abbrev main_cst_48 : Ref sig .tc := ⟨.hbm, 517, rfl⟩
abbrev main_call15_v0 : Ref sig .tc := ⟨.hbm, 518, rfl⟩
abbrev main_call15_v1 : Ref sig .tc := ⟨.hbm, 519, rfl⟩
abbrev main_v319 : Ref sig .tc := ⟨.hbm, 520, rfl⟩
abbrev main_v320 : Ref sig .tc := ⟨.hbm, 521, rfl⟩
abbrev main_call16_v0 : Ref sig .tc := ⟨.hbm, 522, rfl⟩
abbrev main_call16_v1_0 : Ref sig .tc := ⟨.hbm, 523, rfl⟩
abbrev main_v321 : Ref sig .tc := ⟨.hbm, 524, rfl⟩
abbrev main_v322 : Ref sig .tc := ⟨.hbm, 525, rfl⟩
abbrev main_c_49 : Ref sig .tc := ⟨.hbm, 526, rfl⟩
abbrev main_v323 : Ref sig .tc := ⟨.hbm, 527, rfl⟩
abbrev main_v324 : Ref sig .tc := ⟨.hbm, 528, rfl⟩
abbrev main_c_50 : Ref sig .tc := ⟨.hbm, 529, rfl⟩
abbrev main_v325 : Ref sig .tc := ⟨.hbm, 530, rfl⟩
abbrev main_v326 : Ref sig .tc := ⟨.hbm, 531, rfl⟩
abbrev main_v327 : Ref sig .tc := ⟨.hbm, 532, rfl⟩
abbrev main_v328 : Ref sig .tc := ⟨.hbm, 533, rfl⟩
abbrev main_v329 : Ref sig .tc := ⟨.hbm, 534, rfl⟩
abbrev main_v330 : Ref sig .tc := ⟨.hbm, 535, rfl⟩
abbrev main_v331 : Ref sig .tc := ⟨.hbm, 536, rfl⟩
abbrev main_v332 : Ref sig .tc := ⟨.hbm, 537, rfl⟩
abbrev main_v333 : Ref sig .tc := ⟨.hbm, 538, rfl⟩
abbrev main_v334 : Ref sig .tc := ⟨.hbm, 539, rfl⟩
abbrev main_v335 : Ref sig .tc := ⟨.hbm, 540, rfl⟩
abbrev main_v336 : Ref sig .tc := ⟨.hbm, 541, rfl⟩
abbrev main_v337 : Ref sig .tc := ⟨.hbm, 542, rfl⟩
abbrev main_v338 : Ref sig .tc := ⟨.hbm, 543, rfl⟩
abbrev main_cst_51 : Ref sig .tc := ⟨.hbm, 544, rfl⟩
abbrev main_v339 : Ref sig .tc := ⟨.hbm, 545, rfl⟩
abbrev main_v340 : Ref sig .tc := ⟨.hbm, 546, rfl⟩
abbrev main_v341 : Ref sig .tc := ⟨.hbm, 547, rfl⟩
abbrev main_cst_52 : Ref sig .tc := ⟨.hbm, 548, rfl⟩
abbrev main_v342 : Ref sig .tc := ⟨.hbm, 549, rfl⟩
abbrev main_v343 : Ref sig .tc := ⟨.hbm, 550, rfl⟩
abbrev main_v344 : Ref sig .tc := ⟨.hbm, 551, rfl⟩
abbrev main_v345 : Ref sig .tc := ⟨.hbm, 552, rfl⟩
abbrev main_c_53 : Ref sig .tc := ⟨.hbm, 553, rfl⟩
abbrev main_v346 : Ref sig .tc := ⟨.hbm, 554, rfl⟩
abbrev main_c_54 : Ref sig .tc := ⟨.hbm, 555, rfl⟩
abbrev main_c_55 : Ref sig .tc := ⟨.hbm, 556, rfl⟩
abbrev main_v347_0 : Ref sig .tc := ⟨.hbm, 557, rfl⟩
abbrev main_v347_1 : Ref sig .tc := ⟨.hbm, 558, rfl⟩
abbrev main_v347_2 : Ref sig .tc := ⟨.hbm, 559, rfl⟩
abbrev main_v347_3 : Ref sig .tc := ⟨.hbm, 560, rfl⟩
abbrev main_v347_4 : Ref sig .tc := ⟨.hbm, 561, rfl⟩
abbrev main_v347_5 : Ref sig .tc := ⟨.hbm, 562, rfl⟩
abbrev main_v347_6 : Ref sig .tc := ⟨.hbm, 563, rfl⟩
abbrev main_v347_7 : Ref sig .tc := ⟨.hbm, 564, rfl⟩
abbrev main_v347_8 : Ref sig .tc := ⟨.hbm, 565, rfl⟩
abbrev main_while1c_c_70 : Ref sig .tc := ⟨.hbm, 566, rfl⟩
abbrev main_while1c_v372 : Ref sig .tc := ⟨.hbm, 567, rfl⟩
abbrev main_while1b_c_70 : Ref sig .tc := ⟨.hbm, 568, rfl⟩
abbrev main_while1b_v372 : Ref sig .tc := ⟨.hbm, 569, rfl⟩
abbrev main_while1b_c_71 : Ref sig .tc := ⟨.hbm, 570, rfl⟩
abbrev main_while1b_v373 : Ref sig .tc := ⟨.hbm, 571, rfl⟩
abbrev main_while1b_v374 : Ref sig .tc := ⟨.hbm, 572, rfl⟩
abbrev main_while1b_c_72 : Ref sig .tc := ⟨.hbm, 573, rfl⟩
abbrev main_while1b_v375 : Ref sig .tc := ⟨.hbm, 574, rfl⟩
abbrev main_while1b_v376 : Ref sig .tc := ⟨.hbm, 575, rfl⟩
abbrev main_while1b_v377 : Ref sig .tc := ⟨.hbm, 576, rfl⟩
abbrev main_while1b_v378 : Ref sig .tc := ⟨.hbm, 577, rfl⟩
abbrev main_while1b_v379 : Ref sig .tc := ⟨.hbm, 578, rfl⟩
abbrev main_while1b_v380 : Ref sig .tc := ⟨.hbm, 579, rfl⟩
abbrev main_while1b_c_73 : Ref sig .tc := ⟨.hbm, 580, rfl⟩
abbrev main_while1b_v381 : Ref sig .tc := ⟨.hbm, 581, rfl⟩
abbrev main_while1b_v382 : Ref sig .tc := ⟨.hbm, 582, rfl⟩
abbrev main_while1b_c_74 : Ref sig .tc := ⟨.hbm, 583, rfl⟩
abbrev main_while1b_v383 : Ref sig .tc := ⟨.hbm, 584, rfl⟩
abbrev main_while1b_v384 : Ref sig .tc := ⟨.hbm, 585, rfl⟩
abbrev main_while1b_v385 : Ref sig .tc := ⟨.hbm, 586, rfl⟩
abbrev main_while1b_v386 : Ref sig .tc := ⟨.hbm, 587, rfl⟩
abbrev main_while1b_v387 : Ref sig .tc := ⟨.hbm, 588, rfl⟩
abbrev main_while1b_v388 : Ref sig .tc := ⟨.hbm, 589, rfl⟩
abbrev main_while1b_c_75 : Ref sig .tc := ⟨.hbm, 590, rfl⟩
abbrev main_while1b_v389 : Ref sig .tc := ⟨.hbm, 591, rfl⟩
abbrev main_while1b_v390 : Ref sig .tc := ⟨.hbm, 592, rfl⟩
abbrev main_while1b_c_76 : Ref sig .tc := ⟨.hbm, 593, rfl⟩
abbrev main_while1b_v391 : Ref sig .tc := ⟨.hbm, 594, rfl⟩
abbrev main_while1b_v392 : Ref sig .tc := ⟨.hbm, 595, rfl⟩
abbrev main_while1b_v393 : Ref sig .tc := ⟨.hbm, 596, rfl⟩
abbrev main_while1b_v394 : Ref sig .tc := ⟨.hbm, 597, rfl⟩
abbrev main_while1b_v395 : Ref sig .tc := ⟨.hbm, 598, rfl⟩
abbrev main_while1b_v396 : Ref sig .tc := ⟨.hbm, 599, rfl⟩
abbrev main_while1b_c_77 : Ref sig .tc := ⟨.hbm, 600, rfl⟩
abbrev main_while1b_v397 : Ref sig .tc := ⟨.hbm, 601, rfl⟩
abbrev main_while1b_v398 : Ref sig .tc := ⟨.hbm, 602, rfl⟩
abbrev main_while1b_c_78 : Ref sig .tc := ⟨.hbm, 603, rfl⟩
abbrev main_while1b_v399 : Ref sig .tc := ⟨.hbm, 604, rfl⟩
abbrev main_while1b_v400 : Ref sig .tc := ⟨.hbm, 605, rfl⟩
abbrev main_while1b_v401 : Ref sig .tc := ⟨.hbm, 606, rfl⟩
abbrev main_while1b_v402 : Ref sig .tc := ⟨.hbm, 607, rfl⟩
abbrev main_while1b_v403 : Ref sig .tc := ⟨.hbm, 608, rfl⟩
abbrev main_while1b_v404 : Ref sig .tc := ⟨.hbm, 609, rfl⟩
abbrev main_while1b_v405 : Ref sig .tc := ⟨.hbm, 610, rfl⟩
abbrev main_while1b_cst_79 : Ref sig .tc := ⟨.hbm, 611, rfl⟩
abbrev main_while1b_v406 : Ref sig .tc := ⟨.hbm, 612, rfl⟩
abbrev main_while1b_v407 : Ref sig .tc := ⟨.hbm, 613, rfl⟩
abbrev main_while1b_cst_80 : Ref sig .tc := ⟨.hbm, 614, rfl⟩
abbrev main_while1b_v408 : Ref sig .tc := ⟨.hbm, 615, rfl⟩
abbrev main_while1b_v409 : Ref sig .tc := ⟨.hbm, 616, rfl⟩
abbrev main_while1b_v410 : Ref sig .tc := ⟨.hbm, 617, rfl⟩
abbrev main_while1b_cst_81 : Ref sig .tc := ⟨.hbm, 618, rfl⟩
abbrev main_while1b_v411 : Ref sig .tc := ⟨.hbm, 619, rfl⟩
abbrev main_while1b_v412 : Ref sig .tc := ⟨.hbm, 620, rfl⟩
abbrev main_while1b_cst_82 : Ref sig .tc := ⟨.hbm, 621, rfl⟩
abbrev main_while1b_v413 : Ref sig .tc := ⟨.hbm, 622, rfl⟩
abbrev main_while1b_v414 : Ref sig .tc := ⟨.hbm, 623, rfl⟩
abbrev main_while1b_v415 : Ref sig .tc := ⟨.hbm, 624, rfl⟩
abbrev main_while1b_c_83 : Ref sig .tc := ⟨.hbm, 625, rfl⟩
abbrev main_while1b_v416 : Ref sig .tc := ⟨.hbm, 626, rfl⟩
abbrev main_while1b_v417 : Ref sig .tc := ⟨.hbm, 627, rfl⟩
abbrev main_while1b_c_84 : Ref sig .tc := ⟨.hbm, 628, rfl⟩
abbrev main_while1b_v418 : Ref sig .tc := ⟨.hbm, 629, rfl⟩
abbrev main_while1b_v419 : Ref sig .tc := ⟨.hbm, 630, rfl⟩
abbrev main_while1b_v420 : Ref sig .tc := ⟨.hbm, 631, rfl⟩
abbrev main_while1b_v421 : Ref sig .tc := ⟨.hbm, 632, rfl⟩
abbrev main_while1b_v422 : Ref sig .tc := ⟨.hbm, 633, rfl⟩
abbrev main_while1b_v423 : Ref sig .tc := ⟨.hbm, 634, rfl⟩
abbrev main_while1b_v424 : Ref sig .tc := ⟨.hbm, 635, rfl⟩
abbrev main_while1b_v425 : Ref sig .tc := ⟨.hbm, 636, rfl⟩
abbrev main_while1b_cst_85 : Ref sig .tc := ⟨.hbm, 637, rfl⟩
abbrev main_while1b_v426 : Ref sig .tc := ⟨.hbm, 638, rfl⟩
abbrev main_while1b_v427 : Ref sig .tc := ⟨.hbm, 639, rfl⟩
abbrev main_while1b_v428 : Ref sig .tc := ⟨.hbm, 640, rfl⟩
abbrev main_while1b_v429 : Ref sig .tc := ⟨.hbm, 641, rfl⟩
abbrev main_while1b_v430 : Ref sig .tc := ⟨.hbm, 642, rfl⟩
abbrev main_while1b_v431 : Ref sig .tc := ⟨.hbm, 643, rfl⟩
abbrev main_while1b_v432 : Ref sig .tc := ⟨.hbm, 644, rfl⟩
abbrev main_while1b_c_86 : Ref sig .tc := ⟨.hbm, 645, rfl⟩
abbrev main_while1b_v433 : Ref sig .tc := ⟨.hbm, 646, rfl⟩
abbrev main_while1b_v434 : Ref sig .tc := ⟨.hbm, 647, rfl⟩
abbrev main_while1b_c_87 : Ref sig .tc := ⟨.hbm, 648, rfl⟩
abbrev main_while1b_v435 : Ref sig .tc := ⟨.hbm, 649, rfl⟩
abbrev main_while1b_v436 : Ref sig .tc := ⟨.hbm, 650, rfl⟩
abbrev main_while1b_v437 : Ref sig .tc := ⟨.hbm, 651, rfl⟩
abbrev main_while1b_v438 : Ref sig .tc := ⟨.hbm, 652, rfl⟩
abbrev main_while1b_v439 : Ref sig .tc := ⟨.hbm, 653, rfl⟩
abbrev main_while1b_c_88 : Ref sig .tc := ⟨.hbm, 654, rfl⟩
abbrev main_while1b_v440 : Ref sig .tc := ⟨.hbm, 655, rfl⟩
abbrev main_v348 : Ref sig .tc := ⟨.hbm, 656, rfl⟩
abbrev main_c_56 : Ref sig .tc := ⟨.hbm, 657, rfl⟩
abbrev main_call18_v0 : Ref sig .tc := ⟨.hbm, 658, rfl⟩
abbrev main_call18_v1 : Ref sig .tc := ⟨.hbm, 659, rfl⟩
abbrev main_v349 : Ref sig .tc := ⟨.hbm, 660, rfl⟩
abbrev main_v350 : Ref sig .tc := ⟨.hbm, 661, rfl⟩
abbrev main_v351 : Ref sig .tc := ⟨.hbm, 662, rfl⟩
abbrev main_c_57 : Ref sig .tc := ⟨.hbm, 663, rfl⟩
abbrev main_v352 : Ref sig .tc := ⟨.hbm, 664, rfl⟩
abbrev main_v353 : Ref sig .tc := ⟨.hbm, 665, rfl⟩
abbrev main_v354 : Ref sig .tc := ⟨.hbm, 666, rfl⟩
abbrev main_c_58 : Ref sig .tc := ⟨.hbm, 667, rfl⟩
abbrev main_v355 : Ref sig .tc := ⟨.hbm, 668, rfl⟩
abbrev main_v356 : Ref sig .tc := ⟨.hbm, 669, rfl⟩
abbrev main_c_59 : Ref sig .tc := ⟨.hbm, 670, rfl⟩
abbrev main_v357 : Ref sig .tc := ⟨.hbm, 671, rfl⟩
abbrev main_v358 : Ref sig .tc := ⟨.hbm, 672, rfl⟩
abbrev main_c_60 : Ref sig .tc := ⟨.hbm, 673, rfl⟩
abbrev main_v359 : Ref sig .tc := ⟨.hbm, 674, rfl⟩
abbrev main_v360 : Ref sig .tc := ⟨.hbm, 675, rfl⟩
abbrev main_v361 : Ref sig .tc := ⟨.hbm, 676, rfl⟩
abbrev main_v362 : Ref sig .tc := ⟨.hbm, 677, rfl⟩
abbrev main_v363 : Ref sig .tc := ⟨.hbm, 678, rfl⟩
abbrev main_v364 : Ref sig .tc := ⟨.hbm, 679, rfl⟩
abbrev main_v365 : Ref sig .tc := ⟨.hbm, 680, rfl⟩
abbrev main_v366 : Ref sig .tc := ⟨.hbm, 681, rfl⟩
abbrev main_cst_61 : Ref sig .tc := ⟨.hbm, 682, rfl⟩
abbrev main_v367 : Ref sig .tc := ⟨.hbm, 683, rfl⟩
abbrev main_v368 : Ref sig .tc := ⟨.hbm, 684, rfl⟩
abbrev main_v369 : Ref sig .tc := ⟨.hbm, 685, rfl⟩
abbrev main_v370 : Ref sig .tc := ⟨.hbm, 686, rfl⟩
abbrev main_v371 : Ref sig .tc := ⟨.hbm, 687, rfl⟩

abbrev nD : Nat := 1
abbrev τ : Topo := Topo.v7x

variable {F : FTy → Type} [FloatOps F]

abbrev main_while0_count : Scf.Loop 32 := ⟨0#32, 6000#32, 1#32⟩

abbrev main_while1_count : Scf.Loop 32 := ⟨0#32, 6000#32, 1#32⟩
-- ==== Proof.IdealRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.StableHlo.RunLoop
public import Idealize.ShloMosaic.Lib.Scf.ExitTest
public import Idealize.ShloMosaic.Lib.Scf.Counter
public import Idealize.ShloMosaic.Lib.Ring
public import Idealize.ShloMosaic.Lib.Tactic
public import Idealize.ShloMosaic.Lib.WordCmp

/-! The head kernel's body over its windows: what one grid step leaves, at any entry contents. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffers as the kernel call finds them
variable (V : (c : Dev nD) → (b : Ref sig .tc) → Buf (Elt F) ((c : Thread nD τ).loc b))

/-! # REGION 0 of @main: custom_call 0, `cc0__head_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point of the grid. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every point of the grid. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every point of the grid. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 holds its block at every point of the grid. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 holds its block at every point of the grid. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x66x66x128 := Rect.unit (s := S1x66x66x128) ![0, 0, 0, 0] S1x64x64x128.size inb_S1x66x66x128_S1x64x64x128_0_0_0_0
abbrev r0_1 : Rect S3x3x128x128 := Rect.unit (s := S3x3x128x128) ![0, 0, 0, 0] S1x1x128x128.size inb_S3x3x128x128_S1x1x128x128_0_0_0_0
abbrev r0_2 : Rect S1x66x66x128 := Rect.unit (s := S1x66x66x128) ![0, 0, 1, 0] S1x64x64x128.size inb_S1x66x66x128_S1x64x64x128_0_0_1_0
abbrev r0_3 : Rect S3x3x128x128 := Rect.unit (s := S3x3x128x128) ![0, 1, 0, 0] S1x1x128x128.size inb_S3x3x128x128_S1x1x128x128_0_1_0_0
abbrev r0_4 : Rect S1x66x66x128 := Rect.unit (s := S1x66x66x128) ![0, 0, 2, 0] S1x64x64x128.size inb_S1x66x66x128_S1x64x64x128_0_0_2_0
abbrev r0_5 : Rect S3x3x128x128 := Rect.unit (s := S3x3x128x128) ![0, 2, 0, 0] S1x1x128x128.size inb_S3x3x128x128_S1x1x128x128_0_2_0_0
abbrev r0_6 : Rect S1x66x66x128 := Rect.unit (s := S1x66x66x128) ![0, 1, 0, 0] S1x64x64x128.size inb_S1x66x66x128_S1x64x64x128_0_1_0_0
abbrev r0_7 : Rect S3x3x128x128 := Rect.unit (s := S3x3x128x128) ![1, 0, 0, 0] S1x1x128x128.size inb_S3x3x128x128_S1x1x128x128_1_0_0_0
abbrev r0_8 : Rect S1x66x66x128 := Rect.unit (s := S1x66x66x128) ![0, 1, 1, 0] S1x64x64x128.size inb_S1x66x66x128_S1x64x64x128_0_1_1_0
abbrev r0_9 : Rect S3x3x128x128 := Rect.unit (s := S3x3x128x128) ![1, 1, 0, 0] S1x1x128x128.size inb_S3x3x128x128_S1x1x128x128_1_1_0_0
abbrev r0_10 : Rect S1x66x66x128 := Rect.unit (s := S1x66x66x128) ![0, 1, 2, 0] S1x64x64x128.size inb_S1x66x66x128_S1x64x64x128_0_1_2_0
abbrev r0_11 : Rect S3x3x128x128 := Rect.unit (s := S3x3x128x128) ![1, 2, 0, 0] S1x1x128x128.size inb_S3x3x128x128_S1x1x128x128_1_2_0_0
abbrev r0_12 : Rect S1x66x66x128 := Rect.unit (s := S1x66x66x128) ![0, 2, 0, 0] S1x64x64x128.size inb_S1x66x66x128_S1x64x64x128_0_2_0_0
abbrev r0_13 : Rect S3x3x128x128 := Rect.unit (s := S3x3x128x128) ![2, 0, 0, 0] S1x1x128x128.size inb_S3x3x128x128_S1x1x128x128_2_0_0_0
abbrev r0_14 : Rect S1x66x66x128 := Rect.unit (s := S1x66x66x128) ![0, 2, 1, 0] S1x64x64x128.size inb_S1x66x66x128_S1x64x64x128_0_2_1_0
abbrev r0_15 : Rect S3x3x128x128 := Rect.unit (s := S3x3x128x128) ![2, 1, 0, 0] S1x1x128x128.size inb_S3x3x128x128_S1x1x128x128_2_1_0_0
abbrev r0_16 : Rect S1x66x66x128 := Rect.unit (s := S1x66x66x128) ![0, 2, 2, 0] S1x64x64x128.size inb_S1x66x66x128_S1x64x64x128_0_2_2_0
abbrev r0_17 : Rect S3x3x128x128 := Rect.unit (s := S3x3x128x128) ![2, 2, 0, 0] S1x1x128x128.size inb_S3x3x128x128_S1x1x128x128_2_2_0_0
abbrev r0_18 : Rect S1x128 := Rect.unit (s := S1x128) ![0, 0] S1x128.size inb_S1x128_S1x128_0_0
abbrev r0_19 : Rect S128x128 := Rect.unit (s := S128x128) ![0, 0] S128x128.size inb_S128x128_S128x128_0_0
abbrev r0_20 : Rect S1x4096x128 := Rect.unit (s := S1x4096x128) ![0, 0, 0] S1x4096x128.size inb_S1x4096x128_S1x4096x128_0_0_0

/-! ## What the body leaves in each output window's buffer -/

/-- What the body leaves in the output window, from the five input blocks: one store of the whole block. -/
def out0_5 (x0 : Vec F S1x66x66x128 .f32) (x1 : Vec F S3x3x128x128 .f32) (x2 : Vec F S1x128 .f32) (x3 : Vec F S128x128 .f32) (x4 : Vec F S1x128 .f32) : Vec F S1x4096x128 .f32 :=
  View.canon [⟨r0_20, k0_pay1 (k0_pay4 (k0_pay2 (View.ld x0 r0_0) (View.ld x1 r0_1) (View.ld x0 r0_2) (View.ld x1 r0_3) (View.ld x0 r0_4) (View.ld x1 r0_5)) (k0_pay3 (View.ld x0 r0_6)) (View.ld x1 r0_7) (View.ld x0 r0_8) (View.ld x1 r0_9) (View.ld x0 r0_10) (View.ld x1 r0_11) (View.ld x0 r0_12) (View.ld x1 r0_13)) (View.ld x0 r0_14) (View.ld x1 r0_15) (View.ld x0 r0_16) (View.ld x1 r0_17) (View.ld x2 r0_18) (View.ld x3 r0_19) (View.ld x4 r0_18)⟩]

/-- The one store covers the block. -/
theorem cover0_5 (p0 : Vec F S1x4096x128 .f32) (y : S1x4096x128.Idx) :
    ∃ pc ∈ ([⟨r0_20, p0⟩] : List (View.Piece (Elt F) S1x4096x128 .f32)), y ∈ pc.1.set :=
  View.cover_of_tiled [⟨r0_20, p0⟩] S1x4096x128.size (by rfl) y

/-! ## The body's triple -/

set_option maxHeartbeats 1000000 in
/-- The body on whole buffers: the inputs stay as they were and the output holds `out0_5` of them. -/
theorem sound_kernel0 (c : Dev nD) (E : Set ℕ) (i : grid0.Coords) (arg1 : Memref sig .tc .vmem S1x66x66x128 .f32) (harg1 : arg1.IsWhole) (arg2 : Memref sig .tc .vmem S3x3x128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x4096x128 .f32) (harg6 : arg6.IsWhole)
    (x0 : Vec F S1x66x66x128 .f32) (x1 : Vec F S3x3x128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__head_kernel i arg1 harg1 arg2 harg2 arg3 harg3 arg4 harg4 arg5 harg5 arg6 harg6) K := by
  simp only [cc0__head_kernel_eq_skeleton]; unfold cc0__head_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The call's data: arrays as found, each input at its block after the body, the output at `out0_5`, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the data are the contents found at entry. -/
theorem A_eq0 (c : Dev nD) (w : Fin cfg0.W) : (dat0 V c).A w = V c (Pipeline.arrRef spec0 w) := by
  dsimp only [dat0]

/-- The windows after the body, one by one. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- The input windows before the body. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point of the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table row of the body. -/
theorem defs₀_row0 (t : Fin cfg0.N) :
    defs₀ (F := F) .tc cfg0.body (cfg0.bodyArgs t (cfg0.slots t)) = bodyAt0 t := by
  unfold defs₀; rw [Defs.onTc_tc]

/-- The obligation of the body at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.IdealRun.lean ====
module

public import proofs.«01_k».proof.Proof.IdealRegion

/-! The whole run, both counted loops included: the final contents of every buffer, and the arguments unchanged. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Idealize.ShloMosaic.Pipeline (ucRefs sub_ucRefs)

/-- The argument arrays. -/
abbrev argRefs : List (Ref sig .tc) := [main_arg0, main_arg1, main_arg2, main_arg3, main_arg4, main_arg5, main_arg6, main_arg7, main_arg8]

/-- The stretches before the kernel call. -/
abbrev preR : List (List (HloOp τ sig (Elt F))) := [hostOps0, hostOps0_1, hostOps0_2]
/-- The stretches before the first loop. -/
abbrev preI : List (List (HloOp τ sig (Elt F))) := [hostOps1, hostOps1_1, hostOps1_2, hostOps1_3, hostOps1_4, hostOps1_5, hostOps1_6, hostOps1_7, hostOps1_8, hostOps1_9, hostOps1_10, hostOps1_11, hostOps1_12]
/-- The stretches between the loops. -/
abbrev midI : List (List (HloOp τ sig (Elt F))) := [hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28]
/-- The stretches after the second loop. -/
abbrev postI : List (List (HloOp τ sig (Elt F))) := [hostOps1_29, hostOps1_30, hostOps1_31, hostOps1_32]
/-- The body of loop 0. -/
abbrev body0 : List (List (HloOp τ sig (Elt F))) := [while0Ops0, while0Ops0_1, while0Ops0_2]
/-- The condition of loop 0: the bound, and the counter compared with it. -/
abbrev cond0 : List (HloOp τ sig (Elt F)) :=
  [ StableHlo.nullary main_while0c_c_71 (constantI S_ 32 6000#32), StableHlo.binary main_v184_6 main_while0c_c_71 main_while0c_v314 (cmpi .slt) ]
/-- The body of loop 1. -/
abbrev body1 : List (List (HloOp τ sig (Elt F))) := [while1Ops0, while1Ops0_1, while1Ops0_2]
/-- The condition of loop 1: the bound, and the counter compared with it. -/
abbrev cond1 : List (HloOp τ sig (Elt F)) :=
  [ StableHlo.nullary main_while1c_c_71 (constantI S_ 32 6000#32), StableHlo.binary main_v289_6 main_while1c_c_71 main_while1c_v314 (cmpi .slt) ]

set_option maxRecDepth 100000 in
set_option maxHeartbeats 4000000 in
theorem plain_preR : Plain (preR (F := F)) := .cons hostOps0_sub (.cons hostOps0_1_sub (.cons hostOps0_2_sub (.nil)))

set_option maxRecDepth 100000 in
set_option maxHeartbeats 4000000 in
theorem plain_preI : Plain (preI (F := F)) := .cons hostOps1_sub (.cons hostOps1_1_sub (.cons hostOps1_2_sub (.cons hostOps1_3_sub (.cons hostOps1_4_sub (.cons hostOps1_5_sub (.cons hostOps1_6_sub (.cons hostOps1_7_sub (.cons hostOps1_8_sub (.cons hostOps1_9_sub (.cons hostOps1_10_sub (.cons hostOps1_11_sub (.cons hostOps1_12_sub (.nil)))))))))))))

set_option maxRecDepth 100000 in
set_option maxHeartbeats 4000000 in
theorem plain_midI : Plain (midI (F := F)) := .cons hostOps1_13_sub (.cons hostOps1_14_sub (.cons hostOps1_15_sub (.cons hostOps1_16_sub (.cons hostOps1_17_sub (.cons hostOps1_18_sub (.cons hostOps1_19_sub (.cons hostOps1_20_sub (.cons hostOps1_21_sub (.cons hostOps1_22_sub (.cons hostOps1_23_sub (.cons hostOps1_24_sub (.cons hostOps1_25_sub (.cons hostOps1_26_sub (.cons hostOps1_27_sub (.cons hostOps1_28_sub (.nil))))))))))))))))

set_option maxRecDepth 100000 in
set_option maxHeartbeats 4000000 in
theorem plain_postI : Plain (postI (F := F)) := .cons hostOps1_29_sub (.cons hostOps1_30_sub (.cons hostOps1_31_sub (.cons hostOps1_32_sub (.nil))))

set_option maxRecDepth 100000 in
set_option maxHeartbeats 4000000 in
theorem plain_body0 : Plain (body0 (F := F)) := .cons while0Ops0_sub (.cons while0Ops0_1_sub (.cons while0Ops0_2_sub (.nil)))

set_option maxRecDepth 100000 in
set_option maxHeartbeats 4000000 in
theorem plain_body1 : Plain (body1 (F := F)) := .cons while1Ops0_sub (.cons while1Ops0_1_sub (.cons while1Ops0_2_sub (.nil)))

/-- A stretch that leaves every argument as it was. -/
abbrev Keeps (ops : List (HloOp τ sig (Elt F))) : Prop :=
  ∀ V : Valuation τ sig (Elt F), ∀ a ∈ argRefs, after ops V (Proc.devRef .tc a) = V (Proc.devRef .tc a)
/-- Stretches that leave every argument as it was. -/
abbrev KeepsL (items : List (List (HloOp τ sig (Elt F)))) : Prop :=
  ∀ V : Valuation τ sig (Elt F), ∀ a ∈ argRefs, afterL items V (Proc.devRef .tc a) = V (Proc.devRef .tc a)
theorem keeps_of (ops : List (HloOp τ sig (Elt F))) (W : List (Ref sig .tc))
    (hw : ops.Forall fun op => op.writes ⊆ (W.map (Proc.devRef (τ := τ) .tc)).toFinset)
    (ha : ∀ a ∈ argRefs, a ∉ W) : Keeps ops :=
  fun V a h => after_of_writes_sub ops V hw (ha a h)
theorem keepsL_nil : KeepsL ([] : List (List (HloOp τ sig (Elt F)))) := fun _ _ _ => rfl
theorem keepsL_cons {ops : List (HloOp τ sig (Elt F))} {rest : List (List (HloOp τ sig (Elt F)))}
    (h : Keeps ops) (h' : KeepsL rest) : KeepsL (ops :: rest) :=
  fun V a ha => (h' (after ops V) a ha).trans (h V a ha)
theorem keeps_atTrip {cond : List (HloOp τ sig (Elt F))} {body : List (List (HloOp τ sig (Elt F)))}
    (hc : Keeps cond) (hb : KeepsL body) (W : Dev nD → Valuation τ sig (Elt F)) (c : Dev nD) :
    ∀ k, ∀ a ∈ argRefs, atTrip cond body W k c (Proc.devRef .tc a) = W c (Proc.devRef .tc a)
  | 0 => fun _ _ => rfl
  | k + 1 => fun a ha => by
    rw [atTrip_succ]
    exact (hb _ a ha).trans ((hc _ a ha).trans (keeps_atTrip hc hb W c k a ha))

abbrev hostOps0_W : List (Ref sig .tc) := [main_cst, main_v0, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_keeps : Keeps (hostOps0 (F := F)) := keeps_of _ _ hostOps0_writes (ListAll.forall_mem_of_all_decide (by decide +kernel))
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_keeps : Keeps (hostOps0_1 (F := F)) := keeps_of _ _ hostOps0_1_writes (ListAll.forall_mem_of_all_decide (by decide +kernel))
abbrev hostOps0_2_W : List (Ref sig .tc) := [main_v2, main_v3, main_v4, main_v5, main_v6, main_cst_0, main_v7, main_v8, main_cst_1, main_v9, main_v10, main_v11, main_v12]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_keeps : Keeps (hostOps0_2 (F := F)) := keeps_of _ _ hostOps0_2_writes (ListAll.forall_mem_of_all_decide (by decide +kernel))
abbrev hostOps1_W : List (Ref sig .tc) := [main_v14, main_v15, main_cst_2, main_v16, main_cst_3, main_v17, main_v18, main_v19, main_v20, main_v21, main_v22, main_cst_4, main_v23, main_v24, main_v25, main_v26, main_v27, main_v28, main_v29, main_v30, main_v31, main_v32, main_v33, main_v34, main_v35, main_v36, main_cst_5, main_v37, main_v38, main_v39, main_v40, main_v41, main_v42, main_v43, main_cst_6, main_v44, main_v45, main_v46, main_v47, main_cst_7, main_v48, main_v49, main_v50, main_v51, main_v52, main_cst_8, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_cst_9, main_v84, main_v85, main_v86, main_cst_10, main_v87, main_v88, main_v89, main_cst_11, main_v90, main_v91, main_v92, main_cst_12, main_v93, main_v94, main_v95, main_v96, main_v97, main_v98, main_v99, main_v100, main_v101, main_v102, main_v103, main_v104, main_v105, main_v106, main_cst_13, main_v107, main_cst_14]
theorem hostOps1_writes : (hostOps1 : List (HloOp τ sig (Elt F))).Forall fun op => op.writes ⊆ (hostOps1_W.map (Proc.devRef (τ := τ) .tc)).toFinset :=
  StableHlo.forall_writes_sub_of_map rfl
theorem hostOps1_keeps : Keeps (hostOps1 (F := F)) := keeps_of _ _ hostOps1_writes (ListAll.forall_mem_of_all_decide (by decide +kernel))
abbrev hostOps1_1_W : List (Ref sig .tc) := [main_call1_v0, main_call1_v1, main_call1_v2, main_call1_v3, main_v108]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_keeps : Keeps (hostOps1_1 (F := F)) := keeps_of _ _ hostOps1_1_writes (ListAll.forall_mem_of_all_decide (by decide +kernel))
abbrev hostOps1_2_W : List (Ref sig .tc) := [main_v109, main_v110, main_v111, main_v112, main_cst_15, main_v113, main_cst_16]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_keeps : Keeps (hostOps1_2 (F := F)) := keeps_of _ _ hostOps1_2_writes (ListAll.forall_mem_of_all_decide (by decide +kernel))
abbrev hostOps1_3_W : List (Ref sig .tc) := [main_call2_v0, main_call2_v1, main_call2_v2, main_call2_v3, main_v114]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_keeps : Keeps (hostOps1_3 (F := F)) := keeps_of _ _ hostOps1_3_writes (ListAll.forall_mem_of_all_decide (by decide +kernel))
abbrev hostOps1_4_W : List (Ref sig .tc) := [main_v115, main_v116, main_v117, main_v118, main_cst_17, main_v119, main_cst_18]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_keeps : Keeps (hostOps1_4 (F := F)) := keeps_of _ _ hostOps1_4_writes (ListAll.forall_mem_of_all_decide (by decide +kernel))
abbrev hostOps1_5_W : List (Ref sig .tc) := [main_call3_v0, main_call3_v1, main_call3_v2, main_call3_v3, main_v120]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_5_keeps : Keeps (hostOps1_5 (F := F)) := keeps_of _ _ hostOps1_5_writes (ListAll.forall_mem_of_all_decide (by decide +kernel))
abbrev hostOps1_6_W : List (Ref sig .tc) := [main_v121, main_v122, main_v123, main_v124, main_cst_19, main_v125, main_cst_20]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_6_keeps : Keeps (hostOps1_6 (F := F)) := keeps_of _ _ hostOps1_6_writes (ListAll.forall_mem_of_all_decide (by decide +kernel))
abbrev hostOps1_7_W : List (Ref sig .tc) := [main_call4_v0, main_call4_v1, main_call4_v2, main_call4_v3, main_v126]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_7_keeps : Keeps (hostOps1_7 (F := F)) := keeps_of _ _ hostOps1_7_writes (ListAll.forall_mem_of_all_decide (by decide +kernel))
abbrev hostOps1_8_W : List (Ref sig .tc) := [main_v127, main_v128, main_v129, main_v130, main_v131, main_v132, main_v133, main_v134, main_v135, main_v136, main_cst_21, main_v137, main_v138, main_v139, main_v140, main_v141, main_v142, main_v143, main_cst_22, main_v144, main_v145, main_v146, main_v147, main_cst_23, main_v148, main_v149, main_v150, main_v151, main_v152, main_v153, main_v154, main_v155, main_cst_24]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_8_keeps : Keeps (hostOps1_8 (F := F)) := keeps_of _ _ hostOps1_8_writes (ListAll.forall_mem_of_all_decide (by decide +kernel))
abbrev hostOps1_9_W : List (Ref sig .tc) := [main_call5_v0, main_call5_v1, main_v156]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_9_keeps : Keeps (hostOps1_9 (F := F)) := keeps_of _ _ hostOps1_9_writes (ListAll.forall_mem_of_all_decide (by decide +kernel))
abbrev hostOps1_10_W : List (Ref sig .tc) := [main_v157]
theorem hostOps1_10_writes : (hostOps1_10 : List (HloOp τ sig (Elt F))).Forall fun op => op.writes ⊆ (hostOps1_10_W.map (Proc.devRef (τ := τ) .tc)).toFinset :=
  StableHlo.forall_writes_sub_of_map rfl
theorem hostOps1_10_keeps : Keeps (hostOps1_10 (F := F)) := keeps_of _ _ hostOps1_10_writes (ListAll.forall_mem_of_all_decide (by decide +kernel))
abbrev hostOps1_11_W : List (Ref sig .tc) := [main_call6_v0, main_call6_v1_0, main_v158]
theorem hostOps1_11_writes : (hostOps1_11 : List (HloOp τ sig (Elt F))).Forall fun op => op.writes ⊆ (hostOps1_11_W.map (Proc.devRef (τ := τ) .tc)).toFinset :=
  StableHlo.forall_writes_sub_of_map rfl
theorem hostOps1_11_keeps : Keeps (hostOps1_11 (F := F)) := keeps_of _ _ hostOps1_11_writes (ListAll.forall_mem_of_all_decide (by decide +kernel))
abbrev hostOps1_12_W : List (Ref sig .tc) := [main_v159, main_c_25, main_v160, main_v161, main_c_26, main_v162, main_v163, main_v164, main_v165, main_v166, main_v167, main_v168, main_v169, main_v170, main_v171, main_v172, main_v173, main_v174, main_v175, main_cst_27, main_v176, main_v177, main_v178, main_cst_28, main_v179, main_v180, main_v181, main_v182, main_c_29, main_v183, main_c_30, main_c_31, main_v184_0, main_v184_1, main_v184_2, main_v184_3, main_v184_4, main_v184_5, main_v184_6, main_v184_7, main_v184_8]
theorem hostOps1_12_writes : (hostOps1_12 : List (HloOp τ sig (Elt F))).Forall fun op => op.writes ⊆ (hostOps1_12_W.map (Proc.devRef (τ := τ) .tc)).toFinset :=
  StableHlo.forall_writes_sub_of_map rfl
theorem hostOps1_12_keeps : Keeps (hostOps1_12 (F := F)) := keeps_of _ _ hostOps1_12_writes (ListAll.forall_mem_of_all_decide (by decide +kernel))
abbrev hostOps1_13_W : List (Ref sig .tc) := [main_v185, main_c_32]
theorem hostOps1_13_writes : (hostOps1_13 : List (HloOp τ sig (Elt F))).Forall fun op => op.writes ⊆ (hostOps1_13_W.map (Proc.devRef (τ := τ) .tc)).toFinset :=
  StableHlo.forall_writes_sub_of_map rfl
theorem hostOps1_13_keeps : Keeps (hostOps1_13 (F := F)) := keeps_of _ _ hostOps1_13_writes (ListAll.forall_mem_of_all_decide (by decide +kernel))
abbrev hostOps1_14_W : List (Ref sig .tc) := [main_call8_v0, main_call8_v1, main_v186]
theorem hostOps1_14_writes : (hostOps1_14 : List (HloOp τ sig (Elt F))).Forall fun op => op.writes ⊆ (hostOps1_14_W.map (Proc.devRef (τ := τ) .tc)).toFinset :=
  StableHlo.forall_writes_sub_of_map rfl
theorem hostOps1_14_keeps : Keeps (hostOps1_14 (F := F)) := keeps_of _ _ hostOps1_14_writes (ListAll.forall_mem_of_all_decide (by decide +kernel))
abbrev hostOps1_15_W : List (Ref sig .tc) := [main_v187]
theorem hostOps1_15_writes : (hostOps1_15 : List (HloOp τ sig (Elt F))).Forall fun op => op.writes ⊆ (hostOps1_15_W.map (Proc.devRef (τ := τ) .tc)).toFinset :=
  StableHlo.forall_writes_sub_of_map rfl
theorem hostOps1_15_keeps : Keeps (hostOps1_15 (F := F)) := keeps_of _ _ hostOps1_15_writes (ListAll.forall_mem_of_all_decide (by decide +kernel))
abbrev hostOps1_16_W : List (Ref sig .tc) := [main_v188, main_c_33, main_v189, main_v190, main_v191, main_c_34, main_v192, main_v193, main_c_35, main_v194, main_v195, main_c_36, main_v196, main_v197, main_v198, main_v199, main_v200, main_v201, main_v202, main_v203, main_cst_37, main_v204, main_v205, main_v206, main_v207, main_v208, main_v209, main_v210, main_v211, main_cst_38, main_v212, main_cst_39]
theorem hostOps1_16_writes : (hostOps1_16 : List (HloOp τ sig (Elt F))).Forall fun op => op.writes ⊆ (hostOps1_16_W.map (Proc.devRef (τ := τ) .tc)).toFinset :=
  StableHlo.forall_writes_sub_of_map rfl
theorem hostOps1_16_keeps : Keeps (hostOps1_16 (F := F)) := keeps_of _ _ hostOps1_16_writes (ListAll.forall_mem_of_all_decide (by decide +kernel))
abbrev hostOps1_17_W : List (Ref sig .tc) := [main_call10_v0, main_call10_v1, main_call10_v2, main_call10_v3, main_v213]
theorem hostOps1_17_writes : (hostOps1_17 : List (HloOp τ sig (Elt F))).Forall fun op => op.writes ⊆ (hostOps1_17_W.map (Proc.devRef (τ := τ) .tc)).toFinset :=
  StableHlo.forall_writes_sub_of_map rfl
theorem hostOps1_17_keeps : Keeps (hostOps1_17 (F := F)) := keeps_of _ _ hostOps1_17_writes (ListAll.forall_mem_of_all_decide (by decide +kernel))
abbrev hostOps1_18_W : List (Ref sig .tc) := [main_v214, main_v215, main_v216, main_v217, main_cst_40, main_v218, main_cst_41]
theorem hostOps1_18_writes : (hostOps1_18 : List (HloOp τ sig (Elt F))).Forall fun op => op.writes ⊆ (hostOps1_18_W.map (Proc.devRef (τ := τ) .tc)).toFinset :=
  StableHlo.forall_writes_sub_of_map rfl
theorem hostOps1_18_keeps : Keeps (hostOps1_18 (F := F)) := keeps_of _ _ hostOps1_18_writes (ListAll.forall_mem_of_all_decide (by decide +kernel))
abbrev hostOps1_19_W : List (Ref sig .tc) := [main_call11_v0, main_call11_v1, main_call11_v2, main_call11_v3, main_v219]
theorem hostOps1_19_writes : (hostOps1_19 : List (HloOp τ sig (Elt F))).Forall fun op => op.writes ⊆ (hostOps1_19_W.map (Proc.devRef (τ := τ) .tc)).toFinset :=
  StableHlo.forall_writes_sub_of_map rfl
theorem hostOps1_19_keeps : Keeps (hostOps1_19 (F := F)) := keeps_of _ _ hostOps1_19_writes (ListAll.forall_mem_of_all_decide (by decide +kernel))
abbrev hostOps1_20_W : List (Ref sig .tc) := [main_v220, main_v221, main_v222, main_v223, main_cst_42, main_v224, main_cst_43]
theorem hostOps1_20_writes : (hostOps1_20 : List (HloOp τ sig (Elt F))).Forall fun op => op.writes ⊆ (hostOps1_20_W.map (Proc.devRef (τ := τ) .tc)).toFinset :=
  StableHlo.forall_writes_sub_of_map rfl
theorem hostOps1_20_keeps : Keeps (hostOps1_20 (F := F)) := keeps_of _ _ hostOps1_20_writes (ListAll.forall_mem_of_all_decide (by decide +kernel))
abbrev hostOps1_21_W : List (Ref sig .tc) := [main_call12_v0, main_call12_v1, main_call12_v2, main_call12_v3, main_v225]
theorem hostOps1_21_writes : (hostOps1_21 : List (HloOp τ sig (Elt F))).Forall fun op => op.writes ⊆ (hostOps1_21_W.map (Proc.devRef (τ := τ) .tc)).toFinset :=
  StableHlo.forall_writes_sub_of_map rfl
theorem hostOps1_21_keeps : Keeps (hostOps1_21 (F := F)) := keeps_of _ _ hostOps1_21_writes (ListAll.forall_mem_of_all_decide (by decide +kernel))
abbrev hostOps1_22_W : List (Ref sig .tc) := [main_v226, main_v227, main_v228, main_v229, main_cst_44, main_v230, main_cst_45]
theorem hostOps1_22_writes : (hostOps1_22 : List (HloOp τ sig (Elt F))).Forall fun op => op.writes ⊆ (hostOps1_22_W.map (Proc.devRef (τ := τ) .tc)).toFinset :=
  StableHlo.forall_writes_sub_of_map rfl
theorem hostOps1_22_keeps : Keeps (hostOps1_22 (F := F)) := keeps_of _ _ hostOps1_22_writes (ListAll.forall_mem_of_all_decide (by decide +kernel))
abbrev hostOps1_23_W : List (Ref sig .tc) := [main_call13_v0, main_call13_v1, main_call13_v2, main_call13_v3, main_v231]
theorem hostOps1_23_writes : (hostOps1_23 : List (HloOp τ sig (Elt F))).Forall fun op => op.writes ⊆ (hostOps1_23_W.map (Proc.devRef (τ := τ) .tc)).toFinset :=
  StableHlo.forall_writes_sub_of_map rfl
theorem hostOps1_23_keeps : Keeps (hostOps1_23 (F := F)) := keeps_of _ _ hostOps1_23_writes (ListAll.forall_mem_of_all_decide (by decide +kernel))
abbrev hostOps1_24_W : List (Ref sig .tc) := [main_v232, main_v233, main_v234, main_v235, main_v236, main_v237, main_v238, main_v239, main_v240, main_v241, main_cst_46, main_v242, main_v243, main_v244, main_v245, main_v246, main_v247, main_v248, main_cst_47, main_v249, main_v250, main_v251, main_v252, main_cst_48, main_v253, main_v254, main_v255, main_v256, main_v257, main_v258, main_v259, main_v260, main_cst_49]
theorem hostOps1_24_writes : (hostOps1_24 : List (HloOp τ sig (Elt F))).Forall fun op => op.writes ⊆ (hostOps1_24_W.map (Proc.devRef (τ := τ) .tc)).toFinset :=
  StableHlo.forall_writes_sub_of_map rfl
theorem hostOps1_24_keeps : Keeps (hostOps1_24 (F := F)) := keeps_of _ _ hostOps1_24_writes (ListAll.forall_mem_of_all_decide (by decide +kernel))
abbrev hostOps1_25_W : List (Ref sig .tc) := [main_call14_v0, main_call14_v1, main_v261]
theorem hostOps1_25_writes : (hostOps1_25 : List (HloOp τ sig (Elt F))).Forall fun op => op.writes ⊆ (hostOps1_25_W.map (Proc.devRef (τ := τ) .tc)).toFinset :=
  StableHlo.forall_writes_sub_of_map rfl
theorem hostOps1_25_keeps : Keeps (hostOps1_25 (F := F)) := keeps_of _ _ hostOps1_25_writes (ListAll.forall_mem_of_all_decide (by decide +kernel))
abbrev hostOps1_26_W : List (Ref sig .tc) := [main_v262]
theorem hostOps1_26_writes : (hostOps1_26 : List (HloOp τ sig (Elt F))).Forall fun op => op.writes ⊆ (hostOps1_26_W.map (Proc.devRef (τ := τ) .tc)).toFinset :=
  StableHlo.forall_writes_sub_of_map rfl
theorem hostOps1_26_keeps : Keeps (hostOps1_26 (F := F)) := keeps_of _ _ hostOps1_26_writes (ListAll.forall_mem_of_all_decide (by decide +kernel))
abbrev hostOps1_27_W : List (Ref sig .tc) := [main_call15_v0, main_call15_v1_0, main_v263]
theorem hostOps1_27_writes : (hostOps1_27 : List (HloOp τ sig (Elt F))).Forall fun op => op.writes ⊆ (hostOps1_27_W.map (Proc.devRef (τ := τ) .tc)).toFinset :=
  StableHlo.forall_writes_sub_of_map rfl
theorem hostOps1_27_keeps : Keeps (hostOps1_27 (F := F)) := keeps_of _ _ hostOps1_27_writes (ListAll.forall_mem_of_all_decide (by decide +kernel))
abbrev hostOps1_28_W : List (Ref sig .tc) := [main_v264, main_c_50, main_v265, main_v266, main_c_51, main_v267, main_v268, main_v269, main_v270, main_v271, main_v272, main_v273, main_v274, main_v275, main_v276, main_v277, main_v278, main_v279, main_v280, main_cst_52, main_v281, main_v282, main_v283, main_cst_53, main_v284, main_v285, main_v286, main_v287, main_c_54, main_v288, main_c_55, main_c_56, main_v289_0, main_v289_1, main_v289_2, main_v289_3, main_v289_4, main_v289_5, main_v289_6, main_v289_7, main_v289_8]
theorem hostOps1_28_writes : (hostOps1_28 : List (HloOp τ sig (Elt F))).Forall fun op => op.writes ⊆ (hostOps1_28_W.map (Proc.devRef (τ := τ) .tc)).toFinset :=
  StableHlo.forall_writes_sub_of_map rfl
theorem hostOps1_28_keeps : Keeps (hostOps1_28 (F := F)) := keeps_of _ _ hostOps1_28_writes (ListAll.forall_mem_of_all_decide (by decide +kernel))
abbrev hostOps1_29_W : List (Ref sig .tc) := [main_v290, main_c_57]
theorem hostOps1_29_writes : (hostOps1_29 : List (HloOp τ sig (Elt F))).Forall fun op => op.writes ⊆ (hostOps1_29_W.map (Proc.devRef (τ := τ) .tc)).toFinset :=
  StableHlo.forall_writes_sub_of_map rfl
theorem hostOps1_29_keeps : Keeps (hostOps1_29 (F := F)) := keeps_of _ _ hostOps1_29_writes (ListAll.forall_mem_of_all_decide (by decide +kernel))
abbrev hostOps1_30_W : List (Ref sig .tc) := [main_call17_v0, main_call17_v1, main_v291]
theorem hostOps1_30_writes : (hostOps1_30 : List (HloOp τ sig (Elt F))).Forall fun op => op.writes ⊆ (hostOps1_30_W.map (Proc.devRef (τ := τ) .tc)).toFinset :=
  StableHlo.forall_writes_sub_of_map rfl
theorem hostOps1_30_keeps : Keeps (hostOps1_30 (F := F)) := keeps_of _ _ hostOps1_30_writes (ListAll.forall_mem_of_all_decide (by decide +kernel))
abbrev hostOps1_31_W : List (Ref sig .tc) := [main_v292]
theorem hostOps1_31_writes : (hostOps1_31 : List (HloOp τ sig (Elt F))).Forall fun op => op.writes ⊆ (hostOps1_31_W.map (Proc.devRef (τ := τ) .tc)).toFinset :=
  StableHlo.forall_writes_sub_of_map rfl
theorem hostOps1_31_keeps : Keeps (hostOps1_31 (F := F)) := keeps_of _ _ hostOps1_31_writes (ListAll.forall_mem_of_all_decide (by decide +kernel))
abbrev hostOps1_32_W : List (Ref sig .tc) := [main_v293, main_c_58, main_v294, main_v295, main_v296, main_c_59, main_v297, main_v298, main_c_60, main_v299, main_v300, main_c_61, main_v301, main_v302, main_v303, main_v304, main_v305, main_v306, main_v307, main_v308, main_cst_62, main_v309, main_v310, main_v311, main_v312, main_v313]
theorem hostOps1_32_writes : (hostOps1_32 : List (HloOp τ sig (Elt F))).Forall fun op => op.writes ⊆ (hostOps1_32_W.map (Proc.devRef (τ := τ) .tc)).toFinset :=
  StableHlo.forall_writes_sub_of_map rfl
theorem hostOps1_32_keeps : Keeps (hostOps1_32 (F := F)) := keeps_of _ _ hostOps1_32_writes (ListAll.forall_mem_of_all_decide (by decide +kernel))
abbrev while0Ops0_W : List (Ref sig .tc) := [main_while0b_c_71, main_while0b_v314, main_while0b_c_72, main_while0b_v315, main_while0b_v316, main_while0b_c_73, main_while0b_v317, main_while0b_v318, main_while0b_v319, main_while0b_v320, main_while0b_v321, main_while0b_v322, main_while0b_c_74, main_while0b_v323, main_while0b_v324, main_while0b_c_75, main_while0b_v325, main_while0b_v326, main_while0b_v327, main_while0b_v328, main_while0b_v329, main_while0b_v330, main_while0b_c_76, main_while0b_v331, main_while0b_v332, main_while0b_c_77, main_while0b_v333, main_while0b_v334, main_while0b_v335, main_while0b_v336, main_while0b_v337, main_while0b_v338, main_while0b_c_78, main_while0b_v339, main_while0b_v340, main_while0b_c_79, main_while0b_v341, main_while0b_v342, main_while0b_v343, main_while0b_v344, main_while0b_v345, main_while0b_v346, main_while0b_v347, main_while0b_cst_80, main_while0b_v348, main_while0b_v349, main_while0b_cst_81, main_while0b_v350, main_while0b_v351, main_while0b_v352, main_while0b_cst_82, main_while0b_v353, main_while0b_v354, main_while0b_cst_83, main_while0b_v355, main_while0b_v356, main_while0b_v357, main_while0b_c_84, main_while0b_v358, main_while0b_v359, main_while0b_c_85, main_while0b_v360, main_while0b_v361, main_while0b_v362, main_while0b_v363, main_while0b_v364, main_while0b_v365, main_while0b_v366, main_while0b_v367, main_while0b_cst_86, main_while0b_v368, main_while0b_v369, main_while0b_v370, main_while0b_v371, main_while0b_v372, main_while0b_v373, main_while0b_v374, main_while0b_c_87, main_while0b_v375, main_while0b_v376, main_while0b_c_88, main_while0b_v377, main_while0b_v378, main_while0b_v379, main_while0b_v380]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_keeps : Keeps (while0Ops0 (F := F)) := keeps_of _ _ while0Ops0_writes (ListAll.forall_mem_of_all_decide (by decide +kernel))
abbrev while0Ops0_1_W : List (Ref sig .tc) := [main_while0b_v381]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_keeps : Keeps (while0Ops0_1 (F := F)) := keeps_of _ _ while0Ops0_1_writes (ListAll.forall_mem_of_all_decide (by decide +kernel))
abbrev while0Ops0_2_W : List (Ref sig .tc) := [main_while0b_c_89, main_while0b_v382, main_v184_6, main_v184_7, main_v184_8]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_keeps : Keeps (while0Ops0_2 (F := F)) := keeps_of _ _ while0Ops0_2_writes (ListAll.forall_mem_of_all_decide (by decide +kernel))
abbrev while1Ops0_W : List (Ref sig .tc) := [main_while1b_c_71, main_while1b_v314, main_while1b_c_72, main_while1b_v315, main_while1b_v316, main_while1b_c_73, main_while1b_v317, main_while1b_v318, main_while1b_v319, main_while1b_v320, main_while1b_v321, main_while1b_v322, main_while1b_c_74, main_while1b_v323, main_while1b_v324, main_while1b_c_75, main_while1b_v325, main_while1b_v326, main_while1b_v327, main_while1b_v328, main_while1b_v329, main_while1b_v330, main_while1b_c_76, main_while1b_v331, main_while1b_v332, main_while1b_c_77, main_while1b_v333, main_while1b_v334, main_while1b_v335, main_while1b_v336, main_while1b_v337, main_while1b_v338, main_while1b_c_78, main_while1b_v339, main_while1b_v340, main_while1b_c_79, main_while1b_v341, main_while1b_v342, main_while1b_v343, main_while1b_v344, main_while1b_v345, main_while1b_v346, main_while1b_v347, main_while1b_cst_80, main_while1b_v348, main_while1b_v349, main_while1b_cst_81, main_while1b_v350, main_while1b_v351, main_while1b_v352, main_while1b_cst_82, main_while1b_v353, main_while1b_v354, main_while1b_cst_83, main_while1b_v355, main_while1b_v356, main_while1b_v357, main_while1b_c_84, main_while1b_v358, main_while1b_v359, main_while1b_c_85, main_while1b_v360, main_while1b_v361, main_while1b_v362, main_while1b_v363, main_while1b_v364, main_while1b_v365, main_while1b_v366, main_while1b_v367, main_while1b_cst_86, main_while1b_v368, main_while1b_v369, main_while1b_v370, main_while1b_v371, main_while1b_v372, main_while1b_v373, main_while1b_v374, main_while1b_c_87, main_while1b_v375, main_while1b_v376, main_while1b_c_88, main_while1b_v377, main_while1b_v378, main_while1b_v379, main_while1b_v380]
theorem while1Ops0_writes : (while1Ops0 : List (HloOp τ sig (Elt F))).Forall fun op => op.writes ⊆ (while1Ops0_W.map (Proc.devRef (τ := τ) .tc)).toFinset :=
  StableHlo.forall_writes_sub_of_map rfl
theorem while1Ops0_keeps : Keeps (while1Ops0 (F := F)) := keeps_of _ _ while1Ops0_writes (ListAll.forall_mem_of_all_decide (by decide +kernel))
abbrev while1Ops0_1_W : List (Ref sig .tc) := [main_while1b_v381]
theorem while1Ops0_1_writes : (while1Ops0_1 : List (HloOp τ sig (Elt F))).Forall fun op => op.writes ⊆ (while1Ops0_1_W.map (Proc.devRef (τ := τ) .tc)).toFinset :=
  StableHlo.forall_writes_sub_of_map rfl
theorem while1Ops0_1_keeps : Keeps (while1Ops0_1 (F := F)) := keeps_of _ _ while1Ops0_1_writes (ListAll.forall_mem_of_all_decide (by decide +kernel))
abbrev while1Ops0_2_W : List (Ref sig .tc) := [main_while1b_c_89, main_while1b_v382, main_v289_6, main_v289_7, main_v289_8]
theorem while1Ops0_2_writes : (while1Ops0_2 : List (HloOp τ sig (Elt F))).Forall fun op => op.writes ⊆ (while1Ops0_2_W.map (Proc.devRef (τ := τ) .tc)).toFinset :=
  StableHlo.forall_writes_sub_of_map rfl
theorem while1Ops0_2_keeps : Keeps (while1Ops0_2 (F := F)) := keeps_of _ _ while1Ops0_2_writes (ListAll.forall_mem_of_all_decide (by decide +kernel))
abbrev cond0_W : List (Ref sig .tc) := [main_while0c_c_71, main_while0c_v314]
theorem cond0_writes : (cond0 : List (HloOp τ sig (Elt F))).Forall fun op => op.writes ⊆ (cond0_W.map (Proc.devRef (τ := τ) .tc)).toFinset :=
  StableHlo.forall_writes_sub_of_map rfl
theorem cond0_keeps : Keeps (cond0 (F := F)) := keeps_of _ _ cond0_writes (ListAll.forall_mem_of_all_decide (by decide +kernel))
abbrev cond1_W : List (Ref sig .tc) := [main_while1c_c_71, main_while1c_v314]
theorem cond1_writes : (cond1 : List (HloOp τ sig (Elt F))).Forall fun op => op.writes ⊆ (cond1_W.map (Proc.devRef (τ := τ) .tc)).toFinset :=
  StableHlo.forall_writes_sub_of_map rfl
theorem cond1_keeps : Keeps (cond1 (F := F)) := keeps_of _ _ cond1_writes (ListAll.forall_mem_of_all_decide (by decide +kernel))
theorem preR_keeps : KeepsL (preR (F := F)) := keepsL_cons hostOps0_keeps (keepsL_cons hostOps0_1_keeps (keepsL_cons hostOps0_2_keeps (keepsL_nil)))
theorem preI_keeps : KeepsL (preI (F := F)) := keepsL_cons hostOps1_keeps (keepsL_cons hostOps1_1_keeps (keepsL_cons hostOps1_2_keeps (keepsL_cons hostOps1_3_keeps (keepsL_cons hostOps1_4_keeps (keepsL_cons hostOps1_5_keeps (keepsL_cons hostOps1_6_keeps (keepsL_cons hostOps1_7_keeps (keepsL_cons hostOps1_8_keeps (keepsL_cons hostOps1_9_keeps (keepsL_cons hostOps1_10_keeps (keepsL_cons hostOps1_11_keeps (keepsL_cons hostOps1_12_keeps (keepsL_nil)))))))))))))
theorem midI_keeps : KeepsL (midI (F := F)) := keepsL_cons hostOps1_13_keeps (keepsL_cons hostOps1_14_keeps (keepsL_cons hostOps1_15_keeps (keepsL_cons hostOps1_16_keeps (keepsL_cons hostOps1_17_keeps (keepsL_cons hostOps1_18_keeps (keepsL_cons hostOps1_19_keeps (keepsL_cons hostOps1_20_keeps (keepsL_cons hostOps1_21_keeps (keepsL_cons hostOps1_22_keeps (keepsL_cons hostOps1_23_keeps (keepsL_cons hostOps1_24_keeps (keepsL_cons hostOps1_25_keeps (keepsL_cons hostOps1_26_keeps (keepsL_cons hostOps1_27_keeps (keepsL_cons hostOps1_28_keeps (keepsL_nil))))))))))))))))
theorem postI_keeps : KeepsL (postI (F := F)) := keepsL_cons hostOps1_29_keeps (keepsL_cons hostOps1_30_keeps (keepsL_cons hostOps1_31_keeps (keepsL_cons hostOps1_32_keeps (keepsL_nil))))
theorem body0_keeps : KeepsL (body0 (F := F)) := keepsL_cons while0Ops0_keeps (keepsL_cons while0Ops0_1_keeps (keepsL_cons while0Ops0_2_keeps (keepsL_nil)))
theorem body1_keeps : KeepsL (body1 (F := F)) := keepsL_cons while1Ops0_keeps (keepsL_cons while1Ops0_1_keeps (keepsL_cons while1Ops0_2_keeps (keepsL_nil)))

variable (m : (ℓ : Loc nD τ sig) → Buf (Elt F) ℓ) (ρ : Dev nD → PrngReg)

/-- Each loop runs 6000 trips. -/
abbrev nT : ℕ := 6000
/-- The contents at launch. -/
abbrev W0 (c : Dev nD) : Valuation τ sig (Elt F) := fun b => m (c, b)
/-- Every buffer when the kernel is called. -/
abbrev W3 (c : Dev nD) : Valuation τ sig (Elt F) := afterL preR (W0 m c)
/-- The same at the references of the core. -/
abbrev V3 : (c : Dev nD) → (b : Ref sig .tc) → Buf (Elt F) ((c : Thread nD τ).loc b) := fun c b => W3 m c b
/-- After the kernel call: its arrays at what the grid leaves, every other buffer as before. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- A reference that is no output array of the call is as before it. -/
theorem W4_of (c : Dev nD) (r : Ref sig .tc) (h : ∀ w : Fin cfg0.W, Pipeline.arrRef spec0 w = r → (cfg0.win w).isOut = false) :
    W4 m c (Proc.devRef .tc r) = W3 m c (Proc.devRef .tc r) := by
  by_cases hw : ∃ w : Fin cfg0.W, Pipeline.arrRef spec0 w = r
  · obtain ⟨w, rfl⟩ := hw
    exact (W4_arr m c w).trans (((dat0 (V3 m) c).arrAt_in w (h w rfl) _).trans (A_eq0 (V3 m) c w))
  · exact W4_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- Every buffer when the first loop is entered. -/
abbrev E0 (c : Dev nD) : Valuation τ sig (Elt F) := afterL preI (W4 m c)
/-- After the first loop. -/
abbrev X0 (c : Dev nD) : Valuation τ sig (Elt F) := after cond0 (atTrip cond0 body0 (E0 m) nT c)
/-- When the second loop is entered. -/
abbrev E1 (c : Dev nD) : Valuation τ sig (Elt F) := afterL midI (X0 m c)
/-- After the second loop. -/
abbrev X1 (c : Dev nD) : Valuation τ sig (Elt F) := after cond1 (atTrip cond1 body1 (E1 m) nT c)
/-- At the end. -/
abbrev WN (c : Dev nD) : Valuation τ sig (Elt F) := afterL postI (X1 m c)
/-- Every argument is at the end what it was at launch. -/
theorem WN_args (c : Dev nD) (a : Ref sig .tc) (ha : a ∈ argRefs) : WN m c (Proc.devRef .tc a) = m ((c : Thread nD τ).loc a) :=
  (postI_keeps _ a ha).trans <| (cond1_keeps _ a ha).trans <| (keeps_atTrip cond1_keeps body1_keeps (E1 m) c nT a ha).trans <|
  (midI_keeps _ a ha).trans <| (cond0_keeps _ a ha).trans <| (keeps_atTrip cond0_keeps body0_keeps (E0 m) c nT a ha).trans <|
  (preI_keeps _ a ha).trans <| (W4_of m c a (argsIn0 a ha)).trans (preR_keeps _ a ha)

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V3 m) c
abbrev tk (_ : Fin 1) : Pipeline.Ticket (Ix := Unit) (Name := ℕ) (U := UR sig nD τ) (Lvl := ℕ) (nD := nD) (τ := τ) (pcfgs (F := F)) adm :=
  ⟨0, pdats m, emb₁⟩
/-- What rides beside the buffers: the generator register, and nothing owed. -/
abbrev R (c : Dev nD) : sProp 𝕄 := iprop((∃ r, prngReg c r) ∗ ∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ ucRefs τ sig :=
  Finset.mem_filter.mpr ⟨devRef_mem_tcRefs b, h⟩

/-! ## The counter and the condition of loop 0 -/

set_option maxRecDepth 100000 in
theorem ctr0_step (X : Valuation τ sig (Elt F)) :
    after while0Ops0_2 X (Proc.devRef .tc main_v184_6) = addi (X (Proc.devRef .tc main_v184_6)) (constantI S_ 32 1#32) := by
  after_results
  rfl

set_option maxRecDepth 100000 in
set_option maxHeartbeats 4000000 in
theorem ctr0_last (X : Valuation τ sig (Elt F)) :
    after hostOps1_12 X (Proc.devRef .tc main_v184_6) = fun _ => (0#32 : BitVec 32) := by
  after_results
  rfl

theorem ctr0_entry (c : Dev nD) : E0 m c (Proc.devRef .tc main_v184_6) = fun _ => (0#32 : BitVec 32) := by
  simp only [E0, afterL_cons, afterL_nil]
  exact ctr0_last _

/-- Before the `k`-th test the counter is `k`. -/
theorem ctr0_at (c : Dev nD) : ∀ k, atTrip cond0 body0 (E0 m) k c (Proc.devRef .tc main_v184_6) = fun _ => Scf.iv 0#32 1#32 k
  | 0 => by rw [atTrip_zero, ctr0_entry, Scf.iv_zero]
  | k + 1 => by
    rw [atTrip_succ]
    simp only [afterL_cons, afterL_nil]
    rw [ctr0_step, after_of_writes_sub while0Ops0_1 _ while0Ops0_1_writes (by decide +kernel), after_of_writes_sub while0Ops0 _ while0Ops0_writes (by decide +kernel),
      after_of_writes_sub cond0 _ cond0_writes (by decide +kernel), ctr0_at c k, Scf.iv_succ]
    rfl

set_option backward.isDefEq.respectTransparency.types false in
/-- The condition of loop 0 holds exactly before trip 6000. -/
theorem cond0_spec : LoopCond (pcfgs (F := F)) defs₀ 𝒱₀ loops R (main_while0_cond (F := F)) cond0 body0 (E0 m) nT := by
  intro k hk c bd
  have hctr := ctr0_at m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 (E0 m) k c) main_v184_6 HostLoop.idx0)
        (HloOp.result _ (atTrip cond0 body0 (E0 m) k c) main_while0c_c_71 HostLoop.idx0) = 1#1) (k < nT)
    rw [nullary_result_ne _ _ _ _ (by decide), nullary_result, hctr]
    exact Scf.cmpi_slt_iv_ub_iff (lb := 0#32) (ub := 6000#32) (st := 1#32) (by decide) (show k ≤ Scf.trips 0#32 6000#32 1#32 from hk)
  isplitl [Hb]; · iexact Hb
  isplitl [Hh]; · rw [after_cons, after_cons, after_nil]; iexact Hh
  iexact HR

/-! ## The counter and the condition of loop 1 -/

set_option maxRecDepth 100000 in
theorem ctr1_step (X : Valuation τ sig (Elt F)) :
    after while1Ops0_2 X (Proc.devRef .tc main_v289_6) = addi (X (Proc.devRef .tc main_v289_6)) (constantI S_ 32 1#32) := by
  after_results
  rfl

set_option maxRecDepth 100000 in
set_option maxHeartbeats 4000000 in
theorem ctr1_last (X : Valuation τ sig (Elt F)) :
    after hostOps1_28 X (Proc.devRef .tc main_v289_6) = fun _ => (0#32 : BitVec 32) := by
  after_results
  rfl

theorem ctr1_entry (c : Dev nD) : E1 m c (Proc.devRef .tc main_v289_6) = fun _ => (0#32 : BitVec 32) := by
  simp only [E1, afterL_cons, afterL_nil]
  exact ctr1_last _

/-- Before the `k`-th test the counter is `k`. -/
theorem ctr1_at (c : Dev nD) : ∀ k, atTrip cond1 body1 (E1 m) k c (Proc.devRef .tc main_v289_6) = fun _ => Scf.iv 0#32 1#32 k
  | 0 => by rw [atTrip_zero, ctr1_entry, Scf.iv_zero]
  | k + 1 => by
    rw [atTrip_succ]
    simp only [afterL_cons, afterL_nil]
    rw [ctr1_step, after_of_writes_sub while1Ops0_1 _ while1Ops0_1_writes (by decide +kernel), after_of_writes_sub while1Ops0 _ while1Ops0_writes (by decide +kernel),
      after_of_writes_sub cond1 _ cond1_writes (by decide +kernel), ctr1_at c k, Scf.iv_succ]
    rfl

set_option backward.isDefEq.respectTransparency.types false in
/-- The condition of loop 1 holds exactly before trip 6000. -/
theorem cond1_spec : LoopCond (pcfgs (F := F)) defs₀ 𝒱₀ loops R (main_while1_cond (F := F)) cond1 body1 (E1 m) nT := by
  intro k hk c bd
  have hctr := ctr1_at m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 (E1 m) k c) main_v289_6 HostLoop.idx0)
        (HloOp.result _ (atTrip cond1 body1 (E1 m) k c) main_while1c_c_71 HostLoop.idx0) = 1#1) (k < nT)
    rw [nullary_result_ne _ _ _ _ (by decide), nullary_result, hctr]
    exact Scf.cmpi_slt_iv_ub_iff (lb := 0#32) (ub := 6000#32) (st := 1#32) (by decide) (show k ≤ Scf.trips 0#32 6000#32 1#32 from hk)
  isplitl [Hb]; · iexact Hb
  isplitl [Hh]; · rw [after_cons, after_cons, after_nil]; iexact Hh
  iexact HR

set_option backward.isDefEq.respectTransparency.types false in
/-- The kernel call over the buffers: entered at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) (A_eq0 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev cseg0 : Pipeline.CSeg (pcfgs (F := F)) adm defs₀ 𝒱₀ L lv loops (tk m) :=
  Pipeline.CSeg.region _ _ () cellOf_inj _ _ _ _ _ _ (0 : Fin 1) (reg0 m)
/-- Loop 0 as one segment. -/
abbrev loop0 : Pipeline.CSeg (pcfgs (F := F)) adm defs₀ 𝒱₀ L lv loops (tk m) :=
  StableHlo.loopSeg _ _ _ _ _ _ _ _ 0 (main_while0_cond (F := F)) (main_while0_body (F := F)) rfl cond0 body0 plain_body0
    (by rw [while0_body_chain]; rfl) nT (E0 m) R (cond0_spec m)
/-- Loop 1 as one segment. -/
abbrev loop1 : Pipeline.CSeg (pcfgs (F := F)) adm defs₀ 𝒱₀ L lv loops (tk m) :=
  StableHlo.loopSeg _ _ _ _ _ _ _ _ 1 (main_while1_cond (F := F)) (main_while1_body (F := F)) rfl cond1 body1 plain_body1
    (by rw [while1_body_chain]; rfl) nT (E1 m) R (cond1_spec m)

/-- A list of stretches as segments from the contents `V`. -/
abbrev sg (items : List (List (HloOp τ sig (Elt F)))) (h : Plain items) (V : Dev nD → Valuation τ sig (Elt F)) : List (Pipeline.CSeg (pcfgs (F := F)) adm defs₀ 𝒱₀ L lv loops (tk m)) :=
  segsOf _ _ _ _ _ _ _ _ R items h V
/-- The segments around the loops. -/
abbrev segsB : List (Pipeline.CSeg (pcfgs (F := F)) adm defs₀ 𝒱₀ L lv loops (tk m)) :=
  sg m preI plain_preI (W4 m) ++ loop0 m :: (sg m midI plain_midI (X0 m) ++ loop1 m :: sg m postI plain_postI (X1 m))
/-- All segments. -/
abbrev segs : List (Pipeline.CSeg (pcfgs (F := F)) adm defs₀ 𝒱₀ L lv loops (tk m)) := sg m preR plain_preR (W0 m) ++ cseg0 m :: segsB m

theorem segsB_T : ∀ s ∈ segsB m, s.T = ∅ := by
  intro s hs
  rcases List.mem_append.mp hs with hs | hs
  · exact (segsOf_M_T _ _ _ _ _ _ _ _ _ _ _ _ s hs).2
  rcases List.mem_cons.mp hs with rfl | hs
  · exact loopSeg_T _ _ _ _ _ _ _ _ _
  rcases List.mem_append.mp hs with hs | hs
  · exact (segsOf_M_T _ _ _ _ _ _ _ _ _ _ _ _ s hs).2
  rcases List.mem_cons.mp hs with rfl | hs
  · exact loopSeg_T _ _ _ _ _ _ _ _ _
  · exact (segsOf_M_T _ _ _ _ _ _ _ _ _ _ _ _ s hs).2
theorem segs_disjoint : (segs m).Pairwise fun s s' => Disjoint s.T s'.T :=
  List.pairwise_append.mpr ⟨Pipeline.CSeg.pairwise_disjoint_of_T_empty _ fun s hs => (segsOf_M_T _ _ _ _ _ _ _ _ _ _ _ _ s hs).2,
    List.pairwise_cons.mpr ⟨fun s hs => by rw [segsB_T m s hs]; exact Finset.disjoint_empty_right _,
      Pipeline.CSeg.pairwise_disjoint_of_T_empty _ (segsB_T m)⟩,
    fun s hs s' _ => by rw [(segsOf_M_T _ _ _ _ _ _ _ _ _ _ _ _ s hs).2]; exact Finset.disjoint_empty_left _⟩

set_option maxRecDepth 100000 in
theorem main_run (c : Dev nD) : main (F := F) c = Pipeline.CSeg.runL (segs m) := (main_chain c).trans (by chain_rfl)

/-- The buffers at `V` and what rides beside them. -/
abbrev St (V : Dev nD → Valuation τ sig (Elt F)) (c : Dev nD) : sProp 𝕄 := iprop(held (c : Thread nD τ) (ucRefs τ sig) (V c) ∗ R c)
theorem chainsB : Pipeline.CSeg.Chains (St (W4 m)) (segsB m) (St (WN m)) :=
  Pipeline.CSeg.Chains.append (segsOf_chains _ _ _ _ _ _ _ _ R preI plain_preI _) ⟨fun _ => .rfl,
    Pipeline.CSeg.Chains.append (segsOf_chains _ _ _ _ _ _ _ _ R midI plain_midI _) ⟨fun _ => .rfl,
      segsOf_chains _ _ _ _ _ _ _ _ R postI plain_postI _⟩⟩
theorem chains : Pipeline.CSeg.Chains (St (W0 m)) (segs m) (St (WN m)) :=
  Pipeline.CSeg.Chains.append (segsOf_chains _ _ _ _ _ _ _ _ R preR plain_preR _) ⟨fun _ => .rfl, chainsB m⟩

theorem no_unscoped : ∀ sm : SemLoc sig, sm.isScoped .tc = true := by decide

set_option backward.isDefEq.respectTransparency.types false in
/-- The run terminates with every buffer at `WN` and every counter at zero. -/
theorem run_main : θ_run defs (onTc (τ := τ) (main (F := F))) ⟨m, fun _ => 0, ρ⟩
    (fun r => (∀ (c : Dev nD), ∀ b ∈ ucRefs τ sig, r.2.mem (((c : Thread nD τ)).1, b) = WN m c b) ∧ r.2.sem = fun _ => 0) :=
  Pipeline.θ_run_regions_loop_kit_sems (Ix := Unit) (Name := ℕ) (U := UR sig nD τ) (Lvl := ℕ) (pcfgs (F := F)) adm cellOf_inj defs₀ 𝒱₀ L lv loops (tk m) m ρ main (segs m)
    (fun c Q => by rw [main_run m c]) (segs_disjoint m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · rw [Finset.univ_unique, BI.bigSep_singleton]
        iapply (show (ownU (initOf (Pipeline.cells cfgs cellOf_inj) (Pipeline.launchToks cfgs cellOf_inj)) : sProp 𝕄) ⊢ BI.own ((tk m default).EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m)) (Tₙ := fun c => iprop(held (c : Thread nD τ) (ucRefs τ sig) (WN m c) ∗ ∃ r, prngReg c r))
    (hch := Pipeline.CSeg.Chains.mono_right (fun c => by
      iintro ⟨Hh, Hp, HO⟩
      isplitl [Hh Hp]
      · isplitl [Hh]; · iexact Hh
        iexact Hp
      iexact HO) _ _ (chains m))
    (hinit := by
      refine Pipeline.initEach L lv fun c => ?_
      rw [show unscopedBufs c (fun b => m ((c : Thread nD τ).loc b)) = held (c : Thread nD τ) (ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = WN m c b)
    (hfin := fun c s' => by
      iintro ⟨⟨Hh, -⟩, HSI⟩
      unfold held
      imodintro
      iapply (pointsTo_read_all (ucRefs τ sig) (fun b => (((c : Thread nD τ)).1, b)) (WN m c) s')
      isplitl [Hh] <;> iassumption)
    (hQ := fun _ h hz => ⟨h, funext fun g => hz g (.inr (no_unscoped g.2))⟩)

/-- A final state of the run holds each argument as launched. -/
theorem args_kept (m' : (ℓ : Loc nD τ sig) → Buf (Elt F) ℓ) (c : Dev nD) (h : ∀ b ∈ ucRefs τ sig, m' (((c : Thread nD τ)).1, b) = WN m c b) :
    m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8) :=
  ⟨(h _ (mem_uc main_arg0 (by decide))).trans (WN_args m c main_arg0 (by decide)),
   (h _ (mem_uc main_arg1 (by decide))).trans (WN_args m c main_arg1 (by decide)),
   (h _ (mem_uc main_arg2 (by decide))).trans (WN_args m c main_arg2 (by decide)),
   (h _ (mem_uc main_arg3 (by decide))).trans (WN_args m c main_arg3 (by decide)),
   (h _ (mem_uc main_arg4 (by decide))).trans (WN_args m c main_arg4 (by decide)),
   (h _ (mem_uc main_arg5 (by decide))).trans (WN_args m c main_arg5 (by decide)),
   (h _ (mem_uc main_arg6 (by decide))).trans (WN_args m c main_arg6 (by decide)),
   (h _ (mem_uc main_arg7 (by decide))).trans (WN_args m c main_arg7 (by decide)),
   (h _ (mem_uc main_arg8 (by decide))).trans (WN_args m c main_arg8 (by decide))⟩

/-- The frame: the run terminates, the arguments and the counters are as launched. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  (θ_run defs _ _).mono (fun r h => ⟨fun c => args_kept m _ c (h.1 c), h.2⟩) (run_main m ρ)

end Cert.KernelIdeal.Gen

end
-- ==== Proof.HeadDefs.lean ====
module

public import Idealize.ShloMosaic.Lib.Pointwise

/-! The network head in ordinary mathematics: a 3×3 convolution over a padded image, a dot product with a bias, and the
    softmax over two classes, as functions on the extended reals. Neither program is mentioned here. -/

@[expose] public section
noncomputable section
namespace Cert.Head
open Idealize.ShloMosaic

/-- The 3×3 convolution at row `y` and column `x` of the unpadded image: nine dot products over the channels, and the
    bias. `P` is the padded image, `w` one output channel's weights. -/
def conv9 (P : Fin 66 → Fin 66 → Fin 128 → EReal) (w : Fin 3 → Fin 3 → Fin 128 → EReal) (b : EReal) (y x : Fin 64) : EReal :=
  (∑ c, w 0 0 c * P ⟨y, by omega⟩ ⟨x, by omega⟩ c) + (∑ c, w 0 1 c * P ⟨y, by omega⟩ ⟨1 + x, by omega⟩ c)
    + (∑ c, w 0 2 c * P ⟨y, by omega⟩ ⟨2 + x, by omega⟩ c)
    + (∑ c, w 1 0 c * P ⟨1 + y, by omega⟩ ⟨x, by omega⟩ c) + (∑ c, w 1 1 c * P ⟨1 + y, by omega⟩ ⟨1 + x, by omega⟩ c)
    + (∑ c, w 1 2 c * P ⟨1 + y, by omega⟩ ⟨2 + x, by omega⟩ c)
    + (∑ c, w 2 0 c * P ⟨2 + y, by omega⟩ ⟨x, by omega⟩ c) + (∑ c, w 2 1 c * P ⟨2 + y, by omega⟩ ⟨1 + x, by omega⟩ c)
    + (∑ c, w 2 2 c * P ⟨2 + y, by omega⟩ ⟨2 + x, by omega⟩ c) + b

/-- The same convolution with each product the other way round. -/
theorem conv9_comm (P : Fin 66 → Fin 66 → Fin 128 → EReal) (w : Fin 3 → Fin 3 → Fin 128 → EReal) (b : EReal) (y x : Fin 64) :
    (∑ c, P ⟨y, by omega⟩ ⟨x, by omega⟩ c * w 0 0 c) + (∑ c, P ⟨y, by omega⟩ ⟨1 + x, by omega⟩ c * w 0 1 c)
    + (∑ c, P ⟨y, by omega⟩ ⟨2 + x, by omega⟩ c * w 0 2 c)
    + (∑ c, P ⟨1 + y, by omega⟩ ⟨x, by omega⟩ c * w 1 0 c) + (∑ c, P ⟨1 + y, by omega⟩ ⟨1 + x, by omega⟩ c * w 1 1 c)
    + (∑ c, P ⟨1 + y, by omega⟩ ⟨2 + x, by omega⟩ c * w 1 2 c)
    + (∑ c, P ⟨2 + y, by omega⟩ ⟨x, by omega⟩ c * w 2 0 c) + (∑ c, P ⟨2 + y, by omega⟩ ⟨1 + x, by omega⟩ c * w 2 1 c)
    + (∑ c, P ⟨2 + y, by omega⟩ ⟨2 + x, by omega⟩ c * w 2 2 c) + b = conv9 P w b y x := by
  unfold conv9
  simp only [mul_comm]

theorem conv9_congr {P P' : Fin 66 → Fin 66 → Fin 128 → EReal} {w w' : Fin 3 → Fin 3 → Fin 128 → EReal} {b b' : EReal} (y x : Fin 64)
    (hP : ∀ y x c, P y x c = P' y x c) (hw : ∀ i l c, w i l c = w' i l c) (hb : b = b') : conv9 P w b y x = conv9 P' w' b' y x := by
  obtain rfl : P = P' := funext fun y => funext fun x => funext fun c => hP y x c
  obtain rfl : w = w' := funext fun i => funext fun l => funext fun c => hw i l c
  rw [hb]

/-- A dot product with a bias. -/
def lin (w h : Fin 128 → EReal) (b : EReal) : EReal := (∑ k, w k * h k) + b

theorem lin_comm (w h : Fin 128 → EReal) (b : EReal) : (∑ k, h k * w k) + b = lin w h b := by
  unfold lin
  simp only [mul_comm]

/-- The image with a border of `z` one pixel wide. -/
def padAt (X : Fin 128 → Fin 64 → Fin 64 → EReal) (z : EReal) (y x : Fin 66) (c : Fin 128) : EReal :=
  if h : (1 ≤ (y : Nat) ∧ (y : Nat) - 1 < 64) ∧ 1 ≤ (x : Nat) ∧ (x : Nat) - 1 < 64 then
    X c ⟨(y : Nat) - 1, h.1.2⟩ ⟨(x : Nat) - 1, h.2.2⟩ else z

/-- The probability of class 1 of two. -/
def sm (s : Fin 2 → EReal) : EReal :=
  Ideal.div (Ideal.exp (s 1 - max (Ideal.ofBits .f32 4286578688#32)
      (Finset.fold max (Ideal.ofBits .f32 4286578688#32) (fun x => s x) Finset.univ)))
    (∑ x, Ideal.exp (s x - max (Ideal.ofBits .f32 4286578688#32)
      (Finset.fold max (Ideal.ofBits .f32 4286578688#32) (fun x => s x) Finset.univ)))

/-- The rectifier. -/
def relu (r : EReal) : EReal := max r 0

/-- The hidden layer: convolution over the padded image, then the rectifier. -/
def hid (X : Fin 128 → Fin 64 → Fin 64 → EReal) (z : EReal) (w : Fin 128 → Fin 3 → Fin 3 → Fin 128 → EReal)
    (b : Fin 128 → EReal) (y x : Fin 64) (k : Fin 128) : EReal :=
  relu (conv9 (padAt X z) (w k) (b k) y x)

theorem hid_congr {X X' : Fin 128 → Fin 64 → Fin 64 → EReal} (z : EReal) {w w' : Fin 128 → Fin 3 → Fin 3 → Fin 128 → EReal}
    {b b' : Fin 128 → EReal} (y x : Fin 64) (hX : ∀ c y x, X c y x = X' c y x) (hw : ∀ k i l c, w k i l c = w' k i l c)
    (hb : ∀ k, b k = b' k) : hid X z w b y x = hid X' z w' b' y x := by
  obtain rfl : X = X' := funext fun c => funext fun y => funext fun x => hX c y x
  obtain rfl : w = w' := funext fun k => funext fun i => funext fun l => funext fun c => hw k i l c
  obtain rfl : b = b' := funext hb
  rfl

theorem lin_congr {w w' h h' : Fin 128 → EReal} {b b' : EReal} (hw : ∀ k, w k = w' k) (hh : h = h') (hb : b = b') :
    lin w h b = lin w' h' b' := by
  obtain rfl : w = w' := funext hw
  rw [hh, hb]

end Cert.Head
end
-- ==== Proof.HeadK.lean ====
module

public import proofs.«01_k».proof.Proof.IdealRun
public import proofs.«01_k».proof.Proof.HeadDefs
public import Idealize.ShloMosaic.Lib.StableHlo.ReadAt
public import Idealize.ShloMosaic.Lib.Pointwise
public import Idealize.ShloMosaic.Lib.Pipeline.Value
public import Idealize.ShloMosaic.Lib.Pipeline.ValueKit

@[expose] public section
set_option maxRecDepth 16384
noncomputable section
namespace Cert.KernelIdeal.Gen
open Idealize.ShloMosaic Idealize.ShloMosaic.TcCoe Idealize.ShloMosaic.StableHlo
open Cert.Head

/-- What one grid point stores, at an element. -/
theorem out_eq (x0 : Vec Ideal S1x66x66x128 .f32) (x1 : Vec Ideal S3x3x128x128 .f32) (x2 : Vec Ideal S1x128 .f32)
    (x3 : Vec Ideal S128x128 .f32) (x4 : Vec Ideal S1x128 .f32) (p : Fin 4096) (j : Fin 128) :
    out0_5 x0 x1 x2 x3 x4 (ix3 0 p j)
      = lin (fun k => x3 (ix2 k j)) (fun k => max (conv9 (fun y x c => x0 (ix4 0 y x c)) (fun i l c => x1 (ix4 i l c k))
          (x2 (ix2 0 k)) ⟨(p : Nat) / 64, by omega⟩ ⟨(p : Nat) % 64, by omega⟩) 0) (x4 (ix2 0 j)) := by
  unfold out0_5
  rw [View.canon_unit_zero (by funext a; fin_cases a <;> rfl)]
  simp only [r0_0, r0_1, r0_2, r0_3, r0_4, r0_5, r0_6, r0_7, r0_8, r0_9, r0_10, r0_11, r0_12, r0_13, r0_14, r0_15, r0_16, r0_17, r0_18, r0_19, View.ld_unit]
  pointwise [k0_pay1, k0_pay2, k0_pay3, k0_pay4]
  refine Eq.trans ?_ (lin_comm _ _ _)
  simp only [← conv9_comm]
  first | done | rfl

theorem e5 : ∀ t : Fin cfg0.N, win0_5.index t = ![t.val, 0, 0] := by decide +kernel
theorem e0 : ∀ t : Fin cfg0.N, win0_0.index t = ![t.val, 0, 0, 0] := by decide +kernel
theorem e1 : ∀ t : Fin cfg0.N, win0_1.index t = ![0, 0, 0, 0] := by decide +kernel
theorem e2 : ∀ t : Fin cfg0.N, win0_2.index t = ![0, 0] := by decide +kernel
theorem e3 : ∀ t : Fin cfg0.N, win0_3.index t = ![0, 0] := by decide +kernel
theorem e4 : ∀ t : Fin cfg0.N, win0_4.index t = ![0, 0] := by decide +kernel

section Blocks
variable (V : (c : Dev nD) → (b : Ref sig .tc) → Buf (Elt Ideal) ((c.tc : Thread nD τ).loc b)) (c : Dev nD) (t : Fin cfg0.N)

theorem rd0 (b : Fin 2) (ht : t.val = b.val) (y x : Fin 66) (ch : Fin 128) :
    iblk0 V c 0 t (ix4 (0 : Fin 1) y x ch) = V c main_v1 (ix4 b y x ch) := by
  refine congrArg (V c main_v1) (a₁ := ((cfg0.win 0).blk t).view.emb (ix4 (0 : Fin 1) y x ch)) ?_
  blk_ext [e0]
theorem rd1 (i l : Fin 3) (ch k : Fin 128) : iblk0 V c 1 t (ix4 i l ch k) = V c main_v2 (ix4 i l ch k) := by
  refine congrArg (V c main_v2) (a₁ := ((cfg0.win 1).blk t).view.emb (ix4 i l ch k)) ?_
  blk_ext [e1]
theorem rd2 (k : Fin 128) : iblk0 V c 2 t (ix2 (0 : Fin 1) k) = V c main_v12 (ix2 0 k) := by
  refine congrArg (V c main_v12) (a₁ := ((cfg0.win 2).blk t).view.emb (ix2 (0 : Fin 1) k)) ?_
  blk_ext [e2]
theorem rd3 (k j : Fin 128) : iblk0 V c 3 t (ix2 k j) = V c main_v8 (ix2 k j) := by
  refine congrArg (V c main_v8) (a₁ := ((cfg0.win 3).blk t).view.emb (ix2 k j)) ?_
  blk_ext [e3]
theorem rd4 (j : Fin 128) : iblk0 V c 4 t (ix2 (0 : Fin 1) j) = V c main_v11 (ix2 0 j) := by
  refine congrArg (V c main_v11) (a₁ := ((cfg0.win 4).blk t).view.emb (ix2 (0 : Fin 1) j)) ?_
  blk_ext [e4]
end Blocks

/-- The result array of the call, at an element, from the call's operands as the call finds them. -/
theorem call_eq (V : (c : Dev nD) → (b : Ref sig .tc) → Buf (Elt Ideal) ((c.tc : Thread nD τ).loc b)) (c : Dev nD) (b : Fin 2) (p : Fin 4096) (j : Fin 128) :
    (dat0 V c).arrAt 5 cfg0.N (ix3 b p j)
      = lin (fun k => V c main_v8 (ix2 k j)) (fun k => max (conv9 (fun y x ch => V c main_v1 (ix4 b y x ch))
          (fun i l ch => V c main_v2 (ix4 i l ch k)) (V c main_v12 (ix2 0 k)) ⟨(p : Nat) / 64, by omega⟩ ⟨(p : Nat) % 64, by omega⟩) 0)
          (V c main_v11 (ix2 0 j)) := by
  have hd := Pipeline.Window.hdisj_of_index_inj (cfg0.win 5) (by decide +kernel)
  obtain ⟨t, ht⟩ : ∃ t : Fin cfg0.N, t.val = b.val := ⟨⟨b.val, by have : cfg0.N = 2 := by decide +kernel
                                                                  have := b.isLt
                                                                  omega⟩, rfl⟩
  have h := (dat0 V c).arrAt_emb_eq_flushed 5 hd t (flush0_5 _) (ix3 (0 : Fin 1) p j)
  have he : (ix3 b p j : S2x4096x128.Idx) = ((cfg0.win 5).blk t).view.emb (ix3 (0 : Fin 1) p j) := by
    blk_ext [e5]
  refine (congrArg ((dat0 V c).arrAt 5 cfg0.N) he).trans (h.trans ?_)
  blk_simp
  rw [after0_5]
  refine (out_eq _ _ _ _ _ _ _).trans ?_
  simp only [rd0 V c t b ht, rd1, rd2, rd3, rd4]

section Host
variable (V : Valuation τ sig (Elt Ideal))

theorem pad_eq (b : Fin 2) (y x : Fin 66) (c : Fin 128) :
    after (hostOps0_1 (F := Ideal)) V (Proc.devRef .tc main_v1) (ix4 b y x c)
      = padAt (fun ch y x => V (Proc.devRef .tc main_v0) (ix4 b y x ch))
          (FloatOps.sitofp (F := Ideal) .f32 (V (Proc.devRef .tc main_c) (Shape.Idx.first h_S_) : BitVec 32)) y x c := by
  after_reads_at
  rfl
theorem w1_eq (i l : Fin 3) (c k : Fin 128) :
    after (hostOps0_2 (F := Ideal)) V (Proc.devRef .tc main_v2) (ix4 i l c k) = V (Proc.devRef .tc main_arg3) (ix4 k c i l) := by
  after_reads_at
theorem b1_eq (k : Fin 128) :
    after (hostOps0_2 (F := Ideal)) V (Proc.devRef .tc main_v12) (ix2 0 k) = V (Proc.devRef .tc main_arg4) (ix1 k) := by
  after_reads_at
theorem wc_lo (k : Fin 128) (j : Fin 18) :
    after (hostOps0_2 (F := Ideal)) V (Proc.devRef .tc main_v8) (ix2 k ⟨j, by omega⟩) = V (Proc.devRef .tc main_arg5) (ix4 j k 0 0) := by
  after_reads_at
  first | rfl | after_reads_at
theorem wc_hi (k : Fin 128) (j : Fin 36) :
    after (hostOps0_2 (F := Ideal)) V (Proc.devRef .tc main_v8) (ix2 k ⟨18 + j, by omega⟩) = V (Proc.devRef .tc main_arg7) (ix4 j k 0 0) := by
  after_reads_at
  first | rfl | after_reads_at
theorem bc_lo (j : Fin 18) :
    after (hostOps0_2 (F := Ideal)) V (Proc.devRef .tc main_v11) (ix2 0 ⟨j, by omega⟩) = V (Proc.devRef .tc main_arg6) (ix1 j) := by
  after_reads_at
  first | rfl | after_reads_at
theorem bc_hi (j : Fin 36) :
    after (hostOps0_2 (F := Ideal)) V (Proc.devRef .tc main_v11) (ix2 0 ⟨18 + j, by omega⟩) = V (Proc.devRef .tc main_arg8) (ix1 j) := by
  after_reads_at
  first | rfl | after_reads_at
theorem v0_eq (b : Fin 2) (y x : Fin 64) (c : Fin 128) :
    after (hostOps0 (F := Ideal)) V (Proc.devRef .tc main_v0) (ix4 b y x c) = V (Proc.devRef .tc main_arg0) (ix4 b c y x) := by
  after_reads_at
theorem c_eq (i) : (after (hostOps0 (F := Ideal)) V (Proc.devRef .tc main_c) i : BitVec 32) = 0#32 := by
  after_reads_at
theorem c_keep : after (hostOps0 (F := Ideal)) V (Proc.devRef .tc main_c) = fun _ => (0#32 : BitVec 32) := funext fun _ => c_eq V _
end Host

section Tail
variable (V : Valuation τ sig (Elt Ideal))

theorem fg_eq (b : Fin 2) (n : Fin 36864) :
    after ((hostOps1 (F := Ideal)).take 21) V (Proc.devRef .tc main_v29) (ix2 b n)
      = sm (fun x => V (Proc.devRef .tc main_v13) (ix3 b (⟨(n : Nat) / 9, by omega⟩ : Fin 4096) (⟨(x : Nat) * 9 + (n : Nat) % 9, by omega⟩ : Fin 128))) := by
  after_reads_at
  rfl
theorem dl_eq (b : Fin 2) (n : Fin 36864) (j : Fin 4) :
    after ((hostOps1 (F := Ideal)).take 21) V (Proc.devRef .tc main_v31) (ix3 b n j)
      = V (Proc.devRef .tc main_v13) (ix3 b (⟨(n : Nat) / 9, by omega⟩ : Fin 4096) (⟨18 + ((n : Nat) % 9 * 4 + (j : Nat)), by omega⟩ : Fin 128)) := by
  after_reads_at
end Tail

variable (m : (l : Loc nD τ sig) → Buf (Elt Ideal) l) (c : Dev nD)

theorem arg_at (r : Ref sig .tc) (h : r ∈ argRefs) :
    after (hostOps0_1 (F := Ideal)) (after hostOps0 (W0 m c)) (Proc.devRef .tc r) = W0 m c (Proc.devRef .tc r) :=
  (hostOps0_1_keeps _ r h).trans (hostOps0_keeps _ r h)

/-- The hidden layer as the arguments give it. -/
abbrev hidM (b : Fin 2) (y x : Fin 64) : Fin 128 → EReal :=
  hid (fun ch y x => W0 m c (Proc.devRef .tc main_arg0) (ix4 b ch y x)) (FloatOps.sitofp (F := Ideal) .f32 (0#32))
    (fun k i l ch => W0 m c (Proc.devRef .tc main_arg3) (ix4 k ch i l)) (fun k => W0 m c (Proc.devRef .tc main_arg4) (ix1 k)) y x

theorem v1_keep : V3 m c main_v1 = after (hostOps0_1 (F := Ideal)) (after hostOps0 (W0 m c)) (Proc.devRef .tc main_v1) :=
  after_of_writes_sub (W := hostOps0_2_W) (r := main_v1) (hostOps0_2 (F := Ideal)) (after hostOps0_1 (after hostOps0 (W0 m c))) hostOps0_2_writes (by decide)
theorem v1_at (b : Fin 2) (y x : Fin 66) (ch : Fin 128) : V3 m c main_v1 (ix4 b y x ch)
    = padAt (fun ch y x => W0 m c (Proc.devRef .tc main_arg0) (ix4 b ch y x)) (FloatOps.sitofp (F := Ideal) .f32 (0#32)) y x ch := by
  rw [v1_keep]
  refine (pad_eq _ b y x ch).trans ?_
  rw [c_keep]
  exact congrArg (fun X => padAt X _ y x ch) (funext fun ch => funext fun y => funext fun x => v0_eq _ b y x ch)
theorem v2_at (i l : Fin 3) (ch k : Fin 128) : V3 m c main_v2 (ix4 i l ch k) = W0 m c (Proc.devRef .tc main_arg3) (ix4 k ch i l) :=
  (w1_eq _ _ _ _ _).trans (congrFun (arg_at m c main_arg3 (by decide)) _)
theorem v12_at (k : Fin 128) : V3 m c main_v12 (ix2 0 k) = W0 m c (Proc.devRef .tc main_arg4) (ix1 k) :=
  (b1_eq _ _).trans (congrFun (arg_at m c main_arg4 (by decide)) _)
theorem v8_lo (k : Fin 128) (j : Fin 18) : V3 m c main_v8 (ix2 k ⟨j, by omega⟩) = W0 m c (Proc.devRef .tc main_arg5) (ix4 j k 0 0) :=
  (wc_lo _ _ _).trans (congrFun (arg_at m c main_arg5 (by decide)) _)
theorem v8_hi (k : Fin 128) (j : Fin 36) : V3 m c main_v8 (ix2 k ⟨18 + j, by omega⟩) = W0 m c (Proc.devRef .tc main_arg7) (ix4 j k 0 0) :=
  (wc_hi _ _ _).trans (congrFun (arg_at m c main_arg7 (by decide)) _)
theorem v11_lo (j : Fin 18) : V3 m c main_v11 (ix2 0 ⟨j, by omega⟩) = W0 m c (Proc.devRef .tc main_arg6) (ix1 j) :=
  (bc_lo _ _).trans (congrFun (arg_at m c main_arg6 (by decide)) _)
theorem v11_hi (j : Fin 36) : V3 m c main_v11 (ix2 0 ⟨18 + j, by omega⟩) = W0 m c (Proc.devRef .tc main_arg8) (ix1 j) :=
  (bc_hi _ _).trans (congrFun (arg_at m c main_arg8 (by decide)) _)

theorem W4_v13 : W4 m c (Proc.devRef .tc main_v13) = (dat0 (V3 m) c).arrAt 5 cfg0.N := W4_arr m c 5

/-- The call's result at a column `j`, from its weights and bias. -/
theorem call_at (b : Fin 2) (p : Fin 4096) (j : Fin 128) : W4 m c (Proc.devRef .tc main_v13) (ix3 b p j)
    = lin (fun k => V3 m c main_v8 (ix2 k j)) (hidM m c b ⟨(p : Nat) / 64, by omega⟩ ⟨(p : Nat) % 64, by omega⟩) (V3 m c main_v11 (ix2 0 j)) := by
  have h := (congrFun (W4_v13 m c) (ix3 b p j)).trans (call_eq (V3 m) c b p j)
  refine h.trans (congrArg (fun f => lin _ f _) (funext fun k => congrArg relu ?_))
  exact conv9_congr _ _ (fun y x ch => v1_at m c b y x ch) (fun i l ch => v2_at m c i l ch k) (v12_at m c k)

/-- The score of class and anchor `j` at pixel `(y, x)`. -/
abbrev scoreM (b : Fin 2) (y x : Fin 64) (j : Fin 18) : EReal :=
  lin (fun k => W0 m c (Proc.devRef .tc main_arg5) (ix4 j k 0 0)) (hidM m c b y x) (W0 m c (Proc.devRef .tc main_arg6) (ix1 j))
/-- The box delta `j` at pixel `(y, x)`. -/
abbrev deltaM (b : Fin 2) (y x : Fin 64) (j : Fin 36) : EReal :=
  lin (fun k => W0 m c (Proc.devRef .tc main_arg7) (ix4 j k 0 0)) (hidM m c b y x) (W0 m c (Proc.devRef .tc main_arg8) (ix1 j))

theorem row_eq (n : Fin 36864) : (⟨(n : Nat) / 9 / 64, by omega⟩ : Fin 64) = ⟨(n : Nat) / 576, by omega⟩ := Fin.ext (by dsimp only; omega)

theorem fg_at (b : Fin 2) (n : Fin 36864) :
    after ((hostOps1 (F := Ideal)).take 21) (W4 m c) (Proc.devRef .tc main_v29) (ix2 b n)
      = sm (fun x => scoreM m c b ⟨(n : Nat) / 576, by omega⟩ ⟨(n : Nat) / 9 % 64, by omega⟩ ⟨(x : Nat) * 9 + (n : Nat) % 9, by omega⟩) := by
  refine (fg_eq _ b n).trans (congrArg sm (funext fun x => ?_))
  rw [call_at, v11_lo m c ⟨(x : Nat) * 9 + (n : Nat) % 9, by omega⟩, row_eq]
  exact congrArg (fun w => lin w _ _) (funext fun k => v8_lo m c k ⟨(x : Nat) * 9 + (n : Nat) % 9, by omega⟩)

theorem dl_at (b : Fin 2) (n : Fin 36864) (j : Fin 4) :
    after ((hostOps1 (F := Ideal)).take 21) (W4 m c) (Proc.devRef .tc main_v31) (ix3 b n j)
      = deltaM m c b ⟨(n : Nat) / 576, by omega⟩ ⟨(n : Nat) / 9 % 64, by omega⟩ ⟨(n : Nat) % 9 * 4 + (j : Nat), by omega⟩ := by
  refine (dl_eq _ b n j).trans ?_
  rw [call_at, v11_hi m c ⟨(n : Nat) % 9 * 4 + (j : Nat), by omega⟩, row_eq]
  exact congrArg (fun w => lin w _ _) (funext fun k => v8_hi m c k ⟨(n : Nat) % 9 * 4 + (j : Nat), by omega⟩)

end Cert.KernelIdeal.Gen
end
-- ==== Proof.RefOps.lean ====
module

public import proofs.«01_k».proof.Proof.Gen.ReferenceIdeal
public import Idealize.ShloMosaic.Lib.Pipeline.Kit
public import Idealize.ShloMosaic.Lib.Pipeline.Regions

/-! The reference's host operations outside its loops, stretch by stretch, in program order. -/

@[expose] public section

set_option maxRecDepth 8000

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The contents of a tensor of shape `s` and element `e`. -/
abbrev Tn (F : FTy → Type) [FloatOps F] (s : Shape) (e : EltTy) : Type := (⟨s, e⟩ : BufTy).Contents (Elt F)

abbrev hostOps0 : List (HloOp τ sig (Elt F)) :=
  [ StableHlo.nullary main_cst (fun i => FloatOps.ofBits .f32 (lit0 (S36864x4.rowMajor i))),
    StableHlo.nullary main_c (constantI S_ 32 0#32) ]
theorem hostOps0_sub : (hostOps0 : List (HloOp τ sig (Elt F))).Forall fun op => op.bufs ⊆ StableHlo.tcRefs τ sig :=
  ⟨StableHlo.nullary_bufs_sub .., StableHlo.nullary_bufs_sub ..⟩
abbrev hostOps0_1 : List (HloOp τ sig (Elt F)) :=
  [ StableHlo.TRef.unary (.of main_c : StableHlo.TRef sig ⟨S_, .i32⟩) (.of main_call0_v0 : StableHlo.TRef sig ⟨S_, .f32⟩) (sitofp .f32),
    StableHlo.TRef.binary (.of main_arg0 : StableHlo.TRef sig ⟨S2x128x64x64, .f32⟩) (.of main_call0_v0 : StableHlo.TRef sig ⟨S_, .f32⟩) (.of main_v0 : StableHlo.TRef sig ⟨S2x128x66x66, .f32⟩) (fun x v => pad S2x128x66x66 ![0, 0, 1, 1] ![0, 0, 1, 1] ![0, 0, 0, 0] x v pads_S2x128x64x64_S2x128x66x66_000_000_110_110 h_S_) ]
theorem hostOps0_1_sub : (hostOps0_1 : List (HloOp τ sig (Elt F))).Forall fun op => op.bufs ⊆ StableHlo.tcRefs τ sig :=
  ⟨StableHlo.unary_bufs_sub .., StableHlo.binary_bufs_sub ..⟩
abbrev hostOps0_2 : List (HloOp τ sig (Elt F)) :=
  ( StableHlo.unary main_v0 main_v1 ((extractStridedSlice S2x128x64x64 ![0, 0, 0, 0] · slices_S2x128x66x66_S2x128x64x64_0_0_0_0) : Tn F S2x128x66x66 .f32 → Tn F S2x128x64x64 .f32)
  :: StableHlo.unary main_arg3 main_v2 ((extractStridedSlice S128x128x1x1 ![0, 0, 0, 0] · slices_S128x128x3x3_S128x128x1x1_0_0_0_0) : Tn F S128x128x3x3 .f32 → Tn F S128x128x1x1 .f32)
  :: StableHlo.reshape main_v2 main_v3 (rfl : (.f32 : EltTy) = .f32) shapeCasts_S128x128x1x1_S128x128
  :: StableHlo.binary main_v3 main_v1 main_v4 ((fun l r => Host.dotGeneral dot_S128x128_S2x128x64x64_S128x2x64x64_1_1_0_023_n_n none l r) : Tn F S128x128 .f32 → Tn F S2x128x64x64 .f32 → Tn F S128x2x64x64 .f32)
  :: StableHlo.unary main_v4 main_v5 ((transpose S2x128x64x64 [1, 0, 2, 3] · transposes_S128x2x64x64_S2x128x64x64_1_0_2_3) : Tn F S128x2x64x64 .f32 → Tn F S2x128x64x64 .f32)
  :: StableHlo.nullary main_cst_0 (constant S_ .f32 0x00000000#32)
  :: StableHlo.unary main_cst_0 main_v6 (broadcastInDim S2x128x64x64 ![] bcast_S_S2x128x64x64 : Tn F S_ .f32 → Tn F S2x128x64x64 .f32)
  :: StableHlo.binary main_v6 main_v5 main_v7 (addf : Tn F S2x128x64x64 .f32 → Tn F S2x128x64x64 .f32 → Tn F S2x128x64x64 .f32)
  :: StableHlo.unary main_v0 main_v8 ((extractStridedSlice S2x128x64x64 ![0, 0, 0, 1] · slices_S2x128x66x66_S2x128x64x64_0_0_0_1) : Tn F S2x128x66x66 .f32 → Tn F S2x128x64x64 .f32)
  :: StableHlo.unary main_arg3 main_v9 ((extractStridedSlice S128x128x1x1 ![0, 0, 0, 1] · slices_S128x128x3x3_S128x128x1x1_0_0_0_1) : Tn F S128x128x3x3 .f32 → Tn F S128x128x1x1 .f32)
  :: StableHlo.reshape main_v9 main_v10 (rfl : (.f32 : EltTy) = .f32) shapeCasts_S128x128x1x1_S128x128
  :: StableHlo.binary main_v10 main_v8 main_v11 ((fun l r => Host.dotGeneral dot_S128x128_S2x128x64x64_S128x2x64x64_1_1_0_023_n_n none l r) : Tn F S128x128 .f32 → Tn F S2x128x64x64 .f32 → Tn F S128x2x64x64 .f32)
  :: StableHlo.unary main_v11 main_v12 ((transpose S2x128x64x64 [1, 0, 2, 3] · transposes_S128x2x64x64_S2x128x64x64_1_0_2_3) : Tn F S128x2x64x64 .f32 → Tn F S2x128x64x64 .f32)
  :: StableHlo.binary main_v7 main_v12 main_v13 (addf : Tn F S2x128x64x64 .f32 → Tn F S2x128x64x64 .f32 → Tn F S2x128x64x64 .f32)
  :: StableHlo.unary main_v0 main_v14 ((extractStridedSlice S2x128x64x64 ![0, 0, 0, 2] · slices_S2x128x66x66_S2x128x64x64_0_0_0_2) : Tn F S2x128x66x66 .f32 → Tn F S2x128x64x64 .f32)
  :: StableHlo.unary main_arg3 main_v15 ((extractStridedSlice S128x128x1x1 ![0, 0, 0, 2] · slices_S128x128x3x3_S128x128x1x1_0_0_0_2) : Tn F S128x128x3x3 .f32 → Tn F S128x128x1x1 .f32)
  :: StableHlo.reshape main_v15 main_v16 (rfl : (.f32 : EltTy) = .f32) shapeCasts_S128x128x1x1_S128x128
  :: StableHlo.binary main_v16 main_v14 main_v17 ((fun l r => Host.dotGeneral dot_S128x128_S2x128x64x64_S128x2x64x64_1_1_0_023_n_n none l r) : Tn F S128x128 .f32 → Tn F S2x128x64x64 .f32 → Tn F S128x2x64x64 .f32)
  :: StableHlo.unary main_v17 main_v18 ((transpose S2x128x64x64 [1, 0, 2, 3] · transposes_S128x2x64x64_S2x128x64x64_1_0_2_3) : Tn F S128x2x64x64 .f32 → Tn F S2x128x64x64 .f32)
  :: StableHlo.binary main_v13 main_v18 main_v19 (addf : Tn F S2x128x64x64 .f32 → Tn F S2x128x64x64 .f32 → Tn F S2x128x64x64 .f32)
  :: StableHlo.unary main_v0 main_v20 ((extractStridedSlice S2x128x64x64 ![0, 0, 1, 0] · slices_S2x128x66x66_S2x128x64x64_0_0_1_0) : Tn F S2x128x66x66 .f32 → Tn F S2x128x64x64 .f32)
  :: StableHlo.unary main_arg3 main_v21 ((extractStridedSlice S128x128x1x1 ![0, 0, 1, 0] · slices_S128x128x3x3_S128x128x1x1_0_0_1_0) : Tn F S128x128x3x3 .f32 → Tn F S128x128x1x1 .f32)
  :: StableHlo.reshape main_v21 main_v22 (rfl : (.f32 : EltTy) = .f32) shapeCasts_S128x128x1x1_S128x128
  :: StableHlo.binary main_v22 main_v20 main_v23 ((fun l r => Host.dotGeneral dot_S128x128_S2x128x64x64_S128x2x64x64_1_1_0_023_n_n none l r) : Tn F S128x128 .f32 → Tn F S2x128x64x64 .f32 → Tn F S128x2x64x64 .f32)
  :: StableHlo.unary main_v23 main_v24 ((transpose S2x128x64x64 [1, 0, 2, 3] · transposes_S128x2x64x64_S2x128x64x64_1_0_2_3) : Tn F S128x2x64x64 .f32 → Tn F S2x128x64x64 .f32)
  :: StableHlo.binary main_v19 main_v24 main_v25 (addf : Tn F S2x128x64x64 .f32 → Tn F S2x128x64x64 .f32 → Tn F S2x128x64x64 .f32)
  :: StableHlo.unary main_v0 main_v26 ((extractStridedSlice S2x128x64x64 ![0, 0, 1, 1] · slices_S2x128x66x66_S2x128x64x64_0_0_1_1) : Tn F S2x128x66x66 .f32 → Tn F S2x128x64x64 .f32)
  :: StableHlo.unary main_arg3 main_v27 ((extractStridedSlice S128x128x1x1 ![0, 0, 1, 1] · slices_S128x128x3x3_S128x128x1x1_0_0_1_1) : Tn F S128x128x3x3 .f32 → Tn F S128x128x1x1 .f32)
  :: StableHlo.reshape main_v27 main_v28 (rfl : (.f32 : EltTy) = .f32) shapeCasts_S128x128x1x1_S128x128
  :: StableHlo.binary main_v28 main_v26 main_v29 ((fun l r => Host.dotGeneral dot_S128x128_S2x128x64x64_S128x2x64x64_1_1_0_023_n_n none l r) : Tn F S128x128 .f32 → Tn F S2x128x64x64 .f32 → Tn F S128x2x64x64 .f32)
  :: StableHlo.unary main_v29 main_v30 ((transpose S2x128x64x64 [1, 0, 2, 3] · transposes_S128x2x64x64_S2x128x64x64_1_0_2_3) : Tn F S128x2x64x64 .f32 → Tn F S2x128x64x64 .f32)
  :: StableHlo.binary main_v25 main_v30 main_v31 (addf : Tn F S2x128x64x64 .f32 → Tn F S2x128x64x64 .f32 → Tn F S2x128x64x64 .f32)
  :: StableHlo.unary main_v0 main_v32 ((extractStridedSlice S2x128x64x64 ![0, 0, 1, 2] · slices_S2x128x66x66_S2x128x64x64_0_0_1_2) : Tn F S2x128x66x66 .f32 → Tn F S2x128x64x64 .f32)
  :: StableHlo.unary main_arg3 main_v33 ((extractStridedSlice S128x128x1x1 ![0, 0, 1, 2] · slices_S128x128x3x3_S128x128x1x1_0_0_1_2) : Tn F S128x128x3x3 .f32 → Tn F S128x128x1x1 .f32)
  :: StableHlo.reshape main_v33 main_v34 (rfl : (.f32 : EltTy) = .f32) shapeCasts_S128x128x1x1_S128x128
  :: StableHlo.binary main_v34 main_v32 main_v35 ((fun l r => Host.dotGeneral dot_S128x128_S2x128x64x64_S128x2x64x64_1_1_0_023_n_n none l r) : Tn F S128x128 .f32 → Tn F S2x128x64x64 .f32 → Tn F S128x2x64x64 .f32)
  :: StableHlo.unary main_v35 main_v36 ((transpose S2x128x64x64 [1, 0, 2, 3] · transposes_S128x2x64x64_S2x128x64x64_1_0_2_3) : Tn F S128x2x64x64 .f32 → Tn F S2x128x64x64 .f32)
  :: StableHlo.binary main_v31 main_v36 main_v37 (addf : Tn F S2x128x64x64 .f32 → Tn F S2x128x64x64 .f32 → Tn F S2x128x64x64 .f32)
  :: StableHlo.unary main_v0 main_v38 ((extractStridedSlice S2x128x64x64 ![0, 0, 2, 0] · slices_S2x128x66x66_S2x128x64x64_0_0_2_0) : Tn F S2x128x66x66 .f32 → Tn F S2x128x64x64 .f32)
  :: StableHlo.unary main_arg3 main_v39 ((extractStridedSlice S128x128x1x1 ![0, 0, 2, 0] · slices_S128x128x3x3_S128x128x1x1_0_0_2_0) : Tn F S128x128x3x3 .f32 → Tn F S128x128x1x1 .f32)
  :: StableHlo.reshape main_v39 main_v40 (rfl : (.f32 : EltTy) = .f32) shapeCasts_S128x128x1x1_S128x128
  :: StableHlo.binary main_v40 main_v38 main_v41 ((fun l r => Host.dotGeneral dot_S128x128_S2x128x64x64_S128x2x64x64_1_1_0_023_n_n none l r) : Tn F S128x128 .f32 → Tn F S2x128x64x64 .f32 → Tn F S128x2x64x64 .f32)
  :: StableHlo.unary main_v41 main_v42 ((transpose S2x128x64x64 [1, 0, 2, 3] · transposes_S128x2x64x64_S2x128x64x64_1_0_2_3) : Tn F S128x2x64x64 .f32 → Tn F S2x128x64x64 .f32)
  :: StableHlo.binary main_v37 main_v42 main_v43 (addf : Tn F S2x128x64x64 .f32 → Tn F S2x128x64x64 .f32 → Tn F S2x128x64x64 .f32)
  :: StableHlo.unary main_v0 main_v44 ((extractStridedSlice S2x128x64x64 ![0, 0, 2, 1] · slices_S2x128x66x66_S2x128x64x64_0_0_2_1) : Tn F S2x128x66x66 .f32 → Tn F S2x128x64x64 .f32)
  :: StableHlo.unary main_arg3 main_v45 ((extractStridedSlice S128x128x1x1 ![0, 0, 2, 1] · slices_S128x128x3x3_S128x128x1x1_0_0_2_1) : Tn F S128x128x3x3 .f32 → Tn F S128x128x1x1 .f32)
  :: StableHlo.reshape main_v45 main_v46 (rfl : (.f32 : EltTy) = .f32) shapeCasts_S128x128x1x1_S128x128
  :: StableHlo.binary main_v46 main_v44 main_v47 ((fun l r => Host.dotGeneral dot_S128x128_S2x128x64x64_S128x2x64x64_1_1_0_023_n_n none l r) : Tn F S128x128 .f32 → Tn F S2x128x64x64 .f32 → Tn F S128x2x64x64 .f32)
  :: StableHlo.unary main_v47 main_v48 ((transpose S2x128x64x64 [1, 0, 2, 3] · transposes_S128x2x64x64_S2x128x64x64_1_0_2_3) : Tn F S128x2x64x64 .f32 → Tn F S2x128x64x64 .f32)
  :: StableHlo.binary main_v43 main_v48 main_v49 (addf : Tn F S2x128x64x64 .f32 → Tn F S2x128x64x64 .f32 → Tn F S2x128x64x64 .f32)
  :: StableHlo.unary main_v0 main_v50 ((extractStridedSlice S2x128x64x64 ![0, 0, 2, 2] · slices_S2x128x66x66_S2x128x64x64_0_0_2_2) : Tn F S2x128x66x66 .f32 → Tn F S2x128x64x64 .f32)
  :: StableHlo.unary main_arg3 main_v51 ((extractStridedSlice S128x128x1x1 ![0, 0, 2, 2] · slices_S128x128x3x3_S128x128x1x1_0_0_2_2) : Tn F S128x128x3x3 .f32 → Tn F S128x128x1x1 .f32)
  :: StableHlo.reshape main_v51 main_v52 (rfl : (.f32 : EltTy) = .f32) shapeCasts_S128x128x1x1_S128x128
  :: StableHlo.binary main_v52 main_v50 main_v53 ((fun l r => Host.dotGeneral dot_S128x128_S2x128x64x64_S128x2x64x64_1_1_0_023_n_n none l r) : Tn F S128x128 .f32 → Tn F S2x128x64x64 .f32 → Tn F S128x2x64x64 .f32)
  :: StableHlo.unary main_v53 main_v54 ((transpose S2x128x64x64 [1, 0, 2, 3] · transposes_S128x2x64x64_S2x128x64x64_1_0_2_3) : Tn F S128x2x64x64 .f32 → Tn F S2x128x64x64 .f32)
  :: StableHlo.binary main_v49 main_v54 main_v55 (addf : Tn F S2x128x64x64 .f32 → Tn F S2x128x64x64 .f32 → Tn F S2x128x64x64 .f32)
  :: StableHlo.unary main_arg4 main_v56 (broadcastInDim S1x128x1x1 ![1] bcast_S128_S1x128x1x1_1 : Tn F S128 .f32 → Tn F S1x128x1x1 .f32)
  :: StableHlo.unary main_v56 main_v57 (broadcastInDim S2x128x64x64 ![0, 1, 2, 3] bcast_S1x128x1x1_S2x128x64x64_0_1_2_3 : Tn F S1x128x1x1 .f32 → Tn F S2x128x64x64 .f32)
  :: StableHlo.binary main_v55 main_v57 main_v58 (addf : Tn F S2x128x64x64 .f32 → Tn F S2x128x64x64 .f32 → Tn F S2x128x64x64 .f32)
  :: [] )
theorem hostOps0_2_sub : (hostOps0_2 : List (HloOp τ sig (Elt F))).Forall fun op => op.bufs ⊆ StableHlo.tcRefs τ sig :=
  ⟨StableHlo.unary_bufs_sub .., StableHlo.unary_bufs_sub .., StableHlo.reshape_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.reshape_bufs_sub .., StableHlo.binary_bufs_sub .., StableHlo.unary_bufs_sub .., StableHlo.binary_bufs_sub .., StableHlo.unary_bufs_sub .., StableHlo.unary_bufs_sub .., StableHlo.binary_bufs_sub ..⟩
abbrev hostOps0_3 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S2x128x64x64, .f32⟩) (broadcastInDim S2x128x64x64 ![] bcast_S_S2x128x64x64),
    StableHlo.TRef.binary (.of main_v58 : StableHlo.TRef sig ⟨S2x128x64x64, .f32⟩) (.of main_call1_v0 : StableHlo.TRef sig ⟨S2x128x64x64, .f32⟩) (.of main_v59 : StableHlo.TRef sig ⟨S2x128x64x64, .f32⟩) maximumf ]
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub ..⟩
set_option maxHeartbeats 40000000 in
abbrev hostOps0_4 : List (HloOp τ sig (Elt F)) :=
  ( StableHlo.reshape main_arg5 main_v60 (rfl : (.f32 : EltTy) = .f32) shapeCasts_S18x128x1x1_S18x128
  :: StableHlo.binary main_v60 main_v59 main_v61 ((fun l r => Host.dotGeneral dot_S18x128_S2x128x64x64_S18x2x64x64_1_1_0_023_n_n none l r) : Tn F S18x128 .f32 → Tn F S2x128x64x64 .f32 → Tn F S18x2x64x64 .f32)
  :: StableHlo.unary main_v61 main_v62 ((transpose S2x18x64x64 [1, 0, 2, 3] · transposes_S18x2x64x64_S2x18x64x64_1_0_2_3) : Tn F S18x2x64x64 .f32 → Tn F S2x18x64x64 .f32)
  :: StableHlo.unary main_arg6 main_v63 (broadcastInDim S1x18x1x1 ![1] bcast_S18_S1x18x1x1_1 : Tn F S18 .f32 → Tn F S1x18x1x1 .f32)
  :: StableHlo.unary main_v63 main_v64 (broadcastInDim S2x18x64x64 ![0, 1, 2, 3] bcast_S1x18x1x1_S2x18x64x64_0_1_2_3 : Tn F S1x18x1x1 .f32 → Tn F S2x18x64x64 .f32)
  :: StableHlo.binary main_v62 main_v64 main_v65 (addf : Tn F S2x18x64x64 .f32 → Tn F S2x18x64x64 .f32 → Tn F S2x18x64x64 .f32)
  :: StableHlo.reshape main_arg7 main_v66 (rfl : (.f32 : EltTy) = .f32) shapeCasts_S36x128x1x1_S36x128
  :: StableHlo.binary main_v66 main_v59 main_v67 ((fun l r => Host.dotGeneral dot_S36x128_S2x128x64x64_S36x2x64x64_1_1_0_023_n_n none l r) : Tn F S36x128 .f32 → Tn F S2x128x64x64 .f32 → Tn F S36x2x64x64 .f32)
  :: StableHlo.unary main_v67 main_v68 ((transpose S2x36x64x64 [1, 0, 2, 3] · transposes_S36x2x64x64_S2x36x64x64_1_0_2_3) : Tn F S36x2x64x64 .f32 → Tn F S2x36x64x64 .f32)
  :: StableHlo.unary main_arg8 main_v69 (broadcastInDim S1x36x1x1 ![1] bcast_S36_S1x36x1x1_1 : Tn F S36 .f32 → Tn F S1x36x1x1 .f32)
  :: StableHlo.unary main_v69 main_v70 (broadcastInDim S2x36x64x64 ![0, 1, 2, 3] bcast_S1x36x1x1_S2x36x64x64_0_1_2_3 : Tn F S1x36x1x1 .f32 → Tn F S2x36x64x64 .f32)
  :: StableHlo.binary main_v68 main_v70 main_v71 (addf : Tn F S2x36x64x64 .f32 → Tn F S2x36x64x64 .f32 → Tn F S2x36x64x64 .f32)
  :: StableHlo.reshape main_v65 main_v72 (rfl : (.f32 : EltTy) = .f32) shapeCasts_S2x18x64x64_S2x2x9x64x64
  :: StableHlo.nullary main_cst_1 (constant S_ .f32 0xFF800000#32)
  :: StableHlo.binary main_v72 main_cst_1 main_v73 ((fun x v => Host.reduce FloatOps.maximumf x v reducesTo_S2x2x9x64x64_S2x9x64x64_d1 h_S_) : Tn F S2x2x9x64x64 .f32 → Tn F S_ .f32 → Tn F S2x9x64x64 .f32)
  :: StableHlo.nullary main_cst_2 (constant S_ .f32 0xFF800000#32)
  :: StableHlo.unary main_cst_2 main_v74 (broadcastInDim S2x9x64x64 ![] bcast_S_S2x9x64x64 : Tn F S_ .f32 → Tn F S2x9x64x64 .f32)
  :: StableHlo.binary main_v74 main_v73 main_v75 (maximumf : Tn F S2x9x64x64 .f32 → Tn F S2x9x64x64 .f32 → Tn F S2x9x64x64 .f32)
  :: StableHlo.unary main_v75 main_v76 (broadcastInDim S2x1x9x64x64 ![0, 2, 3, 4] bcast_S2x9x64x64_S2x1x9x64x64_0_2_3_4 : Tn F S2x9x64x64 .f32 → Tn F S2x1x9x64x64 .f32)
  :: StableHlo.unary main_v76 main_v77 (broadcastInDim S2x2x9x64x64 ![0, 1, 2, 3, 4] bcast_S2x1x9x64x64_S2x2x9x64x64_0_1_2_3_4 : Tn F S2x1x9x64x64 .f32 → Tn F S2x2x9x64x64 .f32)
  :: StableHlo.binary main_v72 main_v77 main_v78 (subf : Tn F S2x2x9x64x64 .f32 → Tn F S2x2x9x64x64 .f32 → Tn F S2x2x9x64x64 .f32)
  :: StableHlo.unary main_v78 main_v79 (Host.exp : Tn F S2x2x9x64x64 .f32 → Tn F S2x2x9x64x64 .f32)
  :: StableHlo.nullary main_cst_3 (constant S_ .f32 0x00000000#32)
  :: StableHlo.binary main_v79 main_cst_3 main_v80 ((fun x v => Host.reduceAdd x v reducesTo_S2x2x9x64x64_S2x9x64x64_d1 h_S_) : Tn F S2x2x9x64x64 .f32 → Tn F S_ .f32 → Tn F S2x9x64x64 .f32)
  :: StableHlo.unary main_v80 main_v81 (broadcastInDim S2x1x9x64x64 ![0, 2, 3, 4] bcast_S2x9x64x64_S2x1x9x64x64_0_2_3_4 : Tn F S2x9x64x64 .f32 → Tn F S2x1x9x64x64 .f32)
  :: StableHlo.unary main_v81 main_v82 (broadcastInDim S2x2x9x64x64 ![0, 1, 2, 3, 4] bcast_S2x1x9x64x64_S2x2x9x64x64_0_1_2_3_4 : Tn F S2x1x9x64x64 .f32 → Tn F S2x2x9x64x64 .f32)
  :: StableHlo.binary main_v79 main_v82 main_v83 (Host.divf : Tn F S2x2x9x64x64 .f32 → Tn F S2x2x9x64x64 .f32 → Tn F S2x2x9x64x64 .f32)
  :: StableHlo.unary main_v83 main_v84 ((extractStridedSlice S2x1x9x64x64 ![0, 1, 0, 0, 0] · slices_S2x2x9x64x64_S2x1x9x64x64_0_1_0_0_0) : Tn F S2x2x9x64x64 .f32 → Tn F S2x1x9x64x64 .f32)
  :: StableHlo.reshape main_v84 main_v85 (rfl : (.f32 : EltTy) = .f32) shapeCasts_S2x1x9x64x64_S2x9x64x64
  :: StableHlo.unary main_v85 main_v86 ((transpose S2x64x64x9 [0, 2, 3, 1] · transposes_S2x9x64x64_S2x64x64x9_0_2_3_1) : Tn F S2x9x64x64 .f32 → Tn F S2x64x64x9 .f32)
  :: StableHlo.reshape main_v86 main_v87 (rfl : (.f32 : EltTy) = .f32) shapeCasts_S2x64x64x9_S2x36864
  :: StableHlo.unary main_v71 main_v88 ((transpose S2x64x64x36 [0, 2, 3, 1] · transposes_S2x36x64x64_S2x64x64x36_0_2_3_1) : Tn F S2x36x64x64 .f32 → Tn F S2x64x64x36 .f32)
  :: StableHlo.reshape main_v88 main_v89 (rfl : (.f32 : EltTy) = .f32) shapeCasts_S2x64x64x36_S2x36864x4
  :: StableHlo.unary main_cst main_v90 ((extractStridedSlice S36864x1 ![0, 2] · slices_S36864x4_S36864x1_0_2) : Tn F S36864x4 .f32 → Tn F S36864x1 .f32)
  :: StableHlo.reshape main_v90 main_v91 (rfl : (.f32 : EltTy) = .f32) shapeCasts_S36864x1_S36864
  :: StableHlo.unary main_cst main_v92 ((extractStridedSlice S36864x1 ![0, 0] · slices_S36864x4_S36864x1_0_0) : Tn F S36864x4 .f32 → Tn F S36864x1 .f32)
  :: StableHlo.reshape main_v92 main_v93 (rfl : (.f32 : EltTy) = .f32) shapeCasts_S36864x1_S36864
  :: StableHlo.binary main_v91 main_v93 main_v94 (subf : Tn F S36864 .f32 → Tn F S36864 .f32 → Tn F S36864 .f32)
  :: StableHlo.nullary main_cst_4 (constant S_ .f32 0x3F800000#32)
  :: StableHlo.unary main_cst_4 main_v95 (broadcastInDim S36864 ![] bcast_S_S36864 : Tn F S_ .f32 → Tn F S36864 .f32)
  :: StableHlo.binary main_v94 main_v95 main_v96 (addf : Tn F S36864 .f32 → Tn F S36864 .f32 → Tn F S36864 .f32)
  :: StableHlo.unary main_cst main_v97 ((extractStridedSlice S36864x1 ![0, 3] · slices_S36864x4_S36864x1_0_3) : Tn F S36864x4 .f32 → Tn F S36864x1 .f32)
  :: StableHlo.reshape main_v97 main_v98 (rfl : (.f32 : EltTy) = .f32) shapeCasts_S36864x1_S36864
  :: StableHlo.unary main_cst main_v99 ((extractStridedSlice S36864x1 ![0, 1] · slices_S36864x4_S36864x1_0_1) : Tn F S36864x4 .f32 → Tn F S36864x1 .f32)
  :: StableHlo.reshape main_v99 main_v100 (rfl : (.f32 : EltTy) = .f32) shapeCasts_S36864x1_S36864
  :: StableHlo.binary main_v98 main_v100 main_v101 (subf : Tn F S36864 .f32 → Tn F S36864 .f32 → Tn F S36864 .f32)
  :: StableHlo.nullary main_cst_5 (constant S_ .f32 0x3F800000#32)
  :: StableHlo.unary main_cst_5 main_v102 (broadcastInDim S36864 ![] bcast_S_S36864 : Tn F S_ .f32 → Tn F S36864 .f32)
  :: StableHlo.binary main_v101 main_v102 main_v103 (addf : Tn F S36864 .f32 → Tn F S36864 .f32 → Tn F S36864 .f32)
  :: StableHlo.unary main_cst main_v104 ((extractStridedSlice S36864x1 ![0, 0] · slices_S36864x4_S36864x1_0_0) : Tn F S36864x4 .f32 → Tn F S36864x1 .f32)
  :: StableHlo.reshape main_v104 main_v105 (rfl : (.f32 : EltTy) = .f32) shapeCasts_S36864x1_S36864
  :: StableHlo.nullary main_cst_6 (constant S_ .f32 0x3F000000#32)
  :: StableHlo.unary main_cst_6 main_v106 (broadcastInDim S36864 ![] bcast_S_S36864 : Tn F S_ .f32 → Tn F S36864 .f32)
  :: StableHlo.binary main_v106 main_v96 main_v107 (mulf : Tn F S36864 .f32 → Tn F S36864 .f32 → Tn F S36864 .f32)
  :: StableHlo.binary main_v105 main_v107 main_v108 (addf : Tn F S36864 .f32 → Tn F S36864 .f32 → Tn F S36864 .f32)
  :: StableHlo.unary main_cst main_v109 ((extractStridedSlice S36864x1 ![0, 1] · slices_S36864x4_S36864x1_0_1) : Tn F S36864x4 .f32 → Tn F S36864x1 .f32)
  :: StableHlo.reshape main_v109 main_v110 (rfl : (.f32 : EltTy) = .f32) shapeCasts_S36864x1_S36864
  :: StableHlo.nullary main_cst_7 (constant S_ .f32 0x3F000000#32)
  :: StableHlo.unary main_cst_7 main_v111 (broadcastInDim S36864 ![] bcast_S_S36864 : Tn F S_ .f32 → Tn F S36864 .f32)
  :: StableHlo.binary main_v111 main_v103 main_v112 (mulf : Tn F S36864 .f32 → Tn F S36864 .f32 → Tn F S36864 .f32)
  :: StableHlo.binary main_v110 main_v112 main_v113 (addf : Tn F S36864 .f32 → Tn F S36864 .f32 → Tn F S36864 .f32)
  :: StableHlo.unary main_v89 main_v114 ((extractStridedSlice S2x36864x1 ![0, 0, 0] · slices_S2x36864x4_S2x36864x1_0_0_0) : Tn F S2x36864x4 .f32 → Tn F S2x36864x1 .f32)
  :: StableHlo.reshape main_v114 main_v115 (rfl : (.f32 : EltTy) = .f32) shapeCasts_S2x36864x1_S2x36864
  :: StableHlo.unary main_v96 main_v116 (broadcastInDim S1x36864 ![1] bcast_S36864_S1x36864_1 : Tn F S36864 .f32 → Tn F S1x36864 .f32)
  :: StableHlo.unary main_v116 main_v117 (broadcastInDim S2x36864 ![0, 1] bcast_S1x36864_S2x36864_0_1 : Tn F S1x36864 .f32 → Tn F S2x36864 .f32)
  :: StableHlo.binary main_v115 main_v117 main_v118 (mulf : Tn F S2x36864 .f32 → Tn F S2x36864 .f32 → Tn F S2x36864 .f32)
  :: StableHlo.unary main_v108 main_v119 (broadcastInDim S1x36864 ![1] bcast_S36864_S1x36864_1 : Tn F S36864 .f32 → Tn F S1x36864 .f32)
  :: StableHlo.unary main_v119 main_v120 (broadcastInDim S2x36864 ![0, 1] bcast_S1x36864_S2x36864_0_1 : Tn F S1x36864 .f32 → Tn F S2x36864 .f32)
  :: StableHlo.binary main_v118 main_v120 main_v121 (addf : Tn F S2x36864 .f32 → Tn F S2x36864 .f32 → Tn F S2x36864 .f32)
  :: StableHlo.unary main_v89 main_v122 ((extractStridedSlice S2x36864x1 ![0, 0, 1] · slices_S2x36864x4_S2x36864x1_0_0_1) : Tn F S2x36864x4 .f32 → Tn F S2x36864x1 .f32)
  :: StableHlo.reshape main_v122 main_v123 (rfl : (.f32 : EltTy) = .f32) shapeCasts_S2x36864x1_S2x36864
  :: StableHlo.unary main_v103 main_v124 (broadcastInDim S1x36864 ![1] bcast_S36864_S1x36864_1 : Tn F S36864 .f32 → Tn F S1x36864 .f32)
  :: StableHlo.unary main_v124 main_v125 (broadcastInDim S2x36864 ![0, 1] bcast_S1x36864_S2x36864_0_1 : Tn F S1x36864 .f32 → Tn F S2x36864 .f32)
  :: StableHlo.binary main_v123 main_v125 main_v126 (mulf : Tn F S2x36864 .f32 → Tn F S2x36864 .f32 → Tn F S2x36864 .f32)
  :: StableHlo.unary main_v113 main_v127 (broadcastInDim S1x36864 ![1] bcast_S36864_S1x36864_1 : Tn F S36864 .f32 → Tn F S1x36864 .f32)
  :: StableHlo.unary main_v127 main_v128 (broadcastInDim S2x36864 ![0, 1] bcast_S1x36864_S2x36864_0_1 : Tn F S1x36864 .f32 → Tn F S2x36864 .f32)
  :: StableHlo.binary main_v126 main_v128 main_v129 (addf : Tn F S2x36864 .f32 → Tn F S2x36864 .f32 → Tn F S2x36864 .f32)
  :: StableHlo.unary main_v89 main_v130 ((extractStridedSlice S2x36864x1 ![0, 0, 2] · slices_S2x36864x4_S2x36864x1_0_0_2) : Tn F S2x36864x4 .f32 → Tn F S2x36864x1 .f32)
  :: StableHlo.reshape main_v130 main_v131 (rfl : (.f32 : EltTy) = .f32) shapeCasts_S2x36864x1_S2x36864
  :: StableHlo.unary main_v131 main_v132 (Host.exp : Tn F S2x36864 .f32 → Tn F S2x36864 .f32)
  :: StableHlo.unary main_v96 main_v133 (broadcastInDim S1x36864 ![1] bcast_S36864_S1x36864_1 : Tn F S36864 .f32 → Tn F S1x36864 .f32)
  :: StableHlo.unary main_v133 main_v134 (broadcastInDim S2x36864 ![0, 1] bcast_S1x36864_S2x36864_0_1 : Tn F S1x36864 .f32 → Tn F S2x36864 .f32)
  :: StableHlo.binary main_v132 main_v134 main_v135 (mulf : Tn F S2x36864 .f32 → Tn F S2x36864 .f32 → Tn F S2x36864 .f32)
  :: StableHlo.unary main_v89 main_v136 ((extractStridedSlice S2x36864x1 ![0, 0, 3] · slices_S2x36864x4_S2x36864x1_0_0_3) : Tn F S2x36864x4 .f32 → Tn F S2x36864x1 .f32)
  :: StableHlo.reshape main_v136 main_v137 (rfl : (.f32 : EltTy) = .f32) shapeCasts_S2x36864x1_S2x36864
  :: StableHlo.unary main_v137 main_v138 (Host.exp : Tn F S2x36864 .f32 → Tn F S2x36864 .f32)
  :: StableHlo.unary main_v103 main_v139 (broadcastInDim S1x36864 ![1] bcast_S36864_S1x36864_1 : Tn F S36864 .f32 → Tn F S1x36864 .f32)
  :: StableHlo.unary main_v139 main_v140 (broadcastInDim S2x36864 ![0, 1] bcast_S1x36864_S2x36864_0_1 : Tn F S1x36864 .f32 → Tn F S2x36864 .f32)
  :: StableHlo.binary main_v138 main_v140 main_v141 (mulf : Tn F S2x36864 .f32 → Tn F S2x36864 .f32 → Tn F S2x36864 .f32)
  :: StableHlo.nullary main_cst_8 (constant S_ .f32 0x3F000000#32)
  :: StableHlo.unary main_cst_8 main_v142 (broadcastInDim S2x36864 ![] bcast_S_S2x36864 : Tn F S_ .f32 → Tn F S2x36864 .f32)
  :: StableHlo.binary main_v142 main_v135 main_v143 (mulf : Tn F S2x36864 .f32 → Tn F S2x36864 .f32 → Tn F S2x36864 .f32)
  :: StableHlo.binary main_v121 main_v143 main_v144 (subf : Tn F S2x36864 .f32 → Tn F S2x36864 .f32 → Tn F S2x36864 .f32)
  :: StableHlo.nullary main_cst_9 (constant S_ .f32 0x3F000000#32)
  :: StableHlo.unary main_cst_9 main_v145 (broadcastInDim S2x36864 ![] bcast_S_S2x36864 : Tn F S_ .f32 → Tn F S2x36864 .f32)
  :: StableHlo.binary main_v145 main_v141 main_v146 (mulf : Tn F S2x36864 .f32 → Tn F S2x36864 .f32 → Tn F S2x36864 .f32)
  :: StableHlo.binary main_v129 main_v146 main_v147 (subf : Tn F S2x36864 .f32 → Tn F S2x36864 .f32 → Tn F S2x36864 .f32)
  :: StableHlo.nullary main_cst_10 (constant S_ .f32 0x3F000000#32)
  :: StableHlo.unary main_cst_10 main_v148 (broadcastInDim S2x36864 ![] bcast_S_S2x36864 : Tn F S_ .f32 → Tn F S2x36864 .f32)
  :: StableHlo.binary main_v148 main_v135 main_v149 (mulf : Tn F S2x36864 .f32 → Tn F S2x36864 .f32 → Tn F S2x36864 .f32)
  :: StableHlo.binary main_v121 main_v149 main_v150 (addf : Tn F S2x36864 .f32 → Tn F S2x36864 .f32 → Tn F S2x36864 .f32)
  :: StableHlo.nullary main_cst_11 (constant S_ .f32 0x3F000000#32)
  :: StableHlo.unary main_cst_11 main_v151 (broadcastInDim S2x36864 ![] bcast_S_S2x36864 : Tn F S_ .f32 → Tn F S2x36864 .f32)
  :: StableHlo.binary main_v151 main_v141 main_v152 (mulf : Tn F S2x36864 .f32 → Tn F S2x36864 .f32 → Tn F S2x36864 .f32)
  :: StableHlo.binary main_v129 main_v152 main_v153 (addf : Tn F S2x36864 .f32 → Tn F S2x36864 .f32 → Tn F S2x36864 .f32)
  :: StableHlo.unary main_v144 main_v154 (broadcastInDim S2x36864x1 ![0, 1] bcast_S2x36864_S2x36864x1_0_1 : Tn F S2x36864 .f32 → Tn F S2x36864x1 .f32)
  :: StableHlo.unary main_v147 main_v155 (broadcastInDim S2x36864x1 ![0, 1] bcast_S2x36864_S2x36864x1_0_1 : Tn F S2x36864 .f32 → Tn F S2x36864x1 .f32)
  :: StableHlo.unary main_v150 main_v156 (broadcastInDim S2x36864x1 ![0, 1] bcast_S2x36864_S2x36864x1_0_1 : Tn F S2x36864 .f32 → Tn F S2x36864x1 .f32)
  :: StableHlo.unary main_v153 main_v157 (broadcastInDim S2x36864x1 ![0, 1] bcast_S2x36864_S2x36864x1_0_1 : Tn F S2x36864 .f32 → Tn F S2x36864x1 .f32)
  :: StableHlo.nary ![main_v154, main_v155, main_v156, main_v157] main_v158 (fun u => (concatenate S2x36864x4 2 [⟨S2x36864x1, (u 0 : Tn F S2x36864x1 .f32)⟩, ⟨S2x36864x1, (u 1 : Tn F S2x36864x1 .f32)⟩, ⟨S2x36864x1, (u 2 : Tn F S2x36864x1 .f32)⟩, ⟨S2x36864x1, (u 3 : Tn F S2x36864x1 .f32)⟩] concatenates_S2x36864x1_S2x36864x1_S2x36864x1_S2x36864x1_S2x36864x4_d2 : Tn F S2x36864x4 .f32))
  :: StableHlo.unary main_v158 main_v159 ((extractStridedSlice S1x36864x4 ![0, 0, 0] · slices_S2x36864x4_S1x36864x4_0_0_0) : Tn F S2x36864x4 .f32 → Tn F S1x36864x4 .f32)
  :: StableHlo.reshape main_v159 main_v160 (rfl : (.f32 : EltTy) = .f32) shapeCasts_S1x36864x4_S36864x4
  :: StableHlo.unary main_v160 main_v161 ((extractStridedSlice S36864x1 ![0, 0] · slices_S36864x4_S36864x1_0_0) : Tn F S36864x4 .f32 → Tn F S36864x1 .f32)
  :: StableHlo.reshape main_v161 main_v162 (rfl : (.f32 : EltTy) = .f32) shapeCasts_S36864x1_S36864
  :: StableHlo.unary main_arg1 main_v163 ((extractStridedSlice S1x1 ![0, 1] · slices_S2x3_S1x1_0_1) : Tn F S2x3 .f32 → Tn F S1x1 .f32)
  :: StableHlo.reshape main_v163 main_v164 (rfl : (.f32 : EltTy) = .f32) shapeCasts_S1x1_S_
  :: StableHlo.nullary main_cst_12 (constant S_ .f32 0x3F800000#32)
  :: StableHlo.binary main_v164 main_cst_12 main_v165 (subf : Tn F S_ .f32 → Tn F S_ .f32 → Tn F S_ .f32)
  :: StableHlo.nullary main_cst_13 (constant S_ .f32 0x00000000#32)
  :: [] )
set_option maxHeartbeats 40000000 in
theorem hostOps0_4_sub : (hostOps0_4 : List (HloOp τ sig (Elt F))).Forall fun op => op.bufs ⊆ StableHlo.tcRefs τ sig :=
  ⟨StableHlo.reshape_bufs_sub .., StableHlo.binary_bufs_sub .., StableHlo.unary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.unary_bufs_sub .., StableHlo.binary_bufs_sub .., StableHlo.reshape_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_5 : List (HloOp τ sig (Elt F)) :=
  [ StableHlo.TRef.unary (.of main_cst_13 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S36864, .f32⟩) (broadcastInDim S36864 ![] bcast_S_S36864),
    StableHlo.TRef.binary (.of main_call2_v1 : StableHlo.TRef sig ⟨S36864, .f32⟩) (.of main_v162 : StableHlo.TRef sig ⟨S36864, .f32⟩) (.of main_call2_v2 : StableHlo.TRef sig ⟨S36864, .f32⟩) maximumf,
    StableHlo.TRef.unary (.of main_v165 : StableHlo.TRef sig ⟨S_, .f32⟩) (.of main_call2_v3 : StableHlo.TRef sig ⟨S36864, .f32⟩) (broadcastInDim S36864 ![] bcast_S_S36864),
    StableHlo.TRef.binary (.of main_call2_v3 : StableHlo.TRef sig ⟨S36864, .f32⟩) (.of main_call2_v2 : StableHlo.TRef sig ⟨S36864, .f32⟩) (.of main_v166 : StableHlo.TRef sig ⟨S36864, .f32⟩) minimumf ]
theorem hostOps0_5_sub : (hostOps0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_6 : List (HloOp τ sig (Elt F)) :=
  [ StableHlo.unary main_v160 main_v167 ((extractStridedSlice S36864x1 ![0, 1] · slices_S36864x4_S36864x1_0_1) : Tn F S36864x4 .f32 → Tn F S36864x1 .f32),
    StableHlo.reshape main_v167 main_v168 (rfl : (.f32 : EltTy) = .f32) shapeCasts_S36864x1_S36864,
    StableHlo.unary main_arg1 main_v169 ((extractStridedSlice S1x1 ![0, 0] · slices_S2x3_S1x1_0_0) : Tn F S2x3 .f32 → Tn F S1x1 .f32),
    StableHlo.reshape main_v169 main_v170 (rfl : (.f32 : EltTy) = .f32) shapeCasts_S1x1_S_,
    StableHlo.nullary main_cst_14 (constant S_ .f32 0x3F800000#32),
    StableHlo.binary main_v170 main_cst_14 main_v171 (subf : Tn F S_ .f32 → Tn F S_ .f32 → Tn F S_ .f32),
    StableHlo.nullary main_cst_15 (constant S_ .f32 0x00000000#32) ]
theorem hostOps0_6_sub : (hostOps0_6 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_7 : List (HloOp τ sig (Elt F)) :=
  [ StableHlo.TRef.unary (.of main_cst_15 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S36864, .f32⟩) (broadcastInDim S36864 ![] bcast_S_S36864),
    StableHlo.TRef.binary (.of main_call3_v1 : StableHlo.TRef sig ⟨S36864, .f32⟩) (.of main_v168 : StableHlo.TRef sig ⟨S36864, .f32⟩) (.of main_call3_v2 : StableHlo.TRef sig ⟨S36864, .f32⟩) maximumf,
    StableHlo.TRef.unary (.of main_v171 : StableHlo.TRef sig ⟨S_, .f32⟩) (.of main_call3_v3 : StableHlo.TRef sig ⟨S36864, .f32⟩) (broadcastInDim S36864 ![] bcast_S_S36864),
    StableHlo.TRef.binary (.of main_call3_v3 : StableHlo.TRef sig ⟨S36864, .f32⟩) (.of main_call3_v2 : StableHlo.TRef sig ⟨S36864, .f32⟩) (.of main_v172 : StableHlo.TRef sig ⟨S36864, .f32⟩) minimumf ]
theorem hostOps0_7_sub : (hostOps0_7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_8 : List (HloOp τ sig (Elt F)) :=
  [ StableHlo.unary main_v160 main_v173 ((extractStridedSlice S36864x1 ![0, 2] · slices_S36864x4_S36864x1_0_2) : Tn F S36864x4 .f32 → Tn F S36864x1 .f32),
    StableHlo.reshape main_v173 main_v174 (rfl : (.f32 : EltTy) = .f32) shapeCasts_S36864x1_S36864,
    StableHlo.unary main_arg1 main_v175 ((extractStridedSlice S1x1 ![0, 1] · slices_S2x3_S1x1_0_1) : Tn F S2x3 .f32 → Tn F S1x1 .f32),
    StableHlo.reshape main_v175 main_v176 (rfl : (.f32 : EltTy) = .f32) shapeCasts_S1x1_S_,
    StableHlo.nullary main_cst_16 (constant S_ .f32 0x3F800000#32),
    StableHlo.binary main_v176 main_cst_16 main_v177 (subf : Tn F S_ .f32 → Tn F S_ .f32 → Tn F S_ .f32),
    StableHlo.nullary main_cst_17 (constant S_ .f32 0x00000000#32) ]
theorem hostOps0_8_sub : (hostOps0_8 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_9 : List (HloOp τ sig (Elt F)) :=
  [ StableHlo.TRef.unary (.of main_cst_17 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S36864, .f32⟩) (broadcastInDim S36864 ![] bcast_S_S36864),
    StableHlo.TRef.binary (.of main_call4_v1 : StableHlo.TRef sig ⟨S36864, .f32⟩) (.of main_v174 : StableHlo.TRef sig ⟨S36864, .f32⟩) (.of main_call4_v2 : StableHlo.TRef sig ⟨S36864, .f32⟩) maximumf,
    StableHlo.TRef.unary (.of main_v177 : StableHlo.TRef sig ⟨S_, .f32⟩) (.of main_call4_v3 : StableHlo.TRef sig ⟨S36864, .f32⟩) (broadcastInDim S36864 ![] bcast_S_S36864),
    StableHlo.TRef.binary (.of main_call4_v3 : StableHlo.TRef sig ⟨S36864, .f32⟩) (.of main_call4_v2 : StableHlo.TRef sig ⟨S36864, .f32⟩) (.of main_v178 : StableHlo.TRef sig ⟨S36864, .f32⟩) minimumf ]
theorem hostOps0_9_sub : (hostOps0_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_10 : List (HloOp τ sig (Elt F)) :=
  [ StableHlo.unary main_v160 main_v179 ((extractStridedSlice S36864x1 ![0, 3] · slices_S36864x4_S36864x1_0_3) : Tn F S36864x4 .f32 → Tn F S36864x1 .f32),
    StableHlo.reshape main_v179 main_v180 (rfl : (.f32 : EltTy) = .f32) shapeCasts_S36864x1_S36864,
    StableHlo.unary main_arg1 main_v181 ((extractStridedSlice S1x1 ![0, 0] · slices_S2x3_S1x1_0_0) : Tn F S2x3 .f32 → Tn F S1x1 .f32),
    StableHlo.reshape main_v181 main_v182 (rfl : (.f32 : EltTy) = .f32) shapeCasts_S1x1_S_,
    StableHlo.nullary main_cst_18 (constant S_ .f32 0x3F800000#32),
    StableHlo.binary main_v182 main_cst_18 main_v183 (subf : Tn F S_ .f32 → Tn F S_ .f32 → Tn F S_ .f32),
    StableHlo.nullary main_cst_19 (constant S_ .f32 0x00000000#32) ]
theorem hostOps0_10_sub : (hostOps0_10 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_11 : List (HloOp τ sig (Elt F)) :=
  [ StableHlo.TRef.unary (.of main_cst_19 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S36864, .f32⟩) (broadcastInDim S36864 ![] bcast_S_S36864),
    StableHlo.TRef.binary (.of main_call5_v1 : StableHlo.TRef sig ⟨S36864, .f32⟩) (.of main_v180 : StableHlo.TRef sig ⟨S36864, .f32⟩) (.of main_call5_v2 : StableHlo.TRef sig ⟨S36864, .f32⟩) maximumf,
    StableHlo.TRef.unary (.of main_v183 : StableHlo.TRef sig ⟨S_, .f32⟩) (.of main_call5_v3 : StableHlo.TRef sig ⟨S36864, .f32⟩) (broadcastInDim S36864 ![] bcast_S_S36864),
    StableHlo.TRef.binary (.of main_call5_v3 : StableHlo.TRef sig ⟨S36864, .f32⟩) (.of main_call5_v2 : StableHlo.TRef sig ⟨S36864, .f32⟩) (.of main_v184 : StableHlo.TRef sig ⟨S36864, .f32⟩) minimumf ]
theorem hostOps0_11_sub : (hostOps0_11 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_12 : List (HloOp τ sig (Elt F)) :=
  ( StableHlo.unary main_v166 main_v185 (broadcastInDim S36864x1 ![0] bcast_S36864_S36864x1_0 : Tn F S36864 .f32 → Tn F S36864x1 .f32)
  :: StableHlo.unary main_v172 main_v186 (broadcastInDim S36864x1 ![0] bcast_S36864_S36864x1_0 : Tn F S36864 .f32 → Tn F S36864x1 .f32)
  :: StableHlo.unary main_v178 main_v187 (broadcastInDim S36864x1 ![0] bcast_S36864_S36864x1_0 : Tn F S36864 .f32 → Tn F S36864x1 .f32)
  :: StableHlo.unary main_v184 main_v188 (broadcastInDim S36864x1 ![0] bcast_S36864_S36864x1_0 : Tn F S36864 .f32 → Tn F S36864x1 .f32)
  :: StableHlo.nary ![main_v185, main_v186, main_v187, main_v188] main_v189 (fun u => (concatenate S36864x4 1 [⟨S36864x1, (u 0 : Tn F S36864x1 .f32)⟩, ⟨S36864x1, (u 1 : Tn F S36864x1 .f32)⟩, ⟨S36864x1, (u 2 : Tn F S36864x1 .f32)⟩, ⟨S36864x1, (u 3 : Tn F S36864x1 .f32)⟩] concatenates_S36864x1_S36864x1_S36864x1_S36864x1_S36864x4_d1 : Tn F S36864x4 .f32))
  :: StableHlo.unary main_v189 main_v190 ((extractStridedSlice S36864x1 ![0, 2] · slices_S36864x4_S36864x1_0_2) : Tn F S36864x4 .f32 → Tn F S36864x1 .f32)
  :: StableHlo.reshape main_v190 main_v191 (rfl : (.f32 : EltTy) = .f32) shapeCasts_S36864x1_S36864
  :: StableHlo.unary main_v189 main_v192 ((extractStridedSlice S36864x1 ![0, 0] · slices_S36864x4_S36864x1_0_0) : Tn F S36864x4 .f32 → Tn F S36864x1 .f32)
  :: StableHlo.reshape main_v192 main_v193 (rfl : (.f32 : EltTy) = .f32) shapeCasts_S36864x1_S36864
  :: StableHlo.binary main_v191 main_v193 main_v194 (subf : Tn F S36864 .f32 → Tn F S36864 .f32 → Tn F S36864 .f32)
  :: StableHlo.nullary main_cst_20 (constant S_ .f32 0x3F800000#32)
  :: StableHlo.unary main_cst_20 main_v195 (broadcastInDim S36864 ![] bcast_S_S36864 : Tn F S_ .f32 → Tn F S36864 .f32)
  :: StableHlo.binary main_v194 main_v195 main_v196 (addf : Tn F S36864 .f32 → Tn F S36864 .f32 → Tn F S36864 .f32)
  :: StableHlo.unary main_v189 main_v197 ((extractStridedSlice S36864x1 ![0, 3] · slices_S36864x4_S36864x1_0_3) : Tn F S36864x4 .f32 → Tn F S36864x1 .f32)
  :: StableHlo.reshape main_v197 main_v198 (rfl : (.f32 : EltTy) = .f32) shapeCasts_S36864x1_S36864
  :: StableHlo.unary main_v189 main_v199 ((extractStridedSlice S36864x1 ![0, 1] · slices_S36864x4_S36864x1_0_1) : Tn F S36864x4 .f32 → Tn F S36864x1 .f32)
  :: StableHlo.reshape main_v199 main_v200 (rfl : (.f32 : EltTy) = .f32) shapeCasts_S36864x1_S36864
  :: StableHlo.binary main_v198 main_v200 main_v201 (subf : Tn F S36864 .f32 → Tn F S36864 .f32 → Tn F S36864 .f32)
  :: StableHlo.nullary main_cst_21 (constant S_ .f32 0x3F800000#32)
  :: StableHlo.unary main_cst_21 main_v202 (broadcastInDim S36864 ![] bcast_S_S36864 : Tn F S_ .f32 → Tn F S36864 .f32)
  :: StableHlo.binary main_v201 main_v202 main_v203 (addf : Tn F S36864 .f32 → Tn F S36864 .f32 → Tn F S36864 .f32)
  :: StableHlo.unary main_arg1 main_v204 ((extractStridedSlice S1x1 ![0, 2] · slices_S2x3_S1x1_0_2) : Tn F S2x3 .f32 → Tn F S1x1 .f32)
  :: StableHlo.reshape main_v204 main_v205 (rfl : (.f32 : EltTy) = .f32) shapeCasts_S1x1_S_
  :: StableHlo.nullary main_cst_22 (constant S_ .f32 0x41800000#32)
  :: StableHlo.binary main_cst_22 main_v205 main_v206 (mulf : Tn F S_ .f32 → Tn F S_ .f32 → Tn F S_ .f32)
  :: StableHlo.unary main_v206 main_v207 (broadcastInDim S36864 ![] bcast_S_S36864 : Tn F S_ .f32 → Tn F S36864 .f32)
  :: StableHlo.binary main_v196 main_v207 main_v208 (cmpf .oge : Tn F S36864 .f32 → Tn F S36864 .f32 → Tn F S36864 .i1)
  :: StableHlo.unary main_v206 main_v209 (broadcastInDim S36864 ![] bcast_S_S36864 : Tn F S_ .f32 → Tn F S36864 .f32)
  :: StableHlo.binary main_v203 main_v209 main_v210 (cmpf .oge : Tn F S36864 .f32 → Tn F S36864 .f32 → Tn F S36864 .i1)
  :: StableHlo.binary main_v208 main_v210 main_v211 (andi : Tn F S36864 .i1 → Tn F S36864 .i1 → Tn F S36864 .i1)
  :: StableHlo.unary main_v87 main_v212 ((extractStridedSlice S1x36864 ![0, 0] · slices_S2x36864_S1x36864_0_0) : Tn F S2x36864 .f32 → Tn F S1x36864 .f32)
  :: StableHlo.reshape main_v212 main_v213 (rfl : (.f32 : EltTy) = .f32) shapeCasts_S1x36864_S36864
  :: StableHlo.nullary main_cst_23 (constant S_ .f32 0xBF800000#32)
  :: [] )
theorem hostOps0_12_sub : (hostOps0_12 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.nullary_bufs_sub ..⟩
abbrev hostOps0_13 : List (HloOp τ sig (Elt F)) :=
  [ StableHlo.TRef.unary (.of main_cst_23 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S36864, .f32⟩) (broadcastInDim S36864 ![] bcast_S_S36864),
    StableHlo.TRef.ternary (.of main_v211 : StableHlo.TRef sig ⟨S36864, .i1⟩) (.of main_v213 : StableHlo.TRef sig ⟨S36864, .f32⟩) (.of main_call6_v1 : StableHlo.TRef sig ⟨S36864, .f32⟩) (.of main_v214 : StableHlo.TRef sig ⟨S36864, .f32⟩) select ]
theorem hostOps0_13_sub : (hostOps0_13 : List (HloOp τ sig (Elt F))).Forall fun op => op.bufs ⊆ StableHlo.tcRefs τ sig :=
  ⟨StableHlo.unary_bufs_sub .., StableHlo.unary_bufs_sub .., StableHlo.ternary_bufs_sub ..⟩
abbrev hostOps0_14 : List (HloOp τ sig (Elt F)) :=
  [ StableHlo.unary main_v214 main_v215 (Host.negf : Tn F S36864 .f32 → Tn F S36864 .f32) ]
theorem hostOps0_14_sub : (hostOps0_14 : List (HloOp τ sig (Elt F))).Forall fun op => op.bufs ⊆ StableHlo.tcRefs τ sig :=
  StableHlo.unary_bufs_sub ..
abbrev hostOps0_15 : List (HloOp τ sig (Elt F)) :=
  [ StableHlo.TRef.nullary (.of main_call7_v0 : StableHlo.TRef sig ⟨S36864, .i32⟩) (iotaInDim S36864 32 0),
    StableHlo.TRef.binary (.of main_v215 : StableHlo.TRef sig ⟨S36864, .f32⟩) (.of main_call7_v0 : StableHlo.TRef sig ⟨S36864, .i32⟩) (.of main_call7_v1_0 : StableHlo.TRef sig ⟨S36864, .f32⟩) (fun x y => (Host.sort2 S36864 0 comparator_f32_i32_d0 x y).1),
    StableHlo.TRef.binary (.of main_v215 : StableHlo.TRef sig ⟨S36864, .f32⟩) (.of main_call7_v0 : StableHlo.TRef sig ⟨S36864, .i32⟩) (.of main_v216 : StableHlo.TRef sig ⟨S36864, .i32⟩) (fun x y => (Host.sort2 S36864 0 comparator_f32_i32_d0 x y).2) ]
theorem hostOps0_15_sub : (hostOps0_15 : List (HloOp τ sig (Elt F))).Forall fun op => op.bufs ⊆ StableHlo.tcRefs τ sig :=
  ⟨StableHlo.nullary_bufs_sub .., StableHlo.binary_bufs_sub .., StableHlo.binary_bufs_sub ..⟩
abbrev hostOps0_16 : List (HloOp τ sig (Elt F)) :=
  ( StableHlo.unary main_v216 main_v217 ((extractStridedSlice S6000 ![0] · slices_S36864_S6000_0) : Tn F S36864 .i32 → Tn F S6000 .i32)
  :: StableHlo.nullary main_c_24 (constantI S_ 32 0#32)
  :: StableHlo.unary main_c_24 main_v218 (broadcastInDim S6000 ![] bcast_S_S6000 : Tn F S_ .i32 → Tn F S6000 .i32)
  :: StableHlo.binary main_v217 main_v218 main_v219 (cmpi .slt : Tn F S6000 .i32 → Tn F S6000 .i32 → Tn F S6000 .i1)
  :: StableHlo.nullary main_c_25 (constantI S_ 32 36864#32)
  :: StableHlo.unary main_c_25 main_v220 (broadcastInDim S6000 ![] bcast_S_S6000 : Tn F S_ .i32 → Tn F S6000 .i32)
  :: StableHlo.binary main_v217 main_v220 main_v221 (addi : Tn F S6000 .i32 → Tn F S6000 .i32 → Tn F S6000 .i32)
  :: StableHlo.ternary main_v219 main_v221 main_v217 main_v222 (select : Tn F S6000 .i1 → Tn F S6000 .i32 → Tn F S6000 .i32 → Tn F S6000 .i32)
  :: StableHlo.unary main_v222 main_v223 (broadcastInDim S6000x1 ![0] bcast_S6000_S6000x1_0 : Tn F S6000 .i32 → Tn F S6000x1 .i32)
  :: StableHlo.binary main_v189 main_v223 main_v224 ((fun x i => Host.gather gather_S36864x4_S6000x1_S6000x4_1_0_n_n_0_1_14 x i) : Tn F S36864x4 .f32 → Tn F S6000x1 .i32 → Tn F S6000x4 .f32)
  :: StableHlo.unary main_v224 main_v225 ((extractStridedSlice S6000x1 ![0, 0] · slices_S6000x4_S6000x1_0_0) : Tn F S6000x4 .f32 → Tn F S6000x1 .f32)
  :: StableHlo.reshape main_v225 main_v226 (rfl : (.f32 : EltTy) = .f32) shapeCasts_S6000x1_S6000
  :: StableHlo.unary main_v224 main_v227 ((extractStridedSlice S6000x1 ![0, 1] · slices_S6000x4_S6000x1_0_1) : Tn F S6000x4 .f32 → Tn F S6000x1 .f32)
  :: StableHlo.reshape main_v227 main_v228 (rfl : (.f32 : EltTy) = .f32) shapeCasts_S6000x1_S6000
  :: StableHlo.unary main_v224 main_v229 ((extractStridedSlice S6000x1 ![0, 2] · slices_S6000x4_S6000x1_0_2) : Tn F S6000x4 .f32 → Tn F S6000x1 .f32)
  :: StableHlo.reshape main_v229 main_v230 (rfl : (.f32 : EltTy) = .f32) shapeCasts_S6000x1_S6000
  :: StableHlo.unary main_v224 main_v231 ((extractStridedSlice S6000x1 ![0, 3] · slices_S6000x4_S6000x1_0_3) : Tn F S6000x4 .f32 → Tn F S6000x1 .f32)
  :: StableHlo.reshape main_v231 main_v232 (rfl : (.f32 : EltTy) = .f32) shapeCasts_S6000x1_S6000
  :: StableHlo.binary main_v230 main_v226 main_v233 (subf : Tn F S6000 .f32 → Tn F S6000 .f32 → Tn F S6000 .f32)
  :: StableHlo.nullary main_cst_26 (constant S_ .f32 0x3F800000#32)
  :: StableHlo.unary main_cst_26 main_v234 (broadcastInDim S6000 ![] bcast_S_S6000 : Tn F S_ .f32 → Tn F S6000 .f32)
  :: StableHlo.binary main_v233 main_v234 main_v235 (addf : Tn F S6000 .f32 → Tn F S6000 .f32 → Tn F S6000 .f32)
  :: StableHlo.binary main_v232 main_v228 main_v236 (subf : Tn F S6000 .f32 → Tn F S6000 .f32 → Tn F S6000 .f32)
  :: StableHlo.nullary main_cst_27 (constant S_ .f32 0x3F800000#32)
  :: StableHlo.unary main_cst_27 main_v237 (broadcastInDim S6000 ![] bcast_S_S6000 : Tn F S_ .f32 → Tn F S6000 .f32)
  :: StableHlo.binary main_v236 main_v237 main_v238 (addf : Tn F S6000 .f32 → Tn F S6000 .f32 → Tn F S6000 .f32)
  :: StableHlo.binary main_v235 main_v238 main_v239 (mulf : Tn F S6000 .f32 → Tn F S6000 .f32 → Tn F S6000 .f32)
  :: StableHlo.nullary main_v240 (iotaInDim S6000 32 0)
  :: StableHlo.nullary main_c_28 (constantI S_ 1 0#1)
  :: StableHlo.unary main_c_28 main_v241 (broadcastInDim S6000 ![] bcast_S_S6000 : Tn F S_ .i1 → Tn F S6000 .i1)
  :: StableHlo.nullary main_c_29 (constantI S_ 32 0#32)
  :: StableHlo.nullary main_c_30 (constantI S_ 32 0#32)
  :: StableHlo.unary main_v226 main_v242_0 id
  :: StableHlo.unary main_v228 main_v242_1 id
  :: StableHlo.unary main_v230 main_v242_2 id
  :: StableHlo.unary main_v232 main_v242_3 id
  :: StableHlo.unary main_v239 main_v242_4 id
  :: StableHlo.unary main_v240 main_v242_5 id
  :: StableHlo.unary main_c_30 main_v242_6 id
  :: StableHlo.unary main_c_29 main_v242_7 id
  :: StableHlo.unary main_v241 main_v242_8 id
  :: [] )
theorem hostOps0_16_sub : (hostOps0_16 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev hostOps0_17 : List (HloOp τ sig (Elt F)) :=
  [ StableHlo.unary main_v242_8 main_v243 (noti : Tn F S6000 .i1 → Tn F S6000 .i1),
    StableHlo.nullary main_c_31 (constantI S_ 32 6000#32) ]
theorem hostOps0_17_sub : (hostOps0_17 : List (HloOp τ sig (Elt F))).Forall fun op => op.bufs ⊆ StableHlo.tcRefs τ sig :=
  ⟨StableHlo.unary_bufs_sub .., StableHlo.nullary_bufs_sub ..⟩
abbrev hostOps0_18 : List (HloOp τ sig (Elt F)) :=
  [ StableHlo.TRef.unary (.of main_c_31 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S6000, .i32⟩) (broadcastInDim S6000 ![] bcast_S_S6000),
    StableHlo.TRef.ternary (.of main_v243 : StableHlo.TRef sig ⟨S6000, .i1⟩) (.of main_v240 : StableHlo.TRef sig ⟨S6000, .i32⟩) (.of main_call9_v1 : StableHlo.TRef sig ⟨S6000, .i32⟩) (.of main_v244 : StableHlo.TRef sig ⟨S6000, .i32⟩) select ]
theorem hostOps0_18_sub : (hostOps0_18 : List (HloOp τ sig (Elt F))).Forall fun op => op.bufs ⊆ StableHlo.tcRefs τ sig :=
  ⟨StableHlo.unary_bufs_sub .., StableHlo.unary_bufs_sub .., StableHlo.ternary_bufs_sub ..⟩
abbrev hostOps0_19 : List (HloOp τ sig (Elt F)) :=
  [ StableHlo.TRef.unary (.of main_v244 : StableHlo.TRef sig ⟨S6000, .i32⟩) (.of main_v245 : StableHlo.TRef sig ⟨S6000, .i32⟩) (fun x => Host.sort S6000 0 comparator_i32_d0 x) ]
theorem hostOps0_19_sub : (hostOps0_19 : List (HloOp τ sig (Elt F))).Forall fun op => op.bufs ⊆ StableHlo.tcRefs τ sig :=
  StableHlo.unary_bufs_sub ..
abbrev hostOps0_20 : List (HloOp τ sig (Elt F)) :=
  [ StableHlo.unary main_v245 main_v246 ((extractStridedSlice S1000 ![0] · slices_S6000_S1000_0) : Tn F S6000 .i32 → Tn F S1000 .i32),
    StableHlo.nullary main_c_32 (constantI S_ 32 6000#32),
    StableHlo.unary main_c_32 main_v247 (broadcastInDim S1000 ![] bcast_S_S1000 : Tn F S_ .i32 → Tn F S1000 .i32),
    StableHlo.binary main_v246 main_v247 main_v248 (cmpi .slt : Tn F S1000 .i32 → Tn F S1000 .i32 → Tn F S1000 .i1),
    StableHlo.unary main_v248 main_v249 (uitofp .f32 : Tn F S1000 .i1 → Tn F S1000 .f32),
    StableHlo.nullary main_c_33 (constantI S_ 32 5999#32),
    StableHlo.unary main_c_33 main_v250 (broadcastInDim S1000 ![] bcast_S_S1000 : Tn F S_ .i32 → Tn F S1000 .i32),
    StableHlo.binary main_v246 main_v250 main_v251 (minsi : Tn F S1000 .i32 → Tn F S1000 .i32 → Tn F S1000 .i32),
    StableHlo.nullary main_c_34 (constantI S_ 32 0#32),
    StableHlo.unary main_c_34 main_v252 (broadcastInDim S1000 ![] bcast_S_S1000 : Tn F S_ .i32 → Tn F S1000 .i32),
    StableHlo.binary main_v251 main_v252 main_v253 (cmpi .slt : Tn F S1000 .i32 → Tn F S1000 .i32 → Tn F S1000 .i1),
    StableHlo.nullary main_c_35 (constantI S_ 32 6000#32),
    StableHlo.unary main_c_35 main_v254 (broadcastInDim S1000 ![] bcast_S_S1000 : Tn F S_ .i32 → Tn F S1000 .i32),
    StableHlo.binary main_v251 main_v254 main_v255 (addi : Tn F S1000 .i32 → Tn F S1000 .i32 → Tn F S1000 .i32),
    StableHlo.ternary main_v253 main_v255 main_v251 main_v256 (select : Tn F S1000 .i1 → Tn F S1000 .i32 → Tn F S1000 .i32 → Tn F S1000 .i32),
    StableHlo.unary main_v256 main_v257 (broadcastInDim S1000x1 ![0] bcast_S1000_S1000x1_0 : Tn F S1000 .i32 → Tn F S1000x1 .i32),
    StableHlo.binary main_v224 main_v257 main_v258 ((fun x i => Host.gather gather_S6000x4_S1000x1_S1000x4_1_0_n_n_0_1_14 x i) : Tn F S6000x4 .f32 → Tn F S1000x1 .i32 → Tn F S1000x4 .f32),
    StableHlo.unary main_v249 main_v259 (broadcastInDim S1000x1 ![0] bcast_S1000_S1000x1_0 : Tn F S1000 .f32 → Tn F S1000x1 .f32),
    StableHlo.unary main_v259 main_v260 (broadcastInDim S1000x4 ![0, 1] bcast_S1000x1_S1000x4_0_1 : Tn F S1000x1 .f32 → Tn F S1000x4 .f32),
    StableHlo.binary main_v258 main_v260 main_v261 (mulf : Tn F S1000x4 .f32 → Tn F S1000x4 .f32 → Tn F S1000x4 .f32),
    StableHlo.nullary main_cst_36 (constant S_ .f32 0x00000000#32),
    StableHlo.unary main_cst_36 main_v262 (broadcastInDim S1000x1 ![] bcast_S_S1000x1 : Tn F S_ .f32 → Tn F S1000x1 .f32),
    StableHlo.binary main_v262 main_v261 main_v263 ((fun a b => concatenate S1000x5 1 [⟨S1000x1, a⟩, ⟨S1000x4, b⟩] concatenates_S1000x1_S1000x4_S1000x5_d1) : Tn F S1000x1 .f32 → Tn F S1000x4 .f32 → Tn F S1000x5 .f32),
    StableHlo.unary main_v158 main_v264 ((extractStridedSlice S1x36864x4 ![1, 0, 0] · slices_S2x36864x4_S1x36864x4_1_0_0) : Tn F S2x36864x4 .f32 → Tn F S1x36864x4 .f32),
    StableHlo.reshape main_v264 main_v265 (rfl : (.f32 : EltTy) = .f32) shapeCasts_S1x36864x4_S36864x4,
    StableHlo.unary main_v265 main_v266 ((extractStridedSlice S36864x1 ![0, 0] · slices_S36864x4_S36864x1_0_0) : Tn F S36864x4 .f32 → Tn F S36864x1 .f32),
    StableHlo.reshape main_v266 main_v267 (rfl : (.f32 : EltTy) = .f32) shapeCasts_S36864x1_S36864,
    StableHlo.unary main_arg1 main_v268 ((extractStridedSlice S1x1 ![1, 1] · slices_S2x3_S1x1_1_1) : Tn F S2x3 .f32 → Tn F S1x1 .f32),
    StableHlo.reshape main_v268 main_v269 (rfl : (.f32 : EltTy) = .f32) shapeCasts_S1x1_S_,
    StableHlo.nullary main_cst_37 (constant S_ .f32 0x3F800000#32),
    StableHlo.binary main_v269 main_cst_37 main_v270 (subf : Tn F S_ .f32 → Tn F S_ .f32 → Tn F S_ .f32),
    StableHlo.nullary main_cst_38 (constant S_ .f32 0x00000000#32) ]
theorem hostOps0_20_sub : (hostOps0_20 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_21 : List (HloOp τ sig (Elt F)) :=
  [ StableHlo.TRef.unary (.of main_cst_38 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S36864, .f32⟩) (broadcastInDim S36864 ![] bcast_S_S36864),
    StableHlo.TRef.binary (.of main_call11_v1 : StableHlo.TRef sig ⟨S36864, .f32⟩) (.of main_v267 : StableHlo.TRef sig ⟨S36864, .f32⟩) (.of main_call11_v2 : StableHlo.TRef sig ⟨S36864, .f32⟩) maximumf,
    StableHlo.TRef.unary (.of main_v270 : StableHlo.TRef sig ⟨S_, .f32⟩) (.of main_call11_v3 : StableHlo.TRef sig ⟨S36864, .f32⟩) (broadcastInDim S36864 ![] bcast_S_S36864),
    StableHlo.TRef.binary (.of main_call11_v3 : StableHlo.TRef sig ⟨S36864, .f32⟩) (.of main_call11_v2 : StableHlo.TRef sig ⟨S36864, .f32⟩) (.of main_v271 : StableHlo.TRef sig ⟨S36864, .f32⟩) minimumf ]
theorem hostOps0_21_sub : (hostOps0_21 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_22 : List (HloOp τ sig (Elt F)) :=
  [ StableHlo.unary main_v265 main_v272 ((extractStridedSlice S36864x1 ![0, 1] · slices_S36864x4_S36864x1_0_1) : Tn F S36864x4 .f32 → Tn F S36864x1 .f32),
    StableHlo.reshape main_v272 main_v273 (rfl : (.f32 : EltTy) = .f32) shapeCasts_S36864x1_S36864,
    StableHlo.unary main_arg1 main_v274 ((extractStridedSlice S1x1 ![1, 0] · slices_S2x3_S1x1_1_0) : Tn F S2x3 .f32 → Tn F S1x1 .f32),
    StableHlo.reshape main_v274 main_v275 (rfl : (.f32 : EltTy) = .f32) shapeCasts_S1x1_S_,
    StableHlo.nullary main_cst_39 (constant S_ .f32 0x3F800000#32),
    StableHlo.binary main_v275 main_cst_39 main_v276 (subf : Tn F S_ .f32 → Tn F S_ .f32 → Tn F S_ .f32),
    StableHlo.nullary main_cst_40 (constant S_ .f32 0x00000000#32) ]
theorem hostOps0_22_sub : (hostOps0_22 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_23 : List (HloOp τ sig (Elt F)) :=
  [ StableHlo.TRef.unary (.of main_cst_40 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S36864, .f32⟩) (broadcastInDim S36864 ![] bcast_S_S36864),
    StableHlo.TRef.binary (.of main_call12_v1 : StableHlo.TRef sig ⟨S36864, .f32⟩) (.of main_v273 : StableHlo.TRef sig ⟨S36864, .f32⟩) (.of main_call12_v2 : StableHlo.TRef sig ⟨S36864, .f32⟩) maximumf,
    StableHlo.TRef.unary (.of main_v276 : StableHlo.TRef sig ⟨S_, .f32⟩) (.of main_call12_v3 : StableHlo.TRef sig ⟨S36864, .f32⟩) (broadcastInDim S36864 ![] bcast_S_S36864),
    StableHlo.TRef.binary (.of main_call12_v3 : StableHlo.TRef sig ⟨S36864, .f32⟩) (.of main_call12_v2 : StableHlo.TRef sig ⟨S36864, .f32⟩) (.of main_v277 : StableHlo.TRef sig ⟨S36864, .f32⟩) minimumf ]
theorem hostOps0_23_sub : (hostOps0_23 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_24 : List (HloOp τ sig (Elt F)) :=
  [ StableHlo.unary main_v265 main_v278 ((extractStridedSlice S36864x1 ![0, 2] · slices_S36864x4_S36864x1_0_2) : Tn F S36864x4 .f32 → Tn F S36864x1 .f32),
    StableHlo.reshape main_v278 main_v279 (rfl : (.f32 : EltTy) = .f32) shapeCasts_S36864x1_S36864,
    StableHlo.unary main_arg1 main_v280 ((extractStridedSlice S1x1 ![1, 1] · slices_S2x3_S1x1_1_1) : Tn F S2x3 .f32 → Tn F S1x1 .f32),
    StableHlo.reshape main_v280 main_v281 (rfl : (.f32 : EltTy) = .f32) shapeCasts_S1x1_S_,
    StableHlo.nullary main_cst_41 (constant S_ .f32 0x3F800000#32),
    StableHlo.binary main_v281 main_cst_41 main_v282 (subf : Tn F S_ .f32 → Tn F S_ .f32 → Tn F S_ .f32),
    StableHlo.nullary main_cst_42 (constant S_ .f32 0x00000000#32) ]
theorem hostOps0_24_sub : (hostOps0_24 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_25 : List (HloOp τ sig (Elt F)) :=
  [ StableHlo.TRef.unary (.of main_cst_42 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S36864, .f32⟩) (broadcastInDim S36864 ![] bcast_S_S36864),
    StableHlo.TRef.binary (.of main_call13_v1 : StableHlo.TRef sig ⟨S36864, .f32⟩) (.of main_v279 : StableHlo.TRef sig ⟨S36864, .f32⟩) (.of main_call13_v2 : StableHlo.TRef sig ⟨S36864, .f32⟩) maximumf,
    StableHlo.TRef.unary (.of main_v282 : StableHlo.TRef sig ⟨S_, .f32⟩) (.of main_call13_v3 : StableHlo.TRef sig ⟨S36864, .f32⟩) (broadcastInDim S36864 ![] bcast_S_S36864),
    StableHlo.TRef.binary (.of main_call13_v3 : StableHlo.TRef sig ⟨S36864, .f32⟩) (.of main_call13_v2 : StableHlo.TRef sig ⟨S36864, .f32⟩) (.of main_v283 : StableHlo.TRef sig ⟨S36864, .f32⟩) minimumf ]
theorem hostOps0_25_sub : (hostOps0_25 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_26 : List (HloOp τ sig (Elt F)) :=
  [ StableHlo.unary main_v265 main_v284 ((extractStridedSlice S36864x1 ![0, 3] · slices_S36864x4_S36864x1_0_3) : Tn F S36864x4 .f32 → Tn F S36864x1 .f32),
    StableHlo.reshape main_v284 main_v285 (rfl : (.f32 : EltTy) = .f32) shapeCasts_S36864x1_S36864,
    StableHlo.unary main_arg1 main_v286 ((extractStridedSlice S1x1 ![1, 0] · slices_S2x3_S1x1_1_0) : Tn F S2x3 .f32 → Tn F S1x1 .f32),
    StableHlo.reshape main_v286 main_v287 (rfl : (.f32 : EltTy) = .f32) shapeCasts_S1x1_S_,
    StableHlo.nullary main_cst_43 (constant S_ .f32 0x3F800000#32),
    StableHlo.binary main_v287 main_cst_43 main_v288 (subf : Tn F S_ .f32 → Tn F S_ .f32 → Tn F S_ .f32),
    StableHlo.nullary main_cst_44 (constant S_ .f32 0x00000000#32) ]
theorem hostOps0_26_sub : (hostOps0_26 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.nullary_bufs_sub ..⟩
abbrev hostOps0_27 : List (HloOp τ sig (Elt F)) :=
  [ StableHlo.TRef.unary (.of main_cst_44 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S36864, .f32⟩) (broadcastInDim S36864 ![] bcast_S_S36864),
    StableHlo.TRef.binary (.of main_call14_v1 : StableHlo.TRef sig ⟨S36864, .f32⟩) (.of main_v285 : StableHlo.TRef sig ⟨S36864, .f32⟩) (.of main_call14_v2 : StableHlo.TRef sig ⟨S36864, .f32⟩) maximumf,
    StableHlo.TRef.unary (.of main_v288 : StableHlo.TRef sig ⟨S_, .f32⟩) (.of main_call14_v3 : StableHlo.TRef sig ⟨S36864, .f32⟩) (broadcastInDim S36864 ![] bcast_S_S36864),
    StableHlo.TRef.binary (.of main_call14_v3 : StableHlo.TRef sig ⟨S36864, .f32⟩) (.of main_call14_v2 : StableHlo.TRef sig ⟨S36864, .f32⟩) (.of main_v289 : StableHlo.TRef sig ⟨S36864, .f32⟩) minimumf ]
theorem hostOps0_27_sub : (hostOps0_27 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
abbrev hostOps0_28 : List (HloOp τ sig (Elt F)) :=
  ( StableHlo.unary main_v271 main_v290 (broadcastInDim S36864x1 ![0] bcast_S36864_S36864x1_0 : Tn F S36864 .f32 → Tn F S36864x1 .f32)
  :: StableHlo.unary main_v277 main_v291 (broadcastInDim S36864x1 ![0] bcast_S36864_S36864x1_0 : Tn F S36864 .f32 → Tn F S36864x1 .f32)
  :: StableHlo.unary main_v283 main_v292 (broadcastInDim S36864x1 ![0] bcast_S36864_S36864x1_0 : Tn F S36864 .f32 → Tn F S36864x1 .f32)
  :: StableHlo.unary main_v289 main_v293 (broadcastInDim S36864x1 ![0] bcast_S36864_S36864x1_0 : Tn F S36864 .f32 → Tn F S36864x1 .f32)
  :: StableHlo.nary ![main_v290, main_v291, main_v292, main_v293] main_v294 (fun u => (concatenate S36864x4 1 [⟨S36864x1, (u 0 : Tn F S36864x1 .f32)⟩, ⟨S36864x1, (u 1 : Tn F S36864x1 .f32)⟩, ⟨S36864x1, (u 2 : Tn F S36864x1 .f32)⟩, ⟨S36864x1, (u 3 : Tn F S36864x1 .f32)⟩] concatenates_S36864x1_S36864x1_S36864x1_S36864x1_S36864x4_d1 : Tn F S36864x4 .f32))
  :: StableHlo.unary main_v294 main_v295 ((extractStridedSlice S36864x1 ![0, 2] · slices_S36864x4_S36864x1_0_2) : Tn F S36864x4 .f32 → Tn F S36864x1 .f32)
  :: StableHlo.reshape main_v295 main_v296 (rfl : (.f32 : EltTy) = .f32) shapeCasts_S36864x1_S36864
  :: StableHlo.unary main_v294 main_v297 ((extractStridedSlice S36864x1 ![0, 0] · slices_S36864x4_S36864x1_0_0) : Tn F S36864x4 .f32 → Tn F S36864x1 .f32)
  :: StableHlo.reshape main_v297 main_v298 (rfl : (.f32 : EltTy) = .f32) shapeCasts_S36864x1_S36864
  :: StableHlo.binary main_v296 main_v298 main_v299 (subf : Tn F S36864 .f32 → Tn F S36864 .f32 → Tn F S36864 .f32)
  :: StableHlo.nullary main_cst_45 (constant S_ .f32 0x3F800000#32)
  :: StableHlo.unary main_cst_45 main_v300 (broadcastInDim S36864 ![] bcast_S_S36864 : Tn F S_ .f32 → Tn F S36864 .f32)
  :: StableHlo.binary main_v299 main_v300 main_v301 (addf : Tn F S36864 .f32 → Tn F S36864 .f32 → Tn F S36864 .f32)
  :: StableHlo.unary main_v294 main_v302 ((extractStridedSlice S36864x1 ![0, 3] · slices_S36864x4_S36864x1_0_3) : Tn F S36864x4 .f32 → Tn F S36864x1 .f32)
  :: StableHlo.reshape main_v302 main_v303 (rfl : (.f32 : EltTy) = .f32) shapeCasts_S36864x1_S36864
  :: StableHlo.unary main_v294 main_v304 ((extractStridedSlice S36864x1 ![0, 1] · slices_S36864x4_S36864x1_0_1) : Tn F S36864x4 .f32 → Tn F S36864x1 .f32)
  :: StableHlo.reshape main_v304 main_v305 (rfl : (.f32 : EltTy) = .f32) shapeCasts_S36864x1_S36864
  :: StableHlo.binary main_v303 main_v305 main_v306 (subf : Tn F S36864 .f32 → Tn F S36864 .f32 → Tn F S36864 .f32)
  :: StableHlo.nullary main_cst_46 (constant S_ .f32 0x3F800000#32)
  :: StableHlo.unary main_cst_46 main_v307 (broadcastInDim S36864 ![] bcast_S_S36864 : Tn F S_ .f32 → Tn F S36864 .f32)
  :: StableHlo.binary main_v306 main_v307 main_v308 (addf : Tn F S36864 .f32 → Tn F S36864 .f32 → Tn F S36864 .f32)
  :: StableHlo.unary main_arg1 main_v309 ((extractStridedSlice S1x1 ![1, 2] · slices_S2x3_S1x1_1_2) : Tn F S2x3 .f32 → Tn F S1x1 .f32)
  :: StableHlo.reshape main_v309 main_v310 (rfl : (.f32 : EltTy) = .f32) shapeCasts_S1x1_S_
  :: StableHlo.nullary main_cst_47 (constant S_ .f32 0x41800000#32)
  :: StableHlo.binary main_cst_47 main_v310 main_v311 (mulf : Tn F S_ .f32 → Tn F S_ .f32 → Tn F S_ .f32)
  :: StableHlo.unary main_v311 main_v312 (broadcastInDim S36864 ![] bcast_S_S36864 : Tn F S_ .f32 → Tn F S36864 .f32)
  :: StableHlo.binary main_v301 main_v312 main_v313 (cmpf .oge : Tn F S36864 .f32 → Tn F S36864 .f32 → Tn F S36864 .i1)
  :: StableHlo.unary main_v311 main_v314 (broadcastInDim S36864 ![] bcast_S_S36864 : Tn F S_ .f32 → Tn F S36864 .f32)
  :: StableHlo.binary main_v308 main_v314 main_v315 (cmpf .oge : Tn F S36864 .f32 → Tn F S36864 .f32 → Tn F S36864 .i1)
  :: StableHlo.binary main_v313 main_v315 main_v316 (andi : Tn F S36864 .i1 → Tn F S36864 .i1 → Tn F S36864 .i1)
  :: StableHlo.unary main_v87 main_v317 ((extractStridedSlice S1x36864 ![1, 0] · slices_S2x36864_S1x36864_1_0) : Tn F S2x36864 .f32 → Tn F S1x36864 .f32)
  :: StableHlo.reshape main_v317 main_v318 (rfl : (.f32 : EltTy) = .f32) shapeCasts_S1x36864_S36864
  :: StableHlo.nullary main_cst_48 (constant S_ .f32 0xBF800000#32)
  :: [] )
theorem hostOps0_28_sub : (hostOps0_28 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.reshape_bufs_sub .., StableHlo.nullary_bufs_sub ..⟩
abbrev hostOps0_29 : List (HloOp τ sig (Elt F)) :=
  [ StableHlo.TRef.unary (.of main_cst_48 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S36864, .f32⟩) (broadcastInDim S36864 ![] bcast_S_S36864),
    StableHlo.TRef.ternary (.of main_v316 : StableHlo.TRef sig ⟨S36864, .i1⟩) (.of main_v318 : StableHlo.TRef sig ⟨S36864, .f32⟩) (.of main_call15_v1 : StableHlo.TRef sig ⟨S36864, .f32⟩) (.of main_v319 : StableHlo.TRef sig ⟨S36864, .f32⟩) select ]
theorem hostOps0_29_sub : (hostOps0_29 : List (HloOp τ sig (Elt F))).Forall fun op => op.bufs ⊆ StableHlo.tcRefs τ sig :=
  ⟨StableHlo.unary_bufs_sub .., StableHlo.unary_bufs_sub .., StableHlo.ternary_bufs_sub ..⟩
abbrev hostOps0_30 : List (HloOp τ sig (Elt F)) :=
  [ StableHlo.unary main_v319 main_v320 (Host.negf : Tn F S36864 .f32 → Tn F S36864 .f32) ]
theorem hostOps0_30_sub : (hostOps0_30 : List (HloOp τ sig (Elt F))).Forall fun op => op.bufs ⊆ StableHlo.tcRefs τ sig :=
  StableHlo.unary_bufs_sub ..
abbrev hostOps0_31 : List (HloOp τ sig (Elt F)) :=
  [ StableHlo.TRef.nullary (.of main_call16_v0 : StableHlo.TRef sig ⟨S36864, .i32⟩) (iotaInDim S36864 32 0),
    StableHlo.TRef.binary (.of main_v320 : StableHlo.TRef sig ⟨S36864, .f32⟩) (.of main_call16_v0 : StableHlo.TRef sig ⟨S36864, .i32⟩) (.of main_call16_v1_0 : StableHlo.TRef sig ⟨S36864, .f32⟩) (fun x y => (Host.sort2 S36864 0 comparator_f32_i32_d0 x y).1),
    StableHlo.TRef.binary (.of main_v320 : StableHlo.TRef sig ⟨S36864, .f32⟩) (.of main_call16_v0 : StableHlo.TRef sig ⟨S36864, .i32⟩) (.of main_v321 : StableHlo.TRef sig ⟨S36864, .i32⟩) (fun x y => (Host.sort2 S36864 0 comparator_f32_i32_d0 x y).2) ]
theorem hostOps0_31_sub : (hostOps0_31 : List (HloOp τ sig (Elt F))).Forall fun op => op.bufs ⊆ StableHlo.tcRefs τ sig :=
  ⟨StableHlo.nullary_bufs_sub .., StableHlo.binary_bufs_sub .., StableHlo.binary_bufs_sub ..⟩
abbrev hostOps0_32 : List (HloOp τ sig (Elt F)) :=
  ( StableHlo.unary main_v321 main_v322 ((extractStridedSlice S6000 ![0] · slices_S36864_S6000_0) : Tn F S36864 .i32 → Tn F S6000 .i32)
  :: StableHlo.nullary main_c_49 (constantI S_ 32 0#32)
  :: StableHlo.unary main_c_49 main_v323 (broadcastInDim S6000 ![] bcast_S_S6000 : Tn F S_ .i32 → Tn F S6000 .i32)
  :: StableHlo.binary main_v322 main_v323 main_v324 (cmpi .slt : Tn F S6000 .i32 → Tn F S6000 .i32 → Tn F S6000 .i1)
  :: StableHlo.nullary main_c_50 (constantI S_ 32 36864#32)
  :: StableHlo.unary main_c_50 main_v325 (broadcastInDim S6000 ![] bcast_S_S6000 : Tn F S_ .i32 → Tn F S6000 .i32)
  :: StableHlo.binary main_v322 main_v325 main_v326 (addi : Tn F S6000 .i32 → Tn F S6000 .i32 → Tn F S6000 .i32)
  :: StableHlo.ternary main_v324 main_v326 main_v322 main_v327 (select : Tn F S6000 .i1 → Tn F S6000 .i32 → Tn F S6000 .i32 → Tn F S6000 .i32)
  :: StableHlo.unary main_v327 main_v328 (broadcastInDim S6000x1 ![0] bcast_S6000_S6000x1_0 : Tn F S6000 .i32 → Tn F S6000x1 .i32)
  :: StableHlo.binary main_v294 main_v328 main_v329 ((fun x i => Host.gather gather_S36864x4_S6000x1_S6000x4_1_0_n_n_0_1_14 x i) : Tn F S36864x4 .f32 → Tn F S6000x1 .i32 → Tn F S6000x4 .f32)
  :: StableHlo.unary main_v329 main_v330 ((extractStridedSlice S6000x1 ![0, 0] · slices_S6000x4_S6000x1_0_0) : Tn F S6000x4 .f32 → Tn F S6000x1 .f32)
  :: StableHlo.reshape main_v330 main_v331 (rfl : (.f32 : EltTy) = .f32) shapeCasts_S6000x1_S6000
  :: StableHlo.unary main_v329 main_v332 ((extractStridedSlice S6000x1 ![0, 1] · slices_S6000x4_S6000x1_0_1) : Tn F S6000x4 .f32 → Tn F S6000x1 .f32)
  :: StableHlo.reshape main_v332 main_v333 (rfl : (.f32 : EltTy) = .f32) shapeCasts_S6000x1_S6000
  :: StableHlo.unary main_v329 main_v334 ((extractStridedSlice S6000x1 ![0, 2] · slices_S6000x4_S6000x1_0_2) : Tn F S6000x4 .f32 → Tn F S6000x1 .f32)
  :: StableHlo.reshape main_v334 main_v335 (rfl : (.f32 : EltTy) = .f32) shapeCasts_S6000x1_S6000
  :: StableHlo.unary main_v329 main_v336 ((extractStridedSlice S6000x1 ![0, 3] · slices_S6000x4_S6000x1_0_3) : Tn F S6000x4 .f32 → Tn F S6000x1 .f32)
  :: StableHlo.reshape main_v336 main_v337 (rfl : (.f32 : EltTy) = .f32) shapeCasts_S6000x1_S6000
  :: StableHlo.binary main_v335 main_v331 main_v338 (subf : Tn F S6000 .f32 → Tn F S6000 .f32 → Tn F S6000 .f32)
  :: StableHlo.nullary main_cst_51 (constant S_ .f32 0x3F800000#32)
  :: StableHlo.unary main_cst_51 main_v339 (broadcastInDim S6000 ![] bcast_S_S6000 : Tn F S_ .f32 → Tn F S6000 .f32)
  :: StableHlo.binary main_v338 main_v339 main_v340 (addf : Tn F S6000 .f32 → Tn F S6000 .f32 → Tn F S6000 .f32)
  :: StableHlo.binary main_v337 main_v333 main_v341 (subf : Tn F S6000 .f32 → Tn F S6000 .f32 → Tn F S6000 .f32)
  :: StableHlo.nullary main_cst_52 (constant S_ .f32 0x3F800000#32)
  :: StableHlo.unary main_cst_52 main_v342 (broadcastInDim S6000 ![] bcast_S_S6000 : Tn F S_ .f32 → Tn F S6000 .f32)
  :: StableHlo.binary main_v341 main_v342 main_v343 (addf : Tn F S6000 .f32 → Tn F S6000 .f32 → Tn F S6000 .f32)
  :: StableHlo.binary main_v340 main_v343 main_v344 (mulf : Tn F S6000 .f32 → Tn F S6000 .f32 → Tn F S6000 .f32)
  :: StableHlo.nullary main_v345 (iotaInDim S6000 32 0)
  :: StableHlo.nullary main_c_53 (constantI S_ 1 0#1)
  :: StableHlo.unary main_c_53 main_v346 (broadcastInDim S6000 ![] bcast_S_S6000 : Tn F S_ .i1 → Tn F S6000 .i1)
  :: StableHlo.nullary main_c_54 (constantI S_ 32 0#32)
  :: StableHlo.nullary main_c_55 (constantI S_ 32 0#32)
  :: StableHlo.unary main_v331 main_v347_0 id
  :: StableHlo.unary main_v333 main_v347_1 id
  :: StableHlo.unary main_v335 main_v347_2 id
  :: StableHlo.unary main_v337 main_v347_3 id
  :: StableHlo.unary main_v344 main_v347_4 id
  :: StableHlo.unary main_v345 main_v347_5 id
  :: StableHlo.unary main_c_55 main_v347_6 id
  :: StableHlo.unary main_c_54 main_v347_7 id
  :: StableHlo.unary main_v346 main_v347_8 id
  :: [] )
theorem hostOps0_32_sub : (hostOps0_32 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev hostOps0_33 : List (HloOp τ sig (Elt F)) :=
  [ StableHlo.unary main_v347_8 main_v348 (noti : Tn F S6000 .i1 → Tn F S6000 .i1),
    StableHlo.nullary main_c_56 (constantI S_ 32 6000#32) ]
theorem hostOps0_33_sub : (hostOps0_33 : List (HloOp τ sig (Elt F))).Forall fun op => op.bufs ⊆ StableHlo.tcRefs τ sig :=
  ⟨StableHlo.unary_bufs_sub .., StableHlo.nullary_bufs_sub ..⟩
abbrev hostOps0_34 : List (HloOp τ sig (Elt F)) :=
  [ StableHlo.TRef.unary (.of main_c_56 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S6000, .i32⟩) (broadcastInDim S6000 ![] bcast_S_S6000),
    StableHlo.TRef.ternary (.of main_v348 : StableHlo.TRef sig ⟨S6000, .i1⟩) (.of main_v345 : StableHlo.TRef sig ⟨S6000, .i32⟩) (.of main_call18_v1 : StableHlo.TRef sig ⟨S6000, .i32⟩) (.of main_v349 : StableHlo.TRef sig ⟨S6000, .i32⟩) select ]
theorem hostOps0_34_sub : (hostOps0_34 : List (HloOp τ sig (Elt F))).Forall fun op => op.bufs ⊆ StableHlo.tcRefs τ sig :=
  ⟨StableHlo.unary_bufs_sub .., StableHlo.unary_bufs_sub .., StableHlo.ternary_bufs_sub ..⟩
abbrev hostOps0_35 : List (HloOp τ sig (Elt F)) :=
  [ StableHlo.TRef.unary (.of main_v349 : StableHlo.TRef sig ⟨S6000, .i32⟩) (.of main_v350 : StableHlo.TRef sig ⟨S6000, .i32⟩) (fun x => Host.sort S6000 0 comparator_i32_d0 x) ]
theorem hostOps0_35_sub : (hostOps0_35 : List (HloOp τ sig (Elt F))).Forall fun op => op.bufs ⊆ StableHlo.tcRefs τ sig :=
  StableHlo.unary_bufs_sub ..
abbrev hostOps0_36 : List (HloOp τ sig (Elt F)) :=
  [ StableHlo.unary main_v350 main_v351 ((extractStridedSlice S1000 ![0] · slices_S6000_S1000_0) : Tn F S6000 .i32 → Tn F S1000 .i32),
    StableHlo.nullary main_c_57 (constantI S_ 32 6000#32),
    StableHlo.unary main_c_57 main_v352 (broadcastInDim S1000 ![] bcast_S_S1000 : Tn F S_ .i32 → Tn F S1000 .i32),
    StableHlo.binary main_v351 main_v352 main_v353 (cmpi .slt : Tn F S1000 .i32 → Tn F S1000 .i32 → Tn F S1000 .i1),
    StableHlo.unary main_v353 main_v354 (uitofp .f32 : Tn F S1000 .i1 → Tn F S1000 .f32),
    StableHlo.nullary main_c_58 (constantI S_ 32 5999#32),
    StableHlo.unary main_c_58 main_v355 (broadcastInDim S1000 ![] bcast_S_S1000 : Tn F S_ .i32 → Tn F S1000 .i32),
    StableHlo.binary main_v351 main_v355 main_v356 (minsi : Tn F S1000 .i32 → Tn F S1000 .i32 → Tn F S1000 .i32),
    StableHlo.nullary main_c_59 (constantI S_ 32 0#32),
    StableHlo.unary main_c_59 main_v357 (broadcastInDim S1000 ![] bcast_S_S1000 : Tn F S_ .i32 → Tn F S1000 .i32),
    StableHlo.binary main_v356 main_v357 main_v358 (cmpi .slt : Tn F S1000 .i32 → Tn F S1000 .i32 → Tn F S1000 .i1),
    StableHlo.nullary main_c_60 (constantI S_ 32 6000#32),
    StableHlo.unary main_c_60 main_v359 (broadcastInDim S1000 ![] bcast_S_S1000 : Tn F S_ .i32 → Tn F S1000 .i32),
    StableHlo.binary main_v356 main_v359 main_v360 (addi : Tn F S1000 .i32 → Tn F S1000 .i32 → Tn F S1000 .i32),
    StableHlo.ternary main_v358 main_v360 main_v356 main_v361 (select : Tn F S1000 .i1 → Tn F S1000 .i32 → Tn F S1000 .i32 → Tn F S1000 .i32),
    StableHlo.unary main_v361 main_v362 (broadcastInDim S1000x1 ![0] bcast_S1000_S1000x1_0 : Tn F S1000 .i32 → Tn F S1000x1 .i32),
    StableHlo.binary main_v329 main_v362 main_v363 ((fun x i => Host.gather gather_S6000x4_S1000x1_S1000x4_1_0_n_n_0_1_14 x i) : Tn F S6000x4 .f32 → Tn F S1000x1 .i32 → Tn F S1000x4 .f32),
    StableHlo.unary main_v354 main_v364 (broadcastInDim S1000x1 ![0] bcast_S1000_S1000x1_0 : Tn F S1000 .f32 → Tn F S1000x1 .f32),
    StableHlo.unary main_v364 main_v365 (broadcastInDim S1000x4 ![0, 1] bcast_S1000x1_S1000x4_0_1 : Tn F S1000x1 .f32 → Tn F S1000x4 .f32),
    StableHlo.binary main_v363 main_v365 main_v366 (mulf : Tn F S1000x4 .f32 → Tn F S1000x4 .f32 → Tn F S1000x4 .f32),
    StableHlo.nullary main_cst_61 (constant S_ .f32 0x3F800000#32),
    StableHlo.unary main_cst_61 main_v367 (broadcastInDim S1000x1 ![] bcast_S_S1000x1 : Tn F S_ .f32 → Tn F S1000x1 .f32),
    StableHlo.binary main_v367 main_v366 main_v368 ((fun a b => concatenate S1000x5 1 [⟨S1000x1, a⟩, ⟨S1000x4, b⟩] concatenates_S1000x1_S1000x4_S1000x5_d1) : Tn F S1000x1 .f32 → Tn F S1000x4 .f32 → Tn F S1000x5 .f32),
    StableHlo.unary main_v263 main_v369 (broadcastInDim S1x1000x5 ![1, 2] bcast_S1000x5_S1x1000x5_1_2 : Tn F S1000x5 .f32 → Tn F S1x1000x5 .f32),
    StableHlo.unary main_v368 main_v370 (broadcastInDim S1x1000x5 ![1, 2] bcast_S1000x5_S1x1000x5_1_2 : Tn F S1000x5 .f32 → Tn F S1x1000x5 .f32),
    StableHlo.binary main_v369 main_v370 main_v371 ((fun a b => concatenate S2x1000x5 0 [⟨S1x1000x5, a⟩, ⟨S1x1000x5, b⟩] concatenates_S1x1000x5_S1x1000x5_S2x1000x5_d0) : Tn F S1x1000x5 .f32 → Tn F S1x1000x5 .f32 → Tn F S2x1000x5 .f32) ]
theorem hostOps0_36_sub : (hostOps0_36 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩
abbrev main_part0_ops0 : List (HloOp τ sig (Elt F)) := hostOps0
abbrev main_part0_ops1 : List (HloOp τ sig (Elt F)) := hostOps0_1
abbrev main_part0_ops2 : List (HloOp τ sig (Elt F)) :=
  ( StableHlo.unary main_v0 main_v1 ((extractStridedSlice S2x128x64x64 ![0, 0, 0, 0] · slices_S2x128x66x66_S2x128x64x64_0_0_0_0) : Tn F S2x128x66x66 .f32 → Tn F S2x128x64x64 .f32)
  :: StableHlo.unary main_arg3 main_v2 ((extractStridedSlice S128x128x1x1 ![0, 0, 0, 0] · slices_S128x128x3x3_S128x128x1x1_0_0_0_0) : Tn F S128x128x3x3 .f32 → Tn F S128x128x1x1 .f32)
  :: StableHlo.reshape main_v2 main_v3 (rfl : (.f32 : EltTy) = .f32) shapeCasts_S128x128x1x1_S128x128
  :: StableHlo.binary main_v3 main_v1 main_v4 ((fun l r => Host.dotGeneral dot_S128x128_S2x128x64x64_S128x2x64x64_1_1_0_023_n_n none l r) : Tn F S128x128 .f32 → Tn F S2x128x64x64 .f32 → Tn F S128x2x64x64 .f32)
  :: StableHlo.unary main_v4 main_v5 ((transpose S2x128x64x64 [1, 0, 2, 3] · transposes_S128x2x64x64_S2x128x64x64_1_0_2_3) : Tn F S128x2x64x64 .f32 → Tn F S2x128x64x64 .f32)
  :: StableHlo.nullary main_cst_0 (constant S_ .f32 0x00000000#32)
  :: StableHlo.unary main_cst_0 main_v6 (broadcastInDim S2x128x64x64 ![] bcast_S_S2x128x64x64 : Tn F S_ .f32 → Tn F S2x128x64x64 .f32)
  :: StableHlo.binary main_v6 main_v5 main_v7 (addf : Tn F S2x128x64x64 .f32 → Tn F S2x128x64x64 .f32 → Tn F S2x128x64x64 .f32)
  :: StableHlo.unary main_v0 main_v8 ((extractStridedSlice S2x128x64x64 ![0, 0, 0, 1] · slices_S2x128x66x66_S2x128x64x64_0_0_0_1) : Tn F S2x128x66x66 .f32 → Tn F S2x128x64x64 .f32)
  :: StableHlo.unary main_arg3 main_v9 ((extractStridedSlice S128x128x1x1 ![0, 0, 0, 1] · slices_S128x128x3x3_S128x128x1x1_0_0_0_1) : Tn F S128x128x3x3 .f32 → Tn F S128x128x1x1 .f32)
  :: StableHlo.reshape main_v9 main_v10 (rfl : (.f32 : EltTy) = .f32) shapeCasts_S128x128x1x1_S128x128
  :: StableHlo.binary main_v10 main_v8 main_v11 ((fun l r => Host.dotGeneral dot_S128x128_S2x128x64x64_S128x2x64x64_1_1_0_023_n_n none l r) : Tn F S128x128 .f32 → Tn F S2x128x64x64 .f32 → Tn F S128x2x64x64 .f32)
  :: StableHlo.unary main_v11 main_v12 ((transpose S2x128x64x64 [1, 0, 2, 3] · transposes_S128x2x64x64_S2x128x64x64_1_0_2_3) : Tn F S128x2x64x64 .f32 → Tn F S2x128x64x64 .f32)
  :: StableHlo.binary main_v7 main_v12 main_v13 (addf : Tn F S2x128x64x64 .f32 → Tn F S2x128x64x64 .f32 → Tn F S2x128x64x64 .f32)
  :: StableHlo.unary main_v0 main_v14 ((extractStridedSlice S2x128x64x64 ![0, 0, 0, 2] · slices_S2x128x66x66_S2x128x64x64_0_0_0_2) : Tn F S2x128x66x66 .f32 → Tn F S2x128x64x64 .f32)
  :: StableHlo.unary main_arg3 main_v15 ((extractStridedSlice S128x128x1x1 ![0, 0, 0, 2] · slices_S128x128x3x3_S128x128x1x1_0_0_0_2) : Tn F S128x128x3x3 .f32 → Tn F S128x128x1x1 .f32)
  :: StableHlo.reshape main_v15 main_v16 (rfl : (.f32 : EltTy) = .f32) shapeCasts_S128x128x1x1_S128x128
  :: StableHlo.binary main_v16 main_v14 main_v17 ((fun l r => Host.dotGeneral dot_S128x128_S2x128x64x64_S128x2x64x64_1_1_0_023_n_n none l r) : Tn F S128x128 .f32 → Tn F S2x128x64x64 .f32 → Tn F S128x2x64x64 .f32)
  :: StableHlo.unary main_v17 main_v18 ((transpose S2x128x64x64 [1, 0, 2, 3] · transposes_S128x2x64x64_S2x128x64x64_1_0_2_3) : Tn F S128x2x64x64 .f32 → Tn F S2x128x64x64 .f32)
  :: StableHlo.binary main_v13 main_v18 main_v19 (addf : Tn F S2x128x64x64 .f32 → Tn F S2x128x64x64 .f32 → Tn F S2x128x64x64 .f32)
  :: StableHlo.unary main_v0 main_v20 ((extractStridedSlice S2x128x64x64 ![0, 0, 1, 0] · slices_S2x128x66x66_S2x128x64x64_0_0_1_0) : Tn F S2x128x66x66 .f32 → Tn F S2x128x64x64 .f32)
  :: StableHlo.unary main_arg3 main_v21 ((extractStridedSlice S128x128x1x1 ![0, 0, 1, 0] · slices_S128x128x3x3_S128x128x1x1_0_0_1_0) : Tn F S128x128x3x3 .f32 → Tn F S128x128x1x1 .f32)
  :: StableHlo.reshape main_v21 main_v22 (rfl : (.f32 : EltTy) = .f32) shapeCasts_S128x128x1x1_S128x128
  :: StableHlo.binary main_v22 main_v20 main_v23 ((fun l r => Host.dotGeneral dot_S128x128_S2x128x64x64_S128x2x64x64_1_1_0_023_n_n none l r) : Tn F S128x128 .f32 → Tn F S2x128x64x64 .f32 → Tn F S128x2x64x64 .f32)
  :: StableHlo.unary main_v23 main_v24 ((transpose S2x128x64x64 [1, 0, 2, 3] · transposes_S128x2x64x64_S2x128x64x64_1_0_2_3) : Tn F S128x2x64x64 .f32 → Tn F S2x128x64x64 .f32)
  :: StableHlo.binary main_v19 main_v24 main_v25 (addf : Tn F S2x128x64x64 .f32 → Tn F S2x128x64x64 .f32 → Tn F S2x128x64x64 .f32)
  :: StableHlo.unary main_v0 main_v26 ((extractStridedSlice S2x128x64x64 ![0, 0, 1, 1] · slices_S2x128x66x66_S2x128x64x64_0_0_1_1) : Tn F S2x128x66x66 .f32 → Tn F S2x128x64x64 .f32)
  :: StableHlo.unary main_arg3 main_v27 ((extractStridedSlice S128x128x1x1 ![0, 0, 1, 1] · slices_S128x128x3x3_S128x128x1x1_0_0_1_1) : Tn F S128x128x3x3 .f32 → Tn F S128x128x1x1 .f32)
  :: StableHlo.reshape main_v27 main_v28 (rfl : (.f32 : EltTy) = .f32) shapeCasts_S128x128x1x1_S128x128
  :: StableHlo.binary main_v28 main_v26 main_v29 ((fun l r => Host.dotGeneral dot_S128x128_S2x128x64x64_S128x2x64x64_1_1_0_023_n_n none l r) : Tn F S128x128 .f32 → Tn F S2x128x64x64 .f32 → Tn F S128x2x64x64 .f32)
  :: StableHlo.unary main_v29 main_v30 ((transpose S2x128x64x64 [1, 0, 2, 3] · transposes_S128x2x64x64_S2x128x64x64_1_0_2_3) : Tn F S128x2x64x64 .f32 → Tn F S2x128x64x64 .f32)
  :: StableHlo.binary main_v25 main_v30 main_v31 (addf : Tn F S2x128x64x64 .f32 → Tn F S2x128x64x64 .f32 → Tn F S2x128x64x64 .f32)
  :: StableHlo.unary main_v0 main_v32 ((extractStridedSlice S2x128x64x64 ![0, 0, 1, 2] · slices_S2x128x66x66_S2x128x64x64_0_0_1_2) : Tn F S2x128x66x66 .f32 → Tn F S2x128x64x64 .f32)
  :: StableHlo.unary main_arg3 main_v33 ((extractStridedSlice S128x128x1x1 ![0, 0, 1, 2] · slices_S128x128x3x3_S128x128x1x1_0_0_1_2) : Tn F S128x128x3x3 .f32 → Tn F S128x128x1x1 .f32)
  :: StableHlo.reshape main_v33 main_v34 (rfl : (.f32 : EltTy) = .f32) shapeCasts_S128x128x1x1_S128x128
  :: StableHlo.binary main_v34 main_v32 main_v35 ((fun l r => Host.dotGeneral dot_S128x128_S2x128x64x64_S128x2x64x64_1_1_0_023_n_n none l r) : Tn F S128x128 .f32 → Tn F S2x128x64x64 .f32 → Tn F S128x2x64x64 .f32)
  :: StableHlo.unary main_v35 main_v36 ((transpose S2x128x64x64 [1, 0, 2, 3] · transposes_S128x2x64x64_S2x128x64x64_1_0_2_3) : Tn F S128x2x64x64 .f32 → Tn F S2x128x64x64 .f32)
  :: StableHlo.binary main_v31 main_v36 main_v37 (addf : Tn F S2x128x64x64 .f32 → Tn F S2x128x64x64 .f32 → Tn F S2x128x64x64 .f32)
  :: StableHlo.unary main_v0 main_v38 ((extractStridedSlice S2x128x64x64 ![0, 0, 2, 0] · slices_S2x128x66x66_S2x128x64x64_0_0_2_0) : Tn F S2x128x66x66 .f32 → Tn F S2x128x64x64 .f32)
  :: StableHlo.unary main_arg3 main_v39 ((extractStridedSlice S128x128x1x1 ![0, 0, 2, 0] · slices_S128x128x3x3_S128x128x1x1_0_0_2_0) : Tn F S128x128x3x3 .f32 → Tn F S128x128x1x1 .f32)
  :: StableHlo.reshape main_v39 main_v40 (rfl : (.f32 : EltTy) = .f32) shapeCasts_S128x128x1x1_S128x128
  :: StableHlo.binary main_v40 main_v38 main_v41 ((fun l r => Host.dotGeneral dot_S128x128_S2x128x64x64_S128x2x64x64_1_1_0_023_n_n none l r) : Tn F S128x128 .f32 → Tn F S2x128x64x64 .f32 → Tn F S128x2x64x64 .f32)
  :: StableHlo.unary main_v41 main_v42 ((transpose S2x128x64x64 [1, 0, 2, 3] · transposes_S128x2x64x64_S2x128x64x64_1_0_2_3) : Tn F S128x2x64x64 .f32 → Tn F S2x128x64x64 .f32)
  :: StableHlo.binary main_v37 main_v42 main_v43 (addf : Tn F S2x128x64x64 .f32 → Tn F S2x128x64x64 .f32 → Tn F S2x128x64x64 .f32)
  :: StableHlo.unary main_v0 main_v44 ((extractStridedSlice S2x128x64x64 ![0, 0, 2, 1] · slices_S2x128x66x66_S2x128x64x64_0_0_2_1) : Tn F S2x128x66x66 .f32 → Tn F S2x128x64x64 .f32)
  :: StableHlo.unary main_arg3 main_v45 ((extractStridedSlice S128x128x1x1 ![0, 0, 2, 1] · slices_S128x128x3x3_S128x128x1x1_0_0_2_1) : Tn F S128x128x3x3 .f32 → Tn F S128x128x1x1 .f32)
  :: StableHlo.reshape main_v45 main_v46 (rfl : (.f32 : EltTy) = .f32) shapeCasts_S128x128x1x1_S128x128
  :: StableHlo.binary main_v46 main_v44 main_v47 ((fun l r => Host.dotGeneral dot_S128x128_S2x128x64x64_S128x2x64x64_1_1_0_023_n_n none l r) : Tn F S128x128 .f32 → Tn F S2x128x64x64 .f32 → Tn F S128x2x64x64 .f32)
  :: StableHlo.unary main_v47 main_v48 ((transpose S2x128x64x64 [1, 0, 2, 3] · transposes_S128x2x64x64_S2x128x64x64_1_0_2_3) : Tn F S128x2x64x64 .f32 → Tn F S2x128x64x64 .f32)
  :: StableHlo.binary main_v43 main_v48 main_v49 (addf : Tn F S2x128x64x64 .f32 → Tn F S2x128x64x64 .f32 → Tn F S2x128x64x64 .f32)
  :: StableHlo.unary main_v0 main_v50 ((extractStridedSlice S2x128x64x64 ![0, 0, 2, 2] · slices_S2x128x66x66_S2x128x64x64_0_0_2_2) : Tn F S2x128x66x66 .f32 → Tn F S2x128x64x64 .f32)
  :: StableHlo.unary main_arg3 main_v51 ((extractStridedSlice S128x128x1x1 ![0, 0, 2, 2] · slices_S128x128x3x3_S128x128x1x1_0_0_2_2) : Tn F S128x128x3x3 .f32 → Tn F S128x128x1x1 .f32)
  :: StableHlo.reshape main_v51 main_v52 (rfl : (.f32 : EltTy) = .f32) shapeCasts_S128x128x1x1_S128x128
  :: StableHlo.binary main_v52 main_v50 main_v53 ((fun l r => Host.dotGeneral dot_S128x128_S2x128x64x64_S128x2x64x64_1_1_0_023_n_n none l r) : Tn F S128x128 .f32 → Tn F S2x128x64x64 .f32 → Tn F S128x2x64x64 .f32)
  :: StableHlo.unary main_v53 main_v54 ((transpose S2x128x64x64 [1, 0, 2, 3] · transposes_S128x2x64x64_S2x128x64x64_1_0_2_3) : Tn F S128x2x64x64 .f32 → Tn F S2x128x64x64 .f32)
  :: StableHlo.binary main_v49 main_v54 main_v55 (addf : Tn F S2x128x64x64 .f32 → Tn F S2x128x64x64 .f32 → Tn F S2x128x64x64 .f32)
  :: StableHlo.unary main_arg4 main_v56 (broadcastInDim S1x128x1x1 ![1] bcast_S128_S1x128x1x1_1 : Tn F S128 .f32 → Tn F S1x128x1x1 .f32)
  :: [] )
abbrev main_part1_ops0 : List (HloOp τ sig (Elt F)) :=
  [ StableHlo.unary main_v56 main_v57 (broadcastInDim S2x128x64x64 ![0, 1, 2, 3] bcast_S1x128x1x1_S2x128x64x64_0_1_2_3 : Tn F S1x128x1x1 .f32 → Tn F S2x128x64x64 .f32),
    StableHlo.binary main_v55 main_v57 main_v58 (addf : Tn F S2x128x64x64 .f32 → Tn F S2x128x64x64 .f32 → Tn F S2x128x64x64 .f32) ]
abbrev main_part1_ops1 : List (HloOp τ sig (Elt F)) := hostOps0_3
abbrev main_part1_ops2 : List (HloOp τ sig (Elt F)) :=
  ( StableHlo.reshape main_arg5 main_v60 (rfl : (.f32 : EltTy) = .f32) shapeCasts_S18x128x1x1_S18x128
  :: StableHlo.binary main_v60 main_v59 main_v61 ((fun l r => Host.dotGeneral dot_S18x128_S2x128x64x64_S18x2x64x64_1_1_0_023_n_n none l r) : Tn F S18x128 .f32 → Tn F S2x128x64x64 .f32 → Tn F S18x2x64x64 .f32)
  :: StableHlo.unary main_v61 main_v62 ((transpose S2x18x64x64 [1, 0, 2, 3] · transposes_S18x2x64x64_S2x18x64x64_1_0_2_3) : Tn F S18x2x64x64 .f32 → Tn F S2x18x64x64 .f32)
  :: StableHlo.unary main_arg6 main_v63 (broadcastInDim S1x18x1x1 ![1] bcast_S18_S1x18x1x1_1 : Tn F S18 .f32 → Tn F S1x18x1x1 .f32)
  :: StableHlo.unary main_v63 main_v64 (broadcastInDim S2x18x64x64 ![0, 1, 2, 3] bcast_S1x18x1x1_S2x18x64x64_0_1_2_3 : Tn F S1x18x1x1 .f32 → Tn F S2x18x64x64 .f32)
  :: StableHlo.binary main_v62 main_v64 main_v65 (addf : Tn F S2x18x64x64 .f32 → Tn F S2x18x64x64 .f32 → Tn F S2x18x64x64 .f32)
  :: StableHlo.reshape main_arg7 main_v66 (rfl : (.f32 : EltTy) = .f32) shapeCasts_S36x128x1x1_S36x128
  :: StableHlo.binary main_v66 main_v59 main_v67 ((fun l r => Host.dotGeneral dot_S36x128_S2x128x64x64_S36x2x64x64_1_1_0_023_n_n none l r) : Tn F S36x128 .f32 → Tn F S2x128x64x64 .f32 → Tn F S36x2x64x64 .f32)
  :: StableHlo.unary main_v67 main_v68 ((transpose S2x36x64x64 [1, 0, 2, 3] · transposes_S36x2x64x64_S2x36x64x64_1_0_2_3) : Tn F S36x2x64x64 .f32 → Tn F S2x36x64x64 .f32)
  :: StableHlo.unary main_arg8 main_v69 (broadcastInDim S1x36x1x1 ![1] bcast_S36_S1x36x1x1_1 : Tn F S36 .f32 → Tn F S1x36x1x1 .f32)
  :: StableHlo.unary main_v69 main_v70 (broadcastInDim S2x36x64x64 ![0, 1, 2, 3] bcast_S1x36x1x1_S2x36x64x64_0_1_2_3 : Tn F S1x36x1x1 .f32 → Tn F S2x36x64x64 .f32)
  :: StableHlo.binary main_v68 main_v70 main_v71 (addf : Tn F S2x36x64x64 .f32 → Tn F S2x36x64x64 .f32 → Tn F S2x36x64x64 .f32)
  :: StableHlo.reshape main_v65 main_v72 (rfl : (.f32 : EltTy) = .f32) shapeCasts_S2x18x64x64_S2x2x9x64x64
  :: StableHlo.nullary main_cst_1 (constant S_ .f32 0xFF800000#32)
  :: StableHlo.binary main_v72 main_cst_1 main_v73 ((fun x v => Host.reduce FloatOps.maximumf x v reducesTo_S2x2x9x64x64_S2x9x64x64_d1 h_S_) : Tn F S2x2x9x64x64 .f32 → Tn F S_ .f32 → Tn F S2x9x64x64 .f32)
  :: StableHlo.nullary main_cst_2 (constant S_ .f32 0xFF800000#32)
  :: StableHlo.unary main_cst_2 main_v74 (broadcastInDim S2x9x64x64 ![] bcast_S_S2x9x64x64 : Tn F S_ .f32 → Tn F S2x9x64x64 .f32)
  :: StableHlo.binary main_v74 main_v73 main_v75 (maximumf : Tn F S2x9x64x64 .f32 → Tn F S2x9x64x64 .f32 → Tn F S2x9x64x64 .f32)
  :: StableHlo.unary main_v75 main_v76 (broadcastInDim S2x1x9x64x64 ![0, 2, 3, 4] bcast_S2x9x64x64_S2x1x9x64x64_0_2_3_4 : Tn F S2x9x64x64 .f32 → Tn F S2x1x9x64x64 .f32)
  :: StableHlo.unary main_v76 main_v77 (broadcastInDim S2x2x9x64x64 ![0, 1, 2, 3, 4] bcast_S2x1x9x64x64_S2x2x9x64x64_0_1_2_3_4 : Tn F S2x1x9x64x64 .f32 → Tn F S2x2x9x64x64 .f32)
  :: StableHlo.binary main_v72 main_v77 main_v78 (subf : Tn F S2x2x9x64x64 .f32 → Tn F S2x2x9x64x64 .f32 → Tn F S2x2x9x64x64 .f32)
  :: StableHlo.unary main_v78 main_v79 (Host.exp : Tn F S2x2x9x64x64 .f32 → Tn F S2x2x9x64x64 .f32)
  :: StableHlo.nullary main_cst_3 (constant S_ .f32 0x00000000#32)
  :: StableHlo.binary main_v79 main_cst_3 main_v80 ((fun x v => Host.reduceAdd x v reducesTo_S2x2x9x64x64_S2x9x64x64_d1 h_S_) : Tn F S2x2x9x64x64 .f32 → Tn F S_ .f32 → Tn F S2x9x64x64 .f32)
  :: StableHlo.unary main_v80 main_v81 (broadcastInDim S2x1x9x64x64 ![0, 2, 3, 4] bcast_S2x9x64x64_S2x1x9x64x64_0_2_3_4 : Tn F S2x9x64x64 .f32 → Tn F S2x1x9x64x64 .f32)
  :: StableHlo.unary main_v81 main_v82 (broadcastInDim S2x2x9x64x64 ![0, 1, 2, 3, 4] bcast_S2x1x9x64x64_S2x2x9x64x64_0_1_2_3_4 : Tn F S2x1x9x64x64 .f32 → Tn F S2x2x9x64x64 .f32)
  :: StableHlo.binary main_v79 main_v82 main_v83 (Host.divf : Tn F S2x2x9x64x64 .f32 → Tn F S2x2x9x64x64 .f32 → Tn F S2x2x9x64x64 .f32)
  :: StableHlo.unary main_v83 main_v84 ((extractStridedSlice S2x1x9x64x64 ![0, 1, 0, 0, 0] · slices_S2x2x9x64x64_S2x1x9x64x64_0_1_0_0_0) : Tn F S2x2x9x64x64 .f32 → Tn F S2x1x9x64x64 .f32)
  :: StableHlo.reshape main_v84 main_v85 (rfl : (.f32 : EltTy) = .f32) shapeCasts_S2x1x9x64x64_S2x9x64x64
  :: StableHlo.unary main_v85 main_v86 ((transpose S2x64x64x9 [0, 2, 3, 1] · transposes_S2x9x64x64_S2x64x64x9_0_2_3_1) : Tn F S2x9x64x64 .f32 → Tn F S2x64x64x9 .f32)
  :: StableHlo.reshape main_v86 main_v87 (rfl : (.f32 : EltTy) = .f32) shapeCasts_S2x64x64x9_S2x36864
  :: StableHlo.unary main_v71 main_v88 ((transpose S2x64x64x36 [0, 2, 3, 1] · transposes_S2x36x64x64_S2x64x64x36_0_2_3_1) : Tn F S2x36x64x64 .f32 → Tn F S2x64x64x36 .f32)
  :: StableHlo.reshape main_v88 main_v89 (rfl : (.f32 : EltTy) = .f32) shapeCasts_S2x64x64x36_S2x36864x4
  :: StableHlo.unary main_cst main_v90 ((extractStridedSlice S36864x1 ![0, 2] · slices_S36864x4_S36864x1_0_2) : Tn F S36864x4 .f32 → Tn F S36864x1 .f32)
  :: StableHlo.reshape main_v90 main_v91 (rfl : (.f32 : EltTy) = .f32) shapeCasts_S36864x1_S36864
  :: StableHlo.unary main_cst main_v92 ((extractStridedSlice S36864x1 ![0, 0] · slices_S36864x4_S36864x1_0_0) : Tn F S36864x4 .f32 → Tn F S36864x1 .f32)
  :: StableHlo.reshape main_v92 main_v93 (rfl : (.f32 : EltTy) = .f32) shapeCasts_S36864x1_S36864
  :: StableHlo.binary main_v91 main_v93 main_v94 (subf : Tn F S36864 .f32 → Tn F S36864 .f32 → Tn F S36864 .f32)
  :: StableHlo.nullary main_cst_4 (constant S_ .f32 0x3F800000#32)
  :: StableHlo.unary main_cst_4 main_v95 (broadcastInDim S36864 ![] bcast_S_S36864 : Tn F S_ .f32 → Tn F S36864 .f32)
  :: StableHlo.binary main_v94 main_v95 main_v96 (addf : Tn F S36864 .f32 → Tn F S36864 .f32 → Tn F S36864 .f32)
  :: StableHlo.unary main_cst main_v97 ((extractStridedSlice S36864x1 ![0, 3] · slices_S36864x4_S36864x1_0_3) : Tn F S36864x4 .f32 → Tn F S36864x1 .f32)
  :: StableHlo.reshape main_v97 main_v98 (rfl : (.f32 : EltTy) = .f32) shapeCasts_S36864x1_S36864
  :: StableHlo.unary main_cst main_v99 ((extractStridedSlice S36864x1 ![0, 1] · slices_S36864x4_S36864x1_0_1) : Tn F S36864x4 .f32 → Tn F S36864x1 .f32)
  :: StableHlo.reshape main_v99 main_v100 (rfl : (.f32 : EltTy) = .f32) shapeCasts_S36864x1_S36864
  :: StableHlo.binary main_v98 main_v100 main_v101 (subf : Tn F S36864 .f32 → Tn F S36864 .f32 → Tn F S36864 .f32)
  :: StableHlo.nullary main_cst_5 (constant S_ .f32 0x3F800000#32)
  :: StableHlo.unary main_cst_5 main_v102 (broadcastInDim S36864 ![] bcast_S_S36864 : Tn F S_ .f32 → Tn F S36864 .f32)
  :: StableHlo.binary main_v101 main_v102 main_v103 (addf : Tn F S36864 .f32 → Tn F S36864 .f32 → Tn F S36864 .f32)
  :: StableHlo.unary main_cst main_v104 ((extractStridedSlice S36864x1 ![0, 0] · slices_S36864x4_S36864x1_0_0) : Tn F S36864x4 .f32 → Tn F S36864x1 .f32)
  :: StableHlo.reshape main_v104 main_v105 (rfl : (.f32 : EltTy) = .f32) shapeCasts_S36864x1_S36864
  :: StableHlo.nullary main_cst_6 (constant S_ .f32 0x3F000000#32)
  :: StableHlo.unary main_cst_6 main_v106 (broadcastInDim S36864 ![] bcast_S_S36864 : Tn F S_ .f32 → Tn F S36864 .f32)
  :: StableHlo.binary main_v106 main_v96 main_v107 (mulf : Tn F S36864 .f32 → Tn F S36864 .f32 → Tn F S36864 .f32)
  :: StableHlo.binary main_v105 main_v107 main_v108 (addf : Tn F S36864 .f32 → Tn F S36864 .f32 → Tn F S36864 .f32)
  :: StableHlo.unary main_cst main_v109 ((extractStridedSlice S36864x1 ![0, 1] · slices_S36864x4_S36864x1_0_1) : Tn F S36864x4 .f32 → Tn F S36864x1 .f32)
  :: StableHlo.reshape main_v109 main_v110 (rfl : (.f32 : EltTy) = .f32) shapeCasts_S36864x1_S36864
  :: [] )
abbrev main_part2_ops0 : List (HloOp τ sig (Elt F)) :=
  ( StableHlo.nullary main_cst_7 (constant S_ .f32 0x3F000000#32)
  :: StableHlo.unary main_cst_7 main_v111 (broadcastInDim S36864 ![] bcast_S_S36864 : Tn F S_ .f32 → Tn F S36864 .f32)
  :: StableHlo.binary main_v111 main_v103 main_v112 (mulf : Tn F S36864 .f32 → Tn F S36864 .f32 → Tn F S36864 .f32)
  :: StableHlo.binary main_v110 main_v112 main_v113 (addf : Tn F S36864 .f32 → Tn F S36864 .f32 → Tn F S36864 .f32)
  :: StableHlo.unary main_v89 main_v114 ((extractStridedSlice S2x36864x1 ![0, 0, 0] · slices_S2x36864x4_S2x36864x1_0_0_0) : Tn F S2x36864x4 .f32 → Tn F S2x36864x1 .f32)
  :: StableHlo.reshape main_v114 main_v115 (rfl : (.f32 : EltTy) = .f32) shapeCasts_S2x36864x1_S2x36864
  :: StableHlo.unary main_v96 main_v116 (broadcastInDim S1x36864 ![1] bcast_S36864_S1x36864_1 : Tn F S36864 .f32 → Tn F S1x36864 .f32)
  :: StableHlo.unary main_v116 main_v117 (broadcastInDim S2x36864 ![0, 1] bcast_S1x36864_S2x36864_0_1 : Tn F S1x36864 .f32 → Tn F S2x36864 .f32)
  :: StableHlo.binary main_v115 main_v117 main_v118 (mulf : Tn F S2x36864 .f32 → Tn F S2x36864 .f32 → Tn F S2x36864 .f32)
  :: StableHlo.unary main_v108 main_v119 (broadcastInDim S1x36864 ![1] bcast_S36864_S1x36864_1 : Tn F S36864 .f32 → Tn F S1x36864 .f32)
  :: StableHlo.unary main_v119 main_v120 (broadcastInDim S2x36864 ![0, 1] bcast_S1x36864_S2x36864_0_1 : Tn F S1x36864 .f32 → Tn F S2x36864 .f32)
  :: StableHlo.binary main_v118 main_v120 main_v121 (addf : Tn F S2x36864 .f32 → Tn F S2x36864 .f32 → Tn F S2x36864 .f32)
  :: StableHlo.unary main_v89 main_v122 ((extractStridedSlice S2x36864x1 ![0, 0, 1] · slices_S2x36864x4_S2x36864x1_0_0_1) : Tn F S2x36864x4 .f32 → Tn F S2x36864x1 .f32)
  :: StableHlo.reshape main_v122 main_v123 (rfl : (.f32 : EltTy) = .f32) shapeCasts_S2x36864x1_S2x36864
  :: StableHlo.unary main_v103 main_v124 (broadcastInDim S1x36864 ![1] bcast_S36864_S1x36864_1 : Tn F S36864 .f32 → Tn F S1x36864 .f32)
  :: StableHlo.unary main_v124 main_v125 (broadcastInDim S2x36864 ![0, 1] bcast_S1x36864_S2x36864_0_1 : Tn F S1x36864 .f32 → Tn F S2x36864 .f32)
  :: StableHlo.binary main_v123 main_v125 main_v126 (mulf : Tn F S2x36864 .f32 → Tn F S2x36864 .f32 → Tn F S2x36864 .f32)
  :: StableHlo.unary main_v113 main_v127 (broadcastInDim S1x36864 ![1] bcast_S36864_S1x36864_1 : Tn F S36864 .f32 → Tn F S1x36864 .f32)
  :: StableHlo.unary main_v127 main_v128 (broadcastInDim S2x36864 ![0, 1] bcast_S1x36864_S2x36864_0_1 : Tn F S1x36864 .f32 → Tn F S2x36864 .f32)
  :: StableHlo.binary main_v126 main_v128 main_v129 (addf : Tn F S2x36864 .f32 → Tn F S2x36864 .f32 → Tn F S2x36864 .f32)
  :: StableHlo.unary main_v89 main_v130 ((extractStridedSlice S2x36864x1 ![0, 0, 2] · slices_S2x36864x4_S2x36864x1_0_0_2) : Tn F S2x36864x4 .f32 → Tn F S2x36864x1 .f32)
  :: StableHlo.reshape main_v130 main_v131 (rfl : (.f32 : EltTy) = .f32) shapeCasts_S2x36864x1_S2x36864
  :: StableHlo.unary main_v131 main_v132 (Host.exp : Tn F S2x36864 .f32 → Tn F S2x36864 .f32)
  :: StableHlo.unary main_v96 main_v133 (broadcastInDim S1x36864 ![1] bcast_S36864_S1x36864_1 : Tn F S36864 .f32 → Tn F S1x36864 .f32)
  :: StableHlo.unary main_v133 main_v134 (broadcastInDim S2x36864 ![0, 1] bcast_S1x36864_S2x36864_0_1 : Tn F S1x36864 .f32 → Tn F S2x36864 .f32)
  :: StableHlo.binary main_v132 main_v134 main_v135 (mulf : Tn F S2x36864 .f32 → Tn F S2x36864 .f32 → Tn F S2x36864 .f32)
  :: StableHlo.unary main_v89 main_v136 ((extractStridedSlice S2x36864x1 ![0, 0, 3] · slices_S2x36864x4_S2x36864x1_0_0_3) : Tn F S2x36864x4 .f32 → Tn F S2x36864x1 .f32)
  :: StableHlo.reshape main_v136 main_v137 (rfl : (.f32 : EltTy) = .f32) shapeCasts_S2x36864x1_S2x36864
  :: StableHlo.unary main_v137 main_v138 (Host.exp : Tn F S2x36864 .f32 → Tn F S2x36864 .f32)
  :: StableHlo.unary main_v103 main_v139 (broadcastInDim S1x36864 ![1] bcast_S36864_S1x36864_1 : Tn F S36864 .f32 → Tn F S1x36864 .f32)
  :: StableHlo.unary main_v139 main_v140 (broadcastInDim S2x36864 ![0, 1] bcast_S1x36864_S2x36864_0_1 : Tn F S1x36864 .f32 → Tn F S2x36864 .f32)
  :: StableHlo.binary main_v138 main_v140 main_v141 (mulf : Tn F S2x36864 .f32 → Tn F S2x36864 .f32 → Tn F S2x36864 .f32)
  :: StableHlo.nullary main_cst_8 (constant S_ .f32 0x3F000000#32)
  :: StableHlo.unary main_cst_8 main_v142 (broadcastInDim S2x36864 ![] bcast_S_S2x36864 : Tn F S_ .f32 → Tn F S2x36864 .f32)
  :: StableHlo.binary main_v142 main_v135 main_v143 (mulf : Tn F S2x36864 .f32 → Tn F S2x36864 .f32 → Tn F S2x36864 .f32)
  :: StableHlo.binary main_v121 main_v143 main_v144 (subf : Tn F S2x36864 .f32 → Tn F S2x36864 .f32 → Tn F S2x36864 .f32)
  :: StableHlo.nullary main_cst_9 (constant S_ .f32 0x3F000000#32)
  :: StableHlo.unary main_cst_9 main_v145 (broadcastInDim S2x36864 ![] bcast_S_S2x36864 : Tn F S_ .f32 → Tn F S2x36864 .f32)
  :: StableHlo.binary main_v145 main_v141 main_v146 (mulf : Tn F S2x36864 .f32 → Tn F S2x36864 .f32 → Tn F S2x36864 .f32)
  :: StableHlo.binary main_v129 main_v146 main_v147 (subf : Tn F S2x36864 .f32 → Tn F S2x36864 .f32 → Tn F S2x36864 .f32)
  :: StableHlo.nullary main_cst_10 (constant S_ .f32 0x3F000000#32)
  :: StableHlo.unary main_cst_10 main_v148 (broadcastInDim S2x36864 ![] bcast_S_S2x36864 : Tn F S_ .f32 → Tn F S2x36864 .f32)
  :: StableHlo.binary main_v148 main_v135 main_v149 (mulf : Tn F S2x36864 .f32 → Tn F S2x36864 .f32 → Tn F S2x36864 .f32)
  :: StableHlo.binary main_v121 main_v149 main_v150 (addf : Tn F S2x36864 .f32 → Tn F S2x36864 .f32 → Tn F S2x36864 .f32)
  :: StableHlo.nullary main_cst_11 (constant S_ .f32 0x3F000000#32)
  :: StableHlo.unary main_cst_11 main_v151 (broadcastInDim S2x36864 ![] bcast_S_S2x36864 : Tn F S_ .f32 → Tn F S2x36864 .f32)
  :: StableHlo.binary main_v151 main_v141 main_v152 (mulf : Tn F S2x36864 .f32 → Tn F S2x36864 .f32 → Tn F S2x36864 .f32)
  :: StableHlo.binary main_v129 main_v152 main_v153 (addf : Tn F S2x36864 .f32 → Tn F S2x36864 .f32 → Tn F S2x36864 .f32)
  :: StableHlo.unary main_v144 main_v154 (broadcastInDim S2x36864x1 ![0, 1] bcast_S2x36864_S2x36864x1_0_1 : Tn F S2x36864 .f32 → Tn F S2x36864x1 .f32)
  :: StableHlo.unary main_v147 main_v155 (broadcastInDim S2x36864x1 ![0, 1] bcast_S2x36864_S2x36864x1_0_1 : Tn F S2x36864 .f32 → Tn F S2x36864x1 .f32)
  :: StableHlo.unary main_v150 main_v156 (broadcastInDim S2x36864x1 ![0, 1] bcast_S2x36864_S2x36864x1_0_1 : Tn F S2x36864 .f32 → Tn F S2x36864x1 .f32)
  :: StableHlo.unary main_v153 main_v157 (broadcastInDim S2x36864x1 ![0, 1] bcast_S2x36864_S2x36864x1_0_1 : Tn F S2x36864 .f32 → Tn F S2x36864x1 .f32)
  :: StableHlo.nary ![main_v154, main_v155, main_v156, main_v157] main_v158 (fun u => (concatenate S2x36864x4 2 [⟨S2x36864x1, (u 0 : Tn F S2x36864x1 .f32)⟩, ⟨S2x36864x1, (u 1 : Tn F S2x36864x1 .f32)⟩, ⟨S2x36864x1, (u 2 : Tn F S2x36864x1 .f32)⟩, ⟨S2x36864x1, (u 3 : Tn F S2x36864x1 .f32)⟩] concatenates_S2x36864x1_S2x36864x1_S2x36864x1_S2x36864x1_S2x36864x4_d2 : Tn F S2x36864x4 .f32))
  :: StableHlo.unary main_v158 main_v159 ((extractStridedSlice S1x36864x4 ![0, 0, 0] · slices_S2x36864x4_S1x36864x4_0_0_0) : Tn F S2x36864x4 .f32 → Tn F S1x36864x4 .f32)
  :: StableHlo.reshape main_v159 main_v160 (rfl : (.f32 : EltTy) = .f32) shapeCasts_S1x36864x4_S36864x4
  :: StableHlo.unary main_v160 main_v161 ((extractStridedSlice S36864x1 ![0, 0] · slices_S36864x4_S36864x1_0_0) : Tn F S36864x4 .f32 → Tn F S36864x1 .f32)
  :: StableHlo.reshape main_v161 main_v162 (rfl : (.f32 : EltTy) = .f32) shapeCasts_S36864x1_S36864
  :: StableHlo.unary main_arg1 main_v163 ((extractStridedSlice S1x1 ![0, 1] · slices_S2x3_S1x1_0_1) : Tn F S2x3 .f32 → Tn F S1x1 .f32)
  :: StableHlo.reshape main_v163 main_v164 (rfl : (.f32 : EltTy) = .f32) shapeCasts_S1x1_S_
  :: StableHlo.nullary main_cst_12 (constant S_ .f32 0x3F800000#32)
  :: [] )
abbrev main_part3_ops0 : List (HloOp τ sig (Elt F)) :=
  [ StableHlo.binary main_v164 main_cst_12 main_v165 (subf : Tn F S_ .f32 → Tn F S_ .f32 → Tn F S_ .f32),
    StableHlo.nullary main_cst_13 (constant S_ .f32 0x00000000#32) ]
abbrev main_part3_ops1 : List (HloOp τ sig (Elt F)) := hostOps0_5
abbrev main_part3_ops2 : List (HloOp τ sig (Elt F)) := hostOps0_6
abbrev main_part3_ops3 : List (HloOp τ sig (Elt F)) := hostOps0_7
abbrev main_part3_ops4 : List (HloOp τ sig (Elt F)) := hostOps0_8
abbrev main_part3_ops5 : List (HloOp τ sig (Elt F)) := hostOps0_9
abbrev main_part3_ops6 : List (HloOp τ sig (Elt F)) := hostOps0_10
abbrev main_part3_ops7 : List (HloOp τ sig (Elt F)) := hostOps0_11
abbrev main_part3_ops8 : List (HloOp τ sig (Elt F)) := hostOps0_12
abbrev main_part4_ops0 : List (HloOp τ sig (Elt F)) := hostOps0_13
abbrev main_part4_ops1 : List (HloOp τ sig (Elt F)) := hostOps0_14
abbrev main_part4_ops2 : List (HloOp τ sig (Elt F)) := hostOps0_15
abbrev main_part4_ops3 : List (HloOp τ sig (Elt F)) := hostOps0_16
abbrev main_part4_ops4 : List (HloOp τ sig (Elt F)) := hostOps0_17
abbrev main_part4_ops5 : List (HloOp τ sig (Elt F)) := hostOps0_18
abbrev main_part4_ops6 : List (HloOp τ sig (Elt F)) := hostOps0_19
abbrev main_part4_ops7 : List (HloOp τ sig (Elt F)) :=
  [ StableHlo.unary main_v245 main_v246 ((extractStridedSlice S1000 ![0] · slices_S6000_S1000_0) : Tn F S6000 .i32 → Tn F S1000 .i32),
    StableHlo.nullary main_c_32 (constantI S_ 32 6000#32),
    StableHlo.unary main_c_32 main_v247 (broadcastInDim S1000 ![] bcast_S_S1000 : Tn F S_ .i32 → Tn F S1000 .i32),
    StableHlo.binary main_v246 main_v247 main_v248 (cmpi .slt : Tn F S1000 .i32 → Tn F S1000 .i32 → Tn F S1000 .i1),
    StableHlo.unary main_v248 main_v249 (uitofp .f32 : Tn F S1000 .i1 → Tn F S1000 .f32),
    StableHlo.nullary main_c_33 (constantI S_ 32 5999#32),
    StableHlo.unary main_c_33 main_v250 (broadcastInDim S1000 ![] bcast_S_S1000 : Tn F S_ .i32 → Tn F S1000 .i32),
    StableHlo.binary main_v246 main_v250 main_v251 (minsi : Tn F S1000 .i32 → Tn F S1000 .i32 → Tn F S1000 .i32),
    StableHlo.nullary main_c_34 (constantI S_ 32 0#32),
    StableHlo.unary main_c_34 main_v252 (broadcastInDim S1000 ![] bcast_S_S1000 : Tn F S_ .i32 → Tn F S1000 .i32),
    StableHlo.binary main_v251 main_v252 main_v253 (cmpi .slt : Tn F S1000 .i32 → Tn F S1000 .i32 → Tn F S1000 .i1) ]
abbrev main_part5_ops0 : List (HloOp τ sig (Elt F)) :=
  [ StableHlo.nullary main_c_35 (constantI S_ 32 6000#32),
    StableHlo.unary main_c_35 main_v254 (broadcastInDim S1000 ![] bcast_S_S1000 : Tn F S_ .i32 → Tn F S1000 .i32),
    StableHlo.binary main_v251 main_v254 main_v255 (addi : Tn F S1000 .i32 → Tn F S1000 .i32 → Tn F S1000 .i32),
    StableHlo.ternary main_v253 main_v255 main_v251 main_v256 (select : Tn F S1000 .i1 → Tn F S1000 .i32 → Tn F S1000 .i32 → Tn F S1000 .i32),
    StableHlo.unary main_v256 main_v257 (broadcastInDim S1000x1 ![0] bcast_S1000_S1000x1_0 : Tn F S1000 .i32 → Tn F S1000x1 .i32),
    StableHlo.binary main_v224 main_v257 main_v258 ((fun x i => Host.gather gather_S6000x4_S1000x1_S1000x4_1_0_n_n_0_1_14 x i) : Tn F S6000x4 .f32 → Tn F S1000x1 .i32 → Tn F S1000x4 .f32),
    StableHlo.unary main_v249 main_v259 (broadcastInDim S1000x1 ![0] bcast_S1000_S1000x1_0 : Tn F S1000 .f32 → Tn F S1000x1 .f32),
    StableHlo.unary main_v259 main_v260 (broadcastInDim S1000x4 ![0, 1] bcast_S1000x1_S1000x4_0_1 : Tn F S1000x1 .f32 → Tn F S1000x4 .f32),
    StableHlo.binary main_v258 main_v260 main_v261 (mulf : Tn F S1000x4 .f32 → Tn F S1000x4 .f32 → Tn F S1000x4 .f32),
    StableHlo.nullary main_cst_36 (constant S_ .f32 0x00000000#32),
    StableHlo.unary main_cst_36 main_v262 (broadcastInDim S1000x1 ![] bcast_S_S1000x1 : Tn F S_ .f32 → Tn F S1000x1 .f32),
    StableHlo.binary main_v262 main_v261 main_v263 ((fun a b => concatenate S1000x5 1 [⟨S1000x1, a⟩, ⟨S1000x4, b⟩] concatenates_S1000x1_S1000x4_S1000x5_d1) : Tn F S1000x1 .f32 → Tn F S1000x4 .f32 → Tn F S1000x5 .f32),
    StableHlo.unary main_v158 main_v264 ((extractStridedSlice S1x36864x4 ![1, 0, 0] · slices_S2x36864x4_S1x36864x4_1_0_0) : Tn F S2x36864x4 .f32 → Tn F S1x36864x4 .f32),
    StableHlo.reshape main_v264 main_v265 (rfl : (.f32 : EltTy) = .f32) shapeCasts_S1x36864x4_S36864x4,
    StableHlo.unary main_v265 main_v266 ((extractStridedSlice S36864x1 ![0, 0] · slices_S36864x4_S36864x1_0_0) : Tn F S36864x4 .f32 → Tn F S36864x1 .f32),
    StableHlo.reshape main_v266 main_v267 (rfl : (.f32 : EltTy) = .f32) shapeCasts_S36864x1_S36864,
    StableHlo.unary main_arg1 main_v268 ((extractStridedSlice S1x1 ![1, 1] · slices_S2x3_S1x1_1_1) : Tn F S2x3 .f32 → Tn F S1x1 .f32),
    StableHlo.reshape main_v268 main_v269 (rfl : (.f32 : EltTy) = .f32) shapeCasts_S1x1_S_,
    StableHlo.nullary main_cst_37 (constant S_ .f32 0x3F800000#32),
    StableHlo.binary main_v269 main_cst_37 main_v270 (subf : Tn F S_ .f32 → Tn F S_ .f32 → Tn F S_ .f32),
    StableHlo.nullary main_cst_38 (constant S_ .f32 0x00000000#32) ]
abbrev main_part5_ops1 : List (HloOp τ sig (Elt F)) := hostOps0_21
abbrev main_part5_ops2 : List (HloOp τ sig (Elt F)) := hostOps0_22
abbrev main_part5_ops3 : List (HloOp τ sig (Elt F)) := hostOps0_23
abbrev main_part5_ops4 : List (HloOp τ sig (Elt F)) := hostOps0_24
abbrev main_part5_ops5 : List (HloOp τ sig (Elt F)) := hostOps0_25
abbrev main_part5_ops6 : List (HloOp τ sig (Elt F)) := hostOps0_26
abbrev main_part5_ops7 : List (HloOp τ sig (Elt F)) := hostOps0_27
abbrev main_part5_ops8 : List (HloOp τ sig (Elt F)) :=
  [ StableHlo.unary main_v271 main_v290 (broadcastInDim S36864x1 ![0] bcast_S36864_S36864x1_0 : Tn F S36864 .f32 → Tn F S36864x1 .f32),
    StableHlo.unary main_v277 main_v291 (broadcastInDim S36864x1 ![0] bcast_S36864_S36864x1_0 : Tn F S36864 .f32 → Tn F S36864x1 .f32),
    StableHlo.unary main_v283 main_v292 (broadcastInDim S36864x1 ![0] bcast_S36864_S36864x1_0 : Tn F S36864 .f32 → Tn F S36864x1 .f32),
    StableHlo.unary main_v289 main_v293 (broadcastInDim S36864x1 ![0] bcast_S36864_S36864x1_0 : Tn F S36864 .f32 → Tn F S36864x1 .f32),
    StableHlo.nary ![main_v290, main_v291, main_v292, main_v293] main_v294 (fun u => (concatenate S36864x4 1 [⟨S36864x1, (u 0 : Tn F S36864x1 .f32)⟩, ⟨S36864x1, (u 1 : Tn F S36864x1 .f32)⟩, ⟨S36864x1, (u 2 : Tn F S36864x1 .f32)⟩, ⟨S36864x1, (u 3 : Tn F S36864x1 .f32)⟩] concatenates_S36864x1_S36864x1_S36864x1_S36864x1_S36864x4_d1 : Tn F S36864x4 .f32)),
    StableHlo.unary main_v294 main_v295 ((extractStridedSlice S36864x1 ![0, 2] · slices_S36864x4_S36864x1_0_2) : Tn F S36864x4 .f32 → Tn F S36864x1 .f32),
    StableHlo.reshape main_v295 main_v296 (rfl : (.f32 : EltTy) = .f32) shapeCasts_S36864x1_S36864,
    StableHlo.unary main_v294 main_v297 ((extractStridedSlice S36864x1 ![0, 0] · slices_S36864x4_S36864x1_0_0) : Tn F S36864x4 .f32 → Tn F S36864x1 .f32),
    StableHlo.reshape main_v297 main_v298 (rfl : (.f32 : EltTy) = .f32) shapeCasts_S36864x1_S36864,
    StableHlo.binary main_v296 main_v298 main_v299 (subf : Tn F S36864 .f32 → Tn F S36864 .f32 → Tn F S36864 .f32),
    StableHlo.nullary main_cst_45 (constant S_ .f32 0x3F800000#32),
    StableHlo.unary main_cst_45 main_v300 (broadcastInDim S36864 ![] bcast_S_S36864 : Tn F S_ .f32 → Tn F S36864 .f32),
    StableHlo.binary main_v299 main_v300 main_v301 (addf : Tn F S36864 .f32 → Tn F S36864 .f32 → Tn F S36864 .f32),
    StableHlo.unary main_v294 main_v302 ((extractStridedSlice S36864x1 ![0, 3] · slices_S36864x4_S36864x1_0_3) : Tn F S36864x4 .f32 → Tn F S36864x1 .f32) ]
abbrev main_part6_ops0 : List (HloOp τ sig (Elt F)) :=
  [ StableHlo.reshape main_v302 main_v303 (rfl : (.f32 : EltTy) = .f32) shapeCasts_S36864x1_S36864,
    StableHlo.unary main_v294 main_v304 ((extractStridedSlice S36864x1 ![0, 1] · slices_S36864x4_S36864x1_0_1) : Tn F S36864x4 .f32 → Tn F S36864x1 .f32),
    StableHlo.reshape main_v304 main_v305 (rfl : (.f32 : EltTy) = .f32) shapeCasts_S36864x1_S36864,
    StableHlo.binary main_v303 main_v305 main_v306 (subf : Tn F S36864 .f32 → Tn F S36864 .f32 → Tn F S36864 .f32),
    StableHlo.nullary main_cst_46 (constant S_ .f32 0x3F800000#32),
    StableHlo.unary main_cst_46 main_v307 (broadcastInDim S36864 ![] bcast_S_S36864 : Tn F S_ .f32 → Tn F S36864 .f32),
    StableHlo.binary main_v306 main_v307 main_v308 (addf : Tn F S36864 .f32 → Tn F S36864 .f32 → Tn F S36864 .f32),
    StableHlo.unary main_arg1 main_v309 ((extractStridedSlice S1x1 ![1, 2] · slices_S2x3_S1x1_1_2) : Tn F S2x3 .f32 → Tn F S1x1 .f32),
    StableHlo.reshape main_v309 main_v310 (rfl : (.f32 : EltTy) = .f32) shapeCasts_S1x1_S_,
    StableHlo.nullary main_cst_47 (constant S_ .f32 0x41800000#32),
    StableHlo.binary main_cst_47 main_v310 main_v311 (mulf : Tn F S_ .f32 → Tn F S_ .f32 → Tn F S_ .f32),
    StableHlo.unary main_v311 main_v312 (broadcastInDim S36864 ![] bcast_S_S36864 : Tn F S_ .f32 → Tn F S36864 .f32),
    StableHlo.binary main_v301 main_v312 main_v313 (cmpf .oge : Tn F S36864 .f32 → Tn F S36864 .f32 → Tn F S36864 .i1),
    StableHlo.unary main_v311 main_v314 (broadcastInDim S36864 ![] bcast_S_S36864 : Tn F S_ .f32 → Tn F S36864 .f32),
    StableHlo.binary main_v308 main_v314 main_v315 (cmpf .oge : Tn F S36864 .f32 → Tn F S36864 .f32 → Tn F S36864 .i1),
    StableHlo.binary main_v313 main_v315 main_v316 (andi : Tn F S36864 .i1 → Tn F S36864 .i1 → Tn F S36864 .i1),
    StableHlo.unary main_v87 main_v317 ((extractStridedSlice S1x36864 ![1, 0] · slices_S2x36864_S1x36864_1_0) : Tn F S2x36864 .f32 → Tn F S1x36864 .f32),
    StableHlo.reshape main_v317 main_v318 (rfl : (.f32 : EltTy) = .f32) shapeCasts_S1x36864_S36864,
    StableHlo.nullary main_cst_48 (constant S_ .f32 0xBF800000#32) ]
abbrev main_part6_ops1 : List (HloOp τ sig (Elt F)) := hostOps0_29
abbrev main_part6_ops2 : List (HloOp τ sig (Elt F)) := hostOps0_30
abbrev main_part6_ops3 : List (HloOp τ sig (Elt F)) := hostOps0_31
abbrev main_part6_ops4 : List (HloOp τ sig (Elt F)) :=
  ( StableHlo.unary main_v321 main_v322 ((extractStridedSlice S6000 ![0] · slices_S36864_S6000_0) : Tn F S36864 .i32 → Tn F S6000 .i32)
  :: StableHlo.nullary main_c_49 (constantI S_ 32 0#32)
  :: StableHlo.unary main_c_49 main_v323 (broadcastInDim S6000 ![] bcast_S_S6000 : Tn F S_ .i32 → Tn F S6000 .i32)
  :: StableHlo.binary main_v322 main_v323 main_v324 (cmpi .slt : Tn F S6000 .i32 → Tn F S6000 .i32 → Tn F S6000 .i1)
  :: StableHlo.nullary main_c_50 (constantI S_ 32 36864#32)
  :: StableHlo.unary main_c_50 main_v325 (broadcastInDim S6000 ![] bcast_S_S6000 : Tn F S_ .i32 → Tn F S6000 .i32)
  :: StableHlo.binary main_v322 main_v325 main_v326 (addi : Tn F S6000 .i32 → Tn F S6000 .i32 → Tn F S6000 .i32)
  :: StableHlo.ternary main_v324 main_v326 main_v322 main_v327 (select : Tn F S6000 .i1 → Tn F S6000 .i32 → Tn F S6000 .i32 → Tn F S6000 .i32)
  :: StableHlo.unary main_v327 main_v328 (broadcastInDim S6000x1 ![0] bcast_S6000_S6000x1_0 : Tn F S6000 .i32 → Tn F S6000x1 .i32)
  :: StableHlo.binary main_v294 main_v328 main_v329 ((fun x i => Host.gather gather_S36864x4_S6000x1_S6000x4_1_0_n_n_0_1_14 x i) : Tn F S36864x4 .f32 → Tn F S6000x1 .i32 → Tn F S6000x4 .f32)
  :: StableHlo.unary main_v329 main_v330 ((extractStridedSlice S6000x1 ![0, 0] · slices_S6000x4_S6000x1_0_0) : Tn F S6000x4 .f32 → Tn F S6000x1 .f32)
  :: StableHlo.reshape main_v330 main_v331 (rfl : (.f32 : EltTy) = .f32) shapeCasts_S6000x1_S6000
  :: StableHlo.unary main_v329 main_v332 ((extractStridedSlice S6000x1 ![0, 1] · slices_S6000x4_S6000x1_0_1) : Tn F S6000x4 .f32 → Tn F S6000x1 .f32)
  :: StableHlo.reshape main_v332 main_v333 (rfl : (.f32 : EltTy) = .f32) shapeCasts_S6000x1_S6000
  :: StableHlo.unary main_v329 main_v334 ((extractStridedSlice S6000x1 ![0, 2] · slices_S6000x4_S6000x1_0_2) : Tn F S6000x4 .f32 → Tn F S6000x1 .f32)
  :: StableHlo.reshape main_v334 main_v335 (rfl : (.f32 : EltTy) = .f32) shapeCasts_S6000x1_S6000
  :: StableHlo.unary main_v329 main_v336 ((extractStridedSlice S6000x1 ![0, 3] · slices_S6000x4_S6000x1_0_3) : Tn F S6000x4 .f32 → Tn F S6000x1 .f32)
  :: StableHlo.reshape main_v336 main_v337 (rfl : (.f32 : EltTy) = .f32) shapeCasts_S6000x1_S6000
  :: StableHlo.binary main_v335 main_v331 main_v338 (subf : Tn F S6000 .f32 → Tn F S6000 .f32 → Tn F S6000 .f32)
  :: StableHlo.nullary main_cst_51 (constant S_ .f32 0x3F800000#32)
  :: StableHlo.unary main_cst_51 main_v339 (broadcastInDim S6000 ![] bcast_S_S6000 : Tn F S_ .f32 → Tn F S6000 .f32)
  :: StableHlo.binary main_v338 main_v339 main_v340 (addf : Tn F S6000 .f32 → Tn F S6000 .f32 → Tn F S6000 .f32)
  :: StableHlo.binary main_v337 main_v333 main_v341 (subf : Tn F S6000 .f32 → Tn F S6000 .f32 → Tn F S6000 .f32)
  :: StableHlo.nullary main_cst_52 (constant S_ .f32 0x3F800000#32)
  :: StableHlo.unary main_cst_52 main_v342 (broadcastInDim S6000 ![] bcast_S_S6000 : Tn F S_ .f32 → Tn F S6000 .f32)
  :: StableHlo.binary main_v341 main_v342 main_v343 (addf : Tn F S6000 .f32 → Tn F S6000 .f32 → Tn F S6000 .f32)
  :: StableHlo.binary main_v340 main_v343 main_v344 (mulf : Tn F S6000 .f32 → Tn F S6000 .f32 → Tn F S6000 .f32)
  :: StableHlo.nullary main_v345 (iotaInDim S6000 32 0)
  :: StableHlo.nullary main_c_53 (constantI S_ 1 0#1)
  :: StableHlo.unary main_c_53 main_v346 (broadcastInDim S6000 ![] bcast_S_S6000 : Tn F S_ .i1 → Tn F S6000 .i1)
  :: StableHlo.nullary main_c_54 (constantI S_ 32 0#32)
  :: StableHlo.nullary main_c_55 (constantI S_ 32 0#32)
  :: StableHlo.unary main_v331 main_v347_0 id
  :: StableHlo.unary main_v333 main_v347_1 id
  :: StableHlo.unary main_v335 main_v347_2 id
  :: StableHlo.unary main_v337 main_v347_3 id
  :: StableHlo.unary main_v344 main_v347_4 id
  :: StableHlo.unary main_v345 main_v347_5 id
  :: [] )
abbrev main_part7_ops0 : List (HloOp τ sig (Elt F)) :=
  [ StableHlo.unary main_c_55 main_v347_6 id,
    StableHlo.unary main_c_54 main_v347_7 id,
    StableHlo.unary main_v346 main_v347_8 id ]
abbrev main_part7_ops1 : List (HloOp τ sig (Elt F)) := hostOps0_33
abbrev main_part7_ops2 : List (HloOp τ sig (Elt F)) := hostOps0_34
abbrev main_part7_ops3 : List (HloOp τ sig (Elt F)) := hostOps0_35
abbrev main_part7_ops4 : List (HloOp τ sig (Elt F)) := hostOps0_36

end Cert.ReferenceIdeal.Gen

end
-- ==== Proof.RefBody.lean ====
module

public import proofs.«01_k».proof.Proof.Gen.ReferenceIdeal
public import Idealize.ShloMosaic.Lib.Pipeline.Kit
public import Idealize.ShloMosaic.Lib.Pipeline.Regions
public import proofs.«01_k».proof.Proof.RefOps

/-! The host operations of the reference's two loop bodies, stretch by stretch. -/

@[expose] public section

set_option maxRecDepth 8000

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

set_option maxHeartbeats 40000000 in
abbrev while0Ops0 : List (HloOp τ sig (Elt F)) :=
  ( StableHlo.nullary main_while0b_c_70 (constantI S_ 32 1#32)
  :: StableHlo.binary main_v242_7 main_while0b_c_70 main_while0b_v372 (addi : Tn F S_ .i32 → Tn F S_ .i32 → Tn F S_ .i32)
  :: StableHlo.nullary main_while0b_c_71 (constantI S_ 32 0#32)
  :: StableHlo.binary main_v242_7 main_while0b_c_71 main_while0b_v373 (cmpi .slt : Tn F S_ .i32 → Tn F S_ .i32 → Tn F S_ .i1)
  :: StableHlo.unary main_v242_7 main_while0b_v374 (id : Tn F S_ .i32 → Tn F S_ .i32)
  :: StableHlo.nullary main_while0b_c_72 (constantI S_ 32 6000#32)
  :: StableHlo.binary main_while0b_v374 main_while0b_c_72 main_while0b_v375 (addi : Tn F S_ .i32 → Tn F S_ .i32 → Tn F S_ .i32)
  :: StableHlo.ternary main_while0b_v373 main_while0b_v375 main_v242_7 main_while0b_v376 (select : Tn F S_ .i1 → Tn F S_ .i32 → Tn F S_ .i32 → Tn F S_ .i32)
  :: StableHlo.unaryIndexed main_v242_0 ![main_while0b_v376] ⟨S_, .i32⟩ main_while0b_v377 ((fun x i => Host.dynamicSlice S1 x (fun k => (i k (Shape.Idx.first h_S_)).toInt) sliceFits_S6000_S1) : Tn F S6000 .f32 → (Fin 1 → Tn F S_ .i32) → Tn F S1 .f32)
  :: StableHlo.reshape main_while0b_v377 main_while0b_v378 (rfl : (.f32 : EltTy) = .f32) shapeCasts_S1_S_
  :: StableHlo.unary main_while0b_v378 main_while0b_v379 (broadcastInDim S6000 ![] bcast_S_S6000 : Tn F S_ .f32 → Tn F S6000 .f32)
  :: StableHlo.binary main_while0b_v379 main_v242_0 main_while0b_v380 (maximumf : Tn F S6000 .f32 → Tn F S6000 .f32 → Tn F S6000 .f32)
  :: StableHlo.nullary main_while0b_c_73 (constantI S_ 32 0#32)
  :: StableHlo.binary main_v242_7 main_while0b_c_73 main_while0b_v381 (cmpi .slt : Tn F S_ .i32 → Tn F S_ .i32 → Tn F S_ .i1)
  :: StableHlo.unary main_v242_7 main_while0b_v382 (id : Tn F S_ .i32 → Tn F S_ .i32)
  :: StableHlo.nullary main_while0b_c_74 (constantI S_ 32 6000#32)
  :: StableHlo.binary main_while0b_v382 main_while0b_c_74 main_while0b_v383 (addi : Tn F S_ .i32 → Tn F S_ .i32 → Tn F S_ .i32)
  :: StableHlo.ternary main_while0b_v381 main_while0b_v383 main_v242_7 main_while0b_v384 (select : Tn F S_ .i1 → Tn F S_ .i32 → Tn F S_ .i32 → Tn F S_ .i32)
  :: StableHlo.unaryIndexed main_v242_1 ![main_while0b_v384] ⟨S_, .i32⟩ main_while0b_v385 ((fun x i => Host.dynamicSlice S1 x (fun k => (i k (Shape.Idx.first h_S_)).toInt) sliceFits_S6000_S1) : Tn F S6000 .f32 → (Fin 1 → Tn F S_ .i32) → Tn F S1 .f32)
  :: StableHlo.reshape main_while0b_v385 main_while0b_v386 (rfl : (.f32 : EltTy) = .f32) shapeCasts_S1_S_
  :: StableHlo.unary main_while0b_v386 main_while0b_v387 (broadcastInDim S6000 ![] bcast_S_S6000 : Tn F S_ .f32 → Tn F S6000 .f32)
  :: StableHlo.binary main_while0b_v387 main_v242_1 main_while0b_v388 (maximumf : Tn F S6000 .f32 → Tn F S6000 .f32 → Tn F S6000 .f32)
  :: StableHlo.nullary main_while0b_c_75 (constantI S_ 32 0#32)
  :: StableHlo.binary main_v242_7 main_while0b_c_75 main_while0b_v389 (cmpi .slt : Tn F S_ .i32 → Tn F S_ .i32 → Tn F S_ .i1)
  :: StableHlo.unary main_v242_7 main_while0b_v390 (id : Tn F S_ .i32 → Tn F S_ .i32)
  :: StableHlo.nullary main_while0b_c_76 (constantI S_ 32 6000#32)
  :: StableHlo.binary main_while0b_v390 main_while0b_c_76 main_while0b_v391 (addi : Tn F S_ .i32 → Tn F S_ .i32 → Tn F S_ .i32)
  :: StableHlo.ternary main_while0b_v389 main_while0b_v391 main_v242_7 main_while0b_v392 (select : Tn F S_ .i1 → Tn F S_ .i32 → Tn F S_ .i32 → Tn F S_ .i32)
  :: StableHlo.unaryIndexed main_v242_2 ![main_while0b_v392] ⟨S_, .i32⟩ main_while0b_v393 ((fun x i => Host.dynamicSlice S1 x (fun k => (i k (Shape.Idx.first h_S_)).toInt) sliceFits_S6000_S1) : Tn F S6000 .f32 → (Fin 1 → Tn F S_ .i32) → Tn F S1 .f32)
  :: StableHlo.reshape main_while0b_v393 main_while0b_v394 (rfl : (.f32 : EltTy) = .f32) shapeCasts_S1_S_
  :: StableHlo.unary main_while0b_v394 main_while0b_v395 (broadcastInDim S6000 ![] bcast_S_S6000 : Tn F S_ .f32 → Tn F S6000 .f32)
  :: StableHlo.binary main_while0b_v395 main_v242_2 main_while0b_v396 (minimumf : Tn F S6000 .f32 → Tn F S6000 .f32 → Tn F S6000 .f32)
  :: StableHlo.nullary main_while0b_c_77 (constantI S_ 32 0#32)
  :: StableHlo.binary main_v242_7 main_while0b_c_77 main_while0b_v397 (cmpi .slt : Tn F S_ .i32 → Tn F S_ .i32 → Tn F S_ .i1)
  :: StableHlo.unary main_v242_7 main_while0b_v398 (id : Tn F S_ .i32 → Tn F S_ .i32)
  :: StableHlo.nullary main_while0b_c_78 (constantI S_ 32 6000#32)
  :: StableHlo.binary main_while0b_v398 main_while0b_c_78 main_while0b_v399 (addi : Tn F S_ .i32 → Tn F S_ .i32 → Tn F S_ .i32)
  :: StableHlo.ternary main_while0b_v397 main_while0b_v399 main_v242_7 main_while0b_v400 (select : Tn F S_ .i1 → Tn F S_ .i32 → Tn F S_ .i32 → Tn F S_ .i32)
  :: StableHlo.unaryIndexed main_v242_3 ![main_while0b_v400] ⟨S_, .i32⟩ main_while0b_v401 ((fun x i => Host.dynamicSlice S1 x (fun k => (i k (Shape.Idx.first h_S_)).toInt) sliceFits_S6000_S1) : Tn F S6000 .f32 → (Fin 1 → Tn F S_ .i32) → Tn F S1 .f32)
  :: StableHlo.reshape main_while0b_v401 main_while0b_v402 (rfl : (.f32 : EltTy) = .f32) shapeCasts_S1_S_
  :: StableHlo.unary main_while0b_v402 main_while0b_v403 (broadcastInDim S6000 ![] bcast_S_S6000 : Tn F S_ .f32 → Tn F S6000 .f32)
  :: StableHlo.binary main_while0b_v403 main_v242_3 main_while0b_v404 (minimumf : Tn F S6000 .f32 → Tn F S6000 .f32 → Tn F S6000 .f32)
  :: StableHlo.binary main_while0b_v396 main_while0b_v380 main_while0b_v405 (subf : Tn F S6000 .f32 → Tn F S6000 .f32 → Tn F S6000 .f32)
  :: StableHlo.nullary main_while0b_cst_79 (constant S_ .f32 0x3F800000#32)
  :: StableHlo.unary main_while0b_cst_79 main_while0b_v406 (broadcastInDim S6000 ![] bcast_S_S6000 : Tn F S_ .f32 → Tn F S6000 .f32)
  :: StableHlo.binary main_while0b_v405 main_while0b_v406 main_while0b_v407 (addf : Tn F S6000 .f32 → Tn F S6000 .f32 → Tn F S6000 .f32)
  :: StableHlo.nullary main_while0b_cst_80 (constant S_ .f32 0x00000000#32)
  :: StableHlo.unary main_while0b_cst_80 main_while0b_v408 (broadcastInDim S6000 ![] bcast_S_S6000 : Tn F S_ .f32 → Tn F S6000 .f32)
  :: StableHlo.binary main_while0b_v408 main_while0b_v407 main_while0b_v409 (maximumf : Tn F S6000 .f32 → Tn F S6000 .f32 → Tn F S6000 .f32)
  :: StableHlo.binary main_while0b_v404 main_while0b_v388 main_while0b_v410 (subf : Tn F S6000 .f32 → Tn F S6000 .f32 → Tn F S6000 .f32)
  :: StableHlo.nullary main_while0b_cst_81 (constant S_ .f32 0x3F800000#32)
  :: StableHlo.unary main_while0b_cst_81 main_while0b_v411 (broadcastInDim S6000 ![] bcast_S_S6000 : Tn F S_ .f32 → Tn F S6000 .f32)
  :: StableHlo.binary main_while0b_v410 main_while0b_v411 main_while0b_v412 (addf : Tn F S6000 .f32 → Tn F S6000 .f32 → Tn F S6000 .f32)
  :: StableHlo.nullary main_while0b_cst_82 (constant S_ .f32 0x00000000#32)
  :: StableHlo.unary main_while0b_cst_82 main_while0b_v413 (broadcastInDim S6000 ![] bcast_S_S6000 : Tn F S_ .f32 → Tn F S6000 .f32)
  :: StableHlo.binary main_while0b_v413 main_while0b_v412 main_while0b_v414 (maximumf : Tn F S6000 .f32 → Tn F S6000 .f32 → Tn F S6000 .f32)
  :: StableHlo.binary main_while0b_v409 main_while0b_v414 main_while0b_v415 (mulf : Tn F S6000 .f32 → Tn F S6000 .f32 → Tn F S6000 .f32)
  :: StableHlo.nullary main_while0b_c_83 (constantI S_ 32 0#32)
  :: StableHlo.binary main_v242_7 main_while0b_c_83 main_while0b_v416 (cmpi .slt : Tn F S_ .i32 → Tn F S_ .i32 → Tn F S_ .i1)
  :: StableHlo.unary main_v242_7 main_while0b_v417 (id : Tn F S_ .i32 → Tn F S_ .i32)
  :: StableHlo.nullary main_while0b_c_84 (constantI S_ 32 6000#32)
  :: StableHlo.binary main_while0b_v417 main_while0b_c_84 main_while0b_v418 (addi : Tn F S_ .i32 → Tn F S_ .i32 → Tn F S_ .i32)
  :: StableHlo.ternary main_while0b_v416 main_while0b_v418 main_v242_7 main_while0b_v419 (select : Tn F S_ .i1 → Tn F S_ .i32 → Tn F S_ .i32 → Tn F S_ .i32)
  :: StableHlo.unaryIndexed main_v242_4 ![main_while0b_v419] ⟨S_, .i32⟩ main_while0b_v420 ((fun x i => Host.dynamicSlice S1 x (fun k => (i k (Shape.Idx.first h_S_)).toInt) sliceFits_S6000_S1) : Tn F S6000 .f32 → (Fin 1 → Tn F S_ .i32) → Tn F S1 .f32)
  :: StableHlo.reshape main_while0b_v420 main_while0b_v421 (rfl : (.f32 : EltTy) = .f32) shapeCasts_S1_S_
  :: StableHlo.unary main_while0b_v421 main_while0b_v422 (broadcastInDim S6000 ![] bcast_S_S6000 : Tn F S_ .f32 → Tn F S6000 .f32)
  :: StableHlo.binary main_while0b_v422 main_v242_4 main_while0b_v423 (addf : Tn F S6000 .f32 → Tn F S6000 .f32 → Tn F S6000 .f32)
  :: StableHlo.binary main_while0b_v423 main_while0b_v415 main_while0b_v424 (subf : Tn F S6000 .f32 → Tn F S6000 .f32 → Tn F S6000 .f32)
  :: StableHlo.binary main_while0b_v415 main_while0b_v424 main_while0b_v425 (Host.divf : Tn F S6000 .f32 → Tn F S6000 .f32 → Tn F S6000 .f32)
  :: StableHlo.nullary main_while0b_cst_85 (constant S_ .f32 0x3F333333#32)
  :: StableHlo.unary main_while0b_cst_85 main_while0b_v426 (broadcastInDim S6000 ![] bcast_S_S6000 : Tn F S_ .f32 → Tn F S6000 .f32)
  :: StableHlo.binary main_while0b_v425 main_while0b_v426 main_while0b_v427 (cmpf .ogt : Tn F S6000 .f32 → Tn F S6000 .f32 → Tn F S6000 .i1)
  :: StableHlo.unary main_v242_7 main_while0b_v428 (id : Tn F S_ .i32 → Tn F S_ .i32)
  :: StableHlo.unary main_while0b_v428 main_while0b_v429 (broadcastInDim S6000 ![] bcast_S_S6000 : Tn F S_ .i32 → Tn F S6000 .i32)
  :: StableHlo.binary main_v242_5 main_while0b_v429 main_while0b_v430 (cmpi .sgt : Tn F S6000 .i32 → Tn F S6000 .i32 → Tn F S6000 .i1)
  :: StableHlo.binary main_while0b_v427 main_while0b_v430 main_while0b_v431 (andi : Tn F S6000 .i1 → Tn F S6000 .i1 → Tn F S6000 .i1)
  :: StableHlo.binary main_v242_8 main_while0b_v431 main_while0b_v432 (ori : Tn F S6000 .i1 → Tn F S6000 .i1 → Tn F S6000 .i1)
  :: StableHlo.nullary main_while0b_c_86 (constantI S_ 32 0#32)
  :: StableHlo.binary main_v242_7 main_while0b_c_86 main_while0b_v433 (cmpi .slt : Tn F S_ .i32 → Tn F S_ .i32 → Tn F S_ .i1)
  :: StableHlo.unary main_v242_7 main_while0b_v434 (id : Tn F S_ .i32 → Tn F S_ .i32)
  :: StableHlo.nullary main_while0b_c_87 (constantI S_ 32 6000#32)
  :: StableHlo.binary main_while0b_v434 main_while0b_c_87 main_while0b_v435 (addi : Tn F S_ .i32 → Tn F S_ .i32 → Tn F S_ .i32)
  :: StableHlo.ternary main_while0b_v433 main_while0b_v435 main_v242_7 main_while0b_v436 (select : Tn F S_ .i1 → Tn F S_ .i32 → Tn F S_ .i32 → Tn F S_ .i32)
  :: StableHlo.unaryIndexed main_v242_8 ![main_while0b_v436] ⟨S_, .i32⟩ main_while0b_v437 ((fun x i => Host.dynamicSlice S1 x (fun k => (i k (Shape.Idx.first h_S_)).toInt) sliceFits_S6000_S1) : Tn F S6000 .i1 → (Fin 1 → Tn F S_ .i32) → Tn F S1 .i1)
  :: StableHlo.reshape main_while0b_v437 main_while0b_v438 (rfl : (.i1 : EltTy) = .i1) shapeCasts_S1_S_
  :: [] )
set_option maxHeartbeats 40000000 in
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub ..⟩
abbrev while0Ops0_1 : List (HloOp τ sig (Elt F)) :=
  [ StableHlo.TRef.ternary (.of main_while0b_v438 : StableHlo.TRef sig ⟨S_, .i1⟩) (.of main_v242_8 : StableHlo.TRef sig ⟨S6000, .i1⟩) (.of main_while0b_v432 : StableHlo.TRef sig ⟨S6000, .i1⟩) (.of main_while0b_v439 : StableHlo.TRef sig ⟨S6000, .i1⟩) (fun p a b => select (broadcastInDim S6000 ![] bcast_S_S6000 p) a b) ]
theorem while0Ops0_1_sub : (while0Ops0_1 : List (HloOp τ sig (Elt F))).Forall fun op => op.bufs ⊆ StableHlo.tcRefs τ sig :=
  StableHlo.ternary_bufs_sub ..
abbrev while0Ops0_2 : List (HloOp τ sig (Elt F)) :=
  [ StableHlo.nullary main_while0b_c_88 (constantI S_ 32 1#32),
    StableHlo.binary main_v242_6 main_while0b_c_88 main_while0b_v440 (addi : Tn F S_ .i32 → Tn F S_ .i32 → Tn F S_ .i32),
    StableHlo.unary main_while0b_v440 main_v242_6 id,
    StableHlo.unary main_while0b_v372 main_v242_7 id,
    StableHlo.unary main_while0b_v439 main_v242_8 id ]
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
set_option maxHeartbeats 40000000 in
abbrev while1Ops0 : List (HloOp τ sig (Elt F)) :=
  ( StableHlo.nullary main_while1b_c_70 (constantI S_ 32 1#32)
  :: StableHlo.binary main_v347_7 main_while1b_c_70 main_while1b_v372 (addi : Tn F S_ .i32 → Tn F S_ .i32 → Tn F S_ .i32)
  :: StableHlo.nullary main_while1b_c_71 (constantI S_ 32 0#32)
  :: StableHlo.binary main_v347_7 main_while1b_c_71 main_while1b_v373 (cmpi .slt : Tn F S_ .i32 → Tn F S_ .i32 → Tn F S_ .i1)
  :: StableHlo.unary main_v347_7 main_while1b_v374 (id : Tn F S_ .i32 → Tn F S_ .i32)
  :: StableHlo.nullary main_while1b_c_72 (constantI S_ 32 6000#32)
  :: StableHlo.binary main_while1b_v374 main_while1b_c_72 main_while1b_v375 (addi : Tn F S_ .i32 → Tn F S_ .i32 → Tn F S_ .i32)
  :: StableHlo.ternary main_while1b_v373 main_while1b_v375 main_v347_7 main_while1b_v376 (select : Tn F S_ .i1 → Tn F S_ .i32 → Tn F S_ .i32 → Tn F S_ .i32)
  :: StableHlo.unaryIndexed main_v347_0 ![main_while1b_v376] ⟨S_, .i32⟩ main_while1b_v377 ((fun x i => Host.dynamicSlice S1 x (fun k => (i k (Shape.Idx.first h_S_)).toInt) sliceFits_S6000_S1) : Tn F S6000 .f32 → (Fin 1 → Tn F S_ .i32) → Tn F S1 .f32)
  :: StableHlo.reshape main_while1b_v377 main_while1b_v378 (rfl : (.f32 : EltTy) = .f32) shapeCasts_S1_S_
  :: StableHlo.unary main_while1b_v378 main_while1b_v379 (broadcastInDim S6000 ![] bcast_S_S6000 : Tn F S_ .f32 → Tn F S6000 .f32)
  :: StableHlo.binary main_while1b_v379 main_v347_0 main_while1b_v380 (maximumf : Tn F S6000 .f32 → Tn F S6000 .f32 → Tn F S6000 .f32)
  :: StableHlo.nullary main_while1b_c_73 (constantI S_ 32 0#32)
  :: StableHlo.binary main_v347_7 main_while1b_c_73 main_while1b_v381 (cmpi .slt : Tn F S_ .i32 → Tn F S_ .i32 → Tn F S_ .i1)
  :: StableHlo.unary main_v347_7 main_while1b_v382 (id : Tn F S_ .i32 → Tn F S_ .i32)
  :: StableHlo.nullary main_while1b_c_74 (constantI S_ 32 6000#32)
  :: StableHlo.binary main_while1b_v382 main_while1b_c_74 main_while1b_v383 (addi : Tn F S_ .i32 → Tn F S_ .i32 → Tn F S_ .i32)
  :: StableHlo.ternary main_while1b_v381 main_while1b_v383 main_v347_7 main_while1b_v384 (select : Tn F S_ .i1 → Tn F S_ .i32 → Tn F S_ .i32 → Tn F S_ .i32)
  :: StableHlo.unaryIndexed main_v347_1 ![main_while1b_v384] ⟨S_, .i32⟩ main_while1b_v385 ((fun x i => Host.dynamicSlice S1 x (fun k => (i k (Shape.Idx.first h_S_)).toInt) sliceFits_S6000_S1) : Tn F S6000 .f32 → (Fin 1 → Tn F S_ .i32) → Tn F S1 .f32)
  :: StableHlo.reshape main_while1b_v385 main_while1b_v386 (rfl : (.f32 : EltTy) = .f32) shapeCasts_S1_S_
  :: StableHlo.unary main_while1b_v386 main_while1b_v387 (broadcastInDim S6000 ![] bcast_S_S6000 : Tn F S_ .f32 → Tn F S6000 .f32)
  :: StableHlo.binary main_while1b_v387 main_v347_1 main_while1b_v388 (maximumf : Tn F S6000 .f32 → Tn F S6000 .f32 → Tn F S6000 .f32)
  :: StableHlo.nullary main_while1b_c_75 (constantI S_ 32 0#32)
  :: StableHlo.binary main_v347_7 main_while1b_c_75 main_while1b_v389 (cmpi .slt : Tn F S_ .i32 → Tn F S_ .i32 → Tn F S_ .i1)
  :: StableHlo.unary main_v347_7 main_while1b_v390 (id : Tn F S_ .i32 → Tn F S_ .i32)
  :: StableHlo.nullary main_while1b_c_76 (constantI S_ 32 6000#32)
  :: StableHlo.binary main_while1b_v390 main_while1b_c_76 main_while1b_v391 (addi : Tn F S_ .i32 → Tn F S_ .i32 → Tn F S_ .i32)
  :: StableHlo.ternary main_while1b_v389 main_while1b_v391 main_v347_7 main_while1b_v392 (select : Tn F S_ .i1 → Tn F S_ .i32 → Tn F S_ .i32 → Tn F S_ .i32)
  :: StableHlo.unaryIndexed main_v347_2 ![main_while1b_v392] ⟨S_, .i32⟩ main_while1b_v393 ((fun x i => Host.dynamicSlice S1 x (fun k => (i k (Shape.Idx.first h_S_)).toInt) sliceFits_S6000_S1) : Tn F S6000 .f32 → (Fin 1 → Tn F S_ .i32) → Tn F S1 .f32)
  :: StableHlo.reshape main_while1b_v393 main_while1b_v394 (rfl : (.f32 : EltTy) = .f32) shapeCasts_S1_S_
  :: StableHlo.unary main_while1b_v394 main_while1b_v395 (broadcastInDim S6000 ![] bcast_S_S6000 : Tn F S_ .f32 → Tn F S6000 .f32)
  :: StableHlo.binary main_while1b_v395 main_v347_2 main_while1b_v396 (minimumf : Tn F S6000 .f32 → Tn F S6000 .f32 → Tn F S6000 .f32)
  :: StableHlo.nullary main_while1b_c_77 (constantI S_ 32 0#32)
  :: StableHlo.binary main_v347_7 main_while1b_c_77 main_while1b_v397 (cmpi .slt : Tn F S_ .i32 → Tn F S_ .i32 → Tn F S_ .i1)
  :: StableHlo.unary main_v347_7 main_while1b_v398 (id : Tn F S_ .i32 → Tn F S_ .i32)
  :: StableHlo.nullary main_while1b_c_78 (constantI S_ 32 6000#32)
  :: StableHlo.binary main_while1b_v398 main_while1b_c_78 main_while1b_v399 (addi : Tn F S_ .i32 → Tn F S_ .i32 → Tn F S_ .i32)
  :: StableHlo.ternary main_while1b_v397 main_while1b_v399 main_v347_7 main_while1b_v400 (select : Tn F S_ .i1 → Tn F S_ .i32 → Tn F S_ .i32 → Tn F S_ .i32)
  :: StableHlo.unaryIndexed main_v347_3 ![main_while1b_v400] ⟨S_, .i32⟩ main_while1b_v401 ((fun x i => Host.dynamicSlice S1 x (fun k => (i k (Shape.Idx.first h_S_)).toInt) sliceFits_S6000_S1) : Tn F S6000 .f32 → (Fin 1 → Tn F S_ .i32) → Tn F S1 .f32)
  :: StableHlo.reshape main_while1b_v401 main_while1b_v402 (rfl : (.f32 : EltTy) = .f32) shapeCasts_S1_S_
  :: StableHlo.unary main_while1b_v402 main_while1b_v403 (broadcastInDim S6000 ![] bcast_S_S6000 : Tn F S_ .f32 → Tn F S6000 .f32)
  :: StableHlo.binary main_while1b_v403 main_v347_3 main_while1b_v404 (minimumf : Tn F S6000 .f32 → Tn F S6000 .f32 → Tn F S6000 .f32)
  :: StableHlo.binary main_while1b_v396 main_while1b_v380 main_while1b_v405 (subf : Tn F S6000 .f32 → Tn F S6000 .f32 → Tn F S6000 .f32)
  :: StableHlo.nullary main_while1b_cst_79 (constant S_ .f32 0x3F800000#32)
  :: StableHlo.unary main_while1b_cst_79 main_while1b_v406 (broadcastInDim S6000 ![] bcast_S_S6000 : Tn F S_ .f32 → Tn F S6000 .f32)
  :: StableHlo.binary main_while1b_v405 main_while1b_v406 main_while1b_v407 (addf : Tn F S6000 .f32 → Tn F S6000 .f32 → Tn F S6000 .f32)
  :: StableHlo.nullary main_while1b_cst_80 (constant S_ .f32 0x00000000#32)
  :: StableHlo.unary main_while1b_cst_80 main_while1b_v408 (broadcastInDim S6000 ![] bcast_S_S6000 : Tn F S_ .f32 → Tn F S6000 .f32)
  :: StableHlo.binary main_while1b_v408 main_while1b_v407 main_while1b_v409 (maximumf : Tn F S6000 .f32 → Tn F S6000 .f32 → Tn F S6000 .f32)
  :: StableHlo.binary main_while1b_v404 main_while1b_v388 main_while1b_v410 (subf : Tn F S6000 .f32 → Tn F S6000 .f32 → Tn F S6000 .f32)
  :: StableHlo.nullary main_while1b_cst_81 (constant S_ .f32 0x3F800000#32)
  :: StableHlo.unary main_while1b_cst_81 main_while1b_v411 (broadcastInDim S6000 ![] bcast_S_S6000 : Tn F S_ .f32 → Tn F S6000 .f32)
  :: StableHlo.binary main_while1b_v410 main_while1b_v411 main_while1b_v412 (addf : Tn F S6000 .f32 → Tn F S6000 .f32 → Tn F S6000 .f32)
  :: StableHlo.nullary main_while1b_cst_82 (constant S_ .f32 0x00000000#32)
  :: StableHlo.unary main_while1b_cst_82 main_while1b_v413 (broadcastInDim S6000 ![] bcast_S_S6000 : Tn F S_ .f32 → Tn F S6000 .f32)
  :: StableHlo.binary main_while1b_v413 main_while1b_v412 main_while1b_v414 (maximumf : Tn F S6000 .f32 → Tn F S6000 .f32 → Tn F S6000 .f32)
  :: StableHlo.binary main_while1b_v409 main_while1b_v414 main_while1b_v415 (mulf : Tn F S6000 .f32 → Tn F S6000 .f32 → Tn F S6000 .f32)
  :: StableHlo.nullary main_while1b_c_83 (constantI S_ 32 0#32)
  :: StableHlo.binary main_v347_7 main_while1b_c_83 main_while1b_v416 (cmpi .slt : Tn F S_ .i32 → Tn F S_ .i32 → Tn F S_ .i1)
  :: StableHlo.unary main_v347_7 main_while1b_v417 (id : Tn F S_ .i32 → Tn F S_ .i32)
  :: StableHlo.nullary main_while1b_c_84 (constantI S_ 32 6000#32)
  :: StableHlo.binary main_while1b_v417 main_while1b_c_84 main_while1b_v418 (addi : Tn F S_ .i32 → Tn F S_ .i32 → Tn F S_ .i32)
  :: StableHlo.ternary main_while1b_v416 main_while1b_v418 main_v347_7 main_while1b_v419 (select : Tn F S_ .i1 → Tn F S_ .i32 → Tn F S_ .i32 → Tn F S_ .i32)
  :: StableHlo.unaryIndexed main_v347_4 ![main_while1b_v419] ⟨S_, .i32⟩ main_while1b_v420 ((fun x i => Host.dynamicSlice S1 x (fun k => (i k (Shape.Idx.first h_S_)).toInt) sliceFits_S6000_S1) : Tn F S6000 .f32 → (Fin 1 → Tn F S_ .i32) → Tn F S1 .f32)
  :: StableHlo.reshape main_while1b_v420 main_while1b_v421 (rfl : (.f32 : EltTy) = .f32) shapeCasts_S1_S_
  :: StableHlo.unary main_while1b_v421 main_while1b_v422 (broadcastInDim S6000 ![] bcast_S_S6000 : Tn F S_ .f32 → Tn F S6000 .f32)
  :: StableHlo.binary main_while1b_v422 main_v347_4 main_while1b_v423 (addf : Tn F S6000 .f32 → Tn F S6000 .f32 → Tn F S6000 .f32)
  :: StableHlo.binary main_while1b_v423 main_while1b_v415 main_while1b_v424 (subf : Tn F S6000 .f32 → Tn F S6000 .f32 → Tn F S6000 .f32)
  :: StableHlo.binary main_while1b_v415 main_while1b_v424 main_while1b_v425 (Host.divf : Tn F S6000 .f32 → Tn F S6000 .f32 → Tn F S6000 .f32)
  :: StableHlo.nullary main_while1b_cst_85 (constant S_ .f32 0x3F333333#32)
  :: StableHlo.unary main_while1b_cst_85 main_while1b_v426 (broadcastInDim S6000 ![] bcast_S_S6000 : Tn F S_ .f32 → Tn F S6000 .f32)
  :: StableHlo.binary main_while1b_v425 main_while1b_v426 main_while1b_v427 (cmpf .ogt : Tn F S6000 .f32 → Tn F S6000 .f32 → Tn F S6000 .i1)
  :: StableHlo.unary main_v347_7 main_while1b_v428 (id : Tn F S_ .i32 → Tn F S_ .i32)
  :: StableHlo.unary main_while1b_v428 main_while1b_v429 (broadcastInDim S6000 ![] bcast_S_S6000 : Tn F S_ .i32 → Tn F S6000 .i32)
  :: StableHlo.binary main_v347_5 main_while1b_v429 main_while1b_v430 (cmpi .sgt : Tn F S6000 .i32 → Tn F S6000 .i32 → Tn F S6000 .i1)
  :: StableHlo.binary main_while1b_v427 main_while1b_v430 main_while1b_v431 (andi : Tn F S6000 .i1 → Tn F S6000 .i1 → Tn F S6000 .i1)
  :: StableHlo.binary main_v347_8 main_while1b_v431 main_while1b_v432 (ori : Tn F S6000 .i1 → Tn F S6000 .i1 → Tn F S6000 .i1)
  :: StableHlo.nullary main_while1b_c_86 (constantI S_ 32 0#32)
  :: StableHlo.binary main_v347_7 main_while1b_c_86 main_while1b_v433 (cmpi .slt : Tn F S_ .i32 → Tn F S_ .i32 → Tn F S_ .i1)
  :: StableHlo.unary main_v347_7 main_while1b_v434 (id : Tn F S_ .i32 → Tn F S_ .i32)
  :: StableHlo.nullary main_while1b_c_87 (constantI S_ 32 6000#32)
  :: StableHlo.binary main_while1b_v434 main_while1b_c_87 main_while1b_v435 (addi : Tn F S_ .i32 → Tn F S_ .i32 → Tn F S_ .i32)
  :: StableHlo.ternary main_while1b_v433 main_while1b_v435 main_v347_7 main_while1b_v436 (select : Tn F S_ .i1 → Tn F S_ .i32 → Tn F S_ .i32 → Tn F S_ .i32)
  :: StableHlo.unaryIndexed main_v347_8 ![main_while1b_v436] ⟨S_, .i32⟩ main_while1b_v437 ((fun x i => Host.dynamicSlice S1 x (fun k => (i k (Shape.Idx.first h_S_)).toInt) sliceFits_S6000_S1) : Tn F S6000 .i1 → (Fin 1 → Tn F S_ .i32) → Tn F S1 .i1)
  :: StableHlo.reshape main_while1b_v437 main_while1b_v438 (rfl : (.i1 : EltTy) = .i1) shapeCasts_S1_S_
  :: [] )
set_option maxHeartbeats 40000000 in
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub ..⟩
abbrev while1Ops0_1 : List (HloOp τ sig (Elt F)) :=
  [ StableHlo.TRef.ternary (.of main_while1b_v438 : StableHlo.TRef sig ⟨S_, .i1⟩) (.of main_v347_8 : StableHlo.TRef sig ⟨S6000, .i1⟩) (.of main_while1b_v432 : StableHlo.TRef sig ⟨S6000, .i1⟩) (.of main_while1b_v439 : StableHlo.TRef sig ⟨S6000, .i1⟩) (fun p a b => select (broadcastInDim S6000 ![] bcast_S_S6000 p) a b) ]
theorem while1Ops0_1_sub : (while1Ops0_1 : List (HloOp τ sig (Elt F))).Forall fun op => op.bufs ⊆ StableHlo.tcRefs τ sig :=
  StableHlo.ternary_bufs_sub ..
abbrev while1Ops0_2 : List (HloOp τ sig (Elt F)) :=
  [ StableHlo.nullary main_while1b_c_88 (constantI S_ 32 1#32),
    StableHlo.binary main_v347_6 main_while1b_c_88 main_while1b_v440 (addi : Tn F S_ .i32 → Tn F S_ .i32 → Tn F S_ .i32),
    StableHlo.unary main_while1b_v440 main_v347_6 id,
    StableHlo.unary main_while1b_v372 main_v347_7 id,
    StableHlo.unary main_while1b_v439 main_v347_8 id ]
theorem while1Ops0_2_sub : (while1Ops0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

end Cert.ReferenceIdeal.Gen

end
-- ==== Proof.RefChain.lean ====
module

public import proofs.«01_k».proof.Proof.Gen.ReferenceIdeal
public import Idealize.ShloMosaic.Lib.Pipeline.Kit
public import Idealize.ShloMosaic.Lib.Pipeline.Regions
public import proofs.«01_k».proof.Proof.RefBody

/-! The reference as the chain of its stretches and its two loops. -/

@[expose] public section

set_option maxRecDepth 8000

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem main_part1_chain (c : Dev nD) : main_part1 (F := F) c = (Pipeline.chainK
  [ StableHlo.seq main_part1_ops0,
    StableHlo.seq main_part1_ops1 ]
  (StableHlo.seq main_part1_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem main_part2_chain (c : Dev nD) : main_part2 (F := F) c = (Pipeline.chainK
  [  ]
  (StableHlo.seq main_part2_ops0) : Prog (TpuEff nD τ sig (Elt F) (HostLoop.Sig (Pipeline.Sig Λ₀ (Fin 0) fun p => (pcfgs (F := F) p).Adm) 2) .tc) PUnit) := by
  chain_rfl

theorem main_part3_chain (c : Dev nD) : main_part3 (F := F) c = (Pipeline.chainK
  [ StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part3_ops7 ]
  (StableHlo.seq main_part3_ops8) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

theorem main_part4_chain (c : Dev nD) : main_part4 (F := F) c = (Pipeline.chainK
  [ StableHlo.seq main_part4_ops0,
    StableHlo.seq main_part4_ops1,
    StableHlo.seq main_part4_ops2,
    StableHlo.seq main_part4_ops3,
    HostLoop.enter 0,
    StableHlo.seq main_part4_ops4,
    StableHlo.seq main_part4_ops5,
    StableHlo.seq main_part4_ops6 ]
  (StableHlo.seq main_part4_ops7) : Prog (TpuEff nD τ sig (Elt F) (HostLoop.Sig (Pipeline.Sig Λ₀ (Fin 0) fun p => (pcfgs (F := F) p).Adm) 2) .tc) PUnit) := by
  rewrite [Pipeline.chainK_cons, StableHlo.chainK_seq_cons, Pipeline.chainK_cons, StableHlo.chainK_seq_cons, Pipeline.chainK_cons, StableHlo.chainK_seq_cons, Pipeline.chainK_cons, Pipeline.chainK_cons]
  chain_rfl

theorem main_part5_chain (c : Dev nD) : main_part5 (F := F) c = (Pipeline.chainK
  [ StableHlo.seq main_part5_ops0,
    StableHlo.seq main_part5_ops1,
    StableHlo.seq main_part5_ops2,
    StableHlo.seq main_part5_ops3,
    StableHlo.seq main_part5_ops4,
    StableHlo.seq main_part5_ops5,
    StableHlo.seq main_part5_ops6,
    StableHlo.seq main_part5_ops7 ]
  (StableHlo.seq main_part5_ops8) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

theorem main_part6_chain (c : Dev nD) : main_part6 (F := F) c = (Pipeline.chainK
  [ StableHlo.seq main_part6_ops0,
    StableHlo.seq main_part6_ops1,
    StableHlo.seq main_part6_ops2,
    StableHlo.seq main_part6_ops3 ]
  (StableHlo.seq main_part6_ops4) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem main_part7_chain (c : Dev nD) : main_part7 (F := F) c = (Pipeline.chain
  [ StableHlo.seq main_part7_ops0,
    HostLoop.enter 1,
    StableHlo.seq main_part7_ops1,
    StableHlo.seq main_part7_ops2,
    StableHlo.seq main_part7_ops3,
    StableHlo.seq main_part7_ops4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, Pipeline.chain_cons, StableHlo.chain_seq_cons]
  chain_rfl

theorem main_chain_windows (c : Dev nD) : main (F := F) c = (Pipeline.chain
  [ StableHlo.seq main_part0_ops0,
    StableHlo.seq main_part0_ops1,
    StableHlo.seq main_part0_ops2,
    StableHlo.seq main_part1_ops0,
    StableHlo.seq main_part1_ops1,
    StableHlo.seq main_part1_ops2,
    StableHlo.seq main_part2_ops0,
    StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part3_ops7,
    StableHlo.seq main_part3_ops8,
    StableHlo.seq main_part4_ops0,
    StableHlo.seq main_part4_ops1,
    StableHlo.seq main_part4_ops2,
    StableHlo.seq main_part4_ops3,
    HostLoop.enter 0,
    StableHlo.seq main_part4_ops4,
    StableHlo.seq main_part4_ops5,
    StableHlo.seq main_part4_ops6,
    StableHlo.seq main_part4_ops7,
    StableHlo.seq main_part5_ops0,
    StableHlo.seq main_part5_ops1,
    StableHlo.seq main_part5_ops2,
    StableHlo.seq main_part5_ops3,
    StableHlo.seq main_part5_ops4,
    StableHlo.seq main_part5_ops5,
    StableHlo.seq main_part5_ops6,
    StableHlo.seq main_part5_ops7,
    StableHlo.seq main_part5_ops8,
    StableHlo.seq main_part6_ops0,
    StableHlo.seq main_part6_ops1,
    StableHlo.seq main_part6_ops2,
    StableHlo.seq main_part6_ops3,
    StableHlo.seq main_part6_ops4,
    StableHlo.seq main_part7_ops0,
    HostLoop.enter 1,
    StableHlo.seq main_part7_ops1,
    StableHlo.seq main_part7_ops2,
    StableHlo.seq main_part7_ops3,
    StableHlo.seq main_part7_ops4 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c) = _
  rewrite [main_part7_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

abbrev main_groups (c : Dev nD) : List (StableHlo.Group nD τ sig (Elt F) (HostLoop.Sig (Pipeline.Sig Λ₀ (Fin 0) fun p => (pcfgs (F := F) p).Adm) 2)) :=
  [ .ops [main_part0_ops0],
    .ops [main_part0_ops1],
    .ops [main_part0_ops2, main_part1_ops0],
    .ops [main_part1_ops1],
    .ops [main_part1_ops2, main_part2_ops0, main_part3_ops0],
    .ops [main_part3_ops1],
    .ops [main_part3_ops2],
    .ops [main_part3_ops3],
    .ops [main_part3_ops4],
    .ops [main_part3_ops5],
    .ops [main_part3_ops6],
    .ops [main_part3_ops7],
    .ops [main_part3_ops8],
    .ops [main_part4_ops0],
    .ops [main_part4_ops1],
    .ops [main_part4_ops2],
    .ops [main_part4_ops3],
    .prog (HostLoop.enter 0),
    .ops [main_part4_ops4],
    .ops [main_part4_ops5],
    .ops [main_part4_ops6],
    .ops [main_part4_ops7, main_part5_ops0],
    .ops [main_part5_ops1],
    .ops [main_part5_ops2],
    .ops [main_part5_ops3],
    .ops [main_part5_ops4],
    .ops [main_part5_ops5],
    .ops [main_part5_ops6],
    .ops [main_part5_ops7],
    .ops [main_part5_ops8, main_part6_ops0],
    .ops [main_part6_ops1],
    .ops [main_part6_ops2],
    .ops [main_part6_ops3],
    .ops [main_part6_ops4, main_part7_ops0],
    .prog (HostLoop.enter 1),
    .ops [main_part7_ops1],
    .ops [main_part7_ops2],
    .ops [main_part7_ops3],
    .ops [main_part7_ops4] ]

theorem main_chain_cut (c : Dev nD) : (Pipeline.chain
  [ StableHlo.seq main_part0_ops0,
    StableHlo.seq main_part0_ops1,
    StableHlo.seq main_part0_ops2,
    StableHlo.seq main_part1_ops0,
    StableHlo.seq main_part1_ops1,
    StableHlo.seq main_part1_ops2,
    StableHlo.seq main_part2_ops0,
    StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part3_ops7,
    StableHlo.seq main_part3_ops8,
    StableHlo.seq main_part4_ops0,
    StableHlo.seq main_part4_ops1,
    StableHlo.seq main_part4_ops2,
    StableHlo.seq main_part4_ops3,
    HostLoop.enter 0,
    StableHlo.seq main_part4_ops4,
    StableHlo.seq main_part4_ops5,
    StableHlo.seq main_part4_ops6,
    StableHlo.seq main_part4_ops7,
    StableHlo.seq main_part5_ops0,
    StableHlo.seq main_part5_ops1,
    StableHlo.seq main_part5_ops2,
    StableHlo.seq main_part5_ops3,
    StableHlo.seq main_part5_ops4,
    StableHlo.seq main_part5_ops5,
    StableHlo.seq main_part5_ops6,
    StableHlo.seq main_part5_ops7,
    StableHlo.seq main_part5_ops8,
    StableHlo.seq main_part6_ops0,
    StableHlo.seq main_part6_ops1,
    StableHlo.seq main_part6_ops2,
    StableHlo.seq main_part6_ops3,
    StableHlo.seq main_part6_ops4,
    StableHlo.seq main_part7_ops0,
    HostLoop.enter 1,
    StableHlo.seq main_part7_ops1,
    StableHlo.seq main_part7_ops2,
    StableHlo.seq main_part7_ops3,
    StableHlo.seq main_part7_ops4 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    HostLoop.enter 0,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31,
    StableHlo.seq hostOps0_32,
    HostLoop.enter 1,
    StableHlo.seq hostOps0_33,
    StableHlo.seq hostOps0_34,
    StableHlo.seq hostOps0_35,
    StableHlo.seq hostOps0_36 ] : Prog (TpuEff nD τ sig (Elt F) (HostLoop.Sig (Pipeline.Sig Λ₀ (Fin 0) fun p => (pcfgs (F := F) p).Adm) 2) .tc) PUnit) := by
  chain_rfl

theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    HostLoop.enter 0,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31,
    StableHlo.seq hostOps0_32,
    HostLoop.enter 1,
    StableHlo.seq hostOps0_33,
    StableHlo.seq hostOps0_34,
    StableHlo.seq hostOps0_35,
    StableHlo.seq hostOps0_36 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)
-- no `main_segs` (the loop-free kit's `Seg.run` equation) for this @main: it has a host loop; a certificate takes `main_chain` (Lib/Pipeline/RegionsLoop.lean)

theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem while1_body_chain : main_while1_body (F := F) = (Pipeline.chain
  [ StableHlo.seq while1Ops0,
    StableHlo.seq while1Ops0_1,
    StableHlo.seq while1Ops0_2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

end Cert.ReferenceIdeal.Gen

end
-- ==== Proof.RefRun.lean ====
module

public import proofs.«01_k».proof.Proof.RefChain
public import Idealize.ShloMosaic.Lib.Pipeline.FrameBody
public import Idealize.ShloMosaic.Lib.Pipeline.RegionsLoop
public import Idealize.ShloMosaic.Lib.Pipeline.FrameSuffix
public import Idealize.ShloMosaic.Lib.StableHlo.RunLoop
public import Idealize.ShloMosaic.Lib.Scf.ExitTest
public import Idealize.ShloMosaic.Lib.Scf.Counter
public import Idealize.ShloMosaic.Lib.Ring
public import Idealize.ShloMosaic.Lib.Tactic
public import Idealize.ShloMosaic.Lib.WordCmp

/-! The whole run, both counted loops included: the final contents of every buffer, and the arguments unchanged. -/

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Option PUnit) ℕ

open Idealize.ShloMosaic.StableHlo
open Idealize.ShloMosaic.Pipeline (ucRefs sub_ucRefs)

/-- The argument arrays. -/
abbrev argRefs : List (Ref sig .tc) := [main_arg0, main_arg1, main_arg2, main_arg3, main_arg4, main_arg5, main_arg6, main_arg7, main_arg8]

/-- The stretches before the first loop. -/
abbrev preI : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
/-- The stretches between the loops. -/
abbrev midI : List (List (HloOp τ sig (Elt F))) := [hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]
/-- The stretches after the second loop. -/
abbrev postI : List (List (HloOp τ sig (Elt F))) := [hostOps0_33, hostOps0_34, hostOps0_35, hostOps0_36]
/-- The body of loop 0. -/
abbrev body0 : List (List (HloOp τ sig (Elt F))) := [while0Ops0, while0Ops0_1, while0Ops0_2]
/-- The condition of loop 0: the bound, and the counter compared with it. -/
abbrev cond0 : List (HloOp τ sig (Elt F)) :=
  [ StableHlo.nullary main_while0c_c_70 (constantI S_ 32 6000#32), StableHlo.binary main_v242_6 main_while0c_c_70 main_while0c_v372 (cmpi .slt) ]
/-- The body of loop 1. -/
abbrev body1 : List (List (HloOp τ sig (Elt F))) := [while1Ops0, while1Ops0_1, while1Ops0_2]
/-- The condition of loop 1: the bound, and the counter compared with it. -/
abbrev cond1 : List (HloOp τ sig (Elt F)) :=
  [ StableHlo.nullary main_while1c_c_70 (constantI S_ 32 6000#32), StableHlo.binary main_v347_6 main_while1c_c_70 main_while1c_v372 (cmpi .slt) ]

set_option maxRecDepth 100000 in
set_option maxHeartbeats 4000000 in
theorem plain_preI : Plain (preI (F := F)) := .cons hostOps0_sub (.cons hostOps0_1_sub (.cons hostOps0_2_sub (.cons hostOps0_3_sub (.cons hostOps0_4_sub (.cons hostOps0_5_sub (.cons hostOps0_6_sub (.cons hostOps0_7_sub (.cons hostOps0_8_sub (.cons hostOps0_9_sub (.cons hostOps0_10_sub (.cons hostOps0_11_sub (.cons hostOps0_12_sub (.cons hostOps0_13_sub (.cons hostOps0_14_sub (.cons hostOps0_15_sub (.cons hostOps0_16_sub (.nil)))))))))))))))))

set_option maxRecDepth 100000 in
set_option maxHeartbeats 4000000 in
theorem plain_midI : Plain (midI (F := F)) := .cons hostOps0_17_sub (.cons hostOps0_18_sub (.cons hostOps0_19_sub (.cons hostOps0_20_sub (.cons hostOps0_21_sub (.cons hostOps0_22_sub (.cons hostOps0_23_sub (.cons hostOps0_24_sub (.cons hostOps0_25_sub (.cons hostOps0_26_sub (.cons hostOps0_27_sub (.cons hostOps0_28_sub (.cons hostOps0_29_sub (.cons hostOps0_30_sub (.cons hostOps0_31_sub (.cons hostOps0_32_sub (.nil))))))))))))))))

set_option maxRecDepth 100000 in
set_option maxHeartbeats 4000000 in
theorem plain_postI : Plain (postI (F := F)) := .cons hostOps0_33_sub (.cons hostOps0_34_sub (.cons hostOps0_35_sub (.cons hostOps0_36_sub (.nil))))

set_option maxRecDepth 100000 in
set_option maxHeartbeats 4000000 in
theorem plain_body0 : Plain (body0 (F := F)) := .cons while0Ops0_sub (.cons while0Ops0_1_sub (.cons while0Ops0_2_sub (.nil)))

set_option maxRecDepth 100000 in
set_option maxHeartbeats 4000000 in
theorem plain_body1 : Plain (body1 (F := F)) := .cons while1Ops0_sub (.cons while1Ops0_1_sub (.cons while1Ops0_2_sub (.nil)))

/-- A stretch that leaves every argument as it was. -/
abbrev Keeps (ops : List (HloOp τ sig (Elt F))) : Prop :=
  ∀ V : Valuation τ sig (Elt F), ∀ a ∈ argRefs, after ops V (Proc.devRef .tc a) = V (Proc.devRef .tc a)
/-- Stretches that leave every argument as it was. -/
abbrev KeepsL (items : List (List (HloOp τ sig (Elt F)))) : Prop :=
  ∀ V : Valuation τ sig (Elt F), ∀ a ∈ argRefs, afterL items V (Proc.devRef .tc a) = V (Proc.devRef .tc a)
theorem keeps_of (ops : List (HloOp τ sig (Elt F))) (W : List (Ref sig .tc))
    (hw : ops.Forall fun op => op.writes ⊆ (W.map (Proc.devRef (τ := τ) .tc)).toFinset)
    (ha : ∀ a ∈ argRefs, a ∉ W) : Keeps ops :=
  fun V a h => after_of_writes_sub ops V hw (ha a h)
theorem keepsL_nil : KeepsL ([] : List (List (HloOp τ sig (Elt F)))) := fun _ _ _ => rfl
theorem keepsL_cons {ops : List (HloOp τ sig (Elt F))} {rest : List (List (HloOp τ sig (Elt F)))}
    (h : Keeps ops) (h' : KeepsL rest) : KeepsL (ops :: rest) :=
  fun V a ha => (h' (after ops V) a ha).trans (h V a ha)
theorem keeps_atTrip {cond : List (HloOp τ sig (Elt F))} {body : List (List (HloOp τ sig (Elt F)))}
    (hc : Keeps cond) (hb : KeepsL body) (W : Dev nD → Valuation τ sig (Elt F)) (c : Dev nD) :
    ∀ k, ∀ a ∈ argRefs, atTrip cond body W k c (Proc.devRef .tc a) = W c (Proc.devRef .tc a)
  | 0 => fun _ _ => rfl
  | k + 1 => fun a ha => by
    rw [atTrip_succ]
    exact (hb _ a ha).trans ((hc _ a ha).trans (keeps_atTrip hc hb W c k a ha))

abbrev hostOps0_W : List (Ref sig .tc) := [main_cst, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_keeps : Keeps (hostOps0 (F := F)) := keeps_of _ _ hostOps0_writes (ListAll.forall_mem_of_all_decide (by decide +kernel))
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_keeps : Keeps (hostOps0_1 (F := F)) := keeps_of _ _ hostOps0_1_writes (ListAll.forall_mem_of_all_decide (by decide +kernel))
abbrev hostOps0_2_W : List (Ref sig .tc) := [main_v1, main_v2, main_v3, main_v4, main_v5, main_cst_0, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_keeps : Keeps (hostOps0_2 (F := F)) := keeps_of _ _ hostOps0_2_writes (ListAll.forall_mem_of_all_decide (by decide +kernel))
abbrev hostOps0_3_W : List (Ref sig .tc) := [main_call1_cst, main_call1_v0, main_v59]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_keeps : Keeps (hostOps0_3 (F := F)) := keeps_of _ _ hostOps0_3_writes (ListAll.forall_mem_of_all_decide (by decide +kernel))
abbrev hostOps0_4_W : List (Ref sig .tc) := [main_v60, main_v61, main_v62, main_v63, main_v64, main_v65, main_v66, main_v67, main_v68, main_v69, main_v70, main_v71, main_v72, main_cst_1, main_v73, main_cst_2, main_v74, main_v75, main_v76, main_v77, main_v78, main_v79, main_cst_3, main_v80, main_v81, main_v82, main_v83, main_v84, main_v85, main_v86, main_v87, main_v88, main_v89, main_v90, main_v91, main_v92, main_v93, main_v94, main_cst_4, main_v95, main_v96, main_v97, main_v98, main_v99, main_v100, main_v101, main_cst_5, main_v102, main_v103, main_v104, main_v105, main_cst_6, main_v106, main_v107, main_v108, main_v109, main_v110, main_cst_7, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_cst_8, main_v142, main_v143, main_v144, main_cst_9, main_v145, main_v146, main_v147, main_cst_10, main_v148, main_v149, main_v150, main_cst_11, main_v151, main_v152, main_v153, main_v154, main_v155, main_v156, main_v157, main_v158, main_v159, main_v160, main_v161, main_v162, main_v163, main_v164, main_cst_12, main_v165, main_cst_13]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_keeps : Keeps (hostOps0_4 (F := F)) := keeps_of _ _ hostOps0_4_writes (ListAll.forall_mem_of_all_decide (by decide +kernel))
abbrev hostOps0_5_W : List (Ref sig .tc) := [main_call2_v0, main_call2_v1, main_call2_v2, main_call2_v3, main_v166]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_keeps : Keeps (hostOps0_5 (F := F)) := keeps_of _ _ hostOps0_5_writes (ListAll.forall_mem_of_all_decide (by decide +kernel))
abbrev hostOps0_6_W : List (Ref sig .tc) := [main_v167, main_v168, main_v169, main_v170, main_cst_14, main_v171, main_cst_15]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_keeps : Keeps (hostOps0_6 (F := F)) := keeps_of _ _ hostOps0_6_writes (ListAll.forall_mem_of_all_decide (by decide +kernel))
abbrev hostOps0_7_W : List (Ref sig .tc) := [main_call3_v0, main_call3_v1, main_call3_v2, main_call3_v3, main_v172]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_keeps : Keeps (hostOps0_7 (F := F)) := keeps_of _ _ hostOps0_7_writes (ListAll.forall_mem_of_all_decide (by decide +kernel))
abbrev hostOps0_8_W : List (Ref sig .tc) := [main_v173, main_v174, main_v175, main_v176, main_cst_16, main_v177, main_cst_17]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_8_keeps : Keeps (hostOps0_8 (F := F)) := keeps_of _ _ hostOps0_8_writes (ListAll.forall_mem_of_all_decide (by decide +kernel))
abbrev hostOps0_9_W : List (Ref sig .tc) := [main_call4_v0, main_call4_v1, main_call4_v2, main_call4_v3, main_v178]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_9_keeps : Keeps (hostOps0_9 (F := F)) := keeps_of _ _ hostOps0_9_writes (ListAll.forall_mem_of_all_decide (by decide +kernel))
abbrev hostOps0_10_W : List (Ref sig .tc) := [main_v179, main_v180, main_v181, main_v182, main_cst_18, main_v183, main_cst_19]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_10_keeps : Keeps (hostOps0_10 (F := F)) := keeps_of _ _ hostOps0_10_writes (ListAll.forall_mem_of_all_decide (by decide +kernel))
abbrev hostOps0_11_W : List (Ref sig .tc) := [main_call5_v0, main_call5_v1, main_call5_v2, main_call5_v3, main_v184]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_11_keeps : Keeps (hostOps0_11 (F := F)) := keeps_of _ _ hostOps0_11_writes (ListAll.forall_mem_of_all_decide (by decide +kernel))
abbrev hostOps0_12_W : List (Ref sig .tc) := [main_v185, main_v186, main_v187, main_v188, main_v189, main_v190, main_v191, main_v192, main_v193, main_v194, main_cst_20, main_v195, main_v196, main_v197, main_v198, main_v199, main_v200, main_v201, main_cst_21, main_v202, main_v203, main_v204, main_v205, main_cst_22, main_v206, main_v207, main_v208, main_v209, main_v210, main_v211, main_v212, main_v213, main_cst_23]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_12_keeps : Keeps (hostOps0_12 (F := F)) := keeps_of _ _ hostOps0_12_writes (ListAll.forall_mem_of_all_decide (by decide +kernel))
abbrev hostOps0_13_W : List (Ref sig .tc) := [main_call6_v0, main_call6_v1, main_v214]
theorem hostOps0_13_writes : (hostOps0_13 : List (HloOp τ sig (Elt F))).Forall fun op => op.writes ⊆ (hostOps0_13_W.map (Proc.devRef (τ := τ) .tc)).toFinset :=
  StableHlo.forall_writes_sub_of_map rfl
theorem hostOps0_13_keeps : Keeps (hostOps0_13 (F := F)) := keeps_of _ _ hostOps0_13_writes (ListAll.forall_mem_of_all_decide (by decide +kernel))
abbrev hostOps0_14_W : List (Ref sig .tc) := [main_v215]
theorem hostOps0_14_writes : (hostOps0_14 : List (HloOp τ sig (Elt F))).Forall fun op => op.writes ⊆ (hostOps0_14_W.map (Proc.devRef (τ := τ) .tc)).toFinset :=
  StableHlo.forall_writes_sub_of_map rfl
theorem hostOps0_14_keeps : Keeps (hostOps0_14 (F := F)) := keeps_of _ _ hostOps0_14_writes (ListAll.forall_mem_of_all_decide (by decide +kernel))
abbrev hostOps0_15_W : List (Ref sig .tc) := [main_call7_v0, main_call7_v1_0, main_v216]
theorem hostOps0_15_writes : (hostOps0_15 : List (HloOp τ sig (Elt F))).Forall fun op => op.writes ⊆ (hostOps0_15_W.map (Proc.devRef (τ := τ) .tc)).toFinset :=
  StableHlo.forall_writes_sub_of_map rfl
theorem hostOps0_15_keeps : Keeps (hostOps0_15 (F := F)) := keeps_of _ _ hostOps0_15_writes (ListAll.forall_mem_of_all_decide (by decide +kernel))
abbrev hostOps0_16_W : List (Ref sig .tc) := [main_v217, main_c_24, main_v218, main_v219, main_c_25, main_v220, main_v221, main_v222, main_v223, main_v224, main_v225, main_v226, main_v227, main_v228, main_v229, main_v230, main_v231, main_v232, main_v233, main_cst_26, main_v234, main_v235, main_v236, main_cst_27, main_v237, main_v238, main_v239, main_v240, main_c_28, main_v241, main_c_29, main_c_30, main_v242_0, main_v242_1, main_v242_2, main_v242_3, main_v242_4, main_v242_5, main_v242_6, main_v242_7, main_v242_8]
theorem hostOps0_16_writes : (hostOps0_16 : List (HloOp τ sig (Elt F))).Forall fun op => op.writes ⊆ (hostOps0_16_W.map (Proc.devRef (τ := τ) .tc)).toFinset :=
  StableHlo.forall_writes_sub_of_map rfl
theorem hostOps0_16_keeps : Keeps (hostOps0_16 (F := F)) := keeps_of _ _ hostOps0_16_writes (ListAll.forall_mem_of_all_decide (by decide +kernel))
abbrev hostOps0_17_W : List (Ref sig .tc) := [main_v243, main_c_31]
theorem hostOps0_17_writes : (hostOps0_17 : List (HloOp τ sig (Elt F))).Forall fun op => op.writes ⊆ (hostOps0_17_W.map (Proc.devRef (τ := τ) .tc)).toFinset :=
  StableHlo.forall_writes_sub_of_map rfl
theorem hostOps0_17_keeps : Keeps (hostOps0_17 (F := F)) := keeps_of _ _ hostOps0_17_writes (ListAll.forall_mem_of_all_decide (by decide +kernel))
abbrev hostOps0_18_W : List (Ref sig .tc) := [main_call9_v0, main_call9_v1, main_v244]
theorem hostOps0_18_writes : (hostOps0_18 : List (HloOp τ sig (Elt F))).Forall fun op => op.writes ⊆ (hostOps0_18_W.map (Proc.devRef (τ := τ) .tc)).toFinset :=
  StableHlo.forall_writes_sub_of_map rfl
theorem hostOps0_18_keeps : Keeps (hostOps0_18 (F := F)) := keeps_of _ _ hostOps0_18_writes (ListAll.forall_mem_of_all_decide (by decide +kernel))
abbrev hostOps0_19_W : List (Ref sig .tc) := [main_v245]
theorem hostOps0_19_writes : (hostOps0_19 : List (HloOp τ sig (Elt F))).Forall fun op => op.writes ⊆ (hostOps0_19_W.map (Proc.devRef (τ := τ) .tc)).toFinset :=
  StableHlo.forall_writes_sub_of_map rfl
theorem hostOps0_19_keeps : Keeps (hostOps0_19 (F := F)) := keeps_of _ _ hostOps0_19_writes (ListAll.forall_mem_of_all_decide (by decide +kernel))
abbrev hostOps0_20_W : List (Ref sig .tc) := [main_v246, main_c_32, main_v247, main_v248, main_v249, main_c_33, main_v250, main_v251, main_c_34, main_v252, main_v253, main_c_35, main_v254, main_v255, main_v256, main_v257, main_v258, main_v259, main_v260, main_v261, main_cst_36, main_v262, main_v263, main_v264, main_v265, main_v266, main_v267, main_v268, main_v269, main_cst_37, main_v270, main_cst_38]
theorem hostOps0_20_writes : (hostOps0_20 : List (HloOp τ sig (Elt F))).Forall fun op => op.writes ⊆ (hostOps0_20_W.map (Proc.devRef (τ := τ) .tc)).toFinset :=
  StableHlo.forall_writes_sub_of_map rfl
theorem hostOps0_20_keeps : Keeps (hostOps0_20 (F := F)) := keeps_of _ _ hostOps0_20_writes (ListAll.forall_mem_of_all_decide (by decide +kernel))
abbrev hostOps0_21_W : List (Ref sig .tc) := [main_call11_v0, main_call11_v1, main_call11_v2, main_call11_v3, main_v271]
theorem hostOps0_21_writes : (hostOps0_21 : List (HloOp τ sig (Elt F))).Forall fun op => op.writes ⊆ (hostOps0_21_W.map (Proc.devRef (τ := τ) .tc)).toFinset :=
  StableHlo.forall_writes_sub_of_map rfl
theorem hostOps0_21_keeps : Keeps (hostOps0_21 (F := F)) := keeps_of _ _ hostOps0_21_writes (ListAll.forall_mem_of_all_decide (by decide +kernel))
abbrev hostOps0_22_W : List (Ref sig .tc) := [main_v272, main_v273, main_v274, main_v275, main_cst_39, main_v276, main_cst_40]
theorem hostOps0_22_writes : (hostOps0_22 : List (HloOp τ sig (Elt F))).Forall fun op => op.writes ⊆ (hostOps0_22_W.map (Proc.devRef (τ := τ) .tc)).toFinset :=
  StableHlo.forall_writes_sub_of_map rfl
theorem hostOps0_22_keeps : Keeps (hostOps0_22 (F := F)) := keeps_of _ _ hostOps0_22_writes (ListAll.forall_mem_of_all_decide (by decide +kernel))
abbrev hostOps0_23_W : List (Ref sig .tc) := [main_call12_v0, main_call12_v1, main_call12_v2, main_call12_v3, main_v277]
theorem hostOps0_23_writes : (hostOps0_23 : List (HloOp τ sig (Elt F))).Forall fun op => op.writes ⊆ (hostOps0_23_W.map (Proc.devRef (τ := τ) .tc)).toFinset :=
  StableHlo.forall_writes_sub_of_map rfl
theorem hostOps0_23_keeps : Keeps (hostOps0_23 (F := F)) := keeps_of _ _ hostOps0_23_writes (ListAll.forall_mem_of_all_decide (by decide +kernel))
abbrev hostOps0_24_W : List (Ref sig .tc) := [main_v278, main_v279, main_v280, main_v281, main_cst_41, main_v282, main_cst_42]
theorem hostOps0_24_writes : (hostOps0_24 : List (HloOp τ sig (Elt F))).Forall fun op => op.writes ⊆ (hostOps0_24_W.map (Proc.devRef (τ := τ) .tc)).toFinset :=
  StableHlo.forall_writes_sub_of_map rfl
theorem hostOps0_24_keeps : Keeps (hostOps0_24 (F := F)) := keeps_of _ _ hostOps0_24_writes (ListAll.forall_mem_of_all_decide (by decide +kernel))
abbrev hostOps0_25_W : List (Ref sig .tc) := [main_call13_v0, main_call13_v1, main_call13_v2, main_call13_v3, main_v283]
theorem hostOps0_25_writes : (hostOps0_25 : List (HloOp τ sig (Elt F))).Forall fun op => op.writes ⊆ (hostOps0_25_W.map (Proc.devRef (τ := τ) .tc)).toFinset :=
  StableHlo.forall_writes_sub_of_map rfl
theorem hostOps0_25_keeps : Keeps (hostOps0_25 (F := F)) := keeps_of _ _ hostOps0_25_writes (ListAll.forall_mem_of_all_decide (by decide +kernel))
abbrev hostOps0_26_W : List (Ref sig .tc) := [main_v284, main_v285, main_v286, main_v287, main_cst_43, main_v288, main_cst_44]
theorem hostOps0_26_writes : (hostOps0_26 : List (HloOp τ sig (Elt F))).Forall fun op => op.writes ⊆ (hostOps0_26_W.map (Proc.devRef (τ := τ) .tc)).toFinset :=
  StableHlo.forall_writes_sub_of_map rfl
theorem hostOps0_26_keeps : Keeps (hostOps0_26 (F := F)) := keeps_of _ _ hostOps0_26_writes (ListAll.forall_mem_of_all_decide (by decide +kernel))
abbrev hostOps0_27_W : List (Ref sig .tc) := [main_call14_v0, main_call14_v1, main_call14_v2, main_call14_v3, main_v289]
theorem hostOps0_27_writes : (hostOps0_27 : List (HloOp τ sig (Elt F))).Forall fun op => op.writes ⊆ (hostOps0_27_W.map (Proc.devRef (τ := τ) .tc)).toFinset :=
  StableHlo.forall_writes_sub_of_map rfl
theorem hostOps0_27_keeps : Keeps (hostOps0_27 (F := F)) := keeps_of _ _ hostOps0_27_writes (ListAll.forall_mem_of_all_decide (by decide +kernel))
abbrev hostOps0_28_W : List (Ref sig .tc) := [main_v290, main_v291, main_v292, main_v293, main_v294, main_v295, main_v296, main_v297, main_v298, main_v299, main_cst_45, main_v300, main_v301, main_v302, main_v303, main_v304, main_v305, main_v306, main_cst_46, main_v307, main_v308, main_v309, main_v310, main_cst_47, main_v311, main_v312, main_v313, main_v314, main_v315, main_v316, main_v317, main_v318, main_cst_48]
theorem hostOps0_28_writes : (hostOps0_28 : List (HloOp τ sig (Elt F))).Forall fun op => op.writes ⊆ (hostOps0_28_W.map (Proc.devRef (τ := τ) .tc)).toFinset :=
  StableHlo.forall_writes_sub_of_map rfl
theorem hostOps0_28_keeps : Keeps (hostOps0_28 (F := F)) := keeps_of _ _ hostOps0_28_writes (ListAll.forall_mem_of_all_decide (by decide +kernel))
abbrev hostOps0_29_W : List (Ref sig .tc) := [main_call15_v0, main_call15_v1, main_v319]
theorem hostOps0_29_writes : (hostOps0_29 : List (HloOp τ sig (Elt F))).Forall fun op => op.writes ⊆ (hostOps0_29_W.map (Proc.devRef (τ := τ) .tc)).toFinset :=
  StableHlo.forall_writes_sub_of_map rfl
theorem hostOps0_29_keeps : Keeps (hostOps0_29 (F := F)) := keeps_of _ _ hostOps0_29_writes (ListAll.forall_mem_of_all_decide (by decide +kernel))
abbrev hostOps0_30_W : List (Ref sig .tc) := [main_v320]
theorem hostOps0_30_writes : (hostOps0_30 : List (HloOp τ sig (Elt F))).Forall fun op => op.writes ⊆ (hostOps0_30_W.map (Proc.devRef (τ := τ) .tc)).toFinset :=
  StableHlo.forall_writes_sub_of_map rfl
theorem hostOps0_30_keeps : Keeps (hostOps0_30 (F := F)) := keeps_of _ _ hostOps0_30_writes (ListAll.forall_mem_of_all_decide (by decide +kernel))
abbrev hostOps0_31_W : List (Ref sig .tc) := [main_call16_v0, main_call16_v1_0, main_v321]
theorem hostOps0_31_writes : (hostOps0_31 : List (HloOp τ sig (Elt F))).Forall fun op => op.writes ⊆ (hostOps0_31_W.map (Proc.devRef (τ := τ) .tc)).toFinset :=
  StableHlo.forall_writes_sub_of_map rfl
theorem hostOps0_31_keeps : Keeps (hostOps0_31 (F := F)) := keeps_of _ _ hostOps0_31_writes (ListAll.forall_mem_of_all_decide (by decide +kernel))
abbrev hostOps0_32_W : List (Ref sig .tc) := [main_v322, main_c_49, main_v323, main_v324, main_c_50, main_v325, main_v326, main_v327, main_v328, main_v329, main_v330, main_v331, main_v332, main_v333, main_v334, main_v335, main_v336, main_v337, main_v338, main_cst_51, main_v339, main_v340, main_v341, main_cst_52, main_v342, main_v343, main_v344, main_v345, main_c_53, main_v346, main_c_54, main_c_55, main_v347_0, main_v347_1, main_v347_2, main_v347_3, main_v347_4, main_v347_5, main_v347_6, main_v347_7, main_v347_8]
theorem hostOps0_32_writes : (hostOps0_32 : List (HloOp τ sig (Elt F))).Forall fun op => op.writes ⊆ (hostOps0_32_W.map (Proc.devRef (τ := τ) .tc)).toFinset :=
  StableHlo.forall_writes_sub_of_map rfl
theorem hostOps0_32_keeps : Keeps (hostOps0_32 (F := F)) := keeps_of _ _ hostOps0_32_writes (ListAll.forall_mem_of_all_decide (by decide +kernel))
abbrev hostOps0_33_W : List (Ref sig .tc) := [main_v348, main_c_56]
theorem hostOps0_33_writes : (hostOps0_33 : List (HloOp τ sig (Elt F))).Forall fun op => op.writes ⊆ (hostOps0_33_W.map (Proc.devRef (τ := τ) .tc)).toFinset :=
  StableHlo.forall_writes_sub_of_map rfl
theorem hostOps0_33_keeps : Keeps (hostOps0_33 (F := F)) := keeps_of _ _ hostOps0_33_writes (ListAll.forall_mem_of_all_decide (by decide +kernel))
abbrev hostOps0_34_W : List (Ref sig .tc) := [main_call18_v0, main_call18_v1, main_v349]
theorem hostOps0_34_writes : (hostOps0_34 : List (HloOp τ sig (Elt F))).Forall fun op => op.writes ⊆ (hostOps0_34_W.map (Proc.devRef (τ := τ) .tc)).toFinset :=
  StableHlo.forall_writes_sub_of_map rfl
theorem hostOps0_34_keeps : Keeps (hostOps0_34 (F := F)) := keeps_of _ _ hostOps0_34_writes (ListAll.forall_mem_of_all_decide (by decide +kernel))
abbrev hostOps0_35_W : List (Ref sig .tc) := [main_v350]
theorem hostOps0_35_writes : (hostOps0_35 : List (HloOp τ sig (Elt F))).Forall fun op => op.writes ⊆ (hostOps0_35_W.map (Proc.devRef (τ := τ) .tc)).toFinset :=
  StableHlo.forall_writes_sub_of_map rfl
theorem hostOps0_35_keeps : Keeps (hostOps0_35 (F := F)) := keeps_of _ _ hostOps0_35_writes (ListAll.forall_mem_of_all_decide (by decide +kernel))
abbrev hostOps0_36_W : List (Ref sig .tc) := [main_v351, main_c_57, main_v352, main_v353, main_v354, main_c_58, main_v355, main_v356, main_c_59, main_v357, main_v358, main_c_60, main_v359, main_v360, main_v361, main_v362, main_v363, main_v364, main_v365, main_v366, main_cst_61, main_v367, main_v368, main_v369, main_v370, main_v371]
theorem hostOps0_36_writes : (hostOps0_36 : List (HloOp τ sig (Elt F))).Forall fun op => op.writes ⊆ (hostOps0_36_W.map (Proc.devRef (τ := τ) .tc)).toFinset :=
  StableHlo.forall_writes_sub_of_map rfl
theorem hostOps0_36_keeps : Keeps (hostOps0_36 (F := F)) := keeps_of _ _ hostOps0_36_writes (ListAll.forall_mem_of_all_decide (by decide +kernel))
abbrev while0Ops0_W : List (Ref sig .tc) := [main_while0b_c_70, main_while0b_v372, main_while0b_c_71, main_while0b_v373, main_while0b_v374, main_while0b_c_72, main_while0b_v375, main_while0b_v376, main_while0b_v377, main_while0b_v378, main_while0b_v379, main_while0b_v380, main_while0b_c_73, main_while0b_v381, main_while0b_v382, main_while0b_c_74, main_while0b_v383, main_while0b_v384, main_while0b_v385, main_while0b_v386, main_while0b_v387, main_while0b_v388, main_while0b_c_75, main_while0b_v389, main_while0b_v390, main_while0b_c_76, main_while0b_v391, main_while0b_v392, main_while0b_v393, main_while0b_v394, main_while0b_v395, main_while0b_v396, main_while0b_c_77, main_while0b_v397, main_while0b_v398, main_while0b_c_78, main_while0b_v399, main_while0b_v400, main_while0b_v401, main_while0b_v402, main_while0b_v403, main_while0b_v404, main_while0b_v405, main_while0b_cst_79, main_while0b_v406, main_while0b_v407, main_while0b_cst_80, main_while0b_v408, main_while0b_v409, main_while0b_v410, main_while0b_cst_81, main_while0b_v411, main_while0b_v412, main_while0b_cst_82, main_while0b_v413, main_while0b_v414, main_while0b_v415, main_while0b_c_83, main_while0b_v416, main_while0b_v417, main_while0b_c_84, main_while0b_v418, main_while0b_v419, main_while0b_v420, main_while0b_v421, main_while0b_v422, main_while0b_v423, main_while0b_v424, main_while0b_v425, main_while0b_cst_85, main_while0b_v426, main_while0b_v427, main_while0b_v428, main_while0b_v429, main_while0b_v430, main_while0b_v431, main_while0b_v432, main_while0b_c_86, main_while0b_v433, main_while0b_v434, main_while0b_c_87, main_while0b_v435, main_while0b_v436, main_while0b_v437, main_while0b_v438]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_keeps : Keeps (while0Ops0 (F := F)) := keeps_of _ _ while0Ops0_writes (ListAll.forall_mem_of_all_decide (by decide +kernel))
abbrev while0Ops0_1_W : List (Ref sig .tc) := [main_while0b_v439]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_keeps : Keeps (while0Ops0_1 (F := F)) := keeps_of _ _ while0Ops0_1_writes (ListAll.forall_mem_of_all_decide (by decide +kernel))
abbrev while0Ops0_2_W : List (Ref sig .tc) := [main_while0b_c_88, main_while0b_v440, main_v242_6, main_v242_7, main_v242_8]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_keeps : Keeps (while0Ops0_2 (F := F)) := keeps_of _ _ while0Ops0_2_writes (ListAll.forall_mem_of_all_decide (by decide +kernel))
abbrev while1Ops0_W : List (Ref sig .tc) := [main_while1b_c_70, main_while1b_v372, main_while1b_c_71, main_while1b_v373, main_while1b_v374, main_while1b_c_72, main_while1b_v375, main_while1b_v376, main_while1b_v377, main_while1b_v378, main_while1b_v379, main_while1b_v380, main_while1b_c_73, main_while1b_v381, main_while1b_v382, main_while1b_c_74, main_while1b_v383, main_while1b_v384, main_while1b_v385, main_while1b_v386, main_while1b_v387, main_while1b_v388, main_while1b_c_75, main_while1b_v389, main_while1b_v390, main_while1b_c_76, main_while1b_v391, main_while1b_v392, main_while1b_v393, main_while1b_v394, main_while1b_v395, main_while1b_v396, main_while1b_c_77, main_while1b_v397, main_while1b_v398, main_while1b_c_78, main_while1b_v399, main_while1b_v400, main_while1b_v401, main_while1b_v402, main_while1b_v403, main_while1b_v404, main_while1b_v405, main_while1b_cst_79, main_while1b_v406, main_while1b_v407, main_while1b_cst_80, main_while1b_v408, main_while1b_v409, main_while1b_v410, main_while1b_cst_81, main_while1b_v411, main_while1b_v412, main_while1b_cst_82, main_while1b_v413, main_while1b_v414, main_while1b_v415, main_while1b_c_83, main_while1b_v416, main_while1b_v417, main_while1b_c_84, main_while1b_v418, main_while1b_v419, main_while1b_v420, main_while1b_v421, main_while1b_v422, main_while1b_v423, main_while1b_v424, main_while1b_v425, main_while1b_cst_85, main_while1b_v426, main_while1b_v427, main_while1b_v428, main_while1b_v429, main_while1b_v430, main_while1b_v431, main_while1b_v432, main_while1b_c_86, main_while1b_v433, main_while1b_v434, main_while1b_c_87, main_while1b_v435, main_while1b_v436, main_while1b_v437, main_while1b_v438]
theorem while1Ops0_writes : (while1Ops0 : List (HloOp τ sig (Elt F))).Forall fun op => op.writes ⊆ (while1Ops0_W.map (Proc.devRef (τ := τ) .tc)).toFinset :=
  StableHlo.forall_writes_sub_of_map rfl
theorem while1Ops0_keeps : Keeps (while1Ops0 (F := F)) := keeps_of _ _ while1Ops0_writes (ListAll.forall_mem_of_all_decide (by decide +kernel))
abbrev while1Ops0_1_W : List (Ref sig .tc) := [main_while1b_v439]
theorem while1Ops0_1_writes : (while1Ops0_1 : List (HloOp τ sig (Elt F))).Forall fun op => op.writes ⊆ (while1Ops0_1_W.map (Proc.devRef (τ := τ) .tc)).toFinset :=
  StableHlo.forall_writes_sub_of_map rfl
theorem while1Ops0_1_keeps : Keeps (while1Ops0_1 (F := F)) := keeps_of _ _ while1Ops0_1_writes (ListAll.forall_mem_of_all_decide (by decide +kernel))
abbrev while1Ops0_2_W : List (Ref sig .tc) := [main_while1b_c_88, main_while1b_v440, main_v347_6, main_v347_7, main_v347_8]
theorem while1Ops0_2_writes : (while1Ops0_2 : List (HloOp τ sig (Elt F))).Forall fun op => op.writes ⊆ (while1Ops0_2_W.map (Proc.devRef (τ := τ) .tc)).toFinset :=
  StableHlo.forall_writes_sub_of_map rfl
theorem while1Ops0_2_keeps : Keeps (while1Ops0_2 (F := F)) := keeps_of _ _ while1Ops0_2_writes (ListAll.forall_mem_of_all_decide (by decide +kernel))
abbrev cond0_W : List (Ref sig .tc) := [main_while0c_c_70, main_while0c_v372]
theorem cond0_writes : (cond0 : List (HloOp τ sig (Elt F))).Forall fun op => op.writes ⊆ (cond0_W.map (Proc.devRef (τ := τ) .tc)).toFinset :=
  StableHlo.forall_writes_sub_of_map rfl
theorem cond0_keeps : Keeps (cond0 (F := F)) := keeps_of _ _ cond0_writes (ListAll.forall_mem_of_all_decide (by decide +kernel))
abbrev cond1_W : List (Ref sig .tc) := [main_while1c_c_70, main_while1c_v372]
theorem cond1_writes : (cond1 : List (HloOp τ sig (Elt F))).Forall fun op => op.writes ⊆ (cond1_W.map (Proc.devRef (τ := τ) .tc)).toFinset :=
  StableHlo.forall_writes_sub_of_map rfl
theorem cond1_keeps : Keeps (cond1 (F := F)) := keeps_of _ _ cond1_writes (ListAll.forall_mem_of_all_decide (by decide +kernel))
theorem preI_keeps : KeepsL (preI (F := F)) := keepsL_cons hostOps0_keeps (keepsL_cons hostOps0_1_keeps (keepsL_cons hostOps0_2_keeps (keepsL_cons hostOps0_3_keeps (keepsL_cons hostOps0_4_keeps (keepsL_cons hostOps0_5_keeps (keepsL_cons hostOps0_6_keeps (keepsL_cons hostOps0_7_keeps (keepsL_cons hostOps0_8_keeps (keepsL_cons hostOps0_9_keeps (keepsL_cons hostOps0_10_keeps (keepsL_cons hostOps0_11_keeps (keepsL_cons hostOps0_12_keeps (keepsL_cons hostOps0_13_keeps (keepsL_cons hostOps0_14_keeps (keepsL_cons hostOps0_15_keeps (keepsL_cons hostOps0_16_keeps (keepsL_nil)))))))))))))))))
theorem midI_keeps : KeepsL (midI (F := F)) := keepsL_cons hostOps0_17_keeps (keepsL_cons hostOps0_18_keeps (keepsL_cons hostOps0_19_keeps (keepsL_cons hostOps0_20_keeps (keepsL_cons hostOps0_21_keeps (keepsL_cons hostOps0_22_keeps (keepsL_cons hostOps0_23_keeps (keepsL_cons hostOps0_24_keeps (keepsL_cons hostOps0_25_keeps (keepsL_cons hostOps0_26_keeps (keepsL_cons hostOps0_27_keeps (keepsL_cons hostOps0_28_keeps (keepsL_cons hostOps0_29_keeps (keepsL_cons hostOps0_30_keeps (keepsL_cons hostOps0_31_keeps (keepsL_cons hostOps0_32_keeps (keepsL_nil))))))))))))))))
theorem postI_keeps : KeepsL (postI (F := F)) := keepsL_cons hostOps0_33_keeps (keepsL_cons hostOps0_34_keeps (keepsL_cons hostOps0_35_keeps (keepsL_cons hostOps0_36_keeps (keepsL_nil))))
theorem body0_keeps : KeepsL (body0 (F := F)) := keepsL_cons while0Ops0_keeps (keepsL_cons while0Ops0_1_keeps (keepsL_cons while0Ops0_2_keeps (keepsL_nil)))
theorem body1_keeps : KeepsL (body1 (F := F)) := keepsL_cons while1Ops0_keeps (keepsL_cons while1Ops0_1_keeps (keepsL_cons while1Ops0_2_keeps (keepsL_nil)))

variable (m : (ℓ : Loc nD τ sig) → Buf (Elt F) ℓ) (ρ : Dev nD → PrngReg)

/-- Each loop runs 6000 trips. -/
abbrev nT : ℕ := 6000
/-- The contents at launch. -/
abbrev W0 (c : Dev nD) : Valuation τ sig (Elt F) := fun b => m (c, b)
/-- Every buffer when the first loop is entered. -/
abbrev E0 (c : Dev nD) : Valuation τ sig (Elt F) := afterL preI (W0 m c)
/-- After the first loop. -/
abbrev X0 (c : Dev nD) : Valuation τ sig (Elt F) := after cond0 (atTrip cond0 body0 (E0 m) nT c)
/-- When the second loop is entered. -/
abbrev E1 (c : Dev nD) : Valuation τ sig (Elt F) := afterL midI (X0 m c)
/-- After the second loop. -/
abbrev X1 (c : Dev nD) : Valuation τ sig (Elt F) := after cond1 (atTrip cond1 body1 (E1 m) nT c)
/-- At the end. -/
abbrev WN (c : Dev nD) : Valuation τ sig (Elt F) := afterL postI (X1 m c)
/-- Every argument is at the end what it was at launch. -/
theorem WN_args (c : Dev nD) (a : Ref sig .tc) (ha : a ∈ argRefs) : WN m c (Proc.devRef .tc a) = m ((c : Thread nD τ).loc a) :=
  (postI_keeps _ a ha).trans <| (cond1_keeps _ a ha).trans <| (keeps_atTrip cond1_keeps body1_keeps (E1 m) c nT a ha).trans <|
  (midI_keeps _ a ha).trans <| (cond0_keeps _ a ha).trans <| (keeps_atTrip cond0_keeps body0_keeps (E0 m) c nT a ha).trans <|
  (preI_keeps _ a ha)

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
theorem cellInj : Function.Injective (Pipeline.cellOf (nD := nD) (τ := τ) (Pipeline.pin (pcfgs (F := F)) adm)) := fun k => k.1.elim0
/-- What rides beside the buffers: nothing owed. -/
abbrev R (c : Dev nD) : sProp 𝕄 := iprop(∃ W, owes (c : Thread nD τ) (0 : CellTallies nD τ sig Unit) W)
abbrev 𝒱₀ : Variants := Variants.none
abbrev L : GSem nD τ sig → Finset Unit := fun _ => ∅
abbrev lv : GSem nD τ sig → Unit → ℕ := fun _ _ => 0
theorem mem_uc (b : Ref sig .tc) (h : ¬ (Proc.devRef .tc b : DevRef τ sig).isScoped) : Proc.devRef .tc b ∈ ucRefs τ sig :=
  Finset.mem_filter.mpr ⟨devRef_mem_tcRefs b, h⟩

/-! ## The counter and the condition of loop 0 -/

set_option maxRecDepth 100000 in
theorem ctr0_step (X : Valuation τ sig (Elt F)) :
    after while0Ops0_2 X (Proc.devRef .tc main_v242_6) = addi (X (Proc.devRef .tc main_v242_6)) (constantI S_ 32 1#32) := by
  after_results
  rfl

set_option maxRecDepth 100000 in
set_option maxHeartbeats 4000000 in
theorem ctr0_last (X : Valuation τ sig (Elt F)) :
    after hostOps0_16 X (Proc.devRef .tc main_v242_6) = fun _ => (0#32 : BitVec 32) := by
  after_results
  rfl

theorem ctr0_entry (c : Dev nD) : E0 m c (Proc.devRef .tc main_v242_6) = fun _ => (0#32 : BitVec 32) := by
  simp only [E0, afterL_cons, afterL_nil]
  exact ctr0_last _

/-- Before the `k`-th test the counter is `k`. -/
theorem ctr0_at (c : Dev nD) : ∀ k, atTrip cond0 body0 (E0 m) k c (Proc.devRef .tc main_v242_6) = fun _ => Scf.iv 0#32 1#32 k
  | 0 => by rw [atTrip_zero, ctr0_entry, Scf.iv_zero]
  | k + 1 => by
    rw [atTrip_succ]
    simp only [afterL_cons, afterL_nil]
    rw [ctr0_step, after_of_writes_sub while0Ops0_1 _ while0Ops0_1_writes (by decide +kernel), after_of_writes_sub while0Ops0 _ while0Ops0_writes (by decide +kernel),
      after_of_writes_sub cond0 _ cond0_writes (by decide +kernel), ctr0_at c k, Scf.iv_succ]
    rfl

set_option backward.isDefEq.respectTransparency.types false in
/-- The condition of loop 0 holds exactly before trip 6000. -/
theorem cond0_spec : LoopCond (pcfgs (F := F)) defs₀ 𝒱₀ loops R (main_while0_cond (F := F)) cond0 body0 (E0 m) nT := by
  intro k hk c bd
  have hctr := ctr0_at m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 (E0 m) k c) main_v242_6 HostLoop.idx0)
        (HloOp.result _ (atTrip cond0 body0 (E0 m) k c) main_while0c_c_70 HostLoop.idx0) = 1#1) (k < nT)
    rw [nullary_result_ne _ _ _ _ (by decide), nullary_result, hctr]
    exact Scf.cmpi_slt_iv_ub_iff (lb := 0#32) (ub := 6000#32) (st := 1#32) (by decide) (show k ≤ Scf.trips 0#32 6000#32 1#32 from hk)
  isplitl [Hb]; · iexact Hb
  isplitl [Hh]; · rw [after_cons, after_cons, after_nil]; iexact Hh
  iexact HR

/-! ## The counter and the condition of loop 1 -/

set_option maxRecDepth 100000 in
theorem ctr1_step (X : Valuation τ sig (Elt F)) :
    after while1Ops0_2 X (Proc.devRef .tc main_v347_6) = addi (X (Proc.devRef .tc main_v347_6)) (constantI S_ 32 1#32) := by
  after_results
  rfl

set_option maxRecDepth 100000 in
set_option maxHeartbeats 4000000 in
theorem ctr1_last (X : Valuation τ sig (Elt F)) :
    after hostOps0_32 X (Proc.devRef .tc main_v347_6) = fun _ => (0#32 : BitVec 32) := by
  after_results
  rfl

theorem ctr1_entry (c : Dev nD) : E1 m c (Proc.devRef .tc main_v347_6) = fun _ => (0#32 : BitVec 32) := by
  simp only [E1, afterL_cons, afterL_nil]
  exact ctr1_last _

/-- Before the `k`-th test the counter is `k`. -/
theorem ctr1_at (c : Dev nD) : ∀ k, atTrip cond1 body1 (E1 m) k c (Proc.devRef .tc main_v347_6) = fun _ => Scf.iv 0#32 1#32 k
  | 0 => by rw [atTrip_zero, ctr1_entry, Scf.iv_zero]
  | k + 1 => by
    rw [atTrip_succ]
    simp only [afterL_cons, afterL_nil]
    rw [ctr1_step, after_of_writes_sub while1Ops0_1 _ while1Ops0_1_writes (by decide +kernel), after_of_writes_sub while1Ops0 _ while1Ops0_writes (by decide +kernel),
      after_of_writes_sub cond1 _ cond1_writes (by decide +kernel), ctr1_at c k, Scf.iv_succ]
    rfl

set_option backward.isDefEq.respectTransparency.types false in
/-- The condition of loop 1 holds exactly before trip 6000. -/
theorem cond1_spec : LoopCond (pcfgs (F := F)) defs₀ 𝒱₀ loops R (main_while1_cond (F := F)) cond1 body1 (E1 m) nT := by
  intro k hk c bd
  have hctr := ctr1_at m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 (E1 m) k c) main_v347_6 HostLoop.idx0)
        (HloOp.result _ (atTrip cond1 body1 (E1 m) k c) main_while1c_c_70 HostLoop.idx0) = 1#1) (k < nT)
    rw [nullary_result_ne _ _ _ _ (by decide), nullary_result, hctr]
    exact Scf.cmpi_slt_iv_ub_iff (lb := 0#32) (ub := 6000#32) (st := 1#32) (by decide) (show k ≤ Scf.trips 0#32 6000#32 1#32 from hk)
  isplitl [Hb]; · iexact Hb
  isplitl [Hh]; · rw [after_cons, after_cons, after_nil]; iexact Hh
  iexact HR
/-- Loop 0 as one segment. -/
abbrev loop0 : Pipeline.CSeg (pcfgs (F := F)) adm defs₀ 𝒱₀ L lv loops tk :=
  StableHlo.loopSeg _ _ _ _ _ _ _ _ 0 (main_while0_cond (F := F)) (main_while0_body (F := F)) rfl cond0 body0 plain_body0
    (by rw [while0_body_chain]; rfl) nT (E0 m) R (cond0_spec m)
/-- Loop 1 as one segment. -/
abbrev loop1 : Pipeline.CSeg (pcfgs (F := F)) adm defs₀ 𝒱₀ L lv loops tk :=
  StableHlo.loopSeg _ _ _ _ _ _ _ _ 1 (main_while1_cond (F := F)) (main_while1_body (F := F)) rfl cond1 body1 plain_body1
    (by rw [while1_body_chain]; rfl) nT (E1 m) R (cond1_spec m)

/-- A list of stretches as segments from the contents `V`. -/
abbrev sg (items : List (List (HloOp τ sig (Elt F)))) (h : Plain items) (V : Dev nD → Valuation τ sig (Elt F)) : List (Pipeline.CSeg (pcfgs (F := F)) adm defs₀ 𝒱₀ L lv loops tk) :=
  segsOf _ _ _ _ _ _ _ _ R items h V
/-- The segments around the loops. -/
abbrev segsB : List (Pipeline.CSeg (pcfgs (F := F)) adm defs₀ 𝒱₀ L lv loops tk) :=
  sg preI plain_preI (W0 m) ++ loop0 m :: (sg midI plain_midI (X0 m) ++ loop1 m :: sg postI plain_postI (X1 m))

theorem segsB_T : ∀ s ∈ segsB m, s.T = ∅ := by
  intro s hs
  rcases List.mem_append.mp hs with hs | hs
  · exact (segsOf_M_T _ _ _ _ _ _ _ _ _ _ _ _ s hs).2
  rcases List.mem_cons.mp hs with rfl | hs
  · exact loopSeg_T _ _ _ _ _ _ _ _ _
  rcases List.mem_append.mp hs with hs | hs
  · exact (segsOf_M_T _ _ _ _ _ _ _ _ _ _ _ _ s hs).2
  rcases List.mem_cons.mp hs with rfl | hs
  · exact loopSeg_T _ _ _ _ _ _ _ _ _
  · exact (segsOf_M_T _ _ _ _ _ _ _ _ _ _ _ _ s hs).2
theorem segs_disjoint : (segsB m).Pairwise fun s s' => Disjoint s.T s'.T :=
  Pipeline.CSeg.pairwise_disjoint_of_T_empty _ (segsB_T m)

set_option maxRecDepth 100000 in
theorem main_run (c : Dev nD) : main (F := F) c = Pipeline.CSeg.runL (segsB m) := (main_chain c).trans (by chain_rfl)

/-- The buffers at `V` and what rides beside them. -/
abbrev St (V : Dev nD → Valuation τ sig (Elt F)) (c : Dev nD) : sProp 𝕄 := iprop(held (c : Thread nD τ) (ucRefs τ sig) (V c) ∗ R c)
theorem chainsB : Pipeline.CSeg.Chains (St (W0 m)) (segsB m) (St (WN m)) :=
  Pipeline.CSeg.Chains.append (segsOf_chains _ _ _ _ _ _ _ _ R preI plain_preI _) ⟨fun _ => .rfl,
    Pipeline.CSeg.Chains.append (segsOf_chains _ _ _ _ _ _ _ _ R midI plain_midI _) ⟨fun _ => .rfl,
      segsOf_chains _ _ _ _ _ _ _ _ R postI plain_postI _⟩⟩

theorem no_unscoped : ∀ sm : SemLoc sig, sm.isScoped .tc = true := by decide

set_option backward.isDefEq.respectTransparency.types false in
/-- The run terminates with every buffer at `WN` and every counter at zero. -/
theorem run_main : θ_run defs (onTc (τ := τ) (main (F := F))) ⟨m, fun _ => 0, ρ⟩
    (fun r => (∀ (c : Dev nD), ∀ b ∈ ucRefs τ sig, r.2.mem (((c : Thread nD τ)).1, b) = WN m c b) ∧ r.2.sem = fun _ => 0) :=
  Pipeline.θ_run_regions_loop_kit_sems (Ix := Unit) (Name := ℕ) (U := Option PUnit) (Lvl := ℕ) (pcfgs (F := F)) adm cellInj defs₀ 𝒱₀ L lv loops tk m ρ main (segsB m)
    (fun c Q => by rw [main_run m c]) (segs_disjoint m)
    (O₀ := 0) (hL := fun _ _ => rfl) (G := fun _ => iprop(emp))
    (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := St (W0 m)) (Tₙ := fun c => iprop(held (c : Thread nD τ) (ucRefs τ sig) (WN m c)))
    (hch := Pipeline.CSeg.Chains.mono_right (fun c => by
      exact .rfl) _ _ (chainsB m))
    (hinit := by
      refine Pipeline.initEach L lv fun c => ?_
      rw [show unscopedBufs c (fun b => m ((c : Thread nD τ).loc b)) = held (c : Thread nD τ) (ucRefs τ sig) (W0 m c)
        from Pipeline.unscopedBufs_held c (W0 m c)]
      iintro ⟨⟨Hh, -, HO, -, Hp, -⟩, -⟩
      imodintro
      isplitl [Hh]; · iexact Hh
      iexists ∅; iexact HO)
    (QY := fun c s => ∀ b ∈ ucRefs τ sig, s.mem (((c : Thread nD τ)).1, b) = WN m c b)
    (hfin := fun c s' => by
      iintro ⟨Hh, HSI⟩
      unfold held
      imodintro
      iapply (pointsTo_read_all (ucRefs τ sig) (fun b => (((c : Thread nD τ)).1, b)) (WN m c) s')
      isplitl [Hh] <;> iassumption)
    (hQ := fun _ h hz => ⟨h, funext fun g => hz g (.inr (no_unscoped g.2))⟩)

/-- A final state of the run holds each argument as launched. -/
theorem args_kept (m' : (ℓ : Loc nD τ sig) → Buf (Elt F) ℓ) (c : Dev nD) (h : ∀ b ∈ ucRefs τ sig, m' (((c : Thread nD τ)).1, b) = WN m c b) :
    m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8) :=
  ⟨(h _ (mem_uc main_arg0 (by decide))).trans (WN_args m c main_arg0 (by decide)),
   (h _ (mem_uc main_arg1 (by decide))).trans (WN_args m c main_arg1 (by decide)),
   (h _ (mem_uc main_arg2 (by decide))).trans (WN_args m c main_arg2 (by decide)),
   (h _ (mem_uc main_arg3 (by decide))).trans (WN_args m c main_arg3 (by decide)),
   (h _ (mem_uc main_arg4 (by decide))).trans (WN_args m c main_arg4 (by decide)),
   (h _ (mem_uc main_arg5 (by decide))).trans (WN_args m c main_arg5 (by decide)),
   (h _ (mem_uc main_arg6 (by decide))).trans (WN_args m c main_arg6 (by decide)),
   (h _ (mem_uc main_arg7 (by decide))).trans (WN_args m c main_arg7 (by decide)),
   (h _ (mem_uc main_arg8 (by decide))).trans (WN_args m c main_arg8 (by decide))⟩

/-- The frame: the run terminates, the arguments and the counters are as launched. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  (θ_run defs _ _).mono (fun r h => ⟨fun c => args_kept m _ c (h.1 c), h.2⟩) (run_main m ρ)

end Cert.ReferenceIdeal.Gen

end
-- ==== Proof.HeadR.lean ====
module

public import proofs.«01_k».proof.Proof.RefRun
public import proofs.«01_k».proof.Proof.HeadDefs
public import Idealize.ShloMosaic.Lib.StableHlo.ReadAt
public import Idealize.ShloMosaic.Lib.Pointwise

@[expose] public section
set_option maxRecDepth 16384
noncomputable section
namespace Cert.ReferenceIdeal.Gen
open Idealize.ShloMosaic Idealize.ShloMosaic.TcCoe Idealize.ShloMosaic.StableHlo
open Cert.Head

section Host
variable (V : Valuation τ sig (Elt Ideal))

theorem fg_eq (b : Fin 2) (n : Fin 36864) :
    after ((hostOps0_4 (F := Ideal)).take 33) V (Proc.devRef .tc main_v87) (ix2 b n)
      = sm (fun x => lin (fun k => V (Proc.devRef .tc main_arg5) (ix4 (⟨(x : Nat) * 9 + (n : Nat) % 9, by omega⟩ : Fin 18) k 0 0))
          (fun k => V (Proc.devRef .tc main_v59) (ix4 b k (⟨(n : Nat) / 576, by omega⟩ : Fin 64) (⟨(n : Nat) / 9 % 64, by omega⟩ : Fin 64)))
          (V (Proc.devRef .tc main_arg6) (ix1 (⟨(x : Nat) * 9 + (n : Nat) % 9, by omega⟩ : Fin 18)))) := by
  after_reads_at
  rfl
theorem dl_eq (b : Fin 2) (n : Fin 36864) (j : Fin 4) :
    after ((hostOps0_4 (F := Ideal)).take 33) V (Proc.devRef .tc main_v89) (ix3 b n j)
      = lin (fun k => V (Proc.devRef .tc main_arg7) (ix4 (⟨(n : Nat) % 9 * 4 + (j : Nat), by omega⟩ : Fin 36) k 0 0))
          (fun k => V (Proc.devRef .tc main_v59) (ix4 b k (⟨(n : Nat) / 576, by omega⟩ : Fin 64) (⟨(n : Nat) / 9 % 64, by omega⟩ : Fin 64)))
          (V (Proc.devRef .tc main_arg8) (ix1 (⟨(n : Nat) % 9 * 4 + (j : Nat), by omega⟩ : Fin 36))) := by
  after_reads_at
  rfl
theorem conv_eq (b : Fin 2) (k : Fin 128) (y x : Fin 64) :
    after (hostOps0_2 (F := Ideal)) V (Proc.devRef .tc main_v58) (ix4 b k y x)
      = conv9 (fun y x ch => V (Proc.devRef .tc main_v0) (ix4 b ch y x)) (fun i l ch => V (Proc.devRef .tc main_arg3) (ix4 k ch i l))
          (V (Proc.devRef .tc main_arg4) (ix1 k)) y x := by
  after_reads_at
  rfl
theorem relu_eq (b : Fin 2) (k : Fin 128) (y x : Fin 64) :
    after (hostOps0_3 (F := Ideal)) V (Proc.devRef .tc main_v59) (ix4 b k y x)
      = relu (V (Proc.devRef .tc main_v58) (ix4 b k y x)) := by
  after_reads_at
  rfl
theorem pad_eq (b : Fin 2) (y x : Fin 66) (c : Fin 128) :
    after (hostOps0_1 (F := Ideal)) V (Proc.devRef .tc main_v0) (ix4 b c y x)
      = padAt (fun ch y x => V (Proc.devRef .tc main_arg0) (ix4 b ch y x))
          (FloatOps.sitofp (F := Ideal) .f32 (V (Proc.devRef .tc main_c) (Shape.Idx.first h_S_) : BitVec 32)) y x c := by
  after_reads_at
  rfl
theorem c_eq (i) : (after (hostOps0 (F := Ideal)) V (Proc.devRef .tc main_c) i : BitVec 32) = 0#32 := by
  after_reads_at
theorem c_keep : after (hostOps0 (F := Ideal)) V (Proc.devRef .tc main_c) = fun _ => (0#32 : BitVec 32) := funext fun _ => c_eq V _
end Host

variable (m : (l : Loc nD τ sig) → Buf (Elt Ideal) l) (c : Dev nD)

/-- The contents before the rectifier's result is used. -/
abbrev WH : Valuation τ sig (Elt Ideal) := after hostOps0_3 (after hostOps0_2 (after hostOps0_1 (after hostOps0 (W0 m c))))

theorem arg_at (r : Ref sig .tc) (h : r ∈ argRefs) :
    after (hostOps0_1 (F := Ideal)) (after hostOps0 (W0 m c)) (Proc.devRef .tc r) = W0 m c (Proc.devRef .tc r) :=
  (hostOps0_1_keeps _ r h).trans (hostOps0_keeps _ r h)
theorem arg_WH (r : Ref sig .tc) (h : r ∈ argRefs) : WH m c (Proc.devRef .tc r) = W0 m c (Proc.devRef .tc r) :=
  (hostOps0_3_keeps _ r h).trans ((hostOps0_2_keeps _ r h).trans (arg_at m c r h))

/-- The hidden layer as the arguments give it. -/
abbrev hidM (b : Fin 2) (y x : Fin 64) : Fin 128 → EReal :=
  hid (fun ch y x => W0 m c (Proc.devRef .tc main_arg0) (ix4 b ch y x)) (FloatOps.sitofp (F := Ideal) .f32 (0#32))
    (fun k i l ch => W0 m c (Proc.devRef .tc main_arg3) (ix4 k ch i l)) (fun k => W0 m c (Proc.devRef .tc main_arg4) (ix1 k)) y x

theorem hid_at (b : Fin 2) (k : Fin 128) (y x : Fin 64) : WH m c (Proc.devRef .tc main_v59) (ix4 b k y x) = hidM m c b y x k := by
  refine (relu_eq _ b k y x).trans (congrArg relu ((conv_eq _ b k y x).trans ?_))
  rw [arg_at m c main_arg3 (by decide), arg_at m c main_arg4 (by decide)]
  refine congrArg (fun P => conv9 P _ _ y x) (funext fun y => funext fun x => funext fun ch => ?_)
  refine (pad_eq _ b y x ch).trans ?_
  rw [c_keep, hostOps0_keeps _ main_arg0 (by decide)]

/-- The score of class and anchor `j` at pixel `(y, x)`. -/
abbrev scoreM (b : Fin 2) (y x : Fin 64) (j : Fin 18) : EReal :=
  lin (fun k => W0 m c (Proc.devRef .tc main_arg5) (ix4 j k 0 0)) (hidM m c b y x) (W0 m c (Proc.devRef .tc main_arg6) (ix1 j))
/-- The box delta `j` at pixel `(y, x)`. -/
abbrev deltaM (b : Fin 2) (y x : Fin 64) (j : Fin 36) : EReal :=
  lin (fun k => W0 m c (Proc.devRef .tc main_arg7) (ix4 j k 0 0)) (hidM m c b y x) (W0 m c (Proc.devRef .tc main_arg8) (ix1 j))

theorem fg_at (b : Fin 2) (n : Fin 36864) :
    after ((hostOps0_4 (F := Ideal)).take 33) (WH m c) (Proc.devRef .tc main_v87) (ix2 b n)
      = sm (fun x => scoreM m c b ⟨(n : Nat) / 576, by omega⟩ ⟨(n : Nat) / 9 % 64, by omega⟩ ⟨(x : Nat) * 9 + (n : Nat) % 9, by omega⟩) := by
  refine (fg_eq _ b n).trans ?_
  rw [arg_WH m c main_arg5 (by decide), arg_WH m c main_arg6 (by decide)]
  exact congrArg sm (funext fun x => congrArg (fun h => lin _ h _) (funext fun k => hid_at m c b k _ _))

theorem dl_at (b : Fin 2) (n : Fin 36864) (j : Fin 4) :
    after ((hostOps0_4 (F := Ideal)).take 33) (WH m c) (Proc.devRef .tc main_v89) (ix3 b n j)
      = deltaM m c b ⟨(n : Nat) / 576, by omega⟩ ⟨(n : Nat) / 9 % 64, by omega⟩ ⟨(n : Nat) % 9 * 4 + (j : Nat), by omega⟩ := by
  refine (dl_eq _ b n j).trans ?_
  rw [arg_WH m c main_arg7 (by decide), arg_WH m c main_arg8 (by decide)]
  exact congrArg (fun h => lin _ h _) (funext fun k => hid_at m c b k _ _)

end Cert.ReferenceIdeal.Gen
end
-- ==== Proof.Anchors.lean ====
module

public import proofs.«01_k».proof.Proof.IdealRun
public import proofs.«01_k».proof.Proof.RefRun

/-! The two programs print one table of anchors. -/

@[expose] public section

set_option maxRecDepth 100000
set_option maxHeartbeats 0

namespace Cert

theorem tbl0 : @KernelIdeal.lit0t1_0 = @ReferenceIdeal.lit0t1_0 := rfl
theorem tbl1 : @KernelIdeal.lit0t1_1 = @ReferenceIdeal.lit0t1_1 := rfl
theorem tbl2 : @KernelIdeal.lit0t1_2 = @ReferenceIdeal.lit0t1_2 := rfl
theorem tbl3 : @KernelIdeal.lit0t1_3 = @ReferenceIdeal.lit0t1_3 := rfl
theorem tbl4 : @KernelIdeal.lit0t1_4 = @ReferenceIdeal.lit0t1_4 := rfl
theorem tbl5 : @KernelIdeal.lit0t1_5 = @ReferenceIdeal.lit0t1_5 := rfl
theorem tbl6 : @KernelIdeal.lit0t1_6 = @ReferenceIdeal.lit0t1_6 := rfl
theorem tbl7 : @KernelIdeal.lit0t1_7 = @ReferenceIdeal.lit0t1_7 := rfl
theorem tbl8 : @KernelIdeal.lit0t1_8 = @ReferenceIdeal.lit0t1_8 := rfl

/-- The tables, whole. -/
theorem tbl : @KernelIdeal.lit0t = @ReferenceIdeal.lit0t := by
  funext i
  unfold KernelIdeal.lit0t ReferenceIdeal.lit0t
  rw [tbl0, tbl1, tbl2, tbl3, tbl4, tbl5, tbl6, tbl7, tbl8]
  first | rfl | (exfalso; fail "A")

theorem tbl_eq : @KernelIdeal.lit0 = @ReferenceIdeal.lit0 := by
  funext i
  exact congrFun tbl i.val

/-- The table as the kernel's program prints it. -/
noncomputable def tabK : Fin 147456 → BitVec 32 := @KernelIdeal.lit0
/-- The table as the reference prints it. -/
noncomputable def tabR : Fin 147456 → BitVec 32 := @ReferenceIdeal.lit0

theorem tab_eq : tabK = tabR := tbl_eq

end Cert
-- ==== Proof.Sim.lean ====
module

public import Idealize.ShloMosaic.Lib.StableHlo
public import Idealize.ShloMosaic.Lib.StableHlo.Run
public import Idealize.ShloMosaic.Lib.StableHlo.RunLoop

/-! Two lists of host operations run in step: operation by operation the same function of buffers that already
    correspond, so that the buffers they write correspond as well. -/

@[expose] public section

namespace Cert.Sim

open Idealize.ShloMosaic Idealize.ShloMosaic.TcCoe
open Idealize.ShloMosaic.StableHlo

variable {τ₁ τ₂ : Topo} {s₁ s₂ : RefSig} {Val : EltTy → Type}

/-- A buffer of the first program and one of the second. -/
abbrev Pair (s₁ s₂ : RefSig) : Type := Ref s₁ .tc × Ref s₂ .tc

/-- The two buffers hold the same contents. -/
def Same (V₁ : Valuation τ₁ s₁ Val) (V₂ : Valuation τ₂ s₂ Val) (p : Pair s₁ s₂) : Prop :=
  HEq (V₁ (Proc.devRef .tc p.1)) (V₂ (Proc.devRef .tc p.2))

/-- Two operations writing one buffer each, the same contents whenever the buffers in `ins` are the same. -/
structure Op1 (o₁ : HloOp τ₁ s₁ Val) (o₂ : HloOp τ₂ s₂ Val) (ins : List (Pair s₁ s₂)) (y : Pair s₁ s₂) : Prop where
  w₁ : o₁.writes = {Proc.devRef .tc y.1}
  w₂ : o₂.writes = {Proc.devRef .tc y.2}
  eq : ∀ (V₁ : Valuation τ₁ s₁ Val) (V₂ : Valuation τ₂ s₂ Val), (∀ p ∈ ins, Same V₁ V₂ p) →
    HEq (o₁.result V₁ (Proc.devRef .tc y.1)) (o₂.result V₂ (Proc.devRef .tc y.2))

theorem app1 {A₁ A₂ B₁ B₂ : Type} (hB : B₁ = B₂) {f₁ : A₁ → B₁} {f₂ : A₂ → B₂} (hf : HEq f₁ f₂)
    {a₁ : A₁} {a₂ : A₂} (ha : HEq a₁ a₂) : HEq (f₁ a₁) (f₂ a₂) := by
  have hA := type_eq_of_heq ha
  subst hA hB
  rw [eq_of_heq hf, eq_of_heq ha]

theorem app2 {A₁ A₂ A₁' A₂' B₁ B₂ : Type} (hB : B₁ = B₂) {f₁ : A₁ → A₁' → B₁} {f₂ : A₂ → A₂' → B₂} (hf : HEq f₁ f₂)
    {a₁ : A₁} {a₂ : A₂} (ha : HEq a₁ a₂) {b₁ : A₁'} {b₂ : A₂'} (hb : HEq b₁ b₂) : HEq (f₁ a₁ b₁) (f₂ a₂ b₂) := by
  have hA' := type_eq_of_heq hb
  subst hA'
  exact app1 hB (app1 (by rw [hB]) hf ha) hb

theorem app3 {A₁ A₂ A₁' A₂' C₁ C₂ B₁ B₂ : Type} (hB : B₁ = B₂) {f₁ : A₁ → A₁' → C₁ → B₁} {f₂ : A₂ → A₂' → C₂ → B₂}
    (hf : HEq f₁ f₂) {a₁ : A₁} {a₂ : A₂} (ha : HEq a₁ a₂) {b₁ : A₁'} {b₂ : A₂'} (hb : HEq b₁ b₂) {c₁ : C₁} {c₂ : C₂}
    (hc : HEq c₁ c₂) : HEq (f₁ a₁ b₁ c₁) (f₂ a₂ b₂ c₂) := by
  have hC := type_eq_of_heq hc
  subst hC
  exact app1 hB (app2 (by rw [hB]) hf ha hb) hc

theorem reshape_same {T₁ T₂ U₁ U₂ : BufTy} (hT : T₁ = T₂) (hU : U₁ = U₂) (he₁ : T₁.elt = U₁.elt) (he₂ : T₂.elt = U₂.elt)
    (hn₁ : T₁.shape.ShapeCasts U₁.shape) (hn₂ : T₂.shape.ShapeCasts U₂.shape)
    {a₁ : T₁.Contents Val} {a₂ : T₂.Contents Val} (ha : HEq a₁ a₂) :
    HEq (fun i => (he₁ ▸ shapeCast U₁.shape a₁ hn₁ i : Val U₁.elt)) (fun i => (he₂ ▸ shapeCast U₂.shape a₂ hn₂ i : Val U₂.elt)) := by
  subst hT hU
  rw [eq_of_heq ha]

variable {y₁ a₁ b₁ c₁ : Ref s₁ .tc} {y₂ a₂ b₂ c₂ : Ref s₂ .tc}

theorem tyC {y₁ : Ref s₁ .tc} {y₂ : Ref s₂ .tc} (h : y₁.ty = y₂.ty) : y₁.ty.Contents Val = y₂.ty.Contents Val := by rw [h]

theorem Op1.nullary {v₁ : y₁.ty.Contents Val} {v₂ : y₂.ty.Contents Val} {h₁ h₂} (hv : HEq v₁ v₂) :
    Op1 (StableHlo.nullary y₁ v₁ h₁ : HloOp τ₁ s₁ Val) (StableHlo.nullary y₂ v₂ h₂ : HloOp τ₂ s₂ Val) [] (y₁, y₂) where
  w₁ := rfl
  w₂ := rfl
  eq V₁ V₂ _ := by rw [nullary_result, nullary_result]; exact hv

theorem Op1.unary {f₁ : a₁.ty.Contents Val → y₁.ty.Contents Val} {f₂ : a₂.ty.Contents Val → y₂.ty.Contents Val} {g₁ h₁ g₂ h₂}
    (hy : y₁.ty = y₂.ty) (hf : HEq f₁ f₂) :
    Op1 (StableHlo.unary a₁ y₁ f₁ g₁ h₁ : HloOp τ₁ s₁ Val) (StableHlo.unary a₂ y₂ f₂ g₂ h₂ : HloOp τ₂ s₂ Val) [(a₁, a₂)] (y₁, y₂) where
  w₁ := rfl
  w₂ := rfl
  eq V₁ V₂ h := by rw [unary_result, unary_result]; exact app1 (tyC hy) hf (h (a₁, a₂) (by simp))

theorem Op1.binary {f₁ : a₁.ty.Contents Val → b₁.ty.Contents Val → y₁.ty.Contents Val}
    {f₂ : a₂.ty.Contents Val → b₂.ty.Contents Val → y₂.ty.Contents Val} {g₁ k₁ h₁ g₂ k₂ h₂}
    (hy : y₁.ty = y₂.ty) (hf : HEq f₁ f₂) :
    Op1 (StableHlo.binary a₁ b₁ y₁ f₁ g₁ k₁ h₁ : HloOp τ₁ s₁ Val) (StableHlo.binary a₂ b₂ y₂ f₂ g₂ k₂ h₂ : HloOp τ₂ s₂ Val)
      [(a₁, a₂), (b₁, b₂)] (y₁, y₂) where
  w₁ := rfl
  w₂ := rfl
  eq V₁ V₂ h := by
    rw [binary_result, binary_result]; exact app2 (tyC hy) hf (h (a₁, a₂) (by simp)) (h (b₁, b₂) (by simp))

theorem Op1.ternary {f₁ : c₁.ty.Contents Val → a₁.ty.Contents Val → b₁.ty.Contents Val → y₁.ty.Contents Val}
    {f₂ : c₂.ty.Contents Val → a₂.ty.Contents Val → b₂.ty.Contents Val → y₂.ty.Contents Val} {g₁ k₁ l₁ h₁ g₂ k₂ l₂ h₂}
    (hy : y₁.ty = y₂.ty) (hf : HEq f₁ f₂) :
    Op1 (StableHlo.ternary c₁ a₁ b₁ y₁ f₁ g₁ k₁ l₁ h₁ : HloOp τ₁ s₁ Val)
      (StableHlo.ternary c₂ a₂ b₂ y₂ f₂ g₂ k₂ l₂ h₂ : HloOp τ₂ s₂ Val) [(c₁, c₂), (a₁, a₂), (b₁, b₂)] (y₁, y₂) where
  w₁ := rfl
  w₂ := rfl
  eq V₁ V₂ h := by
    rw [ternary_result, ternary_result]
    exact app3 (tyC hy) hf (h (c₁, c₂) (by simp)) (h (a₁, a₂) (by simp)) (h (b₁, b₂) (by simp))

theorem Op1.reshape {e₁ n₁ g₁ h₁ e₂ n₂ g₂ h₂} (ha : a₁.ty = a₂.ty) (hy : y₁.ty = y₂.ty) :
    Op1 (StableHlo.reshape a₁ y₁ e₁ n₁ g₁ h₁ : HloOp τ₁ s₁ Val) (StableHlo.reshape a₂ y₂ e₂ n₂ g₂ h₂ : HloOp τ₂ s₂ Val)
      [(a₁, a₂)] (y₁, y₂) where
  w₁ := rfl
  w₂ := rfl
  eq V₁ V₂ h := by
    rw [reshape_result, reshape_result]
    exact reshape_same ha hy _ _ _ _ (h (a₁, a₂) (by simp))

theorem Op1.indexed {i₁ : Fin 1 → Ref s₁ .tc} {i₂ : Fin 1 → Ref s₂ .tc} {T : BufTy}
    {f₁ : a₁.ty.Contents Val → (Fin 1 → T.Contents Val) → y₁.ty.Contents Val}
    {f₂ : a₂.ty.Contents Val → (Fin 1 → T.Contents Val) → y₂.ty.Contents Val} {t₁ g₁ k₁ h₁ t₂ g₂ k₂ h₂}
    (hy : y₁.ty = y₂.ty) (hf : HEq f₁ f₂) :
    Op1 (StableHlo.unaryIndexed a₁ i₁ T y₁ f₁ t₁ g₁ k₁ h₁ : HloOp τ₁ s₁ Val)
      (StableHlo.unaryIndexed a₂ i₂ T y₂ f₂ t₂ g₂ k₂ h₂ : HloOp τ₂ s₂ Val) [(a₁, a₂), (i₁ 0, i₂ 0)] (y₁, y₂) where
  w₁ := rfl
  w₂ := rfl
  eq V₁ V₂ h := by
    rw [unaryIndexed_result, unaryIndexed_result]
    refine app2 (tyC hy) hf (h (a₁, a₂) (by simp)) (heq_of_eq (funext fun k => ?_))
    obtain rfl : k = 0 := Subsingleton.elim _ _
    exact eq_of_heq ((cast_heq _ _).trans ((h (i₁ 0, i₂ 0) (by simp)).trans (cast_heq _ _).symm))

theorem Op1.nary4 {x₁ : Fin 4 → Ref s₁ .tc} {x₂ : Fin 4 → Ref s₂ .tc}
    {f₁ : ((k : Fin 4) → (x₁ k).ty.Contents Val) → y₁.ty.Contents Val}
    {f₂ : ((k : Fin 4) → (x₂ k).ty.Contents Val) → y₂.ty.Contents Val} {k₁ h₁ k₂ h₂}
    (hf : ∀ u₁ u₂, HEq (u₁ 0) (u₂ 0) → HEq (u₁ 1) (u₂ 1) → HEq (u₁ 2) (u₂ 2) → HEq (u₁ 3) (u₂ 3) → HEq (f₁ u₁) (f₂ u₂)) :
    Op1 (StableHlo.nary x₁ y₁ f₁ k₁ h₁ : HloOp τ₁ s₁ Val) (StableHlo.nary x₂ y₂ f₂ k₂ h₂ : HloOp τ₂ s₂ Val)
      [(x₁ 0, x₂ 0), (x₁ 1, x₂ 1), (x₁ 2, x₂ 2), (x₁ 3, x₂ 3)] (y₁, y₂) where
  w₁ := rfl
  w₂ := rfl
  eq V₁ V₂ h := by
    rw [nary_result, nary_result]
    exact hf _ _ (h (x₁ 0, x₂ 0) (by simp)) (h (x₁ 1, x₂ 1) (by simp)) (h (x₁ 2, x₂ 2) (by simp)) (h (x₁ 3, x₂ 3) (by simp))

/-- Joining four arrays of one shape: equal parts give equal wholes. -/
theorem cat4 {α : Type} {S s : Shape} {d : Fin S.rank} {a b c e a' b' c' e' : s.Idx → α}
    (ha : a = a') (hb : b = b') (hc : c = c') (he : e = e') {h h'} :
    concatenate S d [⟨s, a⟩, ⟨s, b⟩, ⟨s, c⟩, ⟨s, e⟩] h = concatenate S d [⟨s, a'⟩, ⟨s, b'⟩, ⟨s, c'⟩, ⟨s, e'⟩] h' := by
  subst ha hb hc he; rfl

/-- One step: the buffers read and the buffer written, in both programs. -/
abbrev Step (s₁ s₂ : RefSig) : Type := List (Pair s₁ s₂) × Pair s₁ s₂

/-- Two lists of operations that do the listed steps. -/
inductive Ops : List (HloOp τ₁ s₁ Val) → List (HloOp τ₂ s₂ Val) → List (Step s₁ s₂) → Prop
  | nil : Ops [] [] []
  | cons {o₁ l₁ o₂ l₂ ins y ss} : Op1 o₁ o₂ ins y → Ops l₁ l₂ ss → Ops (o₁ :: l₁) (o₂ :: l₂) ((ins, y) :: ss)

/-- `p` is the latest entry of the list that speaks of either of its buffers. -/
def valid : List (Pair s₁ s₂) → Pair s₁ s₂ → Bool
  | [], _ => false
  | q :: R, p => if q.1 = p.1 then decide (q.2 = p.2) else if q.2 = p.2 then false else valid R p

/-- Every step reads corresponding buffers, and the buffers `S` correspond at the end. -/
def check : List (Pair s₁ s₂) → List (Step s₁ s₂) → List (Pair s₁ s₂) → Bool
  | R, [], S => S.all (valid R)
  | R, s :: ss, S => s.1.all (valid R) && check (s.2 :: R) ss S

/-- The buffers of `R` correspond. -/
def Inv (V₁ : Valuation τ₁ s₁ Val) (V₂ : Valuation τ₂ s₂ Val) (R : List (Pair s₁ s₂)) : Prop :=
  ∀ p, valid R p = true → Same V₁ V₂ p

theorem mem_of_valid : ∀ (R : List (Pair s₁ s₂)) (p), valid R p = true → p ∈ R
  | q :: R, p, h => by
    unfold valid at h
    split at h
    · next h₁ => exact List.mem_cons.mpr (.inl (Prod.ext h₁.symm (of_decide_eq_true h).symm))
    · split at h
      · cases h
      · exact List.mem_cons_of_mem _ (mem_of_valid R p h)

theorem inv_of_all {V₁ : Valuation τ₁ s₁ Val} {V₂ : Valuation τ₂ s₂ Val} {R : List (Pair s₁ s₂)} (h : ∀ p ∈ R, Same V₁ V₂ p) :
    Inv V₁ V₂ R := fun p hp => h p (mem_of_valid R p hp)

theorem Inv.sub {V₁ : Valuation τ₁ s₁ Val} {V₂ : Valuation τ₂ s₂ Val} {R S : List (Pair s₁ s₂)} (h : Inv V₁ V₂ R)
    (hS : check R [] S = true) : Inv V₁ V₂ S :=
  inv_of_all fun p hp => h p (List.all_eq_true.mp hS p hp)

theorem Inv.step {V₁ : Valuation τ₁ s₁ Val} {V₂ : Valuation τ₂ s₂ Val} {R : List (Pair s₁ s₂)} {o₁ : HloOp τ₁ s₁ Val}
    {o₂ : HloOp τ₂ s₂ Val} {ins y} (ho : Op1 o₁ o₂ ins y) (h : Inv V₁ V₂ R) (hin : ins.all (valid R) = true) :
    Inv (o₁.result V₁) (o₂.result V₂) (y :: R) := fun p hp => by
  unfold valid at hp
  split at hp
  · next h₁ =>
    obtain rfl : y = p := Prod.ext h₁ (of_decide_eq_true hp)
    exact ho.eq V₁ V₂ fun q hq => h q (List.all_eq_true.mp hin q hq)
  · next h₁ =>
    split at hp
    · cases hp
    · next h₂ =>
      unfold Same
      rw [HloOp.result_of_not_mem, HloOp.result_of_not_mem]
      · exact h p hp
      · rw [ho.w₂, Finset.mem_singleton]; exact fun e => h₂ (Proc.devRef_injective _ e).symm
      · rw [ho.w₁, Finset.mem_singleton]; exact fun e => h₁ (Proc.devRef_injective _ e).symm

/-- Two lists run in step from corresponding buffers end at corresponding buffers. -/
theorem Ops.run {l₁ : List (HloOp τ₁ s₁ Val)} {l₂ : List (HloOp τ₂ s₂ Val)} {ss : List (Step s₁ s₂)} (h : Ops l₁ l₂ ss) :
    ∀ {R S : List (Pair s₁ s₂)} {V₁ : Valuation τ₁ s₁ Val} {V₂ : Valuation τ₂ s₂ Val}, check R ss S = true → Inv V₁ V₂ R →
      Inv (after l₁ V₁) (after l₂ V₂) S := by
  induction h with
  | nil => exact fun hS hR => hR.sub hS
  | cons ho _ ih =>
    intro R S V₁ V₂ hS hR
    unfold check at hS
    rw [Bool.and_eq_true] at hS
    exact ih hS.2 (hR.step ho hS.1)

end Cert.Sim

end
-- ==== Proof.TailA.lean ====
module

public import proofs.«01_k».proof.Proof.IdealRun
public import proofs.«01_k».proof.Proof.RefRun
public import proofs.«01_k».proof.Proof.Sim

/-! The stretches before the first loop, in step. -/

@[expose] public section

set_option maxRecDepth 16384

noncomputable section

namespace Cert.Tail

open Idealize.ShloMosaic Idealize.ShloMosaic.TcCoe
open Idealize.ShloMosaic.StableHlo
open Cert.Sim

variable {F : FTy → Type} [FloatOps F]

local notation "𝕍K" => Valuation KernelIdeal.τ KernelIdeal.sig (Elt F)
local notation "𝕍R" => Valuation ReferenceIdeal.τ ReferenceIdeal.sig (Elt F)
/-- Corresponding buffers. -/
local notation "ℙ" => List (Pair KernelIdeal.sig ReferenceIdeal.sig)

abbrev Rin : ℙ := [(KernelIdeal.main_v29, ReferenceIdeal.main_v87), (KernelIdeal.main_arg1, ReferenceIdeal.main_arg1), (KernelIdeal.main_v31, ReferenceIdeal.main_v89), (KernelIdeal.main_cst, ReferenceIdeal.main_cst)]
abbrev R0 : ℙ := [(KernelIdeal.main_v29, ReferenceIdeal.main_v87), (KernelIdeal.main_arg1, ReferenceIdeal.main_arg1), (KernelIdeal.main_v100, ReferenceIdeal.main_v158), (KernelIdeal.main_v102, ReferenceIdeal.main_v160), (KernelIdeal.main_v107, ReferenceIdeal.main_v165), (KernelIdeal.main_v104, ReferenceIdeal.main_v162), (KernelIdeal.main_cst_14, ReferenceIdeal.main_cst_13)]
abbrev s0_steps : List (Step KernelIdeal.sig ReferenceIdeal.sig) :=
  [([(KernelIdeal.main_cst, ReferenceIdeal.main_cst)], (KernelIdeal.main_v32, ReferenceIdeal.main_v90)),
   ([(KernelIdeal.main_v32, ReferenceIdeal.main_v90)], (KernelIdeal.main_v33, ReferenceIdeal.main_v91)),
   ([(KernelIdeal.main_cst, ReferenceIdeal.main_cst)], (KernelIdeal.main_v34, ReferenceIdeal.main_v92)),
   ([(KernelIdeal.main_v34, ReferenceIdeal.main_v92)], (KernelIdeal.main_v35, ReferenceIdeal.main_v93)),
   ([(KernelIdeal.main_v33, ReferenceIdeal.main_v91), (KernelIdeal.main_v35, ReferenceIdeal.main_v93)], (KernelIdeal.main_v36, ReferenceIdeal.main_v94)),
   ([], (KernelIdeal.main_cst_5, ReferenceIdeal.main_cst_4)),
   ([(KernelIdeal.main_cst_5, ReferenceIdeal.main_cst_4)], (KernelIdeal.main_v37, ReferenceIdeal.main_v95)),
   ([(KernelIdeal.main_v36, ReferenceIdeal.main_v94), (KernelIdeal.main_v37, ReferenceIdeal.main_v95)], (KernelIdeal.main_v38, ReferenceIdeal.main_v96)),
   ([(KernelIdeal.main_cst, ReferenceIdeal.main_cst)], (KernelIdeal.main_v39, ReferenceIdeal.main_v97)),
   ([(KernelIdeal.main_v39, ReferenceIdeal.main_v97)], (KernelIdeal.main_v40, ReferenceIdeal.main_v98)),
   ([(KernelIdeal.main_cst, ReferenceIdeal.main_cst)], (KernelIdeal.main_v41, ReferenceIdeal.main_v99)),
   ([(KernelIdeal.main_v41, ReferenceIdeal.main_v99)], (KernelIdeal.main_v42, ReferenceIdeal.main_v100)),
   ([(KernelIdeal.main_v40, ReferenceIdeal.main_v98), (KernelIdeal.main_v42, ReferenceIdeal.main_v100)], (KernelIdeal.main_v43, ReferenceIdeal.main_v101)),
   ([], (KernelIdeal.main_cst_6, ReferenceIdeal.main_cst_5)),
   ([(KernelIdeal.main_cst_6, ReferenceIdeal.main_cst_5)], (KernelIdeal.main_v44, ReferenceIdeal.main_v102)),
   ([(KernelIdeal.main_v43, ReferenceIdeal.main_v101), (KernelIdeal.main_v44, ReferenceIdeal.main_v102)], (KernelIdeal.main_v45, ReferenceIdeal.main_v103)),
   ([(KernelIdeal.main_cst, ReferenceIdeal.main_cst)], (KernelIdeal.main_v46, ReferenceIdeal.main_v104)),
   ([(KernelIdeal.main_v46, ReferenceIdeal.main_v104)], (KernelIdeal.main_v47, ReferenceIdeal.main_v105)),
   ([], (KernelIdeal.main_cst_7, ReferenceIdeal.main_cst_6)),
   ([(KernelIdeal.main_cst_7, ReferenceIdeal.main_cst_6)], (KernelIdeal.main_v48, ReferenceIdeal.main_v106)),
   ([(KernelIdeal.main_v48, ReferenceIdeal.main_v106), (KernelIdeal.main_v38, ReferenceIdeal.main_v96)], (KernelIdeal.main_v49, ReferenceIdeal.main_v107)),
   ([(KernelIdeal.main_v47, ReferenceIdeal.main_v105), (KernelIdeal.main_v49, ReferenceIdeal.main_v107)], (KernelIdeal.main_v50, ReferenceIdeal.main_v108)),
   ([(KernelIdeal.main_cst, ReferenceIdeal.main_cst)], (KernelIdeal.main_v51, ReferenceIdeal.main_v109)),
   ([(KernelIdeal.main_v51, ReferenceIdeal.main_v109)], (KernelIdeal.main_v52, ReferenceIdeal.main_v110)),
   ([], (KernelIdeal.main_cst_8, ReferenceIdeal.main_cst_7)),
   ([(KernelIdeal.main_cst_8, ReferenceIdeal.main_cst_7)], (KernelIdeal.main_v53, ReferenceIdeal.main_v111)),
   ([(KernelIdeal.main_v53, ReferenceIdeal.main_v111), (KernelIdeal.main_v45, ReferenceIdeal.main_v103)], (KernelIdeal.main_v54, ReferenceIdeal.main_v112)),
   ([(KernelIdeal.main_v52, ReferenceIdeal.main_v110), (KernelIdeal.main_v54, ReferenceIdeal.main_v112)], (KernelIdeal.main_v55, ReferenceIdeal.main_v113)),
   ([(KernelIdeal.main_v31, ReferenceIdeal.main_v89)], (KernelIdeal.main_v56, ReferenceIdeal.main_v114)),
   ([(KernelIdeal.main_v56, ReferenceIdeal.main_v114)], (KernelIdeal.main_v57, ReferenceIdeal.main_v115)),
   ([(KernelIdeal.main_v38, ReferenceIdeal.main_v96)], (KernelIdeal.main_v58, ReferenceIdeal.main_v116)),
   ([(KernelIdeal.main_v58, ReferenceIdeal.main_v116)], (KernelIdeal.main_v59, ReferenceIdeal.main_v117)),
   ([(KernelIdeal.main_v57, ReferenceIdeal.main_v115), (KernelIdeal.main_v59, ReferenceIdeal.main_v117)], (KernelIdeal.main_v60, ReferenceIdeal.main_v118)),
   ([(KernelIdeal.main_v50, ReferenceIdeal.main_v108)], (KernelIdeal.main_v61, ReferenceIdeal.main_v119)),
   ([(KernelIdeal.main_v61, ReferenceIdeal.main_v119)], (KernelIdeal.main_v62, ReferenceIdeal.main_v120)),
   ([(KernelIdeal.main_v60, ReferenceIdeal.main_v118), (KernelIdeal.main_v62, ReferenceIdeal.main_v120)], (KernelIdeal.main_v63, ReferenceIdeal.main_v121)),
   ([(KernelIdeal.main_v31, ReferenceIdeal.main_v89)], (KernelIdeal.main_v64, ReferenceIdeal.main_v122)),
   ([(KernelIdeal.main_v64, ReferenceIdeal.main_v122)], (KernelIdeal.main_v65, ReferenceIdeal.main_v123)),
   ([(KernelIdeal.main_v45, ReferenceIdeal.main_v103)], (KernelIdeal.main_v66, ReferenceIdeal.main_v124)),
   ([(KernelIdeal.main_v66, ReferenceIdeal.main_v124)], (KernelIdeal.main_v67, ReferenceIdeal.main_v125)),
   ([(KernelIdeal.main_v65, ReferenceIdeal.main_v123), (KernelIdeal.main_v67, ReferenceIdeal.main_v125)], (KernelIdeal.main_v68, ReferenceIdeal.main_v126)),
   ([(KernelIdeal.main_v55, ReferenceIdeal.main_v113)], (KernelIdeal.main_v69, ReferenceIdeal.main_v127)),
   ([(KernelIdeal.main_v69, ReferenceIdeal.main_v127)], (KernelIdeal.main_v70, ReferenceIdeal.main_v128)),
   ([(KernelIdeal.main_v68, ReferenceIdeal.main_v126), (KernelIdeal.main_v70, ReferenceIdeal.main_v128)], (KernelIdeal.main_v71, ReferenceIdeal.main_v129)),
   ([(KernelIdeal.main_v31, ReferenceIdeal.main_v89)], (KernelIdeal.main_v72, ReferenceIdeal.main_v130)),
   ([(KernelIdeal.main_v72, ReferenceIdeal.main_v130)], (KernelIdeal.main_v73, ReferenceIdeal.main_v131)),
   ([(KernelIdeal.main_v73, ReferenceIdeal.main_v131)], (KernelIdeal.main_v74, ReferenceIdeal.main_v132)),
   ([(KernelIdeal.main_v38, ReferenceIdeal.main_v96)], (KernelIdeal.main_v75, ReferenceIdeal.main_v133)),
   ([(KernelIdeal.main_v75, ReferenceIdeal.main_v133)], (KernelIdeal.main_v76, ReferenceIdeal.main_v134)),
   ([(KernelIdeal.main_v74, ReferenceIdeal.main_v132), (KernelIdeal.main_v76, ReferenceIdeal.main_v134)], (KernelIdeal.main_v77, ReferenceIdeal.main_v135)),
   ([(KernelIdeal.main_v31, ReferenceIdeal.main_v89)], (KernelIdeal.main_v78, ReferenceIdeal.main_v136)),
   ([(KernelIdeal.main_v78, ReferenceIdeal.main_v136)], (KernelIdeal.main_v79, ReferenceIdeal.main_v137)),
   ([(KernelIdeal.main_v79, ReferenceIdeal.main_v137)], (KernelIdeal.main_v80, ReferenceIdeal.main_v138)),
   ([(KernelIdeal.main_v45, ReferenceIdeal.main_v103)], (KernelIdeal.main_v81, ReferenceIdeal.main_v139)),
   ([(KernelIdeal.main_v81, ReferenceIdeal.main_v139)], (KernelIdeal.main_v82, ReferenceIdeal.main_v140)),
   ([(KernelIdeal.main_v80, ReferenceIdeal.main_v138), (KernelIdeal.main_v82, ReferenceIdeal.main_v140)], (KernelIdeal.main_v83, ReferenceIdeal.main_v141)),
   ([], (KernelIdeal.main_cst_9, ReferenceIdeal.main_cst_8)),
   ([(KernelIdeal.main_cst_9, ReferenceIdeal.main_cst_8)], (KernelIdeal.main_v84, ReferenceIdeal.main_v142)),
   ([(KernelIdeal.main_v84, ReferenceIdeal.main_v142), (KernelIdeal.main_v77, ReferenceIdeal.main_v135)], (KernelIdeal.main_v85, ReferenceIdeal.main_v143)),
   ([(KernelIdeal.main_v63, ReferenceIdeal.main_v121), (KernelIdeal.main_v85, ReferenceIdeal.main_v143)], (KernelIdeal.main_v86, ReferenceIdeal.main_v144)),
   ([], (KernelIdeal.main_cst_10, ReferenceIdeal.main_cst_9)),
   ([(KernelIdeal.main_cst_10, ReferenceIdeal.main_cst_9)], (KernelIdeal.main_v87, ReferenceIdeal.main_v145)),
   ([(KernelIdeal.main_v87, ReferenceIdeal.main_v145), (KernelIdeal.main_v83, ReferenceIdeal.main_v141)], (KernelIdeal.main_v88, ReferenceIdeal.main_v146)),
   ([(KernelIdeal.main_v71, ReferenceIdeal.main_v129), (KernelIdeal.main_v88, ReferenceIdeal.main_v146)], (KernelIdeal.main_v89, ReferenceIdeal.main_v147)),
   ([], (KernelIdeal.main_cst_11, ReferenceIdeal.main_cst_10)),
   ([(KernelIdeal.main_cst_11, ReferenceIdeal.main_cst_10)], (KernelIdeal.main_v90, ReferenceIdeal.main_v148)),
   ([(KernelIdeal.main_v90, ReferenceIdeal.main_v148), (KernelIdeal.main_v77, ReferenceIdeal.main_v135)], (KernelIdeal.main_v91, ReferenceIdeal.main_v149)),
   ([(KernelIdeal.main_v63, ReferenceIdeal.main_v121), (KernelIdeal.main_v91, ReferenceIdeal.main_v149)], (KernelIdeal.main_v92, ReferenceIdeal.main_v150)),
   ([], (KernelIdeal.main_cst_12, ReferenceIdeal.main_cst_11)),
   ([(KernelIdeal.main_cst_12, ReferenceIdeal.main_cst_11)], (KernelIdeal.main_v93, ReferenceIdeal.main_v151)),
   ([(KernelIdeal.main_v93, ReferenceIdeal.main_v151), (KernelIdeal.main_v83, ReferenceIdeal.main_v141)], (KernelIdeal.main_v94, ReferenceIdeal.main_v152)),
   ([(KernelIdeal.main_v71, ReferenceIdeal.main_v129), (KernelIdeal.main_v94, ReferenceIdeal.main_v152)], (KernelIdeal.main_v95, ReferenceIdeal.main_v153)),
   ([(KernelIdeal.main_v86, ReferenceIdeal.main_v144)], (KernelIdeal.main_v96, ReferenceIdeal.main_v154)),
   ([(KernelIdeal.main_v89, ReferenceIdeal.main_v147)], (KernelIdeal.main_v97, ReferenceIdeal.main_v155)),
   ([(KernelIdeal.main_v92, ReferenceIdeal.main_v150)], (KernelIdeal.main_v98, ReferenceIdeal.main_v156)),
   ([(KernelIdeal.main_v95, ReferenceIdeal.main_v153)], (KernelIdeal.main_v99, ReferenceIdeal.main_v157)),
   ([(KernelIdeal.main_v96, ReferenceIdeal.main_v154), (KernelIdeal.main_v97, ReferenceIdeal.main_v155), (KernelIdeal.main_v98, ReferenceIdeal.main_v156), (KernelIdeal.main_v99, ReferenceIdeal.main_v157)], (KernelIdeal.main_v100, ReferenceIdeal.main_v158)),
   ([(KernelIdeal.main_v100, ReferenceIdeal.main_v158)], (KernelIdeal.main_v101, ReferenceIdeal.main_v159)),
   ([(KernelIdeal.main_v101, ReferenceIdeal.main_v159)], (KernelIdeal.main_v102, ReferenceIdeal.main_v160)),
   ([(KernelIdeal.main_v102, ReferenceIdeal.main_v160)], (KernelIdeal.main_v103, ReferenceIdeal.main_v161)),
   ([(KernelIdeal.main_v103, ReferenceIdeal.main_v161)], (KernelIdeal.main_v104, ReferenceIdeal.main_v162)),
   ([(KernelIdeal.main_arg1, ReferenceIdeal.main_arg1)], (KernelIdeal.main_v105, ReferenceIdeal.main_v163)),
   ([(KernelIdeal.main_v105, ReferenceIdeal.main_v163)], (KernelIdeal.main_v106, ReferenceIdeal.main_v164)),
   ([], (KernelIdeal.main_cst_13, ReferenceIdeal.main_cst_12)),
   ([(KernelIdeal.main_v106, ReferenceIdeal.main_v164), (KernelIdeal.main_cst_13, ReferenceIdeal.main_cst_12)], (KernelIdeal.main_v107, ReferenceIdeal.main_v165)),
   ([], (KernelIdeal.main_cst_14, ReferenceIdeal.main_cst_13))]
theorem s0_ops : Ops ((KernelIdeal.Gen.hostOps1 (F := F)).drop 21) ((ReferenceIdeal.Gen.hostOps0_4 (F := F)).drop 33) s0_steps :=
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.unary rfl .rfl) <|
  .cons (.reshape rfl rfl) <|
  .cons (.nullary .rfl) <|
  .cons (.unary rfl .rfl) <|
  .cons (.binary rfl .rfl) <|
  .cons (.binary rfl .rfl) <|
  .cons (.unary rfl .rfl) <|
  .cons (.reshape rfl rfl) <|
  .cons (.nullary .rfl) <|
  .cons (.unary rfl .rfl) <|
  .cons (.binary rfl .rfl) <|
  .cons (.binary rfl .rfl) <|
  .cons (.unary rfl .rfl) <|
  .cons (.reshape rfl rfl) <|
  .cons (.unary rfl .rfl) <|
  .cons (.unary rfl .rfl) <|
  .cons (.binary rfl .rfl) <|
  .cons (.unary rfl .rfl) <|
  .cons (.unary rfl .rfl) <|
  .cons (.binary rfl .rfl) <|
  .cons (.unary rfl .rfl) <|
  .cons (.reshape rfl rfl) <|
  .cons (.unary rfl .rfl) <|
  .cons (.unary rfl .rfl) <|
  .cons (.binary rfl .rfl) <|
  .cons (.unary rfl .rfl) <|
  .cons (.unary rfl .rfl) <|
  .cons (.binary rfl .rfl) <|
  .cons (.unary rfl .rfl) <|
  .cons (.reshape rfl rfl) <|
  .cons (.unary rfl .rfl) <|
  .cons (.unary rfl .rfl) <|
  .cons (.unary rfl .rfl) <|
  .cons (.binary rfl .rfl) <|
  .cons (.unary rfl .rfl) <|
  .cons (.reshape rfl rfl) <|
  .cons (.unary rfl .rfl) <|
  .cons (.unary rfl .rfl) <|
  .cons (.unary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.binary rfl .rfl) <|
  .cons (.unary rfl .rfl) <|
  .cons (.unary rfl .rfl) <|
  .cons (.unary rfl .rfl) <|
  .cons (.unary rfl .rfl) <|
  .cons (.nary4 fun _ _ h0 h1 h2 h3 => heq_of_eq (cat4 (eq_of_heq h0) (eq_of_heq h1) (eq_of_heq h2) (eq_of_heq h3))) <|
  .cons (.unary rfl .rfl) <|
  .cons (.reshape rfl rfl) <|
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s0_run {V₁ : 𝕍K} {V₂ : 𝕍R} (h : Inv V₁ V₂ Rin) :
    Inv (after ((KernelIdeal.Gen.hostOps1 (F := F)).drop 21) V₁) (after ((ReferenceIdeal.Gen.hostOps0_4 (F := F)).drop 33) V₂) R0 :=
  s0_ops.run (by decide +kernel) h

abbrev R1 : ℙ := [(KernelIdeal.main_v29, ReferenceIdeal.main_v87), (KernelIdeal.main_arg1, ReferenceIdeal.main_arg1), (KernelIdeal.main_v100, ReferenceIdeal.main_v158), (KernelIdeal.main_v108, ReferenceIdeal.main_v166), (KernelIdeal.main_v102, ReferenceIdeal.main_v160)]
abbrev s1_steps : List (Step KernelIdeal.sig ReferenceIdeal.sig) :=
  [([(KernelIdeal.main_cst_14, ReferenceIdeal.main_cst_13)], (KernelIdeal.main_call1_v0, ReferenceIdeal.main_call2_v0)),
   ([(KernelIdeal.main_call1_v0, ReferenceIdeal.main_call2_v0)], (KernelIdeal.main_call1_v1, ReferenceIdeal.main_call2_v1)),
   ([(KernelIdeal.main_call1_v1, ReferenceIdeal.main_call2_v1), (KernelIdeal.main_v104, ReferenceIdeal.main_v162)], (KernelIdeal.main_call1_v2, ReferenceIdeal.main_call2_v2)),
   ([(KernelIdeal.main_v107, ReferenceIdeal.main_v165)], (KernelIdeal.main_call1_v3, ReferenceIdeal.main_call2_v3)),
   ([(KernelIdeal.main_call1_v3, ReferenceIdeal.main_call2_v3), (KernelIdeal.main_call1_v2, ReferenceIdeal.main_call2_v2)], (KernelIdeal.main_v108, ReferenceIdeal.main_v166))]
theorem s1_ops : Ops (KernelIdeal.Gen.hostOps1_1 (F := F)) (ReferenceIdeal.Gen.hostOps0_5 (F := F)) s1_steps :=
  .cons (.unary rfl .rfl) <|
  .cons (.unary rfl .rfl) <|
  .cons (.binary rfl .rfl) <|
  .cons (.unary rfl .rfl) <|
  .cons (.binary rfl .rfl) <|
  .nil
theorem s1_run {V₁ : 𝕍K} {V₂ : 𝕍R} (h : Inv V₁ V₂ R0) :
    Inv (after (KernelIdeal.Gen.hostOps1_1 (F := F)) V₁) (after (ReferenceIdeal.Gen.hostOps0_5 (F := F)) V₂) R1 :=
  s1_ops.run (by decide +kernel) h

abbrev R2 : ℙ := [(KernelIdeal.main_v29, ReferenceIdeal.main_v87), (KernelIdeal.main_arg1, ReferenceIdeal.main_arg1), (KernelIdeal.main_v100, ReferenceIdeal.main_v158), (KernelIdeal.main_v108, ReferenceIdeal.main_v166), (KernelIdeal.main_v102, ReferenceIdeal.main_v160), (KernelIdeal.main_v113, ReferenceIdeal.main_v171), (KernelIdeal.main_v110, ReferenceIdeal.main_v168), (KernelIdeal.main_cst_16, ReferenceIdeal.main_cst_15)]
abbrev s2_steps : List (Step KernelIdeal.sig ReferenceIdeal.sig) :=
  [([(KernelIdeal.main_v102, ReferenceIdeal.main_v160)], (KernelIdeal.main_v109, ReferenceIdeal.main_v167)),
   ([(KernelIdeal.main_v109, ReferenceIdeal.main_v167)], (KernelIdeal.main_v110, ReferenceIdeal.main_v168)),
   ([(KernelIdeal.main_arg1, ReferenceIdeal.main_arg1)], (KernelIdeal.main_v111, ReferenceIdeal.main_v169)),
   ([(KernelIdeal.main_v111, ReferenceIdeal.main_v169)], (KernelIdeal.main_v112, ReferenceIdeal.main_v170)),
   ([], (KernelIdeal.main_cst_15, ReferenceIdeal.main_cst_14)),
   ([(KernelIdeal.main_v112, ReferenceIdeal.main_v170), (KernelIdeal.main_cst_15, ReferenceIdeal.main_cst_14)], (KernelIdeal.main_v113, ReferenceIdeal.main_v171)),
   ([], (KernelIdeal.main_cst_16, ReferenceIdeal.main_cst_15))]
theorem s2_ops : Ops (KernelIdeal.Gen.hostOps1_2 (F := F)) (ReferenceIdeal.Gen.hostOps0_6 (F := F)) s2_steps :=
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s2_run {V₁ : 𝕍K} {V₂ : 𝕍R} (h : Inv V₁ V₂ R1) :
    Inv (after (KernelIdeal.Gen.hostOps1_2 (F := F)) V₁) (after (ReferenceIdeal.Gen.hostOps0_6 (F := F)) V₂) R2 :=
  s2_ops.run (by decide +kernel) h

abbrev R3 : ℙ := [(KernelIdeal.main_v29, ReferenceIdeal.main_v87), (KernelIdeal.main_arg1, ReferenceIdeal.main_arg1), (KernelIdeal.main_v100, ReferenceIdeal.main_v158), (KernelIdeal.main_v114, ReferenceIdeal.main_v172), (KernelIdeal.main_v108, ReferenceIdeal.main_v166), (KernelIdeal.main_v102, ReferenceIdeal.main_v160)]
abbrev s3_steps : List (Step KernelIdeal.sig ReferenceIdeal.sig) :=
  [([(KernelIdeal.main_cst_16, ReferenceIdeal.main_cst_15)], (KernelIdeal.main_call2_v0, ReferenceIdeal.main_call3_v0)),
   ([(KernelIdeal.main_call2_v0, ReferenceIdeal.main_call3_v0)], (KernelIdeal.main_call2_v1, ReferenceIdeal.main_call3_v1)),
   ([(KernelIdeal.main_call2_v1, ReferenceIdeal.main_call3_v1), (KernelIdeal.main_v110, ReferenceIdeal.main_v168)], (KernelIdeal.main_call2_v2, ReferenceIdeal.main_call3_v2)),
   ([(KernelIdeal.main_v113, ReferenceIdeal.main_v171)], (KernelIdeal.main_call2_v3, ReferenceIdeal.main_call3_v3)),
   ([(KernelIdeal.main_call2_v3, ReferenceIdeal.main_call3_v3), (KernelIdeal.main_call2_v2, ReferenceIdeal.main_call3_v2)], (KernelIdeal.main_v114, ReferenceIdeal.main_v172))]
theorem s3_ops : Ops (KernelIdeal.Gen.hostOps1_3 (F := F)) (ReferenceIdeal.Gen.hostOps0_7 (F := F)) s3_steps :=
  .cons (.unary rfl .rfl) <|
  .cons (.unary rfl .rfl) <|
  .cons (.binary rfl .rfl) <|
  .cons (.unary rfl .rfl) <|
  .cons (.binary rfl .rfl) <|
  .nil
theorem s3_run {V₁ : 𝕍K} {V₂ : 𝕍R} (h : Inv V₁ V₂ R2) :
    Inv (after (KernelIdeal.Gen.hostOps1_3 (F := F)) V₁) (after (ReferenceIdeal.Gen.hostOps0_7 (F := F)) V₂) R3 :=
  s3_ops.run (by decide +kernel) h

abbrev R4 : ℙ := [(KernelIdeal.main_v29, ReferenceIdeal.main_v87), (KernelIdeal.main_arg1, ReferenceIdeal.main_arg1), (KernelIdeal.main_v100, ReferenceIdeal.main_v158), (KernelIdeal.main_v114, ReferenceIdeal.main_v172), (KernelIdeal.main_v108, ReferenceIdeal.main_v166), (KernelIdeal.main_v102, ReferenceIdeal.main_v160), (KernelIdeal.main_v119, ReferenceIdeal.main_v177), (KernelIdeal.main_v116, ReferenceIdeal.main_v174), (KernelIdeal.main_cst_18, ReferenceIdeal.main_cst_17)]
abbrev s4_steps : List (Step KernelIdeal.sig ReferenceIdeal.sig) :=
  [([(KernelIdeal.main_v102, ReferenceIdeal.main_v160)], (KernelIdeal.main_v115, ReferenceIdeal.main_v173)),
   ([(KernelIdeal.main_v115, ReferenceIdeal.main_v173)], (KernelIdeal.main_v116, ReferenceIdeal.main_v174)),
   ([(KernelIdeal.main_arg1, ReferenceIdeal.main_arg1)], (KernelIdeal.main_v117, ReferenceIdeal.main_v175)),
   ([(KernelIdeal.main_v117, ReferenceIdeal.main_v175)], (KernelIdeal.main_v118, ReferenceIdeal.main_v176)),
   ([], (KernelIdeal.main_cst_17, ReferenceIdeal.main_cst_16)),
   ([(KernelIdeal.main_v118, ReferenceIdeal.main_v176), (KernelIdeal.main_cst_17, ReferenceIdeal.main_cst_16)], (KernelIdeal.main_v119, ReferenceIdeal.main_v177)),
   ([], (KernelIdeal.main_cst_18, ReferenceIdeal.main_cst_17))]
theorem s4_ops : Ops (KernelIdeal.Gen.hostOps1_4 (F := F)) (ReferenceIdeal.Gen.hostOps0_8 (F := F)) s4_steps :=
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s4_run {V₁ : 𝕍K} {V₂ : 𝕍R} (h : Inv V₁ V₂ R3) :
    Inv (after (KernelIdeal.Gen.hostOps1_4 (F := F)) V₁) (after (ReferenceIdeal.Gen.hostOps0_8 (F := F)) V₂) R4 :=
  s4_ops.run (by decide +kernel) h

abbrev R5 : ℙ := [(KernelIdeal.main_v29, ReferenceIdeal.main_v87), (KernelIdeal.main_arg1, ReferenceIdeal.main_arg1), (KernelIdeal.main_v100, ReferenceIdeal.main_v158), (KernelIdeal.main_v120, ReferenceIdeal.main_v178), (KernelIdeal.main_v114, ReferenceIdeal.main_v172), (KernelIdeal.main_v108, ReferenceIdeal.main_v166), (KernelIdeal.main_v102, ReferenceIdeal.main_v160)]
abbrev s5_steps : List (Step KernelIdeal.sig ReferenceIdeal.sig) :=
  [([(KernelIdeal.main_cst_18, ReferenceIdeal.main_cst_17)], (KernelIdeal.main_call3_v0, ReferenceIdeal.main_call4_v0)),
   ([(KernelIdeal.main_call3_v0, ReferenceIdeal.main_call4_v0)], (KernelIdeal.main_call3_v1, ReferenceIdeal.main_call4_v1)),
   ([(KernelIdeal.main_call3_v1, ReferenceIdeal.main_call4_v1), (KernelIdeal.main_v116, ReferenceIdeal.main_v174)], (KernelIdeal.main_call3_v2, ReferenceIdeal.main_call4_v2)),
   ([(KernelIdeal.main_v119, ReferenceIdeal.main_v177)], (KernelIdeal.main_call3_v3, ReferenceIdeal.main_call4_v3)),
   ([(KernelIdeal.main_call3_v3, ReferenceIdeal.main_call4_v3), (KernelIdeal.main_call3_v2, ReferenceIdeal.main_call4_v2)], (KernelIdeal.main_v120, ReferenceIdeal.main_v178))]
theorem s5_ops : Ops (KernelIdeal.Gen.hostOps1_5 (F := F)) (ReferenceIdeal.Gen.hostOps0_9 (F := F)) s5_steps :=
  .cons (.unary rfl .rfl) <|
  .cons (.unary rfl .rfl) <|
  .cons (.binary rfl .rfl) <|
  .cons (.unary rfl .rfl) <|
  .cons (.binary rfl .rfl) <|
  .nil
theorem s5_run {V₁ : 𝕍K} {V₂ : 𝕍R} (h : Inv V₁ V₂ R4) :
    Inv (after (KernelIdeal.Gen.hostOps1_5 (F := F)) V₁) (after (ReferenceIdeal.Gen.hostOps0_9 (F := F)) V₂) R5 :=
  s5_ops.run (by decide +kernel) h

abbrev R6 : ℙ := [(KernelIdeal.main_v29, ReferenceIdeal.main_v87), (KernelIdeal.main_arg1, ReferenceIdeal.main_arg1), (KernelIdeal.main_v100, ReferenceIdeal.main_v158), (KernelIdeal.main_v120, ReferenceIdeal.main_v178), (KernelIdeal.main_v114, ReferenceIdeal.main_v172), (KernelIdeal.main_v108, ReferenceIdeal.main_v166), (KernelIdeal.main_v125, ReferenceIdeal.main_v183), (KernelIdeal.main_v122, ReferenceIdeal.main_v180), (KernelIdeal.main_cst_20, ReferenceIdeal.main_cst_19)]
abbrev s6_steps : List (Step KernelIdeal.sig ReferenceIdeal.sig) :=
  [([(KernelIdeal.main_v102, ReferenceIdeal.main_v160)], (KernelIdeal.main_v121, ReferenceIdeal.main_v179)),
   ([(KernelIdeal.main_v121, ReferenceIdeal.main_v179)], (KernelIdeal.main_v122, ReferenceIdeal.main_v180)),
   ([(KernelIdeal.main_arg1, ReferenceIdeal.main_arg1)], (KernelIdeal.main_v123, ReferenceIdeal.main_v181)),
   ([(KernelIdeal.main_v123, ReferenceIdeal.main_v181)], (KernelIdeal.main_v124, ReferenceIdeal.main_v182)),
   ([], (KernelIdeal.main_cst_19, ReferenceIdeal.main_cst_18)),
   ([(KernelIdeal.main_v124, ReferenceIdeal.main_v182), (KernelIdeal.main_cst_19, ReferenceIdeal.main_cst_18)], (KernelIdeal.main_v125, ReferenceIdeal.main_v183)),
   ([], (KernelIdeal.main_cst_20, ReferenceIdeal.main_cst_19))]
theorem s6_ops : Ops (KernelIdeal.Gen.hostOps1_6 (F := F)) (ReferenceIdeal.Gen.hostOps0_10 (F := F)) s6_steps :=
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s6_run {V₁ : 𝕍K} {V₂ : 𝕍R} (h : Inv V₁ V₂ R5) :
    Inv (after (KernelIdeal.Gen.hostOps1_6 (F := F)) V₁) (after (ReferenceIdeal.Gen.hostOps0_10 (F := F)) V₂) R6 :=
  s6_ops.run (by decide +kernel) h

abbrev R7 : ℙ := [(KernelIdeal.main_v29, ReferenceIdeal.main_v87), (KernelIdeal.main_arg1, ReferenceIdeal.main_arg1), (KernelIdeal.main_v100, ReferenceIdeal.main_v158), (KernelIdeal.main_v126, ReferenceIdeal.main_v184), (KernelIdeal.main_v120, ReferenceIdeal.main_v178), (KernelIdeal.main_v114, ReferenceIdeal.main_v172), (KernelIdeal.main_v108, ReferenceIdeal.main_v166)]
abbrev s7_steps : List (Step KernelIdeal.sig ReferenceIdeal.sig) :=
  [([(KernelIdeal.main_cst_20, ReferenceIdeal.main_cst_19)], (KernelIdeal.main_call4_v0, ReferenceIdeal.main_call5_v0)),
   ([(KernelIdeal.main_call4_v0, ReferenceIdeal.main_call5_v0)], (KernelIdeal.main_call4_v1, ReferenceIdeal.main_call5_v1)),
   ([(KernelIdeal.main_call4_v1, ReferenceIdeal.main_call5_v1), (KernelIdeal.main_v122, ReferenceIdeal.main_v180)], (KernelIdeal.main_call4_v2, ReferenceIdeal.main_call5_v2)),
   ([(KernelIdeal.main_v125, ReferenceIdeal.main_v183)], (KernelIdeal.main_call4_v3, ReferenceIdeal.main_call5_v3)),
   ([(KernelIdeal.main_call4_v3, ReferenceIdeal.main_call5_v3), (KernelIdeal.main_call4_v2, ReferenceIdeal.main_call5_v2)], (KernelIdeal.main_v126, ReferenceIdeal.main_v184))]
theorem s7_ops : Ops (KernelIdeal.Gen.hostOps1_7 (F := F)) (ReferenceIdeal.Gen.hostOps0_11 (F := F)) s7_steps :=
  .cons (.unary rfl .rfl) <|
  .cons (.unary rfl .rfl) <|
  .cons (.binary rfl .rfl) <|
  .cons (.unary rfl .rfl) <|
  .cons (.binary rfl .rfl) <|
  .nil
theorem s7_run {V₁ : 𝕍K} {V₂ : 𝕍R} (h : Inv V₁ V₂ R6) :
    Inv (after (KernelIdeal.Gen.hostOps1_7 (F := F)) V₁) (after (ReferenceIdeal.Gen.hostOps0_11 (F := F)) V₂) R7 :=
  s7_ops.run (by decide +kernel) h

abbrev R8 : ℙ := [(KernelIdeal.main_v29, ReferenceIdeal.main_v87), (KernelIdeal.main_arg1, ReferenceIdeal.main_arg1), (KernelIdeal.main_v100, ReferenceIdeal.main_v158), (KernelIdeal.main_v131, ReferenceIdeal.main_v189), (KernelIdeal.main_v153, ReferenceIdeal.main_v211), (KernelIdeal.main_v155, ReferenceIdeal.main_v213), (KernelIdeal.main_cst_24, ReferenceIdeal.main_cst_23)]
abbrev s8_steps : List (Step KernelIdeal.sig ReferenceIdeal.sig) :=
  [([(KernelIdeal.main_v108, ReferenceIdeal.main_v166)], (KernelIdeal.main_v127, ReferenceIdeal.main_v185)),
   ([(KernelIdeal.main_v114, ReferenceIdeal.main_v172)], (KernelIdeal.main_v128, ReferenceIdeal.main_v186)),
   ([(KernelIdeal.main_v120, ReferenceIdeal.main_v178)], (KernelIdeal.main_v129, ReferenceIdeal.main_v187)),
   ([(KernelIdeal.main_v126, ReferenceIdeal.main_v184)], (KernelIdeal.main_v130, ReferenceIdeal.main_v188)),
   ([(KernelIdeal.main_v127, ReferenceIdeal.main_v185), (KernelIdeal.main_v128, ReferenceIdeal.main_v186), (KernelIdeal.main_v129, ReferenceIdeal.main_v187), (KernelIdeal.main_v130, ReferenceIdeal.main_v188)], (KernelIdeal.main_v131, ReferenceIdeal.main_v189)),
   ([(KernelIdeal.main_v131, ReferenceIdeal.main_v189)], (KernelIdeal.main_v132, ReferenceIdeal.main_v190)),
   ([(KernelIdeal.main_v132, ReferenceIdeal.main_v190)], (KernelIdeal.main_v133, ReferenceIdeal.main_v191)),
   ([(KernelIdeal.main_v131, ReferenceIdeal.main_v189)], (KernelIdeal.main_v134, ReferenceIdeal.main_v192)),
   ([(KernelIdeal.main_v134, ReferenceIdeal.main_v192)], (KernelIdeal.main_v135, ReferenceIdeal.main_v193)),
   ([(KernelIdeal.main_v133, ReferenceIdeal.main_v191), (KernelIdeal.main_v135, ReferenceIdeal.main_v193)], (KernelIdeal.main_v136, ReferenceIdeal.main_v194)),
   ([], (KernelIdeal.main_cst_21, ReferenceIdeal.main_cst_20)),
   ([(KernelIdeal.main_cst_21, ReferenceIdeal.main_cst_20)], (KernelIdeal.main_v137, ReferenceIdeal.main_v195)),
   ([(KernelIdeal.main_v136, ReferenceIdeal.main_v194), (KernelIdeal.main_v137, ReferenceIdeal.main_v195)], (KernelIdeal.main_v138, ReferenceIdeal.main_v196)),
   ([(KernelIdeal.main_v131, ReferenceIdeal.main_v189)], (KernelIdeal.main_v139, ReferenceIdeal.main_v197)),
   ([(KernelIdeal.main_v139, ReferenceIdeal.main_v197)], (KernelIdeal.main_v140, ReferenceIdeal.main_v198)),
   ([(KernelIdeal.main_v131, ReferenceIdeal.main_v189)], (KernelIdeal.main_v141, ReferenceIdeal.main_v199)),
   ([(KernelIdeal.main_v141, ReferenceIdeal.main_v199)], (KernelIdeal.main_v142, ReferenceIdeal.main_v200)),
   ([(KernelIdeal.main_v140, ReferenceIdeal.main_v198), (KernelIdeal.main_v142, ReferenceIdeal.main_v200)], (KernelIdeal.main_v143, ReferenceIdeal.main_v201)),
   ([], (KernelIdeal.main_cst_22, ReferenceIdeal.main_cst_21)),
   ([(KernelIdeal.main_cst_22, ReferenceIdeal.main_cst_21)], (KernelIdeal.main_v144, ReferenceIdeal.main_v202)),
   ([(KernelIdeal.main_v143, ReferenceIdeal.main_v201), (KernelIdeal.main_v144, ReferenceIdeal.main_v202)], (KernelIdeal.main_v145, ReferenceIdeal.main_v203)),
   ([(KernelIdeal.main_arg1, ReferenceIdeal.main_arg1)], (KernelIdeal.main_v146, ReferenceIdeal.main_v204)),
   ([(KernelIdeal.main_v146, ReferenceIdeal.main_v204)], (KernelIdeal.main_v147, ReferenceIdeal.main_v205)),
   ([], (KernelIdeal.main_cst_23, ReferenceIdeal.main_cst_22)),
   ([(KernelIdeal.main_cst_23, ReferenceIdeal.main_cst_22), (KernelIdeal.main_v147, ReferenceIdeal.main_v205)], (KernelIdeal.main_v148, ReferenceIdeal.main_v206)),
   ([(KernelIdeal.main_v148, ReferenceIdeal.main_v206)], (KernelIdeal.main_v149, ReferenceIdeal.main_v207)),
   ([(KernelIdeal.main_v138, ReferenceIdeal.main_v196), (KernelIdeal.main_v149, ReferenceIdeal.main_v207)], (KernelIdeal.main_v150, ReferenceIdeal.main_v208)),
   ([(KernelIdeal.main_v148, ReferenceIdeal.main_v206)], (KernelIdeal.main_v151, ReferenceIdeal.main_v209)),
   ([(KernelIdeal.main_v145, ReferenceIdeal.main_v203), (KernelIdeal.main_v151, ReferenceIdeal.main_v209)], (KernelIdeal.main_v152, ReferenceIdeal.main_v210)),
   ([(KernelIdeal.main_v150, ReferenceIdeal.main_v208), (KernelIdeal.main_v152, ReferenceIdeal.main_v210)], (KernelIdeal.main_v153, ReferenceIdeal.main_v211)),
   ([(KernelIdeal.main_v29, ReferenceIdeal.main_v87)], (KernelIdeal.main_v154, ReferenceIdeal.main_v212)),
   ([(KernelIdeal.main_v154, ReferenceIdeal.main_v212)], (KernelIdeal.main_v155, ReferenceIdeal.main_v213)),
   ([], (KernelIdeal.main_cst_24, ReferenceIdeal.main_cst_23))]
theorem s8_ops : Ops (KernelIdeal.Gen.hostOps1_8 (F := F)) (ReferenceIdeal.Gen.hostOps0_12 (F := F)) s8_steps :=
  .cons (.unary rfl .rfl) <|
  .cons (.unary rfl .rfl) <|
  .cons (.unary rfl .rfl) <|
  .cons (.unary rfl .rfl) <|
  .cons (.nary4 fun _ _ h0 h1 h2 h3 => heq_of_eq (cat4 (eq_of_heq h0) (eq_of_heq h1) (eq_of_heq h2) (eq_of_heq h3))) <|
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.unary rfl .rfl) <|
  .cons (.reshape rfl rfl) <|
  .cons (.nullary .rfl) <|
  .cons (.binary rfl .rfl) <|
  .cons (.unary rfl .rfl) <|
  .cons (.binary rfl .rfl) <|
  .cons (.unary rfl .rfl) <|
  .cons (.binary rfl .rfl) <|
  .cons (.binary rfl .rfl) <|
  .cons (.unary rfl .rfl) <|
  .cons (.reshape rfl rfl) <|
  .cons (.nullary .rfl) <|
  .nil
theorem s8_run {V₁ : 𝕍K} {V₂ : 𝕍R} (h : Inv V₁ V₂ R7) :
    Inv (after (KernelIdeal.Gen.hostOps1_8 (F := F)) V₁) (after (ReferenceIdeal.Gen.hostOps0_12 (F := F)) V₂) R8 :=
  s8_ops.run (by decide +kernel) h

abbrev R9 : ℙ := [(KernelIdeal.main_v29, ReferenceIdeal.main_v87), (KernelIdeal.main_arg1, ReferenceIdeal.main_arg1), (KernelIdeal.main_v100, ReferenceIdeal.main_v158), (KernelIdeal.main_v131, ReferenceIdeal.main_v189), (KernelIdeal.main_v156, ReferenceIdeal.main_v214)]
abbrev s9_steps : List (Step KernelIdeal.sig ReferenceIdeal.sig) :=
  [([(KernelIdeal.main_cst_24, ReferenceIdeal.main_cst_23)], (KernelIdeal.main_call5_v0, ReferenceIdeal.main_call6_v0)),
   ([(KernelIdeal.main_call5_v0, ReferenceIdeal.main_call6_v0)], (KernelIdeal.main_call5_v1, ReferenceIdeal.main_call6_v1)),
   ([(KernelIdeal.main_v153, ReferenceIdeal.main_v211), (KernelIdeal.main_v155, ReferenceIdeal.main_v213), (KernelIdeal.main_call5_v1, ReferenceIdeal.main_call6_v1)], (KernelIdeal.main_v156, ReferenceIdeal.main_v214))]
theorem s9_ops : Ops (KernelIdeal.Gen.hostOps1_9 (F := F)) (ReferenceIdeal.Gen.hostOps0_13 (F := F)) s9_steps :=
  .cons (.unary rfl .rfl) <|
  .cons (.unary rfl .rfl) <|
  .cons (.ternary rfl .rfl) <|
  .nil
theorem s9_run {V₁ : 𝕍K} {V₂ : 𝕍R} (h : Inv V₁ V₂ R8) :
    Inv (after (KernelIdeal.Gen.hostOps1_9 (F := F)) V₁) (after (ReferenceIdeal.Gen.hostOps0_13 (F := F)) V₂) R9 :=
  s9_ops.run (by decide +kernel) h

abbrev R10 : ℙ := [(KernelIdeal.main_v29, ReferenceIdeal.main_v87), (KernelIdeal.main_arg1, ReferenceIdeal.main_arg1), (KernelIdeal.main_v100, ReferenceIdeal.main_v158), (KernelIdeal.main_v131, ReferenceIdeal.main_v189), (KernelIdeal.main_v157, ReferenceIdeal.main_v215)]
abbrev s10_steps : List (Step KernelIdeal.sig ReferenceIdeal.sig) :=
  [([(KernelIdeal.main_v156, ReferenceIdeal.main_v214)], (KernelIdeal.main_v157, ReferenceIdeal.main_v215))]
theorem s10_ops : Ops (KernelIdeal.Gen.hostOps1_10 (F := F)) (ReferenceIdeal.Gen.hostOps0_14 (F := F)) s10_steps :=
  .cons (.unary rfl .rfl) <|
  .nil
theorem s10_run {V₁ : 𝕍K} {V₂ : 𝕍R} (h : Inv V₁ V₂ R9) :
    Inv (after (KernelIdeal.Gen.hostOps1_10 (F := F)) V₁) (after (ReferenceIdeal.Gen.hostOps0_14 (F := F)) V₂) R10 :=
  s10_ops.run (by decide +kernel) h

abbrev R11 : ℙ := [(KernelIdeal.main_v29, ReferenceIdeal.main_v87), (KernelIdeal.main_arg1, ReferenceIdeal.main_arg1), (KernelIdeal.main_v100, ReferenceIdeal.main_v158), (KernelIdeal.main_v131, ReferenceIdeal.main_v189), (KernelIdeal.main_v158, ReferenceIdeal.main_v216)]
abbrev s11_steps : List (Step KernelIdeal.sig ReferenceIdeal.sig) :=
  [([], (KernelIdeal.main_call6_v0, ReferenceIdeal.main_call7_v0)),
   ([(KernelIdeal.main_v157, ReferenceIdeal.main_v215), (KernelIdeal.main_call6_v0, ReferenceIdeal.main_call7_v0)], (KernelIdeal.main_call6_v1_0, ReferenceIdeal.main_call7_v1_0)),
   ([(KernelIdeal.main_v157, ReferenceIdeal.main_v215), (KernelIdeal.main_call6_v0, ReferenceIdeal.main_call7_v0)], (KernelIdeal.main_v158, ReferenceIdeal.main_v216))]
theorem s11_ops : Ops (KernelIdeal.Gen.hostOps1_11 (F := F)) (ReferenceIdeal.Gen.hostOps0_15 (F := F)) s11_steps :=
  .cons (.nullary .rfl) <|
  .cons (.binary rfl .rfl) <|
  .cons (.binary rfl .rfl) <|
  .nil
theorem s11_run {V₁ : 𝕍K} {V₂ : 𝕍R} (h : Inv V₁ V₂ R10) :
    Inv (after (KernelIdeal.Gen.hostOps1_11 (F := F)) V₁) (after (ReferenceIdeal.Gen.hostOps0_15 (F := F)) V₂) R11 :=
  s11_ops.run (by decide +kernel) h

abbrev L0 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v182, ReferenceIdeal.main_v240), (KernelIdeal.main_v184_8, ReferenceIdeal.main_v242_8), (KernelIdeal.main_v184_6, ReferenceIdeal.main_v242_6), (KernelIdeal.main_v184_7, ReferenceIdeal.main_v242_7), (KernelIdeal.main_v184_5, ReferenceIdeal.main_v242_5), (KernelIdeal.main_v184_4, ReferenceIdeal.main_v242_4), (KernelIdeal.main_v184_3, ReferenceIdeal.main_v242_3), (KernelIdeal.main_v184_2, ReferenceIdeal.main_v242_2), (KernelIdeal.main_v184_1, ReferenceIdeal.main_v242_1), (KernelIdeal.main_v184_0, ReferenceIdeal.main_v242_0)]
abbrev s12_steps : List (Step KernelIdeal.sig ReferenceIdeal.sig) :=
  [([(KernelIdeal.main_v158, ReferenceIdeal.main_v216)], (KernelIdeal.main_v159, ReferenceIdeal.main_v217)),
   ([], (KernelIdeal.main_c_25, ReferenceIdeal.main_c_24)),
   ([(KernelIdeal.main_c_25, ReferenceIdeal.main_c_24)], (KernelIdeal.main_v160, ReferenceIdeal.main_v218)),
   ([(KernelIdeal.main_v159, ReferenceIdeal.main_v217), (KernelIdeal.main_v160, ReferenceIdeal.main_v218)], (KernelIdeal.main_v161, ReferenceIdeal.main_v219)),
   ([], (KernelIdeal.main_c_26, ReferenceIdeal.main_c_25)),
   ([(KernelIdeal.main_c_26, ReferenceIdeal.main_c_25)], (KernelIdeal.main_v162, ReferenceIdeal.main_v220)),
   ([(KernelIdeal.main_v159, ReferenceIdeal.main_v217), (KernelIdeal.main_v162, ReferenceIdeal.main_v220)], (KernelIdeal.main_v163, ReferenceIdeal.main_v221)),
   ([(KernelIdeal.main_v161, ReferenceIdeal.main_v219), (KernelIdeal.main_v163, ReferenceIdeal.main_v221), (KernelIdeal.main_v159, ReferenceIdeal.main_v217)], (KernelIdeal.main_v164, ReferenceIdeal.main_v222)),
   ([(KernelIdeal.main_v164, ReferenceIdeal.main_v222)], (KernelIdeal.main_v165, ReferenceIdeal.main_v223)),
   ([(KernelIdeal.main_v131, ReferenceIdeal.main_v189), (KernelIdeal.main_v165, ReferenceIdeal.main_v223)], (KernelIdeal.main_v166, ReferenceIdeal.main_v224)),
   ([(KernelIdeal.main_v166, ReferenceIdeal.main_v224)], (KernelIdeal.main_v167, ReferenceIdeal.main_v225)),
   ([(KernelIdeal.main_v167, ReferenceIdeal.main_v225)], (KernelIdeal.main_v168, ReferenceIdeal.main_v226)),
   ([(KernelIdeal.main_v166, ReferenceIdeal.main_v224)], (KernelIdeal.main_v169, ReferenceIdeal.main_v227)),
   ([(KernelIdeal.main_v169, ReferenceIdeal.main_v227)], (KernelIdeal.main_v170, ReferenceIdeal.main_v228)),
   ([(KernelIdeal.main_v166, ReferenceIdeal.main_v224)], (KernelIdeal.main_v171, ReferenceIdeal.main_v229)),
   ([(KernelIdeal.main_v171, ReferenceIdeal.main_v229)], (KernelIdeal.main_v172, ReferenceIdeal.main_v230)),
   ([(KernelIdeal.main_v166, ReferenceIdeal.main_v224)], (KernelIdeal.main_v173, ReferenceIdeal.main_v231)),
   ([(KernelIdeal.main_v173, ReferenceIdeal.main_v231)], (KernelIdeal.main_v174, ReferenceIdeal.main_v232)),
   ([(KernelIdeal.main_v172, ReferenceIdeal.main_v230), (KernelIdeal.main_v168, ReferenceIdeal.main_v226)], (KernelIdeal.main_v175, ReferenceIdeal.main_v233)),
   ([], (KernelIdeal.main_cst_27, ReferenceIdeal.main_cst_26)),
   ([(KernelIdeal.main_cst_27, ReferenceIdeal.main_cst_26)], (KernelIdeal.main_v176, ReferenceIdeal.main_v234)),
   ([(KernelIdeal.main_v175, ReferenceIdeal.main_v233), (KernelIdeal.main_v176, ReferenceIdeal.main_v234)], (KernelIdeal.main_v177, ReferenceIdeal.main_v235)),
   ([(KernelIdeal.main_v174, ReferenceIdeal.main_v232), (KernelIdeal.main_v170, ReferenceIdeal.main_v228)], (KernelIdeal.main_v178, ReferenceIdeal.main_v236)),
   ([], (KernelIdeal.main_cst_28, ReferenceIdeal.main_cst_27)),
   ([(KernelIdeal.main_cst_28, ReferenceIdeal.main_cst_27)], (KernelIdeal.main_v179, ReferenceIdeal.main_v237)),
   ([(KernelIdeal.main_v178, ReferenceIdeal.main_v236), (KernelIdeal.main_v179, ReferenceIdeal.main_v237)], (KernelIdeal.main_v180, ReferenceIdeal.main_v238)),
   ([(KernelIdeal.main_v177, ReferenceIdeal.main_v235), (KernelIdeal.main_v180, ReferenceIdeal.main_v238)], (KernelIdeal.main_v181, ReferenceIdeal.main_v239)),
   ([], (KernelIdeal.main_v182, ReferenceIdeal.main_v240)),
   ([], (KernelIdeal.main_c_29, ReferenceIdeal.main_c_28)),
   ([(KernelIdeal.main_c_29, ReferenceIdeal.main_c_28)], (KernelIdeal.main_v183, ReferenceIdeal.main_v241)),
   ([], (KernelIdeal.main_c_30, ReferenceIdeal.main_c_29)),
   ([], (KernelIdeal.main_c_31, ReferenceIdeal.main_c_30)),
   ([(KernelIdeal.main_v168, ReferenceIdeal.main_v226)], (KernelIdeal.main_v184_0, ReferenceIdeal.main_v242_0)),
   ([(KernelIdeal.main_v170, ReferenceIdeal.main_v228)], (KernelIdeal.main_v184_1, ReferenceIdeal.main_v242_1)),
   ([(KernelIdeal.main_v172, ReferenceIdeal.main_v230)], (KernelIdeal.main_v184_2, ReferenceIdeal.main_v242_2)),
   ([(KernelIdeal.main_v174, ReferenceIdeal.main_v232)], (KernelIdeal.main_v184_3, ReferenceIdeal.main_v242_3)),
   ([(KernelIdeal.main_v181, ReferenceIdeal.main_v239)], (KernelIdeal.main_v184_4, ReferenceIdeal.main_v242_4)),
   ([(KernelIdeal.main_v182, ReferenceIdeal.main_v240)], (KernelIdeal.main_v184_5, ReferenceIdeal.main_v242_5)),
   ([(KernelIdeal.main_c_31, ReferenceIdeal.main_c_30)], (KernelIdeal.main_v184_6, ReferenceIdeal.main_v242_6)),
   ([(KernelIdeal.main_c_30, ReferenceIdeal.main_c_29)], (KernelIdeal.main_v184_7, ReferenceIdeal.main_v242_7)),
   ([(KernelIdeal.main_v183, ReferenceIdeal.main_v241)], (KernelIdeal.main_v184_8, ReferenceIdeal.main_v242_8))]
theorem s12_ops : Ops (KernelIdeal.Gen.hostOps1_12 (F := F)) (ReferenceIdeal.Gen.hostOps0_16 (F := F)) s12_steps :=
  .cons (.unary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.ternary rfl .rfl) <|
  .cons (.unary rfl .rfl) <|
  .cons (.binary rfl .rfl) <|
  .cons (.unary rfl .rfl) <|
  .cons (.reshape rfl rfl) <|
  .cons (.unary rfl .rfl) <|
  .cons (.reshape rfl rfl) <|
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.nullary .rfl) <|
  .cons (.unary rfl .rfl) <|
  .cons (.nullary .rfl) <|
  .cons (.nullary .rfl) <|
  .cons (.unary rfl .rfl) <|
  .cons (.unary rfl .rfl) <|
  .cons (.unary rfl .rfl) <|
  .cons (.unary rfl .rfl) <|
  .cons (.unary rfl .rfl) <|
  .cons (.unary rfl .rfl) <|
  .cons (.unary rfl .rfl) <|
  .cons (.unary rfl .rfl) <|
  .cons (.unary rfl .rfl) <|
  .nil
theorem s12_run {V₁ : 𝕍K} {V₂ : 𝕍R} (h : Inv V₁ V₂ R11) :
    Inv (after (KernelIdeal.Gen.hostOps1_12 (F := F)) V₁) (after (ReferenceIdeal.Gen.hostOps0_16 (F := F)) V₂) L0 :=
  s12_ops.run (by decide +kernel) h

end Cert.Tail

end
-- ==== Proof.TailB.lean ====
module

public import proofs.«01_k».proof.Proof.IdealRun
public import proofs.«01_k».proof.Proof.RefRun
public import proofs.«01_k».proof.Proof.Sim

/-! The stretches between the loops, in step. -/

@[expose] public section

set_option maxRecDepth 16384

noncomputable section

namespace Cert.Tail

open Idealize.ShloMosaic Idealize.ShloMosaic.TcCoe
open Idealize.ShloMosaic.StableHlo
open Cert.Sim

variable {F : FTy → Type} [FloatOps F]

local notation "𝕍K" => Valuation KernelIdeal.τ KernelIdeal.sig (Elt F)
local notation "𝕍R" => Valuation ReferenceIdeal.τ ReferenceIdeal.sig (Elt F)
/-- Corresponding buffers. -/
local notation "ℙ" => List (Pair KernelIdeal.sig ReferenceIdeal.sig)

abbrev X0 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v182, ReferenceIdeal.main_v240), (KernelIdeal.main_v184_8, ReferenceIdeal.main_v242_8), (KernelIdeal.main_v184_6, ReferenceIdeal.main_v242_6), (KernelIdeal.main_v184_7, ReferenceIdeal.main_v242_7), (KernelIdeal.main_v184_5, ReferenceIdeal.main_v242_5), (KernelIdeal.main_v184_4, ReferenceIdeal.main_v242_4), (KernelIdeal.main_v184_3, ReferenceIdeal.main_v242_3), (KernelIdeal.main_v184_2, ReferenceIdeal.main_v242_2), (KernelIdeal.main_v184_1, ReferenceIdeal.main_v242_1), (KernelIdeal.main_v184_0, ReferenceIdeal.main_v242_0)]
abbrev R13 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v185, ReferenceIdeal.main_v243), (KernelIdeal.main_v182, ReferenceIdeal.main_v240), (KernelIdeal.main_c_32, ReferenceIdeal.main_c_31)]
abbrev s13_steps : List (Step KernelIdeal.sig ReferenceIdeal.sig) :=
  [([(KernelIdeal.main_v184_8, ReferenceIdeal.main_v242_8)], (KernelIdeal.main_v185, ReferenceIdeal.main_v243)),
   ([], (KernelIdeal.main_c_32, ReferenceIdeal.main_c_31))]
theorem s13_ops : Ops (KernelIdeal.Gen.hostOps1_13 (F := F)) (ReferenceIdeal.Gen.hostOps0_17 (F := F)) s13_steps :=
  .cons (.unary rfl .rfl) <|
  .cons (.nullary .rfl) <|
  .nil
theorem s13_run {V₁ : 𝕍K} {V₂ : 𝕍R} (h : Inv V₁ V₂ X0) :
    Inv (after (KernelIdeal.Gen.hostOps1_13 (F := F)) V₁) (after (ReferenceIdeal.Gen.hostOps0_17 (F := F)) V₂) R13 :=
  s13_ops.run (by decide +kernel) h

abbrev R14 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v186, ReferenceIdeal.main_v244)]
abbrev s14_steps : List (Step KernelIdeal.sig ReferenceIdeal.sig) :=
  [([(KernelIdeal.main_c_32, ReferenceIdeal.main_c_31)], (KernelIdeal.main_call8_v0, ReferenceIdeal.main_call9_v0)),
   ([(KernelIdeal.main_call8_v0, ReferenceIdeal.main_call9_v0)], (KernelIdeal.main_call8_v1, ReferenceIdeal.main_call9_v1)),
   ([(KernelIdeal.main_v185, ReferenceIdeal.main_v243), (KernelIdeal.main_v182, ReferenceIdeal.main_v240), (KernelIdeal.main_call8_v1, ReferenceIdeal.main_call9_v1)], (KernelIdeal.main_v186, ReferenceIdeal.main_v244))]
theorem s14_ops : Ops (KernelIdeal.Gen.hostOps1_14 (F := F)) (ReferenceIdeal.Gen.hostOps0_18 (F := F)) s14_steps :=
  .cons (.unary rfl .rfl) <|
  .cons (.unary rfl .rfl) <|
  .cons (.ternary rfl .rfl) <|
  .nil
theorem s14_run {V₁ : 𝕍K} {V₂ : 𝕍R} (h : Inv V₁ V₂ R13) :
    Inv (after (KernelIdeal.Gen.hostOps1_14 (F := F)) V₁) (after (ReferenceIdeal.Gen.hostOps0_18 (F := F)) V₂) R14 :=
  s14_ops.run (by decide +kernel) h

abbrev R15 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v187, ReferenceIdeal.main_v245)]
abbrev s15_steps : List (Step KernelIdeal.sig ReferenceIdeal.sig) :=
  [([(KernelIdeal.main_v186, ReferenceIdeal.main_v244)], (KernelIdeal.main_v187, ReferenceIdeal.main_v245))]
theorem s15_ops : Ops (KernelIdeal.Gen.hostOps1_15 (F := F)) (ReferenceIdeal.Gen.hostOps0_19 (F := F)) s15_steps :=
  .cons (.unary rfl .rfl) <|
  .nil
theorem s15_run {V₁ : 𝕍K} {V₂ : 𝕍R} (h : Inv V₁ V₂ R14) :
    Inv (after (KernelIdeal.Gen.hostOps1_15 (F := F)) V₁) (after (ReferenceIdeal.Gen.hostOps0_19 (F := F)) V₂) R15 :=
  s15_ops.run (by decide +kernel) h

abbrev R16 : ℙ := [(KernelIdeal.main_v205, ReferenceIdeal.main_v263), (KernelIdeal.main_v29, ReferenceIdeal.main_v87), (KernelIdeal.main_arg1, ReferenceIdeal.main_arg1), (KernelIdeal.main_v207, ReferenceIdeal.main_v265), (KernelIdeal.main_v212, ReferenceIdeal.main_v270), (KernelIdeal.main_v209, ReferenceIdeal.main_v267), (KernelIdeal.main_cst_39, ReferenceIdeal.main_cst_38)]
abbrev s16_steps : List (Step KernelIdeal.sig ReferenceIdeal.sig) :=
  [([(KernelIdeal.main_v187, ReferenceIdeal.main_v245)], (KernelIdeal.main_v188, ReferenceIdeal.main_v246)),
   ([], (KernelIdeal.main_c_33, ReferenceIdeal.main_c_32)),
   ([(KernelIdeal.main_c_33, ReferenceIdeal.main_c_32)], (KernelIdeal.main_v189, ReferenceIdeal.main_v247)),
   ([(KernelIdeal.main_v188, ReferenceIdeal.main_v246), (KernelIdeal.main_v189, ReferenceIdeal.main_v247)], (KernelIdeal.main_v190, ReferenceIdeal.main_v248)),
   ([(KernelIdeal.main_v190, ReferenceIdeal.main_v248)], (KernelIdeal.main_v191, ReferenceIdeal.main_v249)),
   ([], (KernelIdeal.main_c_34, ReferenceIdeal.main_c_33)),
   ([(KernelIdeal.main_c_34, ReferenceIdeal.main_c_33)], (KernelIdeal.main_v192, ReferenceIdeal.main_v250)),
   ([(KernelIdeal.main_v188, ReferenceIdeal.main_v246), (KernelIdeal.main_v192, ReferenceIdeal.main_v250)], (KernelIdeal.main_v193, ReferenceIdeal.main_v251)),
   ([], (KernelIdeal.main_c_35, ReferenceIdeal.main_c_34)),
   ([(KernelIdeal.main_c_35, ReferenceIdeal.main_c_34)], (KernelIdeal.main_v194, ReferenceIdeal.main_v252)),
   ([(KernelIdeal.main_v193, ReferenceIdeal.main_v251), (KernelIdeal.main_v194, ReferenceIdeal.main_v252)], (KernelIdeal.main_v195, ReferenceIdeal.main_v253)),
   ([], (KernelIdeal.main_c_36, ReferenceIdeal.main_c_35)),
   ([(KernelIdeal.main_c_36, ReferenceIdeal.main_c_35)], (KernelIdeal.main_v196, ReferenceIdeal.main_v254)),
   ([(KernelIdeal.main_v193, ReferenceIdeal.main_v251), (KernelIdeal.main_v196, ReferenceIdeal.main_v254)], (KernelIdeal.main_v197, ReferenceIdeal.main_v255)),
   ([(KernelIdeal.main_v195, ReferenceIdeal.main_v253), (KernelIdeal.main_v197, ReferenceIdeal.main_v255), (KernelIdeal.main_v193, ReferenceIdeal.main_v251)], (KernelIdeal.main_v198, ReferenceIdeal.main_v256)),
   ([(KernelIdeal.main_v198, ReferenceIdeal.main_v256)], (KernelIdeal.main_v199, ReferenceIdeal.main_v257)),
   ([(KernelIdeal.main_v166, ReferenceIdeal.main_v224), (KernelIdeal.main_v199, ReferenceIdeal.main_v257)], (KernelIdeal.main_v200, ReferenceIdeal.main_v258)),
   ([(KernelIdeal.main_v191, ReferenceIdeal.main_v249)], (KernelIdeal.main_v201, ReferenceIdeal.main_v259)),
   ([(KernelIdeal.main_v201, ReferenceIdeal.main_v259)], (KernelIdeal.main_v202, ReferenceIdeal.main_v260)),
   ([(KernelIdeal.main_v200, ReferenceIdeal.main_v258), (KernelIdeal.main_v202, ReferenceIdeal.main_v260)], (KernelIdeal.main_v203, ReferenceIdeal.main_v261)),
   ([], (KernelIdeal.main_cst_37, ReferenceIdeal.main_cst_36)),
   ([(KernelIdeal.main_cst_37, ReferenceIdeal.main_cst_36)], (KernelIdeal.main_v204, ReferenceIdeal.main_v262)),
   ([(KernelIdeal.main_v204, ReferenceIdeal.main_v262), (KernelIdeal.main_v203, ReferenceIdeal.main_v261)], (KernelIdeal.main_v205, ReferenceIdeal.main_v263)),
   ([(KernelIdeal.main_v100, ReferenceIdeal.main_v158)], (KernelIdeal.main_v206, ReferenceIdeal.main_v264)),
   ([(KernelIdeal.main_v206, ReferenceIdeal.main_v264)], (KernelIdeal.main_v207, ReferenceIdeal.main_v265)),
   ([(KernelIdeal.main_v207, ReferenceIdeal.main_v265)], (KernelIdeal.main_v208, ReferenceIdeal.main_v266)),
   ([(KernelIdeal.main_v208, ReferenceIdeal.main_v266)], (KernelIdeal.main_v209, ReferenceIdeal.main_v267)),
   ([(KernelIdeal.main_arg1, ReferenceIdeal.main_arg1)], (KernelIdeal.main_v210, ReferenceIdeal.main_v268)),
   ([(KernelIdeal.main_v210, ReferenceIdeal.main_v268)], (KernelIdeal.main_v211, ReferenceIdeal.main_v269)),
   ([], (KernelIdeal.main_cst_38, ReferenceIdeal.main_cst_37)),
   ([(KernelIdeal.main_v211, ReferenceIdeal.main_v269), (KernelIdeal.main_cst_38, ReferenceIdeal.main_cst_37)], (KernelIdeal.main_v212, ReferenceIdeal.main_v270)),
   ([], (KernelIdeal.main_cst_39, ReferenceIdeal.main_cst_38))]
theorem s16_ops : Ops (KernelIdeal.Gen.hostOps1_16 (F := F)) (ReferenceIdeal.Gen.hostOps0_20 (F := F)) s16_steps :=
  .cons (.unary rfl .rfl) <|
  .cons (.nullary .rfl) <|
  .cons (.unary rfl .rfl) <|
  .cons (.binary rfl .rfl) <|
  .cons (.unary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.ternary rfl .rfl) <|
  .cons (.unary rfl .rfl) <|
  .cons (.binary rfl .rfl) <|
  .cons (.unary rfl .rfl) <|
  .cons (.unary rfl .rfl) <|
  .cons (.binary rfl .rfl) <|
  .cons (.nullary .rfl) <|
  .cons (.unary rfl .rfl) <|
  .cons (.binary rfl .rfl) <|
  .cons (.unary rfl .rfl) <|
  .cons (.reshape rfl rfl) <|
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s16_run {V₁ : 𝕍K} {V₂ : 𝕍R} (h : Inv V₁ V₂ R15) :
    Inv (after (KernelIdeal.Gen.hostOps1_16 (F := F)) V₁) (after (ReferenceIdeal.Gen.hostOps0_20 (F := F)) V₂) R16 :=
  s16_ops.run (by decide +kernel) h

abbrev R17 : ℙ := [(KernelIdeal.main_v205, ReferenceIdeal.main_v263), (KernelIdeal.main_v29, ReferenceIdeal.main_v87), (KernelIdeal.main_arg1, ReferenceIdeal.main_arg1), (KernelIdeal.main_v213, ReferenceIdeal.main_v271), (KernelIdeal.main_v207, ReferenceIdeal.main_v265)]
abbrev s17_steps : List (Step KernelIdeal.sig ReferenceIdeal.sig) :=
  [([(KernelIdeal.main_cst_39, ReferenceIdeal.main_cst_38)], (KernelIdeal.main_call10_v0, ReferenceIdeal.main_call11_v0)),
   ([(KernelIdeal.main_call10_v0, ReferenceIdeal.main_call11_v0)], (KernelIdeal.main_call10_v1, ReferenceIdeal.main_call11_v1)),
   ([(KernelIdeal.main_call10_v1, ReferenceIdeal.main_call11_v1), (KernelIdeal.main_v209, ReferenceIdeal.main_v267)], (KernelIdeal.main_call10_v2, ReferenceIdeal.main_call11_v2)),
   ([(KernelIdeal.main_v212, ReferenceIdeal.main_v270)], (KernelIdeal.main_call10_v3, ReferenceIdeal.main_call11_v3)),
   ([(KernelIdeal.main_call10_v3, ReferenceIdeal.main_call11_v3), (KernelIdeal.main_call10_v2, ReferenceIdeal.main_call11_v2)], (KernelIdeal.main_v213, ReferenceIdeal.main_v271))]
theorem s17_ops : Ops (KernelIdeal.Gen.hostOps1_17 (F := F)) (ReferenceIdeal.Gen.hostOps0_21 (F := F)) s17_steps :=
  .cons (.unary rfl .rfl) <|
  .cons (.unary rfl .rfl) <|
  .cons (.binary rfl .rfl) <|
  .cons (.unary rfl .rfl) <|
  .cons (.binary rfl .rfl) <|
  .nil
theorem s17_run {V₁ : 𝕍K} {V₂ : 𝕍R} (h : Inv V₁ V₂ R16) :
    Inv (after (KernelIdeal.Gen.hostOps1_17 (F := F)) V₁) (after (ReferenceIdeal.Gen.hostOps0_21 (F := F)) V₂) R17 :=
  s17_ops.run (by decide +kernel) h

abbrev R18 : ℙ := [(KernelIdeal.main_v205, ReferenceIdeal.main_v263), (KernelIdeal.main_v29, ReferenceIdeal.main_v87), (KernelIdeal.main_arg1, ReferenceIdeal.main_arg1), (KernelIdeal.main_v213, ReferenceIdeal.main_v271), (KernelIdeal.main_v207, ReferenceIdeal.main_v265), (KernelIdeal.main_v218, ReferenceIdeal.main_v276), (KernelIdeal.main_v215, ReferenceIdeal.main_v273), (KernelIdeal.main_cst_41, ReferenceIdeal.main_cst_40)]
abbrev s18_steps : List (Step KernelIdeal.sig ReferenceIdeal.sig) :=
  [([(KernelIdeal.main_v207, ReferenceIdeal.main_v265)], (KernelIdeal.main_v214, ReferenceIdeal.main_v272)),
   ([(KernelIdeal.main_v214, ReferenceIdeal.main_v272)], (KernelIdeal.main_v215, ReferenceIdeal.main_v273)),
   ([(KernelIdeal.main_arg1, ReferenceIdeal.main_arg1)], (KernelIdeal.main_v216, ReferenceIdeal.main_v274)),
   ([(KernelIdeal.main_v216, ReferenceIdeal.main_v274)], (KernelIdeal.main_v217, ReferenceIdeal.main_v275)),
   ([], (KernelIdeal.main_cst_40, ReferenceIdeal.main_cst_39)),
   ([(KernelIdeal.main_v217, ReferenceIdeal.main_v275), (KernelIdeal.main_cst_40, ReferenceIdeal.main_cst_39)], (KernelIdeal.main_v218, ReferenceIdeal.main_v276)),
   ([], (KernelIdeal.main_cst_41, ReferenceIdeal.main_cst_40))]
theorem s18_ops : Ops (KernelIdeal.Gen.hostOps1_18 (F := F)) (ReferenceIdeal.Gen.hostOps0_22 (F := F)) s18_steps :=
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s18_run {V₁ : 𝕍K} {V₂ : 𝕍R} (h : Inv V₁ V₂ R17) :
    Inv (after (KernelIdeal.Gen.hostOps1_18 (F := F)) V₁) (after (ReferenceIdeal.Gen.hostOps0_22 (F := F)) V₂) R18 :=
  s18_ops.run (by decide +kernel) h

abbrev R19 : ℙ := [(KernelIdeal.main_v205, ReferenceIdeal.main_v263), (KernelIdeal.main_v29, ReferenceIdeal.main_v87), (KernelIdeal.main_arg1, ReferenceIdeal.main_arg1), (KernelIdeal.main_v219, ReferenceIdeal.main_v277), (KernelIdeal.main_v213, ReferenceIdeal.main_v271), (KernelIdeal.main_v207, ReferenceIdeal.main_v265)]
abbrev s19_steps : List (Step KernelIdeal.sig ReferenceIdeal.sig) :=
  [([(KernelIdeal.main_cst_41, ReferenceIdeal.main_cst_40)], (KernelIdeal.main_call11_v0, ReferenceIdeal.main_call12_v0)),
   ([(KernelIdeal.main_call11_v0, ReferenceIdeal.main_call12_v0)], (KernelIdeal.main_call11_v1, ReferenceIdeal.main_call12_v1)),
   ([(KernelIdeal.main_call11_v1, ReferenceIdeal.main_call12_v1), (KernelIdeal.main_v215, ReferenceIdeal.main_v273)], (KernelIdeal.main_call11_v2, ReferenceIdeal.main_call12_v2)),
   ([(KernelIdeal.main_v218, ReferenceIdeal.main_v276)], (KernelIdeal.main_call11_v3, ReferenceIdeal.main_call12_v3)),
   ([(KernelIdeal.main_call11_v3, ReferenceIdeal.main_call12_v3), (KernelIdeal.main_call11_v2, ReferenceIdeal.main_call12_v2)], (KernelIdeal.main_v219, ReferenceIdeal.main_v277))]
theorem s19_ops : Ops (KernelIdeal.Gen.hostOps1_19 (F := F)) (ReferenceIdeal.Gen.hostOps0_23 (F := F)) s19_steps :=
  .cons (.unary rfl .rfl) <|
  .cons (.unary rfl .rfl) <|
  .cons (.binary rfl .rfl) <|
  .cons (.unary rfl .rfl) <|
  .cons (.binary rfl .rfl) <|
  .nil
theorem s19_run {V₁ : 𝕍K} {V₂ : 𝕍R} (h : Inv V₁ V₂ R18) :
    Inv (after (KernelIdeal.Gen.hostOps1_19 (F := F)) V₁) (after (ReferenceIdeal.Gen.hostOps0_23 (F := F)) V₂) R19 :=
  s19_ops.run (by decide +kernel) h

abbrev R20 : ℙ := [(KernelIdeal.main_v205, ReferenceIdeal.main_v263), (KernelIdeal.main_v29, ReferenceIdeal.main_v87), (KernelIdeal.main_arg1, ReferenceIdeal.main_arg1), (KernelIdeal.main_v219, ReferenceIdeal.main_v277), (KernelIdeal.main_v213, ReferenceIdeal.main_v271), (KernelIdeal.main_v207, ReferenceIdeal.main_v265), (KernelIdeal.main_v224, ReferenceIdeal.main_v282), (KernelIdeal.main_v221, ReferenceIdeal.main_v279), (KernelIdeal.main_cst_43, ReferenceIdeal.main_cst_42)]
abbrev s20_steps : List (Step KernelIdeal.sig ReferenceIdeal.sig) :=
  [([(KernelIdeal.main_v207, ReferenceIdeal.main_v265)], (KernelIdeal.main_v220, ReferenceIdeal.main_v278)),
   ([(KernelIdeal.main_v220, ReferenceIdeal.main_v278)], (KernelIdeal.main_v221, ReferenceIdeal.main_v279)),
   ([(KernelIdeal.main_arg1, ReferenceIdeal.main_arg1)], (KernelIdeal.main_v222, ReferenceIdeal.main_v280)),
   ([(KernelIdeal.main_v222, ReferenceIdeal.main_v280)], (KernelIdeal.main_v223, ReferenceIdeal.main_v281)),
   ([], (KernelIdeal.main_cst_42, ReferenceIdeal.main_cst_41)),
   ([(KernelIdeal.main_v223, ReferenceIdeal.main_v281), (KernelIdeal.main_cst_42, ReferenceIdeal.main_cst_41)], (KernelIdeal.main_v224, ReferenceIdeal.main_v282)),
   ([], (KernelIdeal.main_cst_43, ReferenceIdeal.main_cst_42))]
theorem s20_ops : Ops (KernelIdeal.Gen.hostOps1_20 (F := F)) (ReferenceIdeal.Gen.hostOps0_24 (F := F)) s20_steps :=
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s20_run {V₁ : 𝕍K} {V₂ : 𝕍R} (h : Inv V₁ V₂ R19) :
    Inv (after (KernelIdeal.Gen.hostOps1_20 (F := F)) V₁) (after (ReferenceIdeal.Gen.hostOps0_24 (F := F)) V₂) R20 :=
  s20_ops.run (by decide +kernel) h

abbrev R21 : ℙ := [(KernelIdeal.main_v205, ReferenceIdeal.main_v263), (KernelIdeal.main_v29, ReferenceIdeal.main_v87), (KernelIdeal.main_arg1, ReferenceIdeal.main_arg1), (KernelIdeal.main_v225, ReferenceIdeal.main_v283), (KernelIdeal.main_v219, ReferenceIdeal.main_v277), (KernelIdeal.main_v213, ReferenceIdeal.main_v271), (KernelIdeal.main_v207, ReferenceIdeal.main_v265)]
abbrev s21_steps : List (Step KernelIdeal.sig ReferenceIdeal.sig) :=
  [([(KernelIdeal.main_cst_43, ReferenceIdeal.main_cst_42)], (KernelIdeal.main_call12_v0, ReferenceIdeal.main_call13_v0)),
   ([(KernelIdeal.main_call12_v0, ReferenceIdeal.main_call13_v0)], (KernelIdeal.main_call12_v1, ReferenceIdeal.main_call13_v1)),
   ([(KernelIdeal.main_call12_v1, ReferenceIdeal.main_call13_v1), (KernelIdeal.main_v221, ReferenceIdeal.main_v279)], (KernelIdeal.main_call12_v2, ReferenceIdeal.main_call13_v2)),
   ([(KernelIdeal.main_v224, ReferenceIdeal.main_v282)], (KernelIdeal.main_call12_v3, ReferenceIdeal.main_call13_v3)),
   ([(KernelIdeal.main_call12_v3, ReferenceIdeal.main_call13_v3), (KernelIdeal.main_call12_v2, ReferenceIdeal.main_call13_v2)], (KernelIdeal.main_v225, ReferenceIdeal.main_v283))]
theorem s21_ops : Ops (KernelIdeal.Gen.hostOps1_21 (F := F)) (ReferenceIdeal.Gen.hostOps0_25 (F := F)) s21_steps :=
  .cons (.unary rfl .rfl) <|
  .cons (.unary rfl .rfl) <|
  .cons (.binary rfl .rfl) <|
  .cons (.unary rfl .rfl) <|
  .cons (.binary rfl .rfl) <|
  .nil
theorem s21_run {V₁ : 𝕍K} {V₂ : 𝕍R} (h : Inv V₁ V₂ R20) :
    Inv (after (KernelIdeal.Gen.hostOps1_21 (F := F)) V₁) (after (ReferenceIdeal.Gen.hostOps0_25 (F := F)) V₂) R21 :=
  s21_ops.run (by decide +kernel) h

abbrev R22 : ℙ := [(KernelIdeal.main_v205, ReferenceIdeal.main_v263), (KernelIdeal.main_v29, ReferenceIdeal.main_v87), (KernelIdeal.main_arg1, ReferenceIdeal.main_arg1), (KernelIdeal.main_v225, ReferenceIdeal.main_v283), (KernelIdeal.main_v219, ReferenceIdeal.main_v277), (KernelIdeal.main_v213, ReferenceIdeal.main_v271), (KernelIdeal.main_v230, ReferenceIdeal.main_v288), (KernelIdeal.main_v227, ReferenceIdeal.main_v285), (KernelIdeal.main_cst_45, ReferenceIdeal.main_cst_44)]
abbrev s22_steps : List (Step KernelIdeal.sig ReferenceIdeal.sig) :=
  [([(KernelIdeal.main_v207, ReferenceIdeal.main_v265)], (KernelIdeal.main_v226, ReferenceIdeal.main_v284)),
   ([(KernelIdeal.main_v226, ReferenceIdeal.main_v284)], (KernelIdeal.main_v227, ReferenceIdeal.main_v285)),
   ([(KernelIdeal.main_arg1, ReferenceIdeal.main_arg1)], (KernelIdeal.main_v228, ReferenceIdeal.main_v286)),
   ([(KernelIdeal.main_v228, ReferenceIdeal.main_v286)], (KernelIdeal.main_v229, ReferenceIdeal.main_v287)),
   ([], (KernelIdeal.main_cst_44, ReferenceIdeal.main_cst_43)),
   ([(KernelIdeal.main_v229, ReferenceIdeal.main_v287), (KernelIdeal.main_cst_44, ReferenceIdeal.main_cst_43)], (KernelIdeal.main_v230, ReferenceIdeal.main_v288)),
   ([], (KernelIdeal.main_cst_45, ReferenceIdeal.main_cst_44))]
theorem s22_ops : Ops (KernelIdeal.Gen.hostOps1_22 (F := F)) (ReferenceIdeal.Gen.hostOps0_26 (F := F)) s22_steps :=
  .cons (.unary rfl .rfl) <|
  .cons (.reshape rfl rfl) <|
  .cons (.unary rfl .rfl) <|
  .cons (.reshape rfl rfl) <|
  .cons (.nullary .rfl) <|
  .cons (.binary rfl .rfl) <|
  .cons (.nullary .rfl) <|
  .nil
theorem s22_run {V₁ : 𝕍K} {V₂ : 𝕍R} (h : Inv V₁ V₂ R21) :
    Inv (after (KernelIdeal.Gen.hostOps1_22 (F := F)) V₁) (after (ReferenceIdeal.Gen.hostOps0_26 (F := F)) V₂) R22 :=
  s22_ops.run (by decide +kernel) h

abbrev R23 : ℙ := [(KernelIdeal.main_v205, ReferenceIdeal.main_v263), (KernelIdeal.main_v29, ReferenceIdeal.main_v87), (KernelIdeal.main_arg1, ReferenceIdeal.main_arg1), (KernelIdeal.main_v231, ReferenceIdeal.main_v289), (KernelIdeal.main_v225, ReferenceIdeal.main_v283), (KernelIdeal.main_v219, ReferenceIdeal.main_v277), (KernelIdeal.main_v213, ReferenceIdeal.main_v271)]
abbrev s23_steps : List (Step KernelIdeal.sig ReferenceIdeal.sig) :=
  [([(KernelIdeal.main_cst_45, ReferenceIdeal.main_cst_44)], (KernelIdeal.main_call13_v0, ReferenceIdeal.main_call14_v0)),
   ([(KernelIdeal.main_call13_v0, ReferenceIdeal.main_call14_v0)], (KernelIdeal.main_call13_v1, ReferenceIdeal.main_call14_v1)),
   ([(KernelIdeal.main_call13_v1, ReferenceIdeal.main_call14_v1), (KernelIdeal.main_v227, ReferenceIdeal.main_v285)], (KernelIdeal.main_call13_v2, ReferenceIdeal.main_call14_v2)),
   ([(KernelIdeal.main_v230, ReferenceIdeal.main_v288)], (KernelIdeal.main_call13_v3, ReferenceIdeal.main_call14_v3)),
   ([(KernelIdeal.main_call13_v3, ReferenceIdeal.main_call14_v3), (KernelIdeal.main_call13_v2, ReferenceIdeal.main_call14_v2)], (KernelIdeal.main_v231, ReferenceIdeal.main_v289))]
theorem s23_ops : Ops (KernelIdeal.Gen.hostOps1_23 (F := F)) (ReferenceIdeal.Gen.hostOps0_27 (F := F)) s23_steps :=
  .cons (.unary rfl .rfl) <|
  .cons (.unary rfl .rfl) <|
  .cons (.binary rfl .rfl) <|
  .cons (.unary rfl .rfl) <|
  .cons (.binary rfl .rfl) <|
  .nil
theorem s23_run {V₁ : 𝕍K} {V₂ : 𝕍R} (h : Inv V₁ V₂ R22) :
    Inv (after (KernelIdeal.Gen.hostOps1_23 (F := F)) V₁) (after (ReferenceIdeal.Gen.hostOps0_27 (F := F)) V₂) R23 :=
  s23_ops.run (by decide +kernel) h

abbrev R24 : ℙ := [(KernelIdeal.main_v205, ReferenceIdeal.main_v263), (KernelIdeal.main_v236, ReferenceIdeal.main_v294), (KernelIdeal.main_v258, ReferenceIdeal.main_v316), (KernelIdeal.main_v260, ReferenceIdeal.main_v318), (KernelIdeal.main_cst_49, ReferenceIdeal.main_cst_48)]
abbrev s24_steps : List (Step KernelIdeal.sig ReferenceIdeal.sig) :=
  [([(KernelIdeal.main_v213, ReferenceIdeal.main_v271)], (KernelIdeal.main_v232, ReferenceIdeal.main_v290)),
   ([(KernelIdeal.main_v219, ReferenceIdeal.main_v277)], (KernelIdeal.main_v233, ReferenceIdeal.main_v291)),
   ([(KernelIdeal.main_v225, ReferenceIdeal.main_v283)], (KernelIdeal.main_v234, ReferenceIdeal.main_v292)),
   ([(KernelIdeal.main_v231, ReferenceIdeal.main_v289)], (KernelIdeal.main_v235, ReferenceIdeal.main_v293)),
   ([(KernelIdeal.main_v232, ReferenceIdeal.main_v290), (KernelIdeal.main_v233, ReferenceIdeal.main_v291), (KernelIdeal.main_v234, ReferenceIdeal.main_v292), (KernelIdeal.main_v235, ReferenceIdeal.main_v293)], (KernelIdeal.main_v236, ReferenceIdeal.main_v294)),
   ([(KernelIdeal.main_v236, ReferenceIdeal.main_v294)], (KernelIdeal.main_v237, ReferenceIdeal.main_v295)),
   ([(KernelIdeal.main_v237, ReferenceIdeal.main_v295)], (KernelIdeal.main_v238, ReferenceIdeal.main_v296)),
   ([(KernelIdeal.main_v236, ReferenceIdeal.main_v294)], (KernelIdeal.main_v239, ReferenceIdeal.main_v297)),
   ([(KernelIdeal.main_v239, ReferenceIdeal.main_v297)], (KernelIdeal.main_v240, ReferenceIdeal.main_v298)),
   ([(KernelIdeal.main_v238, ReferenceIdeal.main_v296), (KernelIdeal.main_v240, ReferenceIdeal.main_v298)], (KernelIdeal.main_v241, ReferenceIdeal.main_v299)),
   ([], (KernelIdeal.main_cst_46, ReferenceIdeal.main_cst_45)),
   ([(KernelIdeal.main_cst_46, ReferenceIdeal.main_cst_45)], (KernelIdeal.main_v242, ReferenceIdeal.main_v300)),
   ([(KernelIdeal.main_v241, ReferenceIdeal.main_v299), (KernelIdeal.main_v242, ReferenceIdeal.main_v300)], (KernelIdeal.main_v243, ReferenceIdeal.main_v301)),
   ([(KernelIdeal.main_v236, ReferenceIdeal.main_v294)], (KernelIdeal.main_v244, ReferenceIdeal.main_v302)),
   ([(KernelIdeal.main_v244, ReferenceIdeal.main_v302)], (KernelIdeal.main_v245, ReferenceIdeal.main_v303)),
   ([(KernelIdeal.main_v236, ReferenceIdeal.main_v294)], (KernelIdeal.main_v246, ReferenceIdeal.main_v304)),
   ([(KernelIdeal.main_v246, ReferenceIdeal.main_v304)], (KernelIdeal.main_v247, ReferenceIdeal.main_v305)),
   ([(KernelIdeal.main_v245, ReferenceIdeal.main_v303), (KernelIdeal.main_v247, ReferenceIdeal.main_v305)], (KernelIdeal.main_v248, ReferenceIdeal.main_v306)),
   ([], (KernelIdeal.main_cst_47, ReferenceIdeal.main_cst_46)),
   ([(KernelIdeal.main_cst_47, ReferenceIdeal.main_cst_46)], (KernelIdeal.main_v249, ReferenceIdeal.main_v307)),
   ([(KernelIdeal.main_v248, ReferenceIdeal.main_v306), (KernelIdeal.main_v249, ReferenceIdeal.main_v307)], (KernelIdeal.main_v250, ReferenceIdeal.main_v308)),
   ([(KernelIdeal.main_arg1, ReferenceIdeal.main_arg1)], (KernelIdeal.main_v251, ReferenceIdeal.main_v309)),
   ([(KernelIdeal.main_v251, ReferenceIdeal.main_v309)], (KernelIdeal.main_v252, ReferenceIdeal.main_v310)),
   ([], (KernelIdeal.main_cst_48, ReferenceIdeal.main_cst_47)),
   ([(KernelIdeal.main_cst_48, ReferenceIdeal.main_cst_47), (KernelIdeal.main_v252, ReferenceIdeal.main_v310)], (KernelIdeal.main_v253, ReferenceIdeal.main_v311)),
   ([(KernelIdeal.main_v253, ReferenceIdeal.main_v311)], (KernelIdeal.main_v254, ReferenceIdeal.main_v312)),
   ([(KernelIdeal.main_v243, ReferenceIdeal.main_v301), (KernelIdeal.main_v254, ReferenceIdeal.main_v312)], (KernelIdeal.main_v255, ReferenceIdeal.main_v313)),
   ([(KernelIdeal.main_v253, ReferenceIdeal.main_v311)], (KernelIdeal.main_v256, ReferenceIdeal.main_v314)),
   ([(KernelIdeal.main_v250, ReferenceIdeal.main_v308), (KernelIdeal.main_v256, ReferenceIdeal.main_v314)], (KernelIdeal.main_v257, ReferenceIdeal.main_v315)),
   ([(KernelIdeal.main_v255, ReferenceIdeal.main_v313), (KernelIdeal.main_v257, ReferenceIdeal.main_v315)], (KernelIdeal.main_v258, ReferenceIdeal.main_v316)),
   ([(KernelIdeal.main_v29, ReferenceIdeal.main_v87)], (KernelIdeal.main_v259, ReferenceIdeal.main_v317)),
   ([(KernelIdeal.main_v259, ReferenceIdeal.main_v317)], (KernelIdeal.main_v260, ReferenceIdeal.main_v318)),
   ([], (KernelIdeal.main_cst_49, ReferenceIdeal.main_cst_48))]
theorem s24_ops : Ops (KernelIdeal.Gen.hostOps1_24 (F := F)) (ReferenceIdeal.Gen.hostOps0_28 (F := F)) s24_steps :=
  .cons (.unary rfl .rfl) <|
  .cons (.unary rfl .rfl) <|
  .cons (.unary rfl .rfl) <|
  .cons (.unary rfl .rfl) <|
  .cons (.nary4 fun _ _ h0 h1 h2 h3 => heq_of_eq (cat4 (eq_of_heq h0) (eq_of_heq h1) (eq_of_heq h2) (eq_of_heq h3))) <|
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.unary rfl .rfl) <|
  .cons (.reshape rfl rfl) <|
  .cons (.nullary .rfl) <|
  .cons (.binary rfl .rfl) <|
  .cons (.unary rfl .rfl) <|
  .cons (.binary rfl .rfl) <|
  .cons (.unary rfl .rfl) <|
  .cons (.binary rfl .rfl) <|
  .cons (.binary rfl .rfl) <|
  .cons (.unary rfl .rfl) <|
  .cons (.reshape rfl rfl) <|
  .cons (.nullary .rfl) <|
  .nil
theorem s24_run {V₁ : 𝕍K} {V₂ : 𝕍R} (h : Inv V₁ V₂ R23) :
    Inv (after (KernelIdeal.Gen.hostOps1_24 (F := F)) V₁) (after (ReferenceIdeal.Gen.hostOps0_28 (F := F)) V₂) R24 :=
  s24_ops.run (by decide +kernel) h

abbrev R25 : ℙ := [(KernelIdeal.main_v205, ReferenceIdeal.main_v263), (KernelIdeal.main_v236, ReferenceIdeal.main_v294), (KernelIdeal.main_v261, ReferenceIdeal.main_v319)]
abbrev s25_steps : List (Step KernelIdeal.sig ReferenceIdeal.sig) :=
  [([(KernelIdeal.main_cst_49, ReferenceIdeal.main_cst_48)], (KernelIdeal.main_call14_v0, ReferenceIdeal.main_call15_v0)),
   ([(KernelIdeal.main_call14_v0, ReferenceIdeal.main_call15_v0)], (KernelIdeal.main_call14_v1, ReferenceIdeal.main_call15_v1)),
   ([(KernelIdeal.main_v258, ReferenceIdeal.main_v316), (KernelIdeal.main_v260, ReferenceIdeal.main_v318), (KernelIdeal.main_call14_v1, ReferenceIdeal.main_call15_v1)], (KernelIdeal.main_v261, ReferenceIdeal.main_v319))]
theorem s25_ops : Ops (KernelIdeal.Gen.hostOps1_25 (F := F)) (ReferenceIdeal.Gen.hostOps0_29 (F := F)) s25_steps :=
  .cons (.unary rfl .rfl) <|
  .cons (.unary rfl .rfl) <|
  .cons (.ternary rfl .rfl) <|
  .nil
theorem s25_run {V₁ : 𝕍K} {V₂ : 𝕍R} (h : Inv V₁ V₂ R24) :
    Inv (after (KernelIdeal.Gen.hostOps1_25 (F := F)) V₁) (after (ReferenceIdeal.Gen.hostOps0_29 (F := F)) V₂) R25 :=
  s25_ops.run (by decide +kernel) h

abbrev R26 : ℙ := [(KernelIdeal.main_v205, ReferenceIdeal.main_v263), (KernelIdeal.main_v236, ReferenceIdeal.main_v294), (KernelIdeal.main_v262, ReferenceIdeal.main_v320)]
abbrev s26_steps : List (Step KernelIdeal.sig ReferenceIdeal.sig) :=
  [([(KernelIdeal.main_v261, ReferenceIdeal.main_v319)], (KernelIdeal.main_v262, ReferenceIdeal.main_v320))]
theorem s26_ops : Ops (KernelIdeal.Gen.hostOps1_26 (F := F)) (ReferenceIdeal.Gen.hostOps0_30 (F := F)) s26_steps :=
  .cons (.unary rfl .rfl) <|
  .nil
theorem s26_run {V₁ : 𝕍K} {V₂ : 𝕍R} (h : Inv V₁ V₂ R25) :
    Inv (after (KernelIdeal.Gen.hostOps1_26 (F := F)) V₁) (after (ReferenceIdeal.Gen.hostOps0_30 (F := F)) V₂) R26 :=
  s26_ops.run (by decide +kernel) h

abbrev R27 : ℙ := [(KernelIdeal.main_v205, ReferenceIdeal.main_v263), (KernelIdeal.main_v236, ReferenceIdeal.main_v294), (KernelIdeal.main_v263, ReferenceIdeal.main_v321)]
abbrev s27_steps : List (Step KernelIdeal.sig ReferenceIdeal.sig) :=
  [([], (KernelIdeal.main_call15_v0, ReferenceIdeal.main_call16_v0)),
   ([(KernelIdeal.main_v262, ReferenceIdeal.main_v320), (KernelIdeal.main_call15_v0, ReferenceIdeal.main_call16_v0)], (KernelIdeal.main_call15_v1_0, ReferenceIdeal.main_call16_v1_0)),
   ([(KernelIdeal.main_v262, ReferenceIdeal.main_v320), (KernelIdeal.main_call15_v0, ReferenceIdeal.main_call16_v0)], (KernelIdeal.main_v263, ReferenceIdeal.main_v321))]
theorem s27_ops : Ops (KernelIdeal.Gen.hostOps1_27 (F := F)) (ReferenceIdeal.Gen.hostOps0_31 (F := F)) s27_steps :=
  .cons (.nullary .rfl) <|
  .cons (.binary rfl .rfl) <|
  .cons (.binary rfl .rfl) <|
  .nil
theorem s27_run {V₁ : 𝕍K} {V₂ : 𝕍R} (h : Inv V₁ V₂ R26) :
    Inv (after (KernelIdeal.Gen.hostOps1_27 (F := F)) V₁) (after (ReferenceIdeal.Gen.hostOps0_31 (F := F)) V₂) R27 :=
  s27_ops.run (by decide +kernel) h

abbrev L1 : ℙ := [(KernelIdeal.main_v205, ReferenceIdeal.main_v263), (KernelIdeal.main_v271, ReferenceIdeal.main_v329), (KernelIdeal.main_v287, ReferenceIdeal.main_v345), (KernelIdeal.main_v289_8, ReferenceIdeal.main_v347_8), (KernelIdeal.main_v289_6, ReferenceIdeal.main_v347_6), (KernelIdeal.main_v289_7, ReferenceIdeal.main_v347_7), (KernelIdeal.main_v289_5, ReferenceIdeal.main_v347_5), (KernelIdeal.main_v289_4, ReferenceIdeal.main_v347_4), (KernelIdeal.main_v289_3, ReferenceIdeal.main_v347_3), (KernelIdeal.main_v289_2, ReferenceIdeal.main_v347_2), (KernelIdeal.main_v289_1, ReferenceIdeal.main_v347_1), (KernelIdeal.main_v289_0, ReferenceIdeal.main_v347_0)]
abbrev s28_steps : List (Step KernelIdeal.sig ReferenceIdeal.sig) :=
  [([(KernelIdeal.main_v263, ReferenceIdeal.main_v321)], (KernelIdeal.main_v264, ReferenceIdeal.main_v322)),
   ([], (KernelIdeal.main_c_50, ReferenceIdeal.main_c_49)),
   ([(KernelIdeal.main_c_50, ReferenceIdeal.main_c_49)], (KernelIdeal.main_v265, ReferenceIdeal.main_v323)),
   ([(KernelIdeal.main_v264, ReferenceIdeal.main_v322), (KernelIdeal.main_v265, ReferenceIdeal.main_v323)], (KernelIdeal.main_v266, ReferenceIdeal.main_v324)),
   ([], (KernelIdeal.main_c_51, ReferenceIdeal.main_c_50)),
   ([(KernelIdeal.main_c_51, ReferenceIdeal.main_c_50)], (KernelIdeal.main_v267, ReferenceIdeal.main_v325)),
   ([(KernelIdeal.main_v264, ReferenceIdeal.main_v322), (KernelIdeal.main_v267, ReferenceIdeal.main_v325)], (KernelIdeal.main_v268, ReferenceIdeal.main_v326)),
   ([(KernelIdeal.main_v266, ReferenceIdeal.main_v324), (KernelIdeal.main_v268, ReferenceIdeal.main_v326), (KernelIdeal.main_v264, ReferenceIdeal.main_v322)], (KernelIdeal.main_v269, ReferenceIdeal.main_v327)),
   ([(KernelIdeal.main_v269, ReferenceIdeal.main_v327)], (KernelIdeal.main_v270, ReferenceIdeal.main_v328)),
   ([(KernelIdeal.main_v236, ReferenceIdeal.main_v294), (KernelIdeal.main_v270, ReferenceIdeal.main_v328)], (KernelIdeal.main_v271, ReferenceIdeal.main_v329)),
   ([(KernelIdeal.main_v271, ReferenceIdeal.main_v329)], (KernelIdeal.main_v272, ReferenceIdeal.main_v330)),
   ([(KernelIdeal.main_v272, ReferenceIdeal.main_v330)], (KernelIdeal.main_v273, ReferenceIdeal.main_v331)),
   ([(KernelIdeal.main_v271, ReferenceIdeal.main_v329)], (KernelIdeal.main_v274, ReferenceIdeal.main_v332)),
   ([(KernelIdeal.main_v274, ReferenceIdeal.main_v332)], (KernelIdeal.main_v275, ReferenceIdeal.main_v333)),
   ([(KernelIdeal.main_v271, ReferenceIdeal.main_v329)], (KernelIdeal.main_v276, ReferenceIdeal.main_v334)),
   ([(KernelIdeal.main_v276, ReferenceIdeal.main_v334)], (KernelIdeal.main_v277, ReferenceIdeal.main_v335)),
   ([(KernelIdeal.main_v271, ReferenceIdeal.main_v329)], (KernelIdeal.main_v278, ReferenceIdeal.main_v336)),
   ([(KernelIdeal.main_v278, ReferenceIdeal.main_v336)], (KernelIdeal.main_v279, ReferenceIdeal.main_v337)),
   ([(KernelIdeal.main_v277, ReferenceIdeal.main_v335), (KernelIdeal.main_v273, ReferenceIdeal.main_v331)], (KernelIdeal.main_v280, ReferenceIdeal.main_v338)),
   ([], (KernelIdeal.main_cst_52, ReferenceIdeal.main_cst_51)),
   ([(KernelIdeal.main_cst_52, ReferenceIdeal.main_cst_51)], (KernelIdeal.main_v281, ReferenceIdeal.main_v339)),
   ([(KernelIdeal.main_v280, ReferenceIdeal.main_v338), (KernelIdeal.main_v281, ReferenceIdeal.main_v339)], (KernelIdeal.main_v282, ReferenceIdeal.main_v340)),
   ([(KernelIdeal.main_v279, ReferenceIdeal.main_v337), (KernelIdeal.main_v275, ReferenceIdeal.main_v333)], (KernelIdeal.main_v283, ReferenceIdeal.main_v341)),
   ([], (KernelIdeal.main_cst_53, ReferenceIdeal.main_cst_52)),
   ([(KernelIdeal.main_cst_53, ReferenceIdeal.main_cst_52)], (KernelIdeal.main_v284, ReferenceIdeal.main_v342)),
   ([(KernelIdeal.main_v283, ReferenceIdeal.main_v341), (KernelIdeal.main_v284, ReferenceIdeal.main_v342)], (KernelIdeal.main_v285, ReferenceIdeal.main_v343)),
   ([(KernelIdeal.main_v282, ReferenceIdeal.main_v340), (KernelIdeal.main_v285, ReferenceIdeal.main_v343)], (KernelIdeal.main_v286, ReferenceIdeal.main_v344)),
   ([], (KernelIdeal.main_v287, ReferenceIdeal.main_v345)),
   ([], (KernelIdeal.main_c_54, ReferenceIdeal.main_c_53)),
   ([(KernelIdeal.main_c_54, ReferenceIdeal.main_c_53)], (KernelIdeal.main_v288, ReferenceIdeal.main_v346)),
   ([], (KernelIdeal.main_c_55, ReferenceIdeal.main_c_54)),
   ([], (KernelIdeal.main_c_56, ReferenceIdeal.main_c_55)),
   ([(KernelIdeal.main_v273, ReferenceIdeal.main_v331)], (KernelIdeal.main_v289_0, ReferenceIdeal.main_v347_0)),
   ([(KernelIdeal.main_v275, ReferenceIdeal.main_v333)], (KernelIdeal.main_v289_1, ReferenceIdeal.main_v347_1)),
   ([(KernelIdeal.main_v277, ReferenceIdeal.main_v335)], (KernelIdeal.main_v289_2, ReferenceIdeal.main_v347_2)),
   ([(KernelIdeal.main_v279, ReferenceIdeal.main_v337)], (KernelIdeal.main_v289_3, ReferenceIdeal.main_v347_3)),
   ([(KernelIdeal.main_v286, ReferenceIdeal.main_v344)], (KernelIdeal.main_v289_4, ReferenceIdeal.main_v347_4)),
   ([(KernelIdeal.main_v287, ReferenceIdeal.main_v345)], (KernelIdeal.main_v289_5, ReferenceIdeal.main_v347_5)),
   ([(KernelIdeal.main_c_56, ReferenceIdeal.main_c_55)], (KernelIdeal.main_v289_6, ReferenceIdeal.main_v347_6)),
   ([(KernelIdeal.main_c_55, ReferenceIdeal.main_c_54)], (KernelIdeal.main_v289_7, ReferenceIdeal.main_v347_7)),
   ([(KernelIdeal.main_v288, ReferenceIdeal.main_v346)], (KernelIdeal.main_v289_8, ReferenceIdeal.main_v347_8))]
theorem s28_ops : Ops (KernelIdeal.Gen.hostOps1_28 (F := F)) (ReferenceIdeal.Gen.hostOps0_32 (F := F)) s28_steps :=
  .cons (.unary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.ternary rfl .rfl) <|
  .cons (.unary rfl .rfl) <|
  .cons (.binary rfl .rfl) <|
  .cons (.unary rfl .rfl) <|
  .cons (.reshape rfl rfl) <|
  .cons (.unary rfl .rfl) <|
  .cons (.reshape rfl rfl) <|
  .cons (.unary rfl .rfl) <|
  .cons (.reshape rfl rfl) <|
  .cons (.unary rfl .rfl) <|
  .cons (.reshape rfl rfl) <|
  .cons (.binary rfl .rfl) <|
  .cons (.nullary .rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.nullary .rfl) <|
  .cons (.unary rfl .rfl) <|
  .cons (.nullary .rfl) <|
  .cons (.nullary .rfl) <|
  .cons (.unary rfl .rfl) <|
  .cons (.unary rfl .rfl) <|
  .cons (.unary rfl .rfl) <|
  .cons (.unary rfl .rfl) <|
  .cons (.unary rfl .rfl) <|
  .cons (.unary rfl .rfl) <|
  .cons (.unary rfl .rfl) <|
  .cons (.unary rfl .rfl) <|
  .cons (.unary rfl .rfl) <|
  .nil
theorem s28_run {V₁ : 𝕍K} {V₂ : 𝕍R} (h : Inv V₁ V₂ R27) :
    Inv (after (KernelIdeal.Gen.hostOps1_28 (F := F)) V₁) (after (ReferenceIdeal.Gen.hostOps0_32 (F := F)) V₂) L1 :=
  s28_ops.run (by decide +kernel) h

end Cert.Tail

end
-- ==== Proof.TailC.lean ====
module

public import proofs.«01_k».proof.Proof.IdealRun
public import proofs.«01_k».proof.Proof.RefRun
public import proofs.«01_k».proof.Proof.Sim

/-! The stretches after the second loop, in step. -/

@[expose] public section

set_option maxRecDepth 16384

noncomputable section

namespace Cert.Tail

open Idealize.ShloMosaic Idealize.ShloMosaic.TcCoe
open Idealize.ShloMosaic.StableHlo
open Cert.Sim

variable {F : FTy → Type} [FloatOps F]

local notation "𝕍K" => Valuation KernelIdeal.τ KernelIdeal.sig (Elt F)
local notation "𝕍R" => Valuation ReferenceIdeal.τ ReferenceIdeal.sig (Elt F)
/-- Corresponding buffers. -/
local notation "ℙ" => List (Pair KernelIdeal.sig ReferenceIdeal.sig)

abbrev X1 : ℙ := [(KernelIdeal.main_v205, ReferenceIdeal.main_v263), (KernelIdeal.main_v271, ReferenceIdeal.main_v329), (KernelIdeal.main_v287, ReferenceIdeal.main_v345), (KernelIdeal.main_v289_8, ReferenceIdeal.main_v347_8), (KernelIdeal.main_v289_6, ReferenceIdeal.main_v347_6), (KernelIdeal.main_v289_7, ReferenceIdeal.main_v347_7), (KernelIdeal.main_v289_5, ReferenceIdeal.main_v347_5), (KernelIdeal.main_v289_4, ReferenceIdeal.main_v347_4), (KernelIdeal.main_v289_3, ReferenceIdeal.main_v347_3), (KernelIdeal.main_v289_2, ReferenceIdeal.main_v347_2), (KernelIdeal.main_v289_1, ReferenceIdeal.main_v347_1), (KernelIdeal.main_v289_0, ReferenceIdeal.main_v347_0)]
abbrev R29 : ℙ := [(KernelIdeal.main_v205, ReferenceIdeal.main_v263), (KernelIdeal.main_v271, ReferenceIdeal.main_v329), (KernelIdeal.main_v290, ReferenceIdeal.main_v348), (KernelIdeal.main_v287, ReferenceIdeal.main_v345), (KernelIdeal.main_c_57, ReferenceIdeal.main_c_56)]
abbrev s29_steps : List (Step KernelIdeal.sig ReferenceIdeal.sig) :=
  [([(KernelIdeal.main_v289_8, ReferenceIdeal.main_v347_8)], (KernelIdeal.main_v290, ReferenceIdeal.main_v348)),
   ([], (KernelIdeal.main_c_57, ReferenceIdeal.main_c_56))]
theorem s29_ops : Ops (KernelIdeal.Gen.hostOps1_29 (F := F)) (ReferenceIdeal.Gen.hostOps0_33 (F := F)) s29_steps :=
  .cons (.unary rfl .rfl) <|
  .cons (.nullary .rfl) <|
  .nil
theorem s29_run {V₁ : 𝕍K} {V₂ : 𝕍R} (h : Inv V₁ V₂ X1) :
    Inv (after (KernelIdeal.Gen.hostOps1_29 (F := F)) V₁) (after (ReferenceIdeal.Gen.hostOps0_33 (F := F)) V₂) R29 :=
  s29_ops.run (by decide +kernel) h

abbrev R30 : ℙ := [(KernelIdeal.main_v205, ReferenceIdeal.main_v263), (KernelIdeal.main_v271, ReferenceIdeal.main_v329), (KernelIdeal.main_v291, ReferenceIdeal.main_v349)]
abbrev s30_steps : List (Step KernelIdeal.sig ReferenceIdeal.sig) :=
  [([(KernelIdeal.main_c_57, ReferenceIdeal.main_c_56)], (KernelIdeal.main_call17_v0, ReferenceIdeal.main_call18_v0)),
   ([(KernelIdeal.main_call17_v0, ReferenceIdeal.main_call18_v0)], (KernelIdeal.main_call17_v1, ReferenceIdeal.main_call18_v1)),
   ([(KernelIdeal.main_v290, ReferenceIdeal.main_v348), (KernelIdeal.main_v287, ReferenceIdeal.main_v345), (KernelIdeal.main_call17_v1, ReferenceIdeal.main_call18_v1)], (KernelIdeal.main_v291, ReferenceIdeal.main_v349))]
theorem s30_ops : Ops (KernelIdeal.Gen.hostOps1_30 (F := F)) (ReferenceIdeal.Gen.hostOps0_34 (F := F)) s30_steps :=
  .cons (.unary rfl .rfl) <|
  .cons (.unary rfl .rfl) <|
  .cons (.ternary rfl .rfl) <|
  .nil
theorem s30_run {V₁ : 𝕍K} {V₂ : 𝕍R} (h : Inv V₁ V₂ R29) :
    Inv (after (KernelIdeal.Gen.hostOps1_30 (F := F)) V₁) (after (ReferenceIdeal.Gen.hostOps0_34 (F := F)) V₂) R30 :=
  s30_ops.run (by decide +kernel) h

abbrev R31 : ℙ := [(KernelIdeal.main_v205, ReferenceIdeal.main_v263), (KernelIdeal.main_v271, ReferenceIdeal.main_v329), (KernelIdeal.main_v292, ReferenceIdeal.main_v350)]
abbrev s31_steps : List (Step KernelIdeal.sig ReferenceIdeal.sig) :=
  [([(KernelIdeal.main_v291, ReferenceIdeal.main_v349)], (KernelIdeal.main_v292, ReferenceIdeal.main_v350))]
theorem s31_ops : Ops (KernelIdeal.Gen.hostOps1_31 (F := F)) (ReferenceIdeal.Gen.hostOps0_35 (F := F)) s31_steps :=
  .cons (.unary rfl .rfl) <|
  .nil
theorem s31_run {V₁ : 𝕍K} {V₂ : 𝕍R} (h : Inv V₁ V₂ R30) :
    Inv (after (KernelIdeal.Gen.hostOps1_31 (F := F)) V₁) (after (ReferenceIdeal.Gen.hostOps0_35 (F := F)) V₂) R31 :=
  s31_ops.run (by decide +kernel) h

abbrev Rout : ℙ := [(KernelIdeal.main_v313, ReferenceIdeal.main_v371)]
abbrev s32_steps : List (Step KernelIdeal.sig ReferenceIdeal.sig) :=
  [([(KernelIdeal.main_v292, ReferenceIdeal.main_v350)], (KernelIdeal.main_v293, ReferenceIdeal.main_v351)),
   ([], (KernelIdeal.main_c_58, ReferenceIdeal.main_c_57)),
   ([(KernelIdeal.main_c_58, ReferenceIdeal.main_c_57)], (KernelIdeal.main_v294, ReferenceIdeal.main_v352)),
   ([(KernelIdeal.main_v293, ReferenceIdeal.main_v351), (KernelIdeal.main_v294, ReferenceIdeal.main_v352)], (KernelIdeal.main_v295, ReferenceIdeal.main_v353)),
   ([(KernelIdeal.main_v295, ReferenceIdeal.main_v353)], (KernelIdeal.main_v296, ReferenceIdeal.main_v354)),
   ([], (KernelIdeal.main_c_59, ReferenceIdeal.main_c_58)),
   ([(KernelIdeal.main_c_59, ReferenceIdeal.main_c_58)], (KernelIdeal.main_v297, ReferenceIdeal.main_v355)),
   ([(KernelIdeal.main_v293, ReferenceIdeal.main_v351), (KernelIdeal.main_v297, ReferenceIdeal.main_v355)], (KernelIdeal.main_v298, ReferenceIdeal.main_v356)),
   ([], (KernelIdeal.main_c_60, ReferenceIdeal.main_c_59)),
   ([(KernelIdeal.main_c_60, ReferenceIdeal.main_c_59)], (KernelIdeal.main_v299, ReferenceIdeal.main_v357)),
   ([(KernelIdeal.main_v298, ReferenceIdeal.main_v356), (KernelIdeal.main_v299, ReferenceIdeal.main_v357)], (KernelIdeal.main_v300, ReferenceIdeal.main_v358)),
   ([], (KernelIdeal.main_c_61, ReferenceIdeal.main_c_60)),
   ([(KernelIdeal.main_c_61, ReferenceIdeal.main_c_60)], (KernelIdeal.main_v301, ReferenceIdeal.main_v359)),
   ([(KernelIdeal.main_v298, ReferenceIdeal.main_v356), (KernelIdeal.main_v301, ReferenceIdeal.main_v359)], (KernelIdeal.main_v302, ReferenceIdeal.main_v360)),
   ([(KernelIdeal.main_v300, ReferenceIdeal.main_v358), (KernelIdeal.main_v302, ReferenceIdeal.main_v360), (KernelIdeal.main_v298, ReferenceIdeal.main_v356)], (KernelIdeal.main_v303, ReferenceIdeal.main_v361)),
   ([(KernelIdeal.main_v303, ReferenceIdeal.main_v361)], (KernelIdeal.main_v304, ReferenceIdeal.main_v362)),
   ([(KernelIdeal.main_v271, ReferenceIdeal.main_v329), (KernelIdeal.main_v304, ReferenceIdeal.main_v362)], (KernelIdeal.main_v305, ReferenceIdeal.main_v363)),
   ([(KernelIdeal.main_v296, ReferenceIdeal.main_v354)], (KernelIdeal.main_v306, ReferenceIdeal.main_v364)),
   ([(KernelIdeal.main_v306, ReferenceIdeal.main_v364)], (KernelIdeal.main_v307, ReferenceIdeal.main_v365)),
   ([(KernelIdeal.main_v305, ReferenceIdeal.main_v363), (KernelIdeal.main_v307, ReferenceIdeal.main_v365)], (KernelIdeal.main_v308, ReferenceIdeal.main_v366)),
   ([], (KernelIdeal.main_cst_62, ReferenceIdeal.main_cst_61)),
   ([(KernelIdeal.main_cst_62, ReferenceIdeal.main_cst_61)], (KernelIdeal.main_v309, ReferenceIdeal.main_v367)),
   ([(KernelIdeal.main_v309, ReferenceIdeal.main_v367), (KernelIdeal.main_v308, ReferenceIdeal.main_v366)], (KernelIdeal.main_v310, ReferenceIdeal.main_v368)),
   ([(KernelIdeal.main_v205, ReferenceIdeal.main_v263)], (KernelIdeal.main_v311, ReferenceIdeal.main_v369)),
   ([(KernelIdeal.main_v310, ReferenceIdeal.main_v368)], (KernelIdeal.main_v312, ReferenceIdeal.main_v370)),
   ([(KernelIdeal.main_v311, ReferenceIdeal.main_v369), (KernelIdeal.main_v312, ReferenceIdeal.main_v370)], (KernelIdeal.main_v313, ReferenceIdeal.main_v371))]
theorem s32_ops : Ops (KernelIdeal.Gen.hostOps1_32 (F := F)) (ReferenceIdeal.Gen.hostOps0_36 (F := F)) s32_steps :=
  .cons (.unary rfl .rfl) <|
  .cons (.nullary .rfl) <|
  .cons (.unary rfl .rfl) <|
  .cons (.binary rfl .rfl) <|
  .cons (.unary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.ternary rfl .rfl) <|
  .cons (.unary rfl .rfl) <|
  .cons (.binary rfl .rfl) <|
  .cons (.unary rfl .rfl) <|
  .cons (.unary rfl .rfl) <|
  .cons (.binary rfl .rfl) <|
  .cons (.nullary .rfl) <|
  .cons (.unary rfl .rfl) <|
  .cons (.binary rfl .rfl) <|
  .cons (.unary rfl .rfl) <|
  .cons (.unary rfl .rfl) <|
  .cons (.binary rfl .rfl) <|
  .nil
theorem s32_run {V₁ : 𝕍K} {V₂ : 𝕍R} (h : Inv V₁ V₂ R31) :
    Inv (after (KernelIdeal.Gen.hostOps1_32 (F := F)) V₁) (after (ReferenceIdeal.Gen.hostOps0_36 (F := F)) V₂) Rout :=
  s32_ops.run (by decide +kernel) h

end Cert.Tail

end
-- ==== Proof.TailLoopA.lean ====
module

public import proofs.«01_k».proof.Proof.IdealRun
public import proofs.«01_k».proof.Proof.RefRun
public import proofs.«01_k».proof.Proof.Sim

/-! Loop 0, trip by trip in step. -/

@[expose] public section

set_option maxRecDepth 16384

noncomputable section

namespace Cert.Tail

open Idealize.ShloMosaic Idealize.ShloMosaic.TcCoe
open Idealize.ShloMosaic.StableHlo
open Cert.Sim

variable {F : FTy → Type} [FloatOps F]

local notation "𝕍K" => Valuation KernelIdeal.τ KernelIdeal.sig (Elt F)
local notation "𝕍R" => Valuation ReferenceIdeal.τ ReferenceIdeal.sig (Elt F)
/-- Corresponding buffers. -/
local notation "ℙ" => List (Pair KernelIdeal.sig ReferenceIdeal.sig)

abbrev M0 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v182, ReferenceIdeal.main_v240), (KernelIdeal.main_v184_8, ReferenceIdeal.main_v242_8), (KernelIdeal.main_v184_6, ReferenceIdeal.main_v242_6), (KernelIdeal.main_v184_7, ReferenceIdeal.main_v242_7), (KernelIdeal.main_v184_5, ReferenceIdeal.main_v242_5), (KernelIdeal.main_v184_4, ReferenceIdeal.main_v242_4), (KernelIdeal.main_v184_3, ReferenceIdeal.main_v242_3), (KernelIdeal.main_v184_2, ReferenceIdeal.main_v242_2), (KernelIdeal.main_v184_1, ReferenceIdeal.main_v242_1), (KernelIdeal.main_v184_0, ReferenceIdeal.main_v242_0)]
abbrev c0_steps : List (Step KernelIdeal.sig ReferenceIdeal.sig) :=
  [([], (KernelIdeal.main_while0c_c_71, ReferenceIdeal.main_while0c_c_70)),
   ([(KernelIdeal.main_v184_6, ReferenceIdeal.main_v242_6), (KernelIdeal.main_while0c_c_71, ReferenceIdeal.main_while0c_c_70)], (KernelIdeal.main_while0c_v314, ReferenceIdeal.main_while0c_v372))]
theorem c0_ops : Ops (KernelIdeal.Gen.cond0 (F := F)) (ReferenceIdeal.Gen.cond0 (F := F)) c0_steps :=
  .cons (.nullary .rfl) <|
  .cons (.binary rfl .rfl) <|
  .nil
theorem c0_run {V₁ : 𝕍K} {V₂ : 𝕍R} (h : Inv V₁ V₂ M0) :
    Inv (after (KernelIdeal.Gen.cond0 (F := F)) V₁) (after (ReferenceIdeal.Gen.cond0 (F := F)) V₂) M0 :=
  c0_ops.run (by decide +kernel) h

abbrev B00 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v182, ReferenceIdeal.main_v240), (KernelIdeal.main_v184_5, ReferenceIdeal.main_v242_5), (KernelIdeal.main_v184_4, ReferenceIdeal.main_v242_4), (KernelIdeal.main_v184_3, ReferenceIdeal.main_v242_3), (KernelIdeal.main_v184_2, ReferenceIdeal.main_v242_2), (KernelIdeal.main_v184_1, ReferenceIdeal.main_v242_1), (KernelIdeal.main_v184_0, ReferenceIdeal.main_v242_0), (KernelIdeal.main_while0b_v314, ReferenceIdeal.main_while0b_v372), (KernelIdeal.main_v184_6, ReferenceIdeal.main_v242_6), (KernelIdeal.main_while0b_v380, ReferenceIdeal.main_while0b_v438), (KernelIdeal.main_v184_8, ReferenceIdeal.main_v242_8), (KernelIdeal.main_while0b_v374, ReferenceIdeal.main_while0b_v432)]
abbrev B01 : ℙ := [(KernelIdeal.main_v29, ReferenceIdeal.main_v87), (KernelIdeal.main_arg1, ReferenceIdeal.main_arg1), (KernelIdeal.main_v100, ReferenceIdeal.main_v158), (KernelIdeal.main_v166, ReferenceIdeal.main_v224), (KernelIdeal.main_v182, ReferenceIdeal.main_v240), (KernelIdeal.main_v184_5, ReferenceIdeal.main_v242_5), (KernelIdeal.main_v184_4, ReferenceIdeal.main_v242_4), (KernelIdeal.main_v184_3, ReferenceIdeal.main_v242_3), (KernelIdeal.main_v184_2, ReferenceIdeal.main_v242_2), (KernelIdeal.main_v184_1, ReferenceIdeal.main_v242_1), (KernelIdeal.main_v184_0, ReferenceIdeal.main_v242_0), (KernelIdeal.main_while0b_v381, ReferenceIdeal.main_while0b_v439), (KernelIdeal.main_while0b_v314, ReferenceIdeal.main_while0b_v372), (KernelIdeal.main_v184_6, ReferenceIdeal.main_v242_6)]
abbrev b00_steps : List (Step KernelIdeal.sig ReferenceIdeal.sig) :=
  [([], (KernelIdeal.main_while0b_c_71, ReferenceIdeal.main_while0b_c_70)),
   ([(KernelIdeal.main_v184_7, ReferenceIdeal.main_v242_7), (KernelIdeal.main_while0b_c_71, ReferenceIdeal.main_while0b_c_70)], (KernelIdeal.main_while0b_v314, ReferenceIdeal.main_while0b_v372)),
   ([], (KernelIdeal.main_while0b_c_72, ReferenceIdeal.main_while0b_c_71)),
   ([(KernelIdeal.main_v184_7, ReferenceIdeal.main_v242_7), (KernelIdeal.main_while0b_c_72, ReferenceIdeal.main_while0b_c_71)], (KernelIdeal.main_while0b_v315, ReferenceIdeal.main_while0b_v373)),
   ([(KernelIdeal.main_v184_7, ReferenceIdeal.main_v242_7)], (KernelIdeal.main_while0b_v316, ReferenceIdeal.main_while0b_v374)),
   ([], (KernelIdeal.main_while0b_c_73, ReferenceIdeal.main_while0b_c_72)),
   ([(KernelIdeal.main_while0b_v316, ReferenceIdeal.main_while0b_v374), (KernelIdeal.main_while0b_c_73, ReferenceIdeal.main_while0b_c_72)], (KernelIdeal.main_while0b_v317, ReferenceIdeal.main_while0b_v375)),
   ([(KernelIdeal.main_while0b_v315, ReferenceIdeal.main_while0b_v373), (KernelIdeal.main_while0b_v317, ReferenceIdeal.main_while0b_v375), (KernelIdeal.main_v184_7, ReferenceIdeal.main_v242_7)], (KernelIdeal.main_while0b_v318, ReferenceIdeal.main_while0b_v376)),
   ([(KernelIdeal.main_v184_0, ReferenceIdeal.main_v242_0), (KernelIdeal.main_while0b_v318, ReferenceIdeal.main_while0b_v376)], (KernelIdeal.main_while0b_v319, ReferenceIdeal.main_while0b_v377)),
   ([(KernelIdeal.main_while0b_v319, ReferenceIdeal.main_while0b_v377)], (KernelIdeal.main_while0b_v320, ReferenceIdeal.main_while0b_v378)),
   ([(KernelIdeal.main_while0b_v320, ReferenceIdeal.main_while0b_v378)], (KernelIdeal.main_while0b_v321, ReferenceIdeal.main_while0b_v379)),
   ([(KernelIdeal.main_while0b_v321, ReferenceIdeal.main_while0b_v379), (KernelIdeal.main_v184_0, ReferenceIdeal.main_v242_0)], (KernelIdeal.main_while0b_v322, ReferenceIdeal.main_while0b_v380)),
   ([], (KernelIdeal.main_while0b_c_74, ReferenceIdeal.main_while0b_c_73)),
   ([(KernelIdeal.main_v184_7, ReferenceIdeal.main_v242_7), (KernelIdeal.main_while0b_c_74, ReferenceIdeal.main_while0b_c_73)], (KernelIdeal.main_while0b_v323, ReferenceIdeal.main_while0b_v381)),
   ([(KernelIdeal.main_v184_7, ReferenceIdeal.main_v242_7)], (KernelIdeal.main_while0b_v324, ReferenceIdeal.main_while0b_v382)),
   ([], (KernelIdeal.main_while0b_c_75, ReferenceIdeal.main_while0b_c_74)),
   ([(KernelIdeal.main_while0b_v324, ReferenceIdeal.main_while0b_v382), (KernelIdeal.main_while0b_c_75, ReferenceIdeal.main_while0b_c_74)], (KernelIdeal.main_while0b_v325, ReferenceIdeal.main_while0b_v383)),
   ([(KernelIdeal.main_while0b_v323, ReferenceIdeal.main_while0b_v381), (KernelIdeal.main_while0b_v325, ReferenceIdeal.main_while0b_v383), (KernelIdeal.main_v184_7, ReferenceIdeal.main_v242_7)], (KernelIdeal.main_while0b_v326, ReferenceIdeal.main_while0b_v384)),
   ([(KernelIdeal.main_v184_1, ReferenceIdeal.main_v242_1), (KernelIdeal.main_while0b_v326, ReferenceIdeal.main_while0b_v384)], (KernelIdeal.main_while0b_v327, ReferenceIdeal.main_while0b_v385)),
   ([(KernelIdeal.main_while0b_v327, ReferenceIdeal.main_while0b_v385)], (KernelIdeal.main_while0b_v328, ReferenceIdeal.main_while0b_v386)),
   ([(KernelIdeal.main_while0b_v328, ReferenceIdeal.main_while0b_v386)], (KernelIdeal.main_while0b_v329, ReferenceIdeal.main_while0b_v387)),
   ([(KernelIdeal.main_while0b_v329, ReferenceIdeal.main_while0b_v387), (KernelIdeal.main_v184_1, ReferenceIdeal.main_v242_1)], (KernelIdeal.main_while0b_v330, ReferenceIdeal.main_while0b_v388)),
   ([], (KernelIdeal.main_while0b_c_76, ReferenceIdeal.main_while0b_c_75)),
   ([(KernelIdeal.main_v184_7, ReferenceIdeal.main_v242_7), (KernelIdeal.main_while0b_c_76, ReferenceIdeal.main_while0b_c_75)], (KernelIdeal.main_while0b_v331, ReferenceIdeal.main_while0b_v389)),
   ([(KernelIdeal.main_v184_7, ReferenceIdeal.main_v242_7)], (KernelIdeal.main_while0b_v332, ReferenceIdeal.main_while0b_v390)),
   ([], (KernelIdeal.main_while0b_c_77, ReferenceIdeal.main_while0b_c_76)),
   ([(KernelIdeal.main_while0b_v332, ReferenceIdeal.main_while0b_v390), (KernelIdeal.main_while0b_c_77, ReferenceIdeal.main_while0b_c_76)], (KernelIdeal.main_while0b_v333, ReferenceIdeal.main_while0b_v391)),
   ([(KernelIdeal.main_while0b_v331, ReferenceIdeal.main_while0b_v389), (KernelIdeal.main_while0b_v333, ReferenceIdeal.main_while0b_v391), (KernelIdeal.main_v184_7, ReferenceIdeal.main_v242_7)], (KernelIdeal.main_while0b_v334, ReferenceIdeal.main_while0b_v392)),
   ([(KernelIdeal.main_v184_2, ReferenceIdeal.main_v242_2), (KernelIdeal.main_while0b_v334, ReferenceIdeal.main_while0b_v392)], (KernelIdeal.main_while0b_v335, ReferenceIdeal.main_while0b_v393)),
   ([(KernelIdeal.main_while0b_v335, ReferenceIdeal.main_while0b_v393)], (KernelIdeal.main_while0b_v336, ReferenceIdeal.main_while0b_v394)),
   ([(KernelIdeal.main_while0b_v336, ReferenceIdeal.main_while0b_v394)], (KernelIdeal.main_while0b_v337, ReferenceIdeal.main_while0b_v395)),
   ([(KernelIdeal.main_while0b_v337, ReferenceIdeal.main_while0b_v395), (KernelIdeal.main_v184_2, ReferenceIdeal.main_v242_2)], (KernelIdeal.main_while0b_v338, ReferenceIdeal.main_while0b_v396)),
   ([], (KernelIdeal.main_while0b_c_78, ReferenceIdeal.main_while0b_c_77)),
   ([(KernelIdeal.main_v184_7, ReferenceIdeal.main_v242_7), (KernelIdeal.main_while0b_c_78, ReferenceIdeal.main_while0b_c_77)], (KernelIdeal.main_while0b_v339, ReferenceIdeal.main_while0b_v397)),
   ([(KernelIdeal.main_v184_7, ReferenceIdeal.main_v242_7)], (KernelIdeal.main_while0b_v340, ReferenceIdeal.main_while0b_v398)),
   ([], (KernelIdeal.main_while0b_c_79, ReferenceIdeal.main_while0b_c_78)),
   ([(KernelIdeal.main_while0b_v340, ReferenceIdeal.main_while0b_v398), (KernelIdeal.main_while0b_c_79, ReferenceIdeal.main_while0b_c_78)], (KernelIdeal.main_while0b_v341, ReferenceIdeal.main_while0b_v399)),
   ([(KernelIdeal.main_while0b_v339, ReferenceIdeal.main_while0b_v397), (KernelIdeal.main_while0b_v341, ReferenceIdeal.main_while0b_v399), (KernelIdeal.main_v184_7, ReferenceIdeal.main_v242_7)], (KernelIdeal.main_while0b_v342, ReferenceIdeal.main_while0b_v400)),
   ([(KernelIdeal.main_v184_3, ReferenceIdeal.main_v242_3), (KernelIdeal.main_while0b_v342, ReferenceIdeal.main_while0b_v400)], (KernelIdeal.main_while0b_v343, ReferenceIdeal.main_while0b_v401)),
   ([(KernelIdeal.main_while0b_v343, ReferenceIdeal.main_while0b_v401)], (KernelIdeal.main_while0b_v344, ReferenceIdeal.main_while0b_v402)),
   ([(KernelIdeal.main_while0b_v344, ReferenceIdeal.main_while0b_v402)], (KernelIdeal.main_while0b_v345, ReferenceIdeal.main_while0b_v403)),
   ([(KernelIdeal.main_while0b_v345, ReferenceIdeal.main_while0b_v403), (KernelIdeal.main_v184_3, ReferenceIdeal.main_v242_3)], (KernelIdeal.main_while0b_v346, ReferenceIdeal.main_while0b_v404)),
   ([(KernelIdeal.main_while0b_v338, ReferenceIdeal.main_while0b_v396), (KernelIdeal.main_while0b_v322, ReferenceIdeal.main_while0b_v380)], (KernelIdeal.main_while0b_v347, ReferenceIdeal.main_while0b_v405)),
   ([], (KernelIdeal.main_while0b_cst_80, ReferenceIdeal.main_while0b_cst_79)),
   ([(KernelIdeal.main_while0b_cst_80, ReferenceIdeal.main_while0b_cst_79)], (KernelIdeal.main_while0b_v348, ReferenceIdeal.main_while0b_v406)),
   ([(KernelIdeal.main_while0b_v347, ReferenceIdeal.main_while0b_v405), (KernelIdeal.main_while0b_v348, ReferenceIdeal.main_while0b_v406)], (KernelIdeal.main_while0b_v349, ReferenceIdeal.main_while0b_v407)),
   ([], (KernelIdeal.main_while0b_cst_81, ReferenceIdeal.main_while0b_cst_80)),
   ([(KernelIdeal.main_while0b_cst_81, ReferenceIdeal.main_while0b_cst_80)], (KernelIdeal.main_while0b_v350, ReferenceIdeal.main_while0b_v408)),
   ([(KernelIdeal.main_while0b_v350, ReferenceIdeal.main_while0b_v408), (KernelIdeal.main_while0b_v349, ReferenceIdeal.main_while0b_v407)], (KernelIdeal.main_while0b_v351, ReferenceIdeal.main_while0b_v409)),
   ([(KernelIdeal.main_while0b_v346, ReferenceIdeal.main_while0b_v404), (KernelIdeal.main_while0b_v330, ReferenceIdeal.main_while0b_v388)], (KernelIdeal.main_while0b_v352, ReferenceIdeal.main_while0b_v410)),
   ([], (KernelIdeal.main_while0b_cst_82, ReferenceIdeal.main_while0b_cst_81)),
   ([(KernelIdeal.main_while0b_cst_82, ReferenceIdeal.main_while0b_cst_81)], (KernelIdeal.main_while0b_v353, ReferenceIdeal.main_while0b_v411)),
   ([(KernelIdeal.main_while0b_v352, ReferenceIdeal.main_while0b_v410), (KernelIdeal.main_while0b_v353, ReferenceIdeal.main_while0b_v411)], (KernelIdeal.main_while0b_v354, ReferenceIdeal.main_while0b_v412)),
   ([], (KernelIdeal.main_while0b_cst_83, ReferenceIdeal.main_while0b_cst_82)),
   ([(KernelIdeal.main_while0b_cst_83, ReferenceIdeal.main_while0b_cst_82)], (KernelIdeal.main_while0b_v355, ReferenceIdeal.main_while0b_v413)),
   ([(KernelIdeal.main_while0b_v355, ReferenceIdeal.main_while0b_v413), (KernelIdeal.main_while0b_v354, ReferenceIdeal.main_while0b_v412)], (KernelIdeal.main_while0b_v356, ReferenceIdeal.main_while0b_v414)),
   ([(KernelIdeal.main_while0b_v351, ReferenceIdeal.main_while0b_v409), (KernelIdeal.main_while0b_v356, ReferenceIdeal.main_while0b_v414)], (KernelIdeal.main_while0b_v357, ReferenceIdeal.main_while0b_v415)),
   ([], (KernelIdeal.main_while0b_c_84, ReferenceIdeal.main_while0b_c_83)),
   ([(KernelIdeal.main_v184_7, ReferenceIdeal.main_v242_7), (KernelIdeal.main_while0b_c_84, ReferenceIdeal.main_while0b_c_83)], (KernelIdeal.main_while0b_v358, ReferenceIdeal.main_while0b_v416)),
   ([(KernelIdeal.main_v184_7, ReferenceIdeal.main_v242_7)], (KernelIdeal.main_while0b_v359, ReferenceIdeal.main_while0b_v417)),
   ([], (KernelIdeal.main_while0b_c_85, ReferenceIdeal.main_while0b_c_84)),
   ([(KernelIdeal.main_while0b_v359, ReferenceIdeal.main_while0b_v417), (KernelIdeal.main_while0b_c_85, ReferenceIdeal.main_while0b_c_84)], (KernelIdeal.main_while0b_v360, ReferenceIdeal.main_while0b_v418)),
   ([(KernelIdeal.main_while0b_v358, ReferenceIdeal.main_while0b_v416), (KernelIdeal.main_while0b_v360, ReferenceIdeal.main_while0b_v418), (KernelIdeal.main_v184_7, ReferenceIdeal.main_v242_7)], (KernelIdeal.main_while0b_v361, ReferenceIdeal.main_while0b_v419)),
   ([(KernelIdeal.main_v184_4, ReferenceIdeal.main_v242_4), (KernelIdeal.main_while0b_v361, ReferenceIdeal.main_while0b_v419)], (KernelIdeal.main_while0b_v362, ReferenceIdeal.main_while0b_v420)),
   ([(KernelIdeal.main_while0b_v362, ReferenceIdeal.main_while0b_v420)], (KernelIdeal.main_while0b_v363, ReferenceIdeal.main_while0b_v421)),
   ([(KernelIdeal.main_while0b_v363, ReferenceIdeal.main_while0b_v421)], (KernelIdeal.main_while0b_v364, ReferenceIdeal.main_while0b_v422)),
   ([(KernelIdeal.main_while0b_v364, ReferenceIdeal.main_while0b_v422), (KernelIdeal.main_v184_4, ReferenceIdeal.main_v242_4)], (KernelIdeal.main_while0b_v365, ReferenceIdeal.main_while0b_v423)),
   ([(KernelIdeal.main_while0b_v365, ReferenceIdeal.main_while0b_v423), (KernelIdeal.main_while0b_v357, ReferenceIdeal.main_while0b_v415)], (KernelIdeal.main_while0b_v366, ReferenceIdeal.main_while0b_v424)),
   ([(KernelIdeal.main_while0b_v357, ReferenceIdeal.main_while0b_v415), (KernelIdeal.main_while0b_v366, ReferenceIdeal.main_while0b_v424)], (KernelIdeal.main_while0b_v367, ReferenceIdeal.main_while0b_v425)),
   ([], (KernelIdeal.main_while0b_cst_86, ReferenceIdeal.main_while0b_cst_85)),
   ([(KernelIdeal.main_while0b_cst_86, ReferenceIdeal.main_while0b_cst_85)], (KernelIdeal.main_while0b_v368, ReferenceIdeal.main_while0b_v426)),
   ([(KernelIdeal.main_while0b_v367, ReferenceIdeal.main_while0b_v425), (KernelIdeal.main_while0b_v368, ReferenceIdeal.main_while0b_v426)], (KernelIdeal.main_while0b_v369, ReferenceIdeal.main_while0b_v427)),
   ([(KernelIdeal.main_v184_7, ReferenceIdeal.main_v242_7)], (KernelIdeal.main_while0b_v370, ReferenceIdeal.main_while0b_v428)),
   ([(KernelIdeal.main_while0b_v370, ReferenceIdeal.main_while0b_v428)], (KernelIdeal.main_while0b_v371, ReferenceIdeal.main_while0b_v429)),
   ([(KernelIdeal.main_v184_5, ReferenceIdeal.main_v242_5), (KernelIdeal.main_while0b_v371, ReferenceIdeal.main_while0b_v429)], (KernelIdeal.main_while0b_v372, ReferenceIdeal.main_while0b_v430)),
   ([(KernelIdeal.main_while0b_v369, ReferenceIdeal.main_while0b_v427), (KernelIdeal.main_while0b_v372, ReferenceIdeal.main_while0b_v430)], (KernelIdeal.main_while0b_v373, ReferenceIdeal.main_while0b_v431)),
   ([(KernelIdeal.main_v184_8, ReferenceIdeal.main_v242_8), (KernelIdeal.main_while0b_v373, ReferenceIdeal.main_while0b_v431)], (KernelIdeal.main_while0b_v374, ReferenceIdeal.main_while0b_v432)),
   ([], (KernelIdeal.main_while0b_c_87, ReferenceIdeal.main_while0b_c_86)),
   ([(KernelIdeal.main_v184_7, ReferenceIdeal.main_v242_7), (KernelIdeal.main_while0b_c_87, ReferenceIdeal.main_while0b_c_86)], (KernelIdeal.main_while0b_v375, ReferenceIdeal.main_while0b_v433)),
   ([(KernelIdeal.main_v184_7, ReferenceIdeal.main_v242_7)], (KernelIdeal.main_while0b_v376, ReferenceIdeal.main_while0b_v434)),
   ([], (KernelIdeal.main_while0b_c_88, ReferenceIdeal.main_while0b_c_87)),
   ([(KernelIdeal.main_while0b_v376, ReferenceIdeal.main_while0b_v434), (KernelIdeal.main_while0b_c_88, ReferenceIdeal.main_while0b_c_87)], (KernelIdeal.main_while0b_v377, ReferenceIdeal.main_while0b_v435)),
   ([(KernelIdeal.main_while0b_v375, ReferenceIdeal.main_while0b_v433), (KernelIdeal.main_while0b_v377, ReferenceIdeal.main_while0b_v435), (KernelIdeal.main_v184_7, ReferenceIdeal.main_v242_7)], (KernelIdeal.main_while0b_v378, ReferenceIdeal.main_while0b_v436)),
   ([(KernelIdeal.main_v184_8, ReferenceIdeal.main_v242_8), (KernelIdeal.main_while0b_v378, ReferenceIdeal.main_while0b_v436)], (KernelIdeal.main_while0b_v379, ReferenceIdeal.main_while0b_v437)),
   ([(KernelIdeal.main_while0b_v379, ReferenceIdeal.main_while0b_v437)], (KernelIdeal.main_while0b_v380, ReferenceIdeal.main_while0b_v438))]
theorem b00_ops : Ops (KernelIdeal.Gen.while0Ops0 (F := F)) (ReferenceIdeal.Gen.while0Ops0 (F := F)) b00_steps :=
  .cons (.nullary .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.binary rfl .rfl) <|
  .cons (.binary rfl .rfl) <|
  .cons (.nullary .rfl) <|
  .cons (.unary rfl .rfl) <|
  .cons (.binary rfl .rfl) <|
  .cons (.unary rfl .rfl) <|
  .cons (.unary rfl .rfl) <|
  .cons (.binary rfl .rfl) <|
  .cons (.binary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .nil
theorem b00_run {V₁ : 𝕍K} {V₂ : 𝕍R} (h : Inv V₁ V₂ M0) :
    Inv (after (KernelIdeal.Gen.while0Ops0 (F := F)) V₁) (after (ReferenceIdeal.Gen.while0Ops0 (F := F)) V₂) B00 :=
  b00_ops.run (by decide +kernel) h

abbrev b01_steps : List (Step KernelIdeal.sig ReferenceIdeal.sig) :=
  [([(KernelIdeal.main_while0b_v380, ReferenceIdeal.main_while0b_v438), (KernelIdeal.main_v184_8, ReferenceIdeal.main_v242_8), (KernelIdeal.main_while0b_v374, ReferenceIdeal.main_while0b_v432)], (KernelIdeal.main_while0b_v381, ReferenceIdeal.main_while0b_v439))]
theorem b01_ops : Ops (KernelIdeal.Gen.while0Ops0_1 (F := F)) (ReferenceIdeal.Gen.while0Ops0_1 (F := F)) b01_steps :=
  .cons (.ternary rfl .rfl) <|
  .nil
theorem b01_run {V₁ : 𝕍K} {V₂ : 𝕍R} (h : Inv V₁ V₂ B00) :
    Inv (after (KernelIdeal.Gen.while0Ops0_1 (F := F)) V₁) (after (ReferenceIdeal.Gen.while0Ops0_1 (F := F)) V₂) B01 :=
  b01_ops.run (by decide +kernel) h

abbrev b02_steps : List (Step KernelIdeal.sig ReferenceIdeal.sig) :=
  [([], (KernelIdeal.main_while0b_c_89, ReferenceIdeal.main_while0b_c_88)),
   ([(KernelIdeal.main_v184_6, ReferenceIdeal.main_v242_6), (KernelIdeal.main_while0b_c_89, ReferenceIdeal.main_while0b_c_88)], (KernelIdeal.main_while0b_v382, ReferenceIdeal.main_while0b_v440)),
   ([(KernelIdeal.main_while0b_v382, ReferenceIdeal.main_while0b_v440)], (KernelIdeal.main_v184_6, ReferenceIdeal.main_v242_6)),
   ([(KernelIdeal.main_while0b_v314, ReferenceIdeal.main_while0b_v372)], (KernelIdeal.main_v184_7, ReferenceIdeal.main_v242_7)),
   ([(KernelIdeal.main_while0b_v381, ReferenceIdeal.main_while0b_v439)], (KernelIdeal.main_v184_8, ReferenceIdeal.main_v242_8))]
theorem b02_ops : Ops (KernelIdeal.Gen.while0Ops0_2 (F := F)) (ReferenceIdeal.Gen.while0Ops0_2 (F := F)) b02_steps :=
  .cons (.nullary .rfl) <|
  .cons (.binary rfl .rfl) <|
  .cons (.unary rfl .rfl) <|
  .cons (.unary rfl .rfl) <|
  .cons (.unary rfl .rfl) <|
  .nil
theorem b02_run {V₁ : 𝕍K} {V₂ : 𝕍R} (h : Inv V₁ V₂ B01) :
    Inv (after (KernelIdeal.Gen.while0Ops0_2 (F := F)) V₁) (after (ReferenceIdeal.Gen.while0Ops0_2 (F := F)) V₂) M0 :=
  b02_ops.run (by decide +kernel) h

/-- The loop from corresponding entries: after any number of trips the buffers correspond. -/
theorem loop0_at {W₁ : Dev KernelIdeal.nD → 𝕍K} {W₂ : Dev ReferenceIdeal.nD → 𝕍R} (c : Dev KernelIdeal.nD)
    (h : Inv (W₁ c) (W₂ c) M0) : ∀ k, Inv (atTrip KernelIdeal.Gen.cond0 KernelIdeal.Gen.body0 W₁ k c)
      (atTrip ReferenceIdeal.Gen.cond0 ReferenceIdeal.Gen.body0 W₂ k c) M0
  | 0 => h
  | k + 1 => b02_run (b01_run (b00_run (c0_run (loop0_at c h k))))

end Cert.Tail

end
-- ==== Proof.TailLoopB.lean ====
module

public import proofs.«01_k».proof.Proof.IdealRun
public import proofs.«01_k».proof.Proof.RefRun
public import proofs.«01_k».proof.Proof.Sim

/-! Loop 1, trip by trip in step. -/

@[expose] public section

set_option maxRecDepth 16384

noncomputable section

namespace Cert.Tail

open Idealize.ShloMosaic Idealize.ShloMosaic.TcCoe
open Idealize.ShloMosaic.StableHlo
open Cert.Sim

variable {F : FTy → Type} [FloatOps F]

local notation "𝕍K" => Valuation KernelIdeal.τ KernelIdeal.sig (Elt F)
local notation "𝕍R" => Valuation ReferenceIdeal.τ ReferenceIdeal.sig (Elt F)
/-- Corresponding buffers. -/
local notation "ℙ" => List (Pair KernelIdeal.sig ReferenceIdeal.sig)

abbrev M1 : ℙ := [(KernelIdeal.main_v205, ReferenceIdeal.main_v263), (KernelIdeal.main_v271, ReferenceIdeal.main_v329), (KernelIdeal.main_v287, ReferenceIdeal.main_v345), (KernelIdeal.main_v289_8, ReferenceIdeal.main_v347_8), (KernelIdeal.main_v289_6, ReferenceIdeal.main_v347_6), (KernelIdeal.main_v289_7, ReferenceIdeal.main_v347_7), (KernelIdeal.main_v289_5, ReferenceIdeal.main_v347_5), (KernelIdeal.main_v289_4, ReferenceIdeal.main_v347_4), (KernelIdeal.main_v289_3, ReferenceIdeal.main_v347_3), (KernelIdeal.main_v289_2, ReferenceIdeal.main_v347_2), (KernelIdeal.main_v289_1, ReferenceIdeal.main_v347_1), (KernelIdeal.main_v289_0, ReferenceIdeal.main_v347_0)]
abbrev c1_steps : List (Step KernelIdeal.sig ReferenceIdeal.sig) :=
  [([], (KernelIdeal.main_while1c_c_71, ReferenceIdeal.main_while1c_c_70)),
   ([(KernelIdeal.main_v289_6, ReferenceIdeal.main_v347_6), (KernelIdeal.main_while1c_c_71, ReferenceIdeal.main_while1c_c_70)], (KernelIdeal.main_while1c_v314, ReferenceIdeal.main_while1c_v372))]
theorem c1_ops : Ops (KernelIdeal.Gen.cond1 (F := F)) (ReferenceIdeal.Gen.cond1 (F := F)) c1_steps :=
  .cons (.nullary .rfl) <|
  .cons (.binary rfl .rfl) <|
  .nil
theorem c1_run {V₁ : 𝕍K} {V₂ : 𝕍R} (h : Inv V₁ V₂ M1) :
    Inv (after (KernelIdeal.Gen.cond1 (F := F)) V₁) (after (ReferenceIdeal.Gen.cond1 (F := F)) V₂) M1 :=
  c1_ops.run (by decide +kernel) h

abbrev B10 : ℙ := [(KernelIdeal.main_v205, ReferenceIdeal.main_v263), (KernelIdeal.main_v271, ReferenceIdeal.main_v329), (KernelIdeal.main_v287, ReferenceIdeal.main_v345), (KernelIdeal.main_v289_5, ReferenceIdeal.main_v347_5), (KernelIdeal.main_v289_4, ReferenceIdeal.main_v347_4), (KernelIdeal.main_v289_3, ReferenceIdeal.main_v347_3), (KernelIdeal.main_v289_2, ReferenceIdeal.main_v347_2), (KernelIdeal.main_v289_1, ReferenceIdeal.main_v347_1), (KernelIdeal.main_v289_0, ReferenceIdeal.main_v347_0), (KernelIdeal.main_while1b_v314, ReferenceIdeal.main_while1b_v372), (KernelIdeal.main_v289_6, ReferenceIdeal.main_v347_6), (KernelIdeal.main_while1b_v380, ReferenceIdeal.main_while1b_v438), (KernelIdeal.main_v289_8, ReferenceIdeal.main_v347_8), (KernelIdeal.main_while1b_v374, ReferenceIdeal.main_while1b_v432)]
abbrev B11 : ℙ := [(KernelIdeal.main_v205, ReferenceIdeal.main_v263), (KernelIdeal.main_v271, ReferenceIdeal.main_v329), (KernelIdeal.main_v287, ReferenceIdeal.main_v345), (KernelIdeal.main_v289_5, ReferenceIdeal.main_v347_5), (KernelIdeal.main_v289_4, ReferenceIdeal.main_v347_4), (KernelIdeal.main_v289_3, ReferenceIdeal.main_v347_3), (KernelIdeal.main_v289_2, ReferenceIdeal.main_v347_2), (KernelIdeal.main_v289_1, ReferenceIdeal.main_v347_1), (KernelIdeal.main_v289_0, ReferenceIdeal.main_v347_0), (KernelIdeal.main_while1b_v381, ReferenceIdeal.main_while1b_v439), (KernelIdeal.main_while1b_v314, ReferenceIdeal.main_while1b_v372), (KernelIdeal.main_v289_6, ReferenceIdeal.main_v347_6)]
abbrev b10_steps : List (Step KernelIdeal.sig ReferenceIdeal.sig) :=
  [([], (KernelIdeal.main_while1b_c_71, ReferenceIdeal.main_while1b_c_70)),
   ([(KernelIdeal.main_v289_7, ReferenceIdeal.main_v347_7), (KernelIdeal.main_while1b_c_71, ReferenceIdeal.main_while1b_c_70)], (KernelIdeal.main_while1b_v314, ReferenceIdeal.main_while1b_v372)),
   ([], (KernelIdeal.main_while1b_c_72, ReferenceIdeal.main_while1b_c_71)),
   ([(KernelIdeal.main_v289_7, ReferenceIdeal.main_v347_7), (KernelIdeal.main_while1b_c_72, ReferenceIdeal.main_while1b_c_71)], (KernelIdeal.main_while1b_v315, ReferenceIdeal.main_while1b_v373)),
   ([(KernelIdeal.main_v289_7, ReferenceIdeal.main_v347_7)], (KernelIdeal.main_while1b_v316, ReferenceIdeal.main_while1b_v374)),
   ([], (KernelIdeal.main_while1b_c_73, ReferenceIdeal.main_while1b_c_72)),
   ([(KernelIdeal.main_while1b_v316, ReferenceIdeal.main_while1b_v374), (KernelIdeal.main_while1b_c_73, ReferenceIdeal.main_while1b_c_72)], (KernelIdeal.main_while1b_v317, ReferenceIdeal.main_while1b_v375)),
   ([(KernelIdeal.main_while1b_v315, ReferenceIdeal.main_while1b_v373), (KernelIdeal.main_while1b_v317, ReferenceIdeal.main_while1b_v375), (KernelIdeal.main_v289_7, ReferenceIdeal.main_v347_7)], (KernelIdeal.main_while1b_v318, ReferenceIdeal.main_while1b_v376)),
   ([(KernelIdeal.main_v289_0, ReferenceIdeal.main_v347_0), (KernelIdeal.main_while1b_v318, ReferenceIdeal.main_while1b_v376)], (KernelIdeal.main_while1b_v319, ReferenceIdeal.main_while1b_v377)),
   ([(KernelIdeal.main_while1b_v319, ReferenceIdeal.main_while1b_v377)], (KernelIdeal.main_while1b_v320, ReferenceIdeal.main_while1b_v378)),
   ([(KernelIdeal.main_while1b_v320, ReferenceIdeal.main_while1b_v378)], (KernelIdeal.main_while1b_v321, ReferenceIdeal.main_while1b_v379)),
   ([(KernelIdeal.main_while1b_v321, ReferenceIdeal.main_while1b_v379), (KernelIdeal.main_v289_0, ReferenceIdeal.main_v347_0)], (KernelIdeal.main_while1b_v322, ReferenceIdeal.main_while1b_v380)),
   ([], (KernelIdeal.main_while1b_c_74, ReferenceIdeal.main_while1b_c_73)),
   ([(KernelIdeal.main_v289_7, ReferenceIdeal.main_v347_7), (KernelIdeal.main_while1b_c_74, ReferenceIdeal.main_while1b_c_73)], (KernelIdeal.main_while1b_v323, ReferenceIdeal.main_while1b_v381)),
   ([(KernelIdeal.main_v289_7, ReferenceIdeal.main_v347_7)], (KernelIdeal.main_while1b_v324, ReferenceIdeal.main_while1b_v382)),
   ([], (KernelIdeal.main_while1b_c_75, ReferenceIdeal.main_while1b_c_74)),
   ([(KernelIdeal.main_while1b_v324, ReferenceIdeal.main_while1b_v382), (KernelIdeal.main_while1b_c_75, ReferenceIdeal.main_while1b_c_74)], (KernelIdeal.main_while1b_v325, ReferenceIdeal.main_while1b_v383)),
   ([(KernelIdeal.main_while1b_v323, ReferenceIdeal.main_while1b_v381), (KernelIdeal.main_while1b_v325, ReferenceIdeal.main_while1b_v383), (KernelIdeal.main_v289_7, ReferenceIdeal.main_v347_7)], (KernelIdeal.main_while1b_v326, ReferenceIdeal.main_while1b_v384)),
   ([(KernelIdeal.main_v289_1, ReferenceIdeal.main_v347_1), (KernelIdeal.main_while1b_v326, ReferenceIdeal.main_while1b_v384)], (KernelIdeal.main_while1b_v327, ReferenceIdeal.main_while1b_v385)),
   ([(KernelIdeal.main_while1b_v327, ReferenceIdeal.main_while1b_v385)], (KernelIdeal.main_while1b_v328, ReferenceIdeal.main_while1b_v386)),
   ([(KernelIdeal.main_while1b_v328, ReferenceIdeal.main_while1b_v386)], (KernelIdeal.main_while1b_v329, ReferenceIdeal.main_while1b_v387)),
   ([(KernelIdeal.main_while1b_v329, ReferenceIdeal.main_while1b_v387), (KernelIdeal.main_v289_1, ReferenceIdeal.main_v347_1)], (KernelIdeal.main_while1b_v330, ReferenceIdeal.main_while1b_v388)),
   ([], (KernelIdeal.main_while1b_c_76, ReferenceIdeal.main_while1b_c_75)),
   ([(KernelIdeal.main_v289_7, ReferenceIdeal.main_v347_7), (KernelIdeal.main_while1b_c_76, ReferenceIdeal.main_while1b_c_75)], (KernelIdeal.main_while1b_v331, ReferenceIdeal.main_while1b_v389)),
   ([(KernelIdeal.main_v289_7, ReferenceIdeal.main_v347_7)], (KernelIdeal.main_while1b_v332, ReferenceIdeal.main_while1b_v390)),
   ([], (KernelIdeal.main_while1b_c_77, ReferenceIdeal.main_while1b_c_76)),
   ([(KernelIdeal.main_while1b_v332, ReferenceIdeal.main_while1b_v390), (KernelIdeal.main_while1b_c_77, ReferenceIdeal.main_while1b_c_76)], (KernelIdeal.main_while1b_v333, ReferenceIdeal.main_while1b_v391)),
   ([(KernelIdeal.main_while1b_v331, ReferenceIdeal.main_while1b_v389), (KernelIdeal.main_while1b_v333, ReferenceIdeal.main_while1b_v391), (KernelIdeal.main_v289_7, ReferenceIdeal.main_v347_7)], (KernelIdeal.main_while1b_v334, ReferenceIdeal.main_while1b_v392)),
   ([(KernelIdeal.main_v289_2, ReferenceIdeal.main_v347_2), (KernelIdeal.main_while1b_v334, ReferenceIdeal.main_while1b_v392)], (KernelIdeal.main_while1b_v335, ReferenceIdeal.main_while1b_v393)),
   ([(KernelIdeal.main_while1b_v335, ReferenceIdeal.main_while1b_v393)], (KernelIdeal.main_while1b_v336, ReferenceIdeal.main_while1b_v394)),
   ([(KernelIdeal.main_while1b_v336, ReferenceIdeal.main_while1b_v394)], (KernelIdeal.main_while1b_v337, ReferenceIdeal.main_while1b_v395)),
   ([(KernelIdeal.main_while1b_v337, ReferenceIdeal.main_while1b_v395), (KernelIdeal.main_v289_2, ReferenceIdeal.main_v347_2)], (KernelIdeal.main_while1b_v338, ReferenceIdeal.main_while1b_v396)),
   ([], (KernelIdeal.main_while1b_c_78, ReferenceIdeal.main_while1b_c_77)),
   ([(KernelIdeal.main_v289_7, ReferenceIdeal.main_v347_7), (KernelIdeal.main_while1b_c_78, ReferenceIdeal.main_while1b_c_77)], (KernelIdeal.main_while1b_v339, ReferenceIdeal.main_while1b_v397)),
   ([(KernelIdeal.main_v289_7, ReferenceIdeal.main_v347_7)], (KernelIdeal.main_while1b_v340, ReferenceIdeal.main_while1b_v398)),
   ([], (KernelIdeal.main_while1b_c_79, ReferenceIdeal.main_while1b_c_78)),
   ([(KernelIdeal.main_while1b_v340, ReferenceIdeal.main_while1b_v398), (KernelIdeal.main_while1b_c_79, ReferenceIdeal.main_while1b_c_78)], (KernelIdeal.main_while1b_v341, ReferenceIdeal.main_while1b_v399)),
   ([(KernelIdeal.main_while1b_v339, ReferenceIdeal.main_while1b_v397), (KernelIdeal.main_while1b_v341, ReferenceIdeal.main_while1b_v399), (KernelIdeal.main_v289_7, ReferenceIdeal.main_v347_7)], (KernelIdeal.main_while1b_v342, ReferenceIdeal.main_while1b_v400)),
   ([(KernelIdeal.main_v289_3, ReferenceIdeal.main_v347_3), (KernelIdeal.main_while1b_v342, ReferenceIdeal.main_while1b_v400)], (KernelIdeal.main_while1b_v343, ReferenceIdeal.main_while1b_v401)),
   ([(KernelIdeal.main_while1b_v343, ReferenceIdeal.main_while1b_v401)], (KernelIdeal.main_while1b_v344, ReferenceIdeal.main_while1b_v402)),
   ([(KernelIdeal.main_while1b_v344, ReferenceIdeal.main_while1b_v402)], (KernelIdeal.main_while1b_v345, ReferenceIdeal.main_while1b_v403)),
   ([(KernelIdeal.main_while1b_v345, ReferenceIdeal.main_while1b_v403), (KernelIdeal.main_v289_3, ReferenceIdeal.main_v347_3)], (KernelIdeal.main_while1b_v346, ReferenceIdeal.main_while1b_v404)),
   ([(KernelIdeal.main_while1b_v338, ReferenceIdeal.main_while1b_v396), (KernelIdeal.main_while1b_v322, ReferenceIdeal.main_while1b_v380)], (KernelIdeal.main_while1b_v347, ReferenceIdeal.main_while1b_v405)),
   ([], (KernelIdeal.main_while1b_cst_80, ReferenceIdeal.main_while1b_cst_79)),
   ([(KernelIdeal.main_while1b_cst_80, ReferenceIdeal.main_while1b_cst_79)], (KernelIdeal.main_while1b_v348, ReferenceIdeal.main_while1b_v406)),
   ([(KernelIdeal.main_while1b_v347, ReferenceIdeal.main_while1b_v405), (KernelIdeal.main_while1b_v348, ReferenceIdeal.main_while1b_v406)], (KernelIdeal.main_while1b_v349, ReferenceIdeal.main_while1b_v407)),
   ([], (KernelIdeal.main_while1b_cst_81, ReferenceIdeal.main_while1b_cst_80)),
   ([(KernelIdeal.main_while1b_cst_81, ReferenceIdeal.main_while1b_cst_80)], (KernelIdeal.main_while1b_v350, ReferenceIdeal.main_while1b_v408)),
   ([(KernelIdeal.main_while1b_v350, ReferenceIdeal.main_while1b_v408), (KernelIdeal.main_while1b_v349, ReferenceIdeal.main_while1b_v407)], (KernelIdeal.main_while1b_v351, ReferenceIdeal.main_while1b_v409)),
   ([(KernelIdeal.main_while1b_v346, ReferenceIdeal.main_while1b_v404), (KernelIdeal.main_while1b_v330, ReferenceIdeal.main_while1b_v388)], (KernelIdeal.main_while1b_v352, ReferenceIdeal.main_while1b_v410)),
   ([], (KernelIdeal.main_while1b_cst_82, ReferenceIdeal.main_while1b_cst_81)),
   ([(KernelIdeal.main_while1b_cst_82, ReferenceIdeal.main_while1b_cst_81)], (KernelIdeal.main_while1b_v353, ReferenceIdeal.main_while1b_v411)),
   ([(KernelIdeal.main_while1b_v352, ReferenceIdeal.main_while1b_v410), (KernelIdeal.main_while1b_v353, ReferenceIdeal.main_while1b_v411)], (KernelIdeal.main_while1b_v354, ReferenceIdeal.main_while1b_v412)),
   ([], (KernelIdeal.main_while1b_cst_83, ReferenceIdeal.main_while1b_cst_82)),
   ([(KernelIdeal.main_while1b_cst_83, ReferenceIdeal.main_while1b_cst_82)], (KernelIdeal.main_while1b_v355, ReferenceIdeal.main_while1b_v413)),
   ([(KernelIdeal.main_while1b_v355, ReferenceIdeal.main_while1b_v413), (KernelIdeal.main_while1b_v354, ReferenceIdeal.main_while1b_v412)], (KernelIdeal.main_while1b_v356, ReferenceIdeal.main_while1b_v414)),
   ([(KernelIdeal.main_while1b_v351, ReferenceIdeal.main_while1b_v409), (KernelIdeal.main_while1b_v356, ReferenceIdeal.main_while1b_v414)], (KernelIdeal.main_while1b_v357, ReferenceIdeal.main_while1b_v415)),
   ([], (KernelIdeal.main_while1b_c_84, ReferenceIdeal.main_while1b_c_83)),
   ([(KernelIdeal.main_v289_7, ReferenceIdeal.main_v347_7), (KernelIdeal.main_while1b_c_84, ReferenceIdeal.main_while1b_c_83)], (KernelIdeal.main_while1b_v358, ReferenceIdeal.main_while1b_v416)),
   ([(KernelIdeal.main_v289_7, ReferenceIdeal.main_v347_7)], (KernelIdeal.main_while1b_v359, ReferenceIdeal.main_while1b_v417)),
   ([], (KernelIdeal.main_while1b_c_85, ReferenceIdeal.main_while1b_c_84)),
   ([(KernelIdeal.main_while1b_v359, ReferenceIdeal.main_while1b_v417), (KernelIdeal.main_while1b_c_85, ReferenceIdeal.main_while1b_c_84)], (KernelIdeal.main_while1b_v360, ReferenceIdeal.main_while1b_v418)),
   ([(KernelIdeal.main_while1b_v358, ReferenceIdeal.main_while1b_v416), (KernelIdeal.main_while1b_v360, ReferenceIdeal.main_while1b_v418), (KernelIdeal.main_v289_7, ReferenceIdeal.main_v347_7)], (KernelIdeal.main_while1b_v361, ReferenceIdeal.main_while1b_v419)),
   ([(KernelIdeal.main_v289_4, ReferenceIdeal.main_v347_4), (KernelIdeal.main_while1b_v361, ReferenceIdeal.main_while1b_v419)], (KernelIdeal.main_while1b_v362, ReferenceIdeal.main_while1b_v420)),
   ([(KernelIdeal.main_while1b_v362, ReferenceIdeal.main_while1b_v420)], (KernelIdeal.main_while1b_v363, ReferenceIdeal.main_while1b_v421)),
   ([(KernelIdeal.main_while1b_v363, ReferenceIdeal.main_while1b_v421)], (KernelIdeal.main_while1b_v364, ReferenceIdeal.main_while1b_v422)),
   ([(KernelIdeal.main_while1b_v364, ReferenceIdeal.main_while1b_v422), (KernelIdeal.main_v289_4, ReferenceIdeal.main_v347_4)], (KernelIdeal.main_while1b_v365, ReferenceIdeal.main_while1b_v423)),
   ([(KernelIdeal.main_while1b_v365, ReferenceIdeal.main_while1b_v423), (KernelIdeal.main_while1b_v357, ReferenceIdeal.main_while1b_v415)], (KernelIdeal.main_while1b_v366, ReferenceIdeal.main_while1b_v424)),
   ([(KernelIdeal.main_while1b_v357, ReferenceIdeal.main_while1b_v415), (KernelIdeal.main_while1b_v366, ReferenceIdeal.main_while1b_v424)], (KernelIdeal.main_while1b_v367, ReferenceIdeal.main_while1b_v425)),
   ([], (KernelIdeal.main_while1b_cst_86, ReferenceIdeal.main_while1b_cst_85)),
   ([(KernelIdeal.main_while1b_cst_86, ReferenceIdeal.main_while1b_cst_85)], (KernelIdeal.main_while1b_v368, ReferenceIdeal.main_while1b_v426)),
   ([(KernelIdeal.main_while1b_v367, ReferenceIdeal.main_while1b_v425), (KernelIdeal.main_while1b_v368, ReferenceIdeal.main_while1b_v426)], (KernelIdeal.main_while1b_v369, ReferenceIdeal.main_while1b_v427)),
   ([(KernelIdeal.main_v289_7, ReferenceIdeal.main_v347_7)], (KernelIdeal.main_while1b_v370, ReferenceIdeal.main_while1b_v428)),
   ([(KernelIdeal.main_while1b_v370, ReferenceIdeal.main_while1b_v428)], (KernelIdeal.main_while1b_v371, ReferenceIdeal.main_while1b_v429)),
   ([(KernelIdeal.main_v289_5, ReferenceIdeal.main_v347_5), (KernelIdeal.main_while1b_v371, ReferenceIdeal.main_while1b_v429)], (KernelIdeal.main_while1b_v372, ReferenceIdeal.main_while1b_v430)),
   ([(KernelIdeal.main_while1b_v369, ReferenceIdeal.main_while1b_v427), (KernelIdeal.main_while1b_v372, ReferenceIdeal.main_while1b_v430)], (KernelIdeal.main_while1b_v373, ReferenceIdeal.main_while1b_v431)),
   ([(KernelIdeal.main_v289_8, ReferenceIdeal.main_v347_8), (KernelIdeal.main_while1b_v373, ReferenceIdeal.main_while1b_v431)], (KernelIdeal.main_while1b_v374, ReferenceIdeal.main_while1b_v432)),
   ([], (KernelIdeal.main_while1b_c_87, ReferenceIdeal.main_while1b_c_86)),
   ([(KernelIdeal.main_v289_7, ReferenceIdeal.main_v347_7), (KernelIdeal.main_while1b_c_87, ReferenceIdeal.main_while1b_c_86)], (KernelIdeal.main_while1b_v375, ReferenceIdeal.main_while1b_v433)),
   ([(KernelIdeal.main_v289_7, ReferenceIdeal.main_v347_7)], (KernelIdeal.main_while1b_v376, ReferenceIdeal.main_while1b_v434)),
   ([], (KernelIdeal.main_while1b_c_88, ReferenceIdeal.main_while1b_c_87)),
   ([(KernelIdeal.main_while1b_v376, ReferenceIdeal.main_while1b_v434), (KernelIdeal.main_while1b_c_88, ReferenceIdeal.main_while1b_c_87)], (KernelIdeal.main_while1b_v377, ReferenceIdeal.main_while1b_v435)),
   ([(KernelIdeal.main_while1b_v375, ReferenceIdeal.main_while1b_v433), (KernelIdeal.main_while1b_v377, ReferenceIdeal.main_while1b_v435), (KernelIdeal.main_v289_7, ReferenceIdeal.main_v347_7)], (KernelIdeal.main_while1b_v378, ReferenceIdeal.main_while1b_v436)),
   ([(KernelIdeal.main_v289_8, ReferenceIdeal.main_v347_8), (KernelIdeal.main_while1b_v378, ReferenceIdeal.main_while1b_v436)], (KernelIdeal.main_while1b_v379, ReferenceIdeal.main_while1b_v437)),
   ([(KernelIdeal.main_while1b_v379, ReferenceIdeal.main_while1b_v437)], (KernelIdeal.main_while1b_v380, ReferenceIdeal.main_while1b_v438))]
theorem b10_ops : Ops (KernelIdeal.Gen.while1Ops0 (F := F)) (ReferenceIdeal.Gen.while1Ops0 (F := F)) b10_steps :=
  .cons (.nullary .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.unary rfl .rfl) <|
  .cons (.binary rfl .rfl) <|
  .cons (.nullary .rfl) <|
  .cons (.unary rfl .rfl) <|
  .cons (.binary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .cons (.unary rfl .rfl) <|
  .cons (.binary rfl .rfl) <|
  .cons (.binary rfl .rfl) <|
  .cons (.binary rfl .rfl) <|
  .cons (.nullary .rfl) <|
  .cons (.unary rfl .rfl) <|
  .cons (.binary rfl .rfl) <|
  .cons (.unary rfl .rfl) <|
  .cons (.unary rfl .rfl) <|
  .cons (.binary rfl .rfl) <|
  .cons (.binary rfl .rfl) <|
  .cons (.binary rfl .rfl) <|
  .cons (.nullary .rfl) <|
  .cons (.binary rfl .rfl) <|
  .cons (.unary rfl .rfl) <|
  .cons (.nullary .rfl) <|
  .cons (.binary rfl .rfl) <|
  .cons (.ternary rfl .rfl) <|
  .cons (.indexed rfl .rfl) <|
  .cons (.reshape rfl rfl) <|
  .nil
theorem b10_run {V₁ : 𝕍K} {V₂ : 𝕍R} (h : Inv V₁ V₂ M1) :
    Inv (after (KernelIdeal.Gen.while1Ops0 (F := F)) V₁) (after (ReferenceIdeal.Gen.while1Ops0 (F := F)) V₂) B10 :=
  b10_ops.run (by decide +kernel) h

abbrev b11_steps : List (Step KernelIdeal.sig ReferenceIdeal.sig) :=
  [([(KernelIdeal.main_while1b_v380, ReferenceIdeal.main_while1b_v438), (KernelIdeal.main_v289_8, ReferenceIdeal.main_v347_8), (KernelIdeal.main_while1b_v374, ReferenceIdeal.main_while1b_v432)], (KernelIdeal.main_while1b_v381, ReferenceIdeal.main_while1b_v439))]
theorem b11_ops : Ops (KernelIdeal.Gen.while1Ops0_1 (F := F)) (ReferenceIdeal.Gen.while1Ops0_1 (F := F)) b11_steps :=
  .cons (.ternary rfl .rfl) <|
  .nil
theorem b11_run {V₁ : 𝕍K} {V₂ : 𝕍R} (h : Inv V₁ V₂ B10) :
    Inv (after (KernelIdeal.Gen.while1Ops0_1 (F := F)) V₁) (after (ReferenceIdeal.Gen.while1Ops0_1 (F := F)) V₂) B11 :=
  b11_ops.run (by decide +kernel) h

abbrev b12_steps : List (Step KernelIdeal.sig ReferenceIdeal.sig) :=
  [([], (KernelIdeal.main_while1b_c_89, ReferenceIdeal.main_while1b_c_88)),
   ([(KernelIdeal.main_v289_6, ReferenceIdeal.main_v347_6), (KernelIdeal.main_while1b_c_89, ReferenceIdeal.main_while1b_c_88)], (KernelIdeal.main_while1b_v382, ReferenceIdeal.main_while1b_v440)),
   ([(KernelIdeal.main_while1b_v382, ReferenceIdeal.main_while1b_v440)], (KernelIdeal.main_v289_6, ReferenceIdeal.main_v347_6)),
   ([(KernelIdeal.main_while1b_v314, ReferenceIdeal.main_while1b_v372)], (KernelIdeal.main_v289_7, ReferenceIdeal.main_v347_7)),
   ([(KernelIdeal.main_while1b_v381, ReferenceIdeal.main_while1b_v439)], (KernelIdeal.main_v289_8, ReferenceIdeal.main_v347_8))]
theorem b12_ops : Ops (KernelIdeal.Gen.while1Ops0_2 (F := F)) (ReferenceIdeal.Gen.while1Ops0_2 (F := F)) b12_steps :=
  .cons (.nullary .rfl) <|
  .cons (.binary rfl .rfl) <|
  .cons (.unary rfl .rfl) <|
  .cons (.unary rfl .rfl) <|
  .cons (.unary rfl .rfl) <|
  .nil
theorem b12_run {V₁ : 𝕍K} {V₂ : 𝕍R} (h : Inv V₁ V₂ B11) :
    Inv (after (KernelIdeal.Gen.while1Ops0_2 (F := F)) V₁) (after (ReferenceIdeal.Gen.while1Ops0_2 (F := F)) V₂) M1 :=
  b12_ops.run (by decide +kernel) h

/-- The loop from corresponding entries: after any number of trips the buffers correspond. -/
theorem loop1_at {W₁ : Dev KernelIdeal.nD → 𝕍K} {W₂ : Dev ReferenceIdeal.nD → 𝕍R} (c : Dev KernelIdeal.nD)
    (h : Inv (W₁ c) (W₂ c) M1) : ∀ k, Inv (atTrip KernelIdeal.Gen.cond1 KernelIdeal.Gen.body1 W₁ k c)
      (atTrip ReferenceIdeal.Gen.cond1 ReferenceIdeal.Gen.body1 W₂ k c) M1
  | 0 => h
  | k + 1 => b12_run (b11_run (b10_run (c1_run (loop1_at c h k))))

end Cert.Tail

end
-- ==== Proof.Whole.lean ====
module

public import proofs.«01_k».proof.Proof.HeadK
public import proofs.«01_k».proof.Proof.HeadR
public import proofs.«01_k».proof.Proof.Anchors
public import proofs.«01_k».proof.Proof.TailA
public import proofs.«01_k».proof.Proof.TailB
public import proofs.«01_k».proof.Proof.TailC
public import proofs.«01_k».proof.Proof.TailLoopA
public import proofs.«01_k».proof.Proof.TailLoopB

/-! From equal arguments the two programs end with equal proposals: the scores and the deltas agree after the head, and
    every later stretch keeps what agrees in agreement. -/

@[expose] public section
set_option maxRecDepth 16384
noncomputable section
namespace Cert.Whole
open Idealize.ShloMosaic Idealize.ShloMosaic.TcCoe Idealize.ShloMosaic.StableHlo
open Cert.Head Cert.Sim Cert.Tail

variable (m : (l : Loc KernelIdeal.nD KernelIdeal.τ KernelIdeal.sig) → Buf (Elt Ideal) l)
  (m' : (l : Loc ReferenceIdeal.nD ReferenceIdeal.τ ReferenceIdeal.sig) → Buf (Elt Ideal) l) (c : Dev KernelIdeal.nD)

abbrev A0 : Prop := ∀ i : KernelIdeal.S2x128x64x64.Idx, (KernelIdeal.Gen.W0 m c (Proc.devRef .tc KernelIdeal.main_arg0) i : EReal)
  = (ReferenceIdeal.Gen.W0 m' c (Proc.devRef .tc ReferenceIdeal.main_arg0) i : EReal)
abbrev A3 : Prop := ∀ i : KernelIdeal.S128x128x3x3.Idx, (KernelIdeal.Gen.W0 m c (Proc.devRef .tc KernelIdeal.main_arg3) i : EReal)
  = (ReferenceIdeal.Gen.W0 m' c (Proc.devRef .tc ReferenceIdeal.main_arg3) i : EReal)
abbrev A4 : Prop := ∀ i : KernelIdeal.S128.Idx, (KernelIdeal.Gen.W0 m c (Proc.devRef .tc KernelIdeal.main_arg4) i : EReal)
  = (ReferenceIdeal.Gen.W0 m' c (Proc.devRef .tc ReferenceIdeal.main_arg4) i : EReal)
abbrev A5 : Prop := ∀ i : KernelIdeal.S18x128x1x1.Idx, (KernelIdeal.Gen.W0 m c (Proc.devRef .tc KernelIdeal.main_arg5) i : EReal)
  = (ReferenceIdeal.Gen.W0 m' c (Proc.devRef .tc ReferenceIdeal.main_arg5) i : EReal)
abbrev A6 : Prop := ∀ i : KernelIdeal.S18.Idx, (KernelIdeal.Gen.W0 m c (Proc.devRef .tc KernelIdeal.main_arg6) i : EReal)
  = (ReferenceIdeal.Gen.W0 m' c (Proc.devRef .tc ReferenceIdeal.main_arg6) i : EReal)
abbrev A7 : Prop := ∀ i : KernelIdeal.S36x128x1x1.Idx, (KernelIdeal.Gen.W0 m c (Proc.devRef .tc KernelIdeal.main_arg7) i : EReal)
  = (ReferenceIdeal.Gen.W0 m' c (Proc.devRef .tc ReferenceIdeal.main_arg7) i : EReal)
abbrev A8 : Prop := ∀ i : KernelIdeal.S36.Idx, (KernelIdeal.Gen.W0 m c (Proc.devRef .tc KernelIdeal.main_arg8) i : EReal)
  = (ReferenceIdeal.Gen.W0 m' c (Proc.devRef .tc ReferenceIdeal.main_arg8) i : EReal)
abbrev A1 : Prop := HEq (KernelIdeal.Gen.W0 m c (Proc.devRef .tc KernelIdeal.main_arg1)) (ReferenceIdeal.Gen.W0 m' c (Proc.devRef .tc ReferenceIdeal.main_arg1))
/-- The two launches agree on the arguments that are read. -/
def Agree : Prop := A0 m m' c ∧ A1 m m' c ∧ A3 m m' c ∧ A4 m m' c ∧ A5 m m' c ∧ A6 m m' c ∧ A7 m m' c ∧ A8 m m' c
variable {m m' c}
theorem Agree.a0 (h : Agree m m' c) : A0 m m' c := h.1
theorem Agree.a1 (h : Agree m m' c) : A1 m m' c := h.2.1
theorem Agree.a3 (h : Agree m m' c) : A3 m m' c := h.2.2.1
theorem Agree.a4 (h : Agree m m' c) : A4 m m' c := h.2.2.2.1
theorem Agree.a5 (h : Agree m m' c) : A5 m m' c := h.2.2.2.2.1
theorem Agree.a6 (h : Agree m m' c) : A6 m m' c := h.2.2.2.2.2.1
theorem Agree.a7 (h : Agree m m' c) : A7 m m' c := h.2.2.2.2.2.2.1
theorem Agree.a8 (h : Agree m m' c) : A8 m m' c := h.2.2.2.2.2.2.2

theorem hid_same (h : Agree m m' c) (b : Fin 2) (y x : Fin 64) : KernelIdeal.Gen.hidM m c b y x = ReferenceIdeal.Gen.hidM m' c b y x :=
  hid_congr _ y x (fun ch y x => h.a0 (ix4 b ch y x)) (fun k i l ch => h.a3 (ix4 k ch i l)) (fun k => h.a4 (ix1 k))
theorem score_same (h : Agree m m' c) (b : Fin 2) (y x : Fin 64) (j : Fin 18) :
    KernelIdeal.Gen.scoreM m c b y x j = ReferenceIdeal.Gen.scoreM m' c b y x j :=
  lin_congr (fun k => h.a5 (ix4 j k 0 0)) (hid_same h b y x) (h.a6 (ix1 j))
theorem delta_same (h : Agree m m' c) (b : Fin 2) (y x : Fin 64) (j : Fin 36) :
    KernelIdeal.Gen.deltaM m c b y x j = ReferenceIdeal.Gen.deltaM m' c b y x j :=
  lin_congr (fun k => h.a7 (ix4 j k 0 0)) (hid_same h b y x) (h.a8 (ix1 j))

/-- The kernel's contents when the head's results are read off the call. -/
abbrev KH (m : (l : Loc KernelIdeal.nD KernelIdeal.τ KernelIdeal.sig) → Buf (Elt Ideal) l) (c : Dev KernelIdeal.nD) :=
  after ((KernelIdeal.Gen.hostOps1 (F := Ideal)).take 21) (KernelIdeal.Gen.W4 m c)
/-- The reference's at the same place. -/
abbrev RH (m' : (l : Loc ReferenceIdeal.nD ReferenceIdeal.τ ReferenceIdeal.sig) → Buf (Elt Ideal) l) (c : Dev ReferenceIdeal.nD) :=
  after ((ReferenceIdeal.Gen.hostOps0_4 (F := Ideal)).take 33) (ReferenceIdeal.Gen.WH m' c)

theorem fg_same (h : Agree m m' c) (i : KernelIdeal.S2x36864.Idx) :
    KH m c (Proc.devRef .tc KernelIdeal.main_v29) i = RH m' c (Proc.devRef .tc ReferenceIdeal.main_v87) i := by
  rw [eq_ix2 i]
  exact (KernelIdeal.Gen.fg_at m c _ _).trans
    ((congrArg sm (funext fun x => score_same h _ _ _ _)).trans (ReferenceIdeal.Gen.fg_at m' c _ _).symm)
theorem dl_same (h : Agree m m' c) (i : KernelIdeal.S2x36864x4.Idx) :
    KH m c (Proc.devRef .tc KernelIdeal.main_v31) i = RH m' c (Proc.devRef .tc ReferenceIdeal.main_v89) i := by
  rw [eq_ix3 i]
  exact (KernelIdeal.Gen.dl_at m c _ _ _).trans ((delta_same h _ _ _ _).trans (ReferenceIdeal.Gen.dl_at m' c _ _ _).symm)

/-- A reference the kernel's next stretch does not write. -/
theorem K_kept (r : Ref KernelIdeal.sig .tc) (hr : r ∉ KernelIdeal.Gen.hostOps1_W) :
    KH m c (Proc.devRef .tc r) = KernelIdeal.Gen.W4 m c (Proc.devRef .tc r) :=
  after_of_writes_sub (W := KernelIdeal.Gen.hostOps1_W) _ _ (List.forall_iff_forall_mem.mpr fun op ho =>
    List.forall_iff_forall_mem.mp KernelIdeal.Gen.hostOps1_writes op (List.mem_of_mem_take ho)) hr
theorem R_kept (r : Ref ReferenceIdeal.sig .tc) (hr : r ∉ ReferenceIdeal.Gen.hostOps0_4_W) :
    RH m' c (Proc.devRef .tc r) = ReferenceIdeal.Gen.WH m' c (Proc.devRef .tc r) :=
  after_of_writes_sub (W := ReferenceIdeal.Gen.hostOps0_4_W) _ _ (List.forall_iff_forall_mem.mpr fun op ho =>
    List.forall_iff_forall_mem.mp ReferenceIdeal.Gen.hostOps0_4_writes op (List.mem_of_mem_take ho)) hr

theorem K_arg1 : KH m c (Proc.devRef .tc KernelIdeal.main_arg1) = KernelIdeal.Gen.W0 m c (Proc.devRef .tc KernelIdeal.main_arg1) :=
  (K_kept _ (by decide +kernel)).trans
    ((KernelIdeal.Gen.W4_of m c _ (KernelIdeal.Gen.argsIn0 _ (by decide))).trans (KernelIdeal.Gen.preR_keeps _ _ (by decide)))
theorem R_arg1 : RH m' c (Proc.devRef .tc ReferenceIdeal.main_arg1) = ReferenceIdeal.Gen.W0 m' c (Proc.devRef .tc ReferenceIdeal.main_arg1) :=
  (R_kept _ (by decide +kernel)).trans (ReferenceIdeal.Gen.arg_WH m' c _ (by decide))

theorem K_cst0 (V : Valuation KernelIdeal.τ KernelIdeal.sig (Elt Ideal)) :
    after (KernelIdeal.Gen.hostOps0 (F := Ideal)) V (Proc.devRef .tc KernelIdeal.main_cst)
      = fun i => FloatOps.ofBits (F := Ideal) .f32 (tabK (KernelIdeal.S36864x4.rowMajor i)) := by
  after_results
  rfl
theorem R_cst0 (V : Valuation ReferenceIdeal.τ ReferenceIdeal.sig (Elt Ideal)) :
    after (ReferenceIdeal.Gen.hostOps0 (F := Ideal)) V (Proc.devRef .tc ReferenceIdeal.main_cst)
      = fun i => FloatOps.ofBits (F := Ideal) .f32 (tabR (ReferenceIdeal.S36864x4.rowMajor i)) := by
  after_results
  rfl
theorem K_cst3 : KernelIdeal.Gen.W3 m c (Proc.devRef .tc KernelIdeal.main_cst)
    = fun i => FloatOps.ofBits (F := Ideal) .f32 (tabK (KernelIdeal.S36864x4.rowMajor i)) := by
  have h2 := after_of_writes_sub (r := KernelIdeal.main_cst) KernelIdeal.Gen.hostOps0_2
    (after KernelIdeal.Gen.hostOps0_1 (after KernelIdeal.Gen.hostOps0 (KernelIdeal.Gen.W0 m c))) KernelIdeal.Gen.hostOps0_2_writes (by decide +kernel)
  have h1 := after_of_writes_sub (r := KernelIdeal.main_cst) KernelIdeal.Gen.hostOps0_1
    (after KernelIdeal.Gen.hostOps0 (KernelIdeal.Gen.W0 m c)) KernelIdeal.Gen.hostOps0_1_writes (by decide +kernel)
  exact h2.trans (h1.trans (K_cst0 _))
theorem K_cst : KH m c (Proc.devRef .tc KernelIdeal.main_cst)
    = fun i => FloatOps.ofBits (F := Ideal) .f32 (tabK (KernelIdeal.S36864x4.rowMajor i)) :=
  (K_kept _ (by decide +kernel)).trans <|
  (KernelIdeal.Gen.W4_of m c KernelIdeal.main_cst (by decide +kernel)).trans <|
  K_cst3
theorem R_cst : RH m' c (Proc.devRef .tc ReferenceIdeal.main_cst)
    = fun i => FloatOps.ofBits (F := Ideal) .f32 (tabR (ReferenceIdeal.S36864x4.rowMajor i)) :=
  (R_kept _ (by decide +kernel)).trans <|
  (after_of_writes_sub (r := ReferenceIdeal.main_cst) _ _ ReferenceIdeal.Gen.hostOps0_3_writes (by decide +kernel)).trans <|
  (after_of_writes_sub (r := ReferenceIdeal.main_cst) _ _ ReferenceIdeal.Gen.hostOps0_2_writes (by decide +kernel)).trans <|
  (after_of_writes_sub (r := ReferenceIdeal.main_cst) _ _ ReferenceIdeal.Gen.hostOps0_1_writes (by decide +kernel)).trans (R_cst0 _)

theorem cst_gen {I A : Type} {n : Nat} (k : BitVec 32 → A) (r : I → Fin n) {f g : Fin n → BitVec 32} (h : f = g) {u v : I → A}
    (hu : u = fun i => k (f (r i))) (hv : v = fun i => k (g (r i))) : HEq u v := by
  subst hu hv h
  exact HEq.rfl
theorem cst_same : HEq (KH m c (Proc.devRef .tc KernelIdeal.main_cst)) (RH m' c (Proc.devRef .tc ReferenceIdeal.main_cst)) :=
  cst_gen (I := KernelIdeal.S36864x4.Idx) (A := EReal) (FloatOps.ofBits (F := Ideal) .f32) KernelIdeal.S36864x4.rowMajor
    (f := tabK) (g := tabR) tab_eq K_cst R_cst
/-- What the tails start from agrees. -/
theorem start_same (h : Agree m m' c) : Inv (KH m c) (RH m' c) Rin := by
  refine inv_of_all (List.forall_mem_cons.mpr ⟨?_, List.forall_mem_cons.mpr ⟨?_, List.forall_mem_cons.mpr ⟨?_, List.forall_mem_cons.mpr ⟨?_, fun _ hp => absurd hp List.not_mem_nil⟩⟩⟩⟩)
  · exact @heq_of_eq (KernelIdeal.S2x36864.Idx → EReal) _ _ (funext fun i => fg_same h i)
  · exact (heq_of_eq K_arg1).trans (h.a1.trans (heq_of_eq R_arg1.symm))
  · exact @heq_of_eq (KernelIdeal.S2x36864x4.Idx → EReal) _ _ (funext fun i => dl_same h i)
  · exact cst_same

theorem E0_same (h : Agree m m' c) : Inv (KernelIdeal.Gen.E0 m c) (ReferenceIdeal.Gen.E0 m' c) L0 := by
  have hs := s0_run (start_same h)
  have eK : after ((KernelIdeal.Gen.hostOps1 (F := Ideal)).drop 21) (KH m c) = after KernelIdeal.Gen.hostOps1 (KernelIdeal.Gen.W4 m c) := by
    rw [← after_append, List.take_append_drop]
  have eR : after ((ReferenceIdeal.Gen.hostOps0_4 (F := Ideal)).drop 33) (RH m' c) = after ReferenceIdeal.Gen.hostOps0_4 (ReferenceIdeal.Gen.WH m' c) := by
    rw [← after_append, List.take_append_drop]
  rw [eK, eR] at hs
  exact s12_run (s11_run (s10_run (s9_run (s8_run (s7_run (s6_run (s5_run (s4_run (s3_run (s2_run (s1_run hs)))))))))))

theorem X0_same (h : Agree m m' c) : Inv (KernelIdeal.Gen.X0 m c) (ReferenceIdeal.Gen.X0 m' c) M0 :=
  c0_run (loop0_at c (E0_same h) KernelIdeal.Gen.nT)

theorem E1_same (h : Agree m m' c) : Inv (KernelIdeal.Gen.E1 m c) (ReferenceIdeal.Gen.E1 m' c) L1 :=
  s28_run (s27_run (s26_run (s25_run (s24_run (s23_run (s22_run (s21_run (s20_run (s19_run (s18_run (s17_run (s16_run
    (s15_run (s14_run (s13_run (X0_same h))))))))))))))))

theorem X1_same (h : Agree m m' c) : Inv (KernelIdeal.Gen.X1 m c) (ReferenceIdeal.Gen.X1 m' c) M1 :=
  c1_run (loop1_at c (E1_same h) KernelIdeal.Gen.nT)

theorem WN_same (h : Agree m m' c) : Inv (KernelIdeal.Gen.WN m c) (ReferenceIdeal.Gen.WN m' c) Rout :=
  s32_run (s31_run (s30_run (s29_run (X1_same h))))

/-- The proposals agree. -/
theorem out_same (h : Agree m m' c) :
    HEq (KernelIdeal.Gen.WN m c (Proc.devRef .tc KernelIdeal.main_v313)) (ReferenceIdeal.Gen.WN m' c (Proc.devRef .tc ReferenceIdeal.main_v371)) :=
  WN_same h (KernelIdeal.main_v313, ReferenceIdeal.main_v371) (by decide +kernel)

end Cert.Whole
end
-- ==== Proof.Alg.lean ====
module

public import proofs.«01_k».proof.Defs
public import proofs.«01_k».proof.Proof.Whole

/-! The value claim: both programs end with one array of proposals. -/

@[expose] public section
set_option maxRecDepth 16384
noncomputable section
namespace Cert.Whole
open Idealize.ShloMosaic Idealize.ShloMosaic.TcCoe Idealize.ShloMosaic.StableHlo

theorem algebraic : algebraic_KernelIdeal_ReferenceIdeal (hKernelIdeal := Cert.KernelIdeal.Gen.facts)
    (hReferenceIdeal := Cert.ReferenceIdeal.Gen.facts) := by
  intro m g m' g' _ hA
  have hag : ∀ c, Agree m m' c := fun c =>
    have h := hA c
    ⟨fun i => (congrFun h.1 i).symm, heq_of_eq h.2.1.symm, fun i => (congrFun h.2.2.2.1 i).symm,
      fun i => (congrFun h.2.2.2.2.1 i).symm, fun i => (congrFun h.2.2.2.2.2.1 i).symm,
      fun i => (congrFun h.2.2.2.2.2.2.1 i).symm, fun i => (congrFun h.2.2.2.2.2.2.2.1 i).symm,
      fun i => (congrFun h.2.2.2.2.2.2.2.2 i).symm⟩
  refine ⟨fun c => KernelIdeal.Gen.WN m c (Proc.devRef .tc KernelIdeal.main_v313), ?_, ?_⟩
  · refine (θ_run _ _ _).mono (fun r h c => ?_) (KernelIdeal.Gen.run_main m g)
    exact ⟨h.1 c _ (KernelIdeal.Gen.mem_uc _ (by decide +kernel)), KernelIdeal.Gen.args_kept m r.2.mem c (h.1 c)⟩
  · refine (θ_run _ _ _).mono (fun r h c => ?_) (ReferenceIdeal.Gen.run_main m' g')
    exact ⟨(h.1 c _ (ReferenceIdeal.Gen.mem_uc _ (by decide +kernel))).trans (eq_of_heq (out_same (hag c)).symm),
      ReferenceIdeal.Gen.args_kept m' r.2.mem c (h.1 c)⟩

end Cert.Whole
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.KernelRun
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Whole.algebraic⟩

end Cert.Proof

end
